-- ==== Defs.lean ====
def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_KernelDownIdeal_finite [hPre_finite : Cert.Pre_finite.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_finite.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))).1 = (fun _ => 1#1)
    ∧ (Cert.Pre_finite.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))).2 = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_finite [hPre_finite : Cert.Pre_finite.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_finite.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))).1 = (fun _ => 1#1)
    ∧ (Cert.Pre_finite.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))).2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelWup (m : (ℓ : Loc Cert.KernelWup.nD Cert.KernelWup.τ Cert.KernelWup.sig) → Buf (Elt Bits) ℓ) : Prop :=
  True

def Pre_KernelWupIdeal (m : (ℓ : Loc Cert.KernelWupIdeal.nD Cert.KernelWupIdeal.τ Cert.KernelWupIdeal.sig) → Buf (Elt Ideal) ℓ) : Prop :=
  True

def Pre_ReferenceWupIdeal (m : (ℓ : Loc Cert.ReferenceWupIdeal.nD Cert.ReferenceWupIdeal.τ Cert.ReferenceWupIdeal.sig) → Buf (Elt Ideal) ℓ) : Prop :=
  True

def Pre_KernelWdown (m : (ℓ : Loc Cert.KernelWdown.nD Cert.KernelWdown.τ Cert.KernelWdown.sig) → Buf (Elt Bits) ℓ) : Prop :=
  True

def Pre_KernelWdownIdeal (m : (ℓ : Loc Cert.KernelWdownIdeal.nD Cert.KernelWdownIdeal.τ Cert.KernelWdownIdeal.sig) → Buf (Elt Ideal) ℓ) : Prop :=
  True

def Pre_ReferenceWdownIdeal (m : (ℓ : Loc Cert.ReferenceWdownIdeal.nD Cert.ReferenceWdownIdeal.τ Cert.ReferenceWdownIdeal.sig) → Buf (Elt Ideal) ℓ) : Prop :=
  True

def Pre_KernelSconv (m : (ℓ : Loc Cert.KernelSconv.nD Cert.KernelSconv.τ Cert.KernelSconv.sig) → Buf (Elt Bits) ℓ) : Prop :=
  True

def Pre_KernelSconvIdeal (m : (ℓ : Loc Cert.KernelSconvIdeal.nD Cert.KernelSconvIdeal.τ Cert.KernelSconvIdeal.sig) → Buf (Elt Ideal) ℓ) : Prop :=
  True

def Pre_ReferenceSconvIdeal (m : (ℓ : Loc Cert.ReferenceSconvIdeal.nD Cert.ReferenceSconvIdeal.τ Cert.ReferenceSconvIdeal.sig) → Buf (Elt Ideal) ℓ) : Prop :=
  True

def Pre_KernelGateup (m : (ℓ : Loc Cert.KernelGateup.nD Cert.KernelGateup.τ Cert.KernelGateup.sig) → Buf (Elt Bits) ℓ) : Prop :=
  True

def Pre_KernelGateupIdeal (m : (ℓ : Loc Cert.KernelGateupIdeal.nD Cert.KernelGateupIdeal.τ Cert.KernelGateupIdeal.sig) → Buf (Elt Ideal) ℓ) : Prop :=
  True

def Pre_ReferenceGateupIdeal (m : (ℓ : Loc Cert.ReferenceGateupIdeal.nD Cert.ReferenceGateupIdeal.τ Cert.ReferenceGateupIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelMixpost (m : (ℓ : Loc Cert.KernelMixpost.nD Cert.KernelMixpost.τ Cert.KernelMixpost.sig) → Buf (Elt Bits) ℓ) : Prop :=
  True

def Pre_KernelMixpostIdeal (m : (ℓ : Loc Cert.KernelMixpostIdeal.nD Cert.KernelMixpostIdeal.τ Cert.KernelMixpostIdeal.sig) → Buf (Elt Ideal) ℓ) : Prop :=
  True

def Pre_ReferenceMixpostIdeal (m : (ℓ : Loc Cert.ReferenceMixpostIdeal.nD Cert.ReferenceMixpostIdeal.τ Cert.ReferenceMixpostIdeal.sig) → Buf (Elt Ideal) ℓ) : Prop :=
  True

def Pre_KernelMixout (m : (ℓ : Loc Cert.KernelMixout.nD Cert.KernelMixout.τ Cert.KernelMixout.sig) → Buf (Elt Bits) ℓ) : Prop :=
  True

def Pre_KernelMixoutIdeal (m : (ℓ : Loc Cert.KernelMixoutIdeal.nD Cert.KernelMixoutIdeal.τ Cert.KernelMixoutIdeal.sig) → Buf (Elt Ideal) ℓ) : Prop :=
  True

def Pre_ReferenceMixoutIdeal (m : (ℓ : Loc Cert.ReferenceMixoutIdeal.nD Cert.ReferenceMixoutIdeal.τ Cert.ReferenceMixoutIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelPoolpost (m : (ℓ : Loc Cert.KernelPoolpost.nD Cert.KernelPoolpost.τ Cert.KernelPoolpost.sig) → Buf (Elt Bits) ℓ) : Prop :=
  True

def Pre_KernelPoolpostIdeal (m : (ℓ : Loc Cert.KernelPoolpostIdeal.nD Cert.KernelPoolpostIdeal.τ Cert.KernelPoolpostIdeal.sig) → Buf (Elt Ideal) ℓ) : Prop :=
  True

def Pre_ReferencePoolpostIdeal (m : (ℓ : Loc Cert.ReferencePoolpostIdeal.nD Cert.ReferencePoolpostIdeal.τ Cert.ReferencePoolpostIdeal.sig) → Buf (Elt Ideal) ℓ) : Prop :=
  True

def Pre_KernelPoolpre (m : (ℓ : Loc Cert.KernelPoolpre.nD Cert.KernelPoolpre.τ Cert.KernelPoolpre.sig) → Buf (Elt Bits) ℓ) : Prop :=
  True

def Pre_KernelPoolpreIdeal (m : (ℓ : Loc Cert.KernelPoolpreIdeal.nD Cert.KernelPoolpreIdeal.τ Cert.KernelPoolpreIdeal.sig) → Buf (Elt Ideal) ℓ) : Prop :=
  True

def Pre_ReferencePoolpreIdeal (m : (ℓ : Loc Cert.ReferencePoolpreIdeal.nD Cert.ReferencePoolpreIdeal.τ Cert.ReferencePoolpreIdeal.sig) → Buf (Elt Ideal) ℓ) : Prop :=
  True

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_KernelDownIdeal_pre_finite [hKernelDownIdeal : Cert.KernelDownIdeal.Facts] [hPre_finite : Cert.Pre_finite.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal_finite m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_ReferenceDownIdeal_pre_finite [hReferenceDownIdeal : Cert.ReferenceDownIdeal.Facts] [hPre_finite : Cert.Pre_finite.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_finite m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelWup [hKernelWup : Cert.KernelWup.Facts] : Prop :=
  ∀ (m : (ℓ : Loc Cert.KernelWup.nD Cert.KernelWup.τ Cert.KernelWup.sig) → Buf (Elt Bits) ℓ) (g : Dev Cert.KernelWup.nD → PrngReg), Pre_KernelWup m →
    θ_run (Cert.KernelWup.defs (F := Bits)) (onTc (τ := Cert.KernelWup.τ) (Cert.KernelWup.main (F := Bits))) ⟨m, fun _ => 0, g⟩ (fun r => (∀ c : Dev Cert.KernelWup.nD,
      r.2.mem ((c.tc : Thread Cert.KernelWup.nD Cert.KernelWup.τ).loc Cert.KernelWup.main_arg0) = m ((c.tc : Thread Cert.KernelWup.nD Cert.KernelWup.τ).loc Cert.KernelWup.main_arg0)
      ∧ r.2.mem ((c.tc : Thread Cert.KernelWup.nD Cert.KernelWup.τ).loc Cert.KernelWup.main_arg1) = m ((c.tc : Thread Cert.KernelWup.nD Cert.KernelWup.τ).loc Cert.KernelWup.main_arg1))
      ∧ r.2.sem = fun _ => 0)

def quiescent_KernelWupIdeal [hKernelWupIdeal : Cert.KernelWupIdeal.Facts] : Prop :=
  ∀ (m : (ℓ : Loc Cert.KernelWupIdeal.nD Cert.KernelWupIdeal.τ Cert.KernelWupIdeal.sig) → Buf (Elt Ideal) ℓ) (g : Dev Cert.KernelWupIdeal.nD → PrngReg), Pre_KernelWupIdeal m →
    θ_run (Cert.KernelWupIdeal.defs (F := Ideal)) (onTc (τ := Cert.KernelWupIdeal.τ) (Cert.KernelWupIdeal.main (F := Ideal))) ⟨m, fun _ => 0, g⟩ (fun r => (∀ c : Dev Cert.KernelWupIdeal.nD,
      r.2.mem ((c.tc : Thread Cert.KernelWupIdeal.nD Cert.KernelWupIdeal.τ).loc Cert.KernelWupIdeal.main_arg0) = m ((c.tc : Thread Cert.KernelWupIdeal.nD Cert.KernelWupIdeal.τ).loc Cert.KernelWupIdeal.main_arg0)
      ∧ r.2.mem ((c.tc : Thread Cert.KernelWupIdeal.nD Cert.KernelWupIdeal.τ).loc Cert.KernelWupIdeal.main_arg1) = m ((c.tc : Thread Cert.KernelWupIdeal.nD Cert.KernelWupIdeal.τ).loc Cert.KernelWupIdeal.main_arg1))
      ∧ r.2.sem = fun _ => 0)

def quiescent_ReferenceWupIdeal [hReferenceWupIdeal : Cert.ReferenceWupIdeal.Facts] : Prop :=
  ∀ (m : (ℓ : Loc Cert.ReferenceWupIdeal.nD Cert.ReferenceWupIdeal.τ Cert.ReferenceWupIdeal.sig) → Buf (Elt Ideal) ℓ) (g : Dev Cert.ReferenceWupIdeal.nD → PrngReg), Pre_ReferenceWupIdeal m →
    θ_run (Cert.ReferenceWupIdeal.defs (F := Ideal)) (onTc (τ := Cert.ReferenceWupIdeal.τ) (Cert.ReferenceWupIdeal.main (F := Ideal))) ⟨m, fun _ => 0, g⟩ (fun r => (∀ c : Dev Cert.ReferenceWupIdeal.nD,
      r.2.mem ((c.tc : Thread Cert.ReferenceWupIdeal.nD Cert.ReferenceWupIdeal.τ).loc Cert.ReferenceWupIdeal.main_arg0) = m ((c.tc : Thread Cert.ReferenceWupIdeal.nD Cert.ReferenceWupIdeal.τ).loc Cert.ReferenceWupIdeal.main_arg0)
      ∧ r.2.mem ((c.tc : Thread Cert.ReferenceWupIdeal.nD Cert.ReferenceWupIdeal.τ).loc Cert.ReferenceWupIdeal.main_arg1) = m ((c.tc : Thread Cert.ReferenceWupIdeal.nD Cert.ReferenceWupIdeal.τ).loc Cert.ReferenceWupIdeal.main_arg1))
      ∧ r.2.sem = fun _ => 0)

def quiescent_KernelWdown [hKernelWdown : Cert.KernelWdown.Facts] : Prop :=
  ∀ (m : (ℓ : Loc Cert.KernelWdown.nD Cert.KernelWdown.τ Cert.KernelWdown.sig) → Buf (Elt Bits) ℓ) (g : Dev Cert.KernelWdown.nD → PrngReg), Pre_KernelWdown m →
    θ_run (Cert.KernelWdown.defs (F := Bits)) (onTc (τ := Cert.KernelWdown.τ) (Cert.KernelWdown.main (F := Bits))) ⟨m, fun _ => 0, g⟩ (fun r => (∀ c : Dev Cert.KernelWdown.nD,
      r.2.mem ((c.tc : Thread Cert.KernelWdown.nD Cert.KernelWdown.τ).loc Cert.KernelWdown.main_arg0) = m ((c.tc : Thread Cert.KernelWdown.nD Cert.KernelWdown.τ).loc Cert.KernelWdown.main_arg0)
      ∧ r.2.mem ((c.tc : Thread Cert.KernelWdown.nD Cert.KernelWdown.τ).loc Cert.KernelWdown.main_arg1) = m ((c.tc : Thread Cert.KernelWdown.nD Cert.KernelWdown.τ).loc Cert.KernelWdown.main_arg1))
      ∧ r.2.sem = fun _ => 0)

def quiescent_KernelWdownIdeal [hKernelWdownIdeal : Cert.KernelWdownIdeal.Facts] : Prop :=
  ∀ (m : (ℓ : Loc Cert.KernelWdownIdeal.nD Cert.KernelWdownIdeal.τ Cert.KernelWdownIdeal.sig) → Buf (Elt Ideal) ℓ) (g : Dev Cert.KernelWdownIdeal.nD → PrngReg), Pre_KernelWdownIdeal m →
    θ_run (Cert.KernelWdownIdeal.defs (F := Ideal)) (onTc (τ := Cert.KernelWdownIdeal.τ) (Cert.KernelWdownIdeal.main (F := Ideal))) ⟨m, fun _ => 0, g⟩ (fun r => (∀ c : Dev Cert.KernelWdownIdeal.nD,
      r.2.mem ((c.tc : Thread Cert.KernelWdownIdeal.nD Cert.KernelWdownIdeal.τ).loc Cert.KernelWdownIdeal.main_arg0) = m ((c.tc : Thread Cert.KernelWdownIdeal.nD Cert.KernelWdownIdeal.τ).loc Cert.KernelWdownIdeal.main_arg0)
      ∧ r.2.mem ((c.tc : Thread Cert.KernelWdownIdeal.nD Cert.KernelWdownIdeal.τ).loc Cert.KernelWdownIdeal.main_arg1) = m ((c.tc : Thread Cert.KernelWdownIdeal.nD Cert.KernelWdownIdeal.τ).loc Cert.KernelWdownIdeal.main_arg1))
      ∧ r.2.sem = fun _ => 0)

def quiescent_ReferenceWdownIdeal [hReferenceWdownIdeal : Cert.ReferenceWdownIdeal.Facts] : Prop :=
  ∀ (m : (ℓ : Loc Cert.ReferenceWdownIdeal.nD Cert.ReferenceWdownIdeal.τ Cert.ReferenceWdownIdeal.sig) → Buf (Elt Ideal) ℓ) (g : Dev Cert.ReferenceWdownIdeal.nD → PrngReg), Pre_ReferenceWdownIdeal m →
    θ_run (Cert.ReferenceWdownIdeal.defs (F := Ideal)) (onTc (τ := Cert.ReferenceWdownIdeal.τ) (Cert.ReferenceWdownIdeal.main (F := Ideal))) ⟨m, fun _ => 0, g⟩ (fun r => (∀ c : Dev Cert.ReferenceWdownIdeal.nD,
      r.2.mem ((c.tc : Thread Cert.ReferenceWdownIdeal.nD Cert.ReferenceWdownIdeal.τ).loc Cert.ReferenceWdownIdeal.main_arg0) = m ((c.tc : Thread Cert.ReferenceWdownIdeal.nD Cert.ReferenceWdownIdeal.τ).loc Cert.ReferenceWdownIdeal.main_arg0)
      ∧ r.2.mem ((c.tc : Thread Cert.ReferenceWdownIdeal.nD Cert.ReferenceWdownIdeal.τ).loc Cert.ReferenceWdownIdeal.main_arg1) = m ((c.tc : Thread Cert.ReferenceWdownIdeal.nD Cert.ReferenceWdownIdeal.τ).loc Cert.ReferenceWdownIdeal.main_arg1))
      ∧ r.2.sem = fun _ => 0)

def quiescent_KernelSconv [hKernelSconv : Cert.KernelSconv.Facts] : Prop :=
  ∀ (m : (ℓ : Loc Cert.KernelSconv.nD Cert.KernelSconv.τ Cert.KernelSconv.sig) → Buf (Elt Bits) ℓ) (g : Dev Cert.KernelSconv.nD → PrngReg), Pre_KernelSconv m →
    θ_run (Cert.KernelSconv.defs (F := Bits)) (onTc (τ := Cert.KernelSconv.τ) (Cert.KernelSconv.main (F := Bits))) ⟨m, fun _ => 0, g⟩ (fun r => (∀ c : Dev Cert.KernelSconv.nD,
      r.2.mem ((c.tc : Thread Cert.KernelSconv.nD Cert.KernelSconv.τ).loc Cert.KernelSconv.main_arg0) = m ((c.tc : Thread Cert.KernelSconv.nD Cert.KernelSconv.τ).loc Cert.KernelSconv.main_arg0)
      ∧ r.2.mem ((c.tc : Thread Cert.KernelSconv.nD Cert.KernelSconv.τ).loc Cert.KernelSconv.main_arg1) = m ((c.tc : Thread Cert.KernelSconv.nD Cert.KernelSconv.τ).loc Cert.KernelSconv.main_arg1)
      ∧ r.2.mem ((c.tc : Thread Cert.KernelSconv.nD Cert.KernelSconv.τ).loc Cert.KernelSconv.main_arg2) = m ((c.tc : Thread Cert.KernelSconv.nD Cert.KernelSconv.τ).loc Cert.KernelSconv.main_arg2))
      ∧ r.2.sem = fun _ => 0)

def quiescent_KernelSconvIdeal [hKernelSconvIdeal : Cert.KernelSconvIdeal.Facts] : Prop :=
  ∀ (m : (ℓ : Loc Cert.KernelSconvIdeal.nD Cert.KernelSconvIdeal.τ Cert.KernelSconvIdeal.sig) → Buf (Elt Ideal) ℓ) (g : Dev Cert.KernelSconvIdeal.nD → PrngReg), Pre_KernelSconvIdeal m →
    θ_run (Cert.KernelSconvIdeal.defs (F := Ideal)) (onTc (τ := Cert.KernelSconvIdeal.τ) (Cert.KernelSconvIdeal.main (F := Ideal))) ⟨m, fun _ => 0, g⟩ (fun r => (∀ c : Dev Cert.KernelSconvIdeal.nD,
      r.2.mem ((c.tc : Thread Cert.KernelSconvIdeal.nD Cert.KernelSconvIdeal.τ).loc Cert.KernelSconvIdeal.main_arg0) = m ((c.tc : Thread Cert.KernelSconvIdeal.nD Cert.KernelSconvIdeal.τ).loc Cert.KernelSconvIdeal.main_arg0)
      ∧ r.2.mem ((c.tc : Thread Cert.KernelSconvIdeal.nD Cert.KernelSconvIdeal.τ).loc Cert.KernelSconvIdeal.main_arg1) = m ((c.tc : Thread Cert.KernelSconvIdeal.nD Cert.KernelSconvIdeal.τ).loc Cert.KernelSconvIdeal.main_arg1)
      ∧ r.2.mem ((c.tc : Thread Cert.KernelSconvIdeal.nD Cert.KernelSconvIdeal.τ).loc Cert.KernelSconvIdeal.main_arg2) = m ((c.tc : Thread Cert.KernelSconvIdeal.nD Cert.KernelSconvIdeal.τ).loc Cert.KernelSconvIdeal.main_arg2))
      ∧ r.2.sem = fun _ => 0)

def quiescent_ReferenceSconvIdeal [hReferenceSconvIdeal : Cert.ReferenceSconvIdeal.Facts] : Prop :=
  ∀ (m : (ℓ : Loc Cert.ReferenceSconvIdeal.nD Cert.ReferenceSconvIdeal.τ Cert.ReferenceSconvIdeal.sig) → Buf (Elt Ideal) ℓ) (g : Dev Cert.ReferenceSconvIdeal.nD → PrngReg), Pre_ReferenceSconvIdeal m →
    θ_run (Cert.ReferenceSconvIdeal.defs (F := Ideal)) (onTc (τ := Cert.ReferenceSconvIdeal.τ) (Cert.ReferenceSconvIdeal.main (F := Ideal))) ⟨m, fun _ => 0, g⟩ (fun r => (∀ c : Dev Cert.ReferenceSconvIdeal.nD,
      r.2.mem ((c.tc : Thread Cert.ReferenceSconvIdeal.nD Cert.ReferenceSconvIdeal.τ).loc Cert.ReferenceSconvIdeal.main_arg0) = m ((c.tc : Thread Cert.ReferenceSconvIdeal.nD Cert.ReferenceSconvIdeal.τ).loc Cert.ReferenceSconvIdeal.main_arg0)
      ∧ r.2.mem ((c.tc : Thread Cert.ReferenceSconvIdeal.nD Cert.ReferenceSconvIdeal.τ).loc Cert.ReferenceSconvIdeal.main_arg1) = m ((c.tc : Thread Cert.ReferenceSconvIdeal.nD Cert.ReferenceSconvIdeal.τ).loc Cert.ReferenceSconvIdeal.main_arg1)
      ∧ r.2.mem ((c.tc : Thread Cert.ReferenceSconvIdeal.nD Cert.ReferenceSconvIdeal.τ).loc Cert.ReferenceSconvIdeal.main_arg2) = m ((c.tc : Thread Cert.ReferenceSconvIdeal.nD Cert.ReferenceSconvIdeal.τ).loc Cert.ReferenceSconvIdeal.main_arg2))
      ∧ r.2.sem = fun _ => 0)

def quiescent_KernelGateup [hKernelGateup : Cert.KernelGateup.Facts] : Prop :=
  ∀ (m : (ℓ : Loc Cert.KernelGateup.nD Cert.KernelGateup.τ Cert.KernelGateup.sig) → Buf (Elt Bits) ℓ) (g : Dev Cert.KernelGateup.nD → PrngReg), Pre_KernelGateup m →
    θ_run (Cert.KernelGateup.defs (F := Bits)) (onTc (τ := Cert.KernelGateup.τ) (Cert.KernelGateup.main (F := Bits))) ⟨m, fun _ => 0, g⟩ (fun r => (∀ c : Dev Cert.KernelGateup.nD,
      r.2.mem ((c.tc : Thread Cert.KernelGateup.nD Cert.KernelGateup.τ).loc Cert.KernelGateup.main_arg0) = m ((c.tc : Thread Cert.KernelGateup.nD Cert.KernelGateup.τ).loc Cert.KernelGateup.main_arg0)
      ∧ r.2.mem ((c.tc : Thread Cert.KernelGateup.nD Cert.KernelGateup.τ).loc Cert.KernelGateup.main_arg1) = m ((c.tc : Thread Cert.KernelGateup.nD Cert.KernelGateup.τ).loc Cert.KernelGateup.main_arg1))
      ∧ r.2.sem = fun _ => 0)

def quiescent_KernelGateupIdeal [hKernelGateupIdeal : Cert.KernelGateupIdeal.Facts] : Prop :=
  ∀ (m : (ℓ : Loc Cert.KernelGateupIdeal.nD Cert.KernelGateupIdeal.τ Cert.KernelGateupIdeal.sig) → Buf (Elt Ideal) ℓ) (g : Dev Cert.KernelGateupIdeal.nD → PrngReg), Pre_KernelGateupIdeal m →
    θ_run (Cert.KernelGateupIdeal.defs (F := Ideal)) (onTc (τ := Cert.KernelGateupIdeal.τ) (Cert.KernelGateupIdeal.main (F := Ideal))) ⟨m, fun _ => 0, g⟩ (fun r => (∀ c : Dev Cert.KernelGateupIdeal.nD,
      r.2.mem ((c.tc : Thread Cert.KernelGateupIdeal.nD Cert.KernelGateupIdeal.τ).loc Cert.KernelGateupIdeal.main_arg0) = m ((c.tc : Thread Cert.KernelGateupIdeal.nD Cert.KernelGateupIdeal.τ).loc Cert.KernelGateupIdeal.main_arg0)
      ∧ r.2.mem ((c.tc : Thread Cert.KernelGateupIdeal.nD Cert.KernelGateupIdeal.τ).loc Cert.KernelGateupIdeal.main_arg1) = m ((c.tc : Thread Cert.KernelGateupIdeal.nD Cert.KernelGateupIdeal.τ).loc Cert.KernelGateupIdeal.main_arg1))
      ∧ r.2.sem = fun _ => 0)

def quiescent_ReferenceGateupIdeal [hReferenceGateupIdeal : Cert.ReferenceGateupIdeal.Facts] : Prop :=
  ∀ (m : (ℓ : Loc Cert.ReferenceGateupIdeal.nD Cert.ReferenceGateupIdeal.τ Cert.ReferenceGateupIdeal.sig) → Buf (Elt Ideal) ℓ) (g : Dev Cert.ReferenceGateupIdeal.nD → PrngReg), Pre_ReferenceGateupIdeal m →
    θ_run (Cert.ReferenceGateupIdeal.defs (F := Ideal)) (onTc (τ := Cert.ReferenceGateupIdeal.τ) (Cert.ReferenceGateupIdeal.main (F := Ideal))) ⟨m, fun _ => 0, g⟩ (fun r => (∀ c : Dev Cert.ReferenceGateupIdeal.nD,
      r.2.mem ((c.tc : Thread Cert.ReferenceGateupIdeal.nD Cert.ReferenceGateupIdeal.τ).loc Cert.ReferenceGateupIdeal.main_arg0) = m ((c.tc : Thread Cert.ReferenceGateupIdeal.nD Cert.ReferenceGateupIdeal.τ).loc Cert.ReferenceGateupIdeal.main_arg0)
      ∧ r.2.mem ((c.tc : Thread Cert.ReferenceGateupIdeal.nD Cert.ReferenceGateupIdeal.τ).loc Cert.ReferenceGateupIdeal.main_arg1) = m ((c.tc : Thread Cert.ReferenceGateupIdeal.nD Cert.ReferenceGateupIdeal.τ).loc Cert.ReferenceGateupIdeal.main_arg1))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4)
      ∧ r.2.mem ((c.tc : Thread Cert.KernelPle.nD Cert.KernelPle.τ).loc Cert.KernelPle.main_arg5) = m ((c.tc : Thread Cert.KernelPle.nD Cert.KernelPle.τ).loc Cert.KernelPle.main_arg5)
      ∧ r.2.mem ((c.tc : Thread Cert.KernelPle.nD Cert.KernelPle.τ).loc Cert.KernelPle.main_arg6) = m ((c.tc : Thread Cert.KernelPle.nD Cert.KernelPle.τ).loc Cert.KernelPle.main_arg6))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
      ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5)
      ∧ r.2.mem ((c.tc : Thread Cert.ReferencePleIdeal.nD Cert.ReferencePleIdeal.τ).loc Cert.ReferencePleIdeal.main_arg6) = m ((c.tc : Thread Cert.ReferencePleIdeal.nD Cert.ReferencePleIdeal.τ).loc Cert.ReferencePleIdeal.main_arg6))
      ∧ r.2.sem = fun _ => 0)

def quiescent_KernelMixpost [hKernelMixpost : Cert.KernelMixpost.Facts] : Prop :=
  ∀ (m : (ℓ : Loc Cert.KernelMixpost.nD Cert.KernelMixpost.τ Cert.KernelMixpost.sig) → Buf (Elt Bits) ℓ) (g : Dev Cert.KernelMixpost.nD → PrngReg), Pre_KernelMixpost m →
    θ_run (Cert.KernelMixpost.defs (F := Bits)) (onTc (τ := Cert.KernelMixpost.τ) (Cert.KernelMixpost.main (F := Bits))) ⟨m, fun _ => 0, g⟩ (fun r => (∀ c : Dev Cert.KernelMixpost.nD,
      r.2.mem ((c.tc : Thread Cert.KernelMixpost.nD Cert.KernelMixpost.τ).loc Cert.KernelMixpost.main_arg0) = m ((c.tc : Thread Cert.KernelMixpost.nD Cert.KernelMixpost.τ).loc Cert.KernelMixpost.main_arg0)
      ∧ r.2.mem ((c.tc : Thread Cert.KernelMixpost.nD Cert.KernelMixpost.τ).loc Cert.KernelMixpost.main_arg1) = m ((c.tc : Thread Cert.KernelMixpost.nD Cert.KernelMixpost.τ).loc Cert.KernelMixpost.main_arg1)
      ∧ r.2.mem ((c.tc : Thread Cert.KernelMixpost.nD Cert.KernelMixpost.τ).loc Cert.KernelMixpost.main_arg2) = m ((c.tc : Thread Cert.KernelMixpost.nD Cert.KernelMixpost.τ).loc Cert.KernelMixpost.main_arg2))
      ∧ r.2.sem = fun _ => 0)

def quiescent_KernelMixpostIdeal [hKernelMixpostIdeal : Cert.KernelMixpostIdeal.Facts] : Prop :=
  ∀ (m : (ℓ : Loc Cert.KernelMixpostIdeal.nD Cert.KernelMixpostIdeal.τ Cert.KernelMixpostIdeal.sig) → Buf (Elt Ideal) ℓ) (g : Dev Cert.KernelMixpostIdeal.nD → PrngReg), Pre_KernelMixpostIdeal m →
    θ_run (Cert.KernelMixpostIdeal.defs (F := Ideal)) (onTc (τ := Cert.KernelMixpostIdeal.τ) (Cert.KernelMixpostIdeal.main (F := Ideal))) ⟨m, fun _ => 0, g⟩ (fun r => (∀ c : Dev Cert.KernelMixpostIdeal.nD,
      r.2.mem ((c.tc : Thread Cert.KernelMixpostIdeal.nD Cert.KernelMixpostIdeal.τ).loc Cert.KernelMixpostIdeal.main_arg0) = m ((c.tc : Thread Cert.KernelMixpostIdeal.nD Cert.KernelMixpostIdeal.τ).loc Cert.KernelMixpostIdeal.main_arg0)
      ∧ r.2.mem ((c.tc : Thread Cert.KernelMixpostIdeal.nD Cert.KernelMixpostIdeal.τ).loc Cert.KernelMixpostIdeal.main_arg1) = m ((c.tc : Thread Cert.KernelMixpostIdeal.nD Cert.KernelMixpostIdeal.τ).loc Cert.KernelMixpostIdeal.main_arg1)
      ∧ r.2.mem ((c.tc : Thread Cert.KernelMixpostIdeal.nD Cert.KernelMixpostIdeal.τ).loc Cert.KernelMixpostIdeal.main_arg2) = m ((c.tc : Thread Cert.KernelMixpostIdeal.nD Cert.KernelMixpostIdeal.τ).loc Cert.KernelMixpostIdeal.main_arg2))
      ∧ r.2.sem = fun _ => 0)

def quiescent_ReferenceMixpostIdeal [hReferenceMixpostIdeal : Cert.ReferenceMixpostIdeal.Facts] : Prop :=
  ∀ (m : (ℓ : Loc Cert.ReferenceMixpostIdeal.nD Cert.ReferenceMixpostIdeal.τ Cert.ReferenceMixpostIdeal.sig) → Buf (Elt Ideal) ℓ) (g : Dev Cert.ReferenceMixpostIdeal.nD → PrngReg), Pre_ReferenceMixpostIdeal m →
    θ_run (Cert.ReferenceMixpostIdeal.defs (F := Ideal)) (onTc (τ := Cert.ReferenceMixpostIdeal.τ) (Cert.ReferenceMixpostIdeal.main (F := Ideal))) ⟨m, fun _ => 0, g⟩ (fun r => (∀ c : Dev Cert.ReferenceMixpostIdeal.nD,
      r.2.mem ((c.tc : Thread Cert.ReferenceMixpostIdeal.nD Cert.ReferenceMixpostIdeal.τ).loc Cert.ReferenceMixpostIdeal.main_arg0) = m ((c.tc : Thread Cert.ReferenceMixpostIdeal.nD Cert.ReferenceMixpostIdeal.τ).loc Cert.ReferenceMixpostIdeal.main_arg0)
      ∧ r.2.mem ((c.tc : Thread Cert.ReferenceMixpostIdeal.nD Cert.ReferenceMixpostIdeal.τ).loc Cert.ReferenceMixpostIdeal.main_arg1) = m ((c.tc : Thread Cert.ReferenceMixpostIdeal.nD Cert.ReferenceMixpostIdeal.τ).loc Cert.ReferenceMixpostIdeal.main_arg1)
      ∧ r.2.mem ((c.tc : Thread Cert.ReferenceMixpostIdeal.nD Cert.ReferenceMixpostIdeal.τ).loc Cert.ReferenceMixpostIdeal.main_arg2) = m ((c.tc : Thread Cert.ReferenceMixpostIdeal.nD Cert.ReferenceMixpostIdeal.τ).loc Cert.ReferenceMixpostIdeal.main_arg2))
      ∧ r.2.sem = fun _ => 0)

def quiescent_KernelMixout [hKernelMixout : Cert.KernelMixout.Facts] : Prop :=
  ∀ (m : (ℓ : Loc Cert.KernelMixout.nD Cert.KernelMixout.τ Cert.KernelMixout.sig) → Buf (Elt Bits) ℓ) (g : Dev Cert.KernelMixout.nD → PrngReg), Pre_KernelMixout m →
    θ_run (Cert.KernelMixout.defs (F := Bits)) (onTc (τ := Cert.KernelMixout.τ) (Cert.KernelMixout.main (F := Bits))) ⟨m, fun _ => 0, g⟩ (fun r => (∀ c : Dev Cert.KernelMixout.nD,
      r.2.mem ((c.tc : Thread Cert.KernelMixout.nD Cert.KernelMixout.τ).loc Cert.KernelMixout.main_arg0) = m ((c.tc : Thread Cert.KernelMixout.nD Cert.KernelMixout.τ).loc Cert.KernelMixout.main_arg0)
      ∧ r.2.mem ((c.tc : Thread Cert.KernelMixout.nD Cert.KernelMixout.τ).loc Cert.KernelMixout.main_arg1) = m ((c.tc : Thread Cert.KernelMixout.nD Cert.KernelMixout.τ).loc Cert.KernelMixout.main_arg1))
      ∧ r.2.sem = fun _ => 0)

def quiescent_KernelMixoutIdeal [hKernelMixoutIdeal : Cert.KernelMixoutIdeal.Facts] : Prop :=
  ∀ (m : (ℓ : Loc Cert.KernelMixoutIdeal.nD Cert.KernelMixoutIdeal.τ Cert.KernelMixoutIdeal.sig) → Buf (Elt Ideal) ℓ) (g : Dev Cert.KernelMixoutIdeal.nD → PrngReg), Pre_KernelMixoutIdeal m →
    θ_run (Cert.KernelMixoutIdeal.defs (F := Ideal)) (onTc (τ := Cert.KernelMixoutIdeal.τ) (Cert.KernelMixoutIdeal.main (F := Ideal))) ⟨m, fun _ => 0, g⟩ (fun r => (∀ c : Dev Cert.KernelMixoutIdeal.nD,
      r.2.mem ((c.tc : Thread Cert.KernelMixoutIdeal.nD Cert.KernelMixoutIdeal.τ).loc Cert.KernelMixoutIdeal.main_arg0) = m ((c.tc : Thread Cert.KernelMixoutIdeal.nD Cert.KernelMixoutIdeal.τ).loc Cert.KernelMixoutIdeal.main_arg0)
      ∧ r.2.mem ((c.tc : Thread Cert.KernelMixoutIdeal.nD Cert.KernelMixoutIdeal.τ).loc Cert.KernelMixoutIdeal.main_arg1) = m ((c.tc : Thread Cert.KernelMixoutIdeal.nD Cert.KernelMixoutIdeal.τ).loc Cert.KernelMixoutIdeal.main_arg1))
      ∧ r.2.sem = fun _ => 0)

def quiescent_ReferenceMixoutIdeal [hReferenceMixoutIdeal : Cert.ReferenceMixoutIdeal.Facts] : Prop :=
  ∀ (m : (ℓ : Loc Cert.ReferenceMixoutIdeal.nD Cert.ReferenceMixoutIdeal.τ Cert.ReferenceMixoutIdeal.sig) → Buf (Elt Ideal) ℓ) (g : Dev Cert.ReferenceMixoutIdeal.nD → PrngReg), Pre_ReferenceMixoutIdeal m →
    θ_run (Cert.ReferenceMixoutIdeal.defs (F := Ideal)) (onTc (τ := Cert.ReferenceMixoutIdeal.τ) (Cert.ReferenceMixoutIdeal.main (F := Ideal))) ⟨m, fun _ => 0, g⟩ (fun r => (∀ c : Dev Cert.ReferenceMixoutIdeal.nD,
      r.2.mem ((c.tc : Thread Cert.ReferenceMixoutIdeal.nD Cert.ReferenceMixoutIdeal.τ).loc Cert.ReferenceMixoutIdeal.main_arg0) = m ((c.tc : Thread Cert.ReferenceMixoutIdeal.nD Cert.ReferenceMixoutIdeal.τ).loc Cert.ReferenceMixoutIdeal.main_arg0)
      ∧ r.2.mem ((c.tc : Thread Cert.ReferenceMixoutIdeal.nD Cert.ReferenceMixoutIdeal.τ).loc Cert.ReferenceMixoutIdeal.main_arg1) = m ((c.tc : Thread Cert.ReferenceMixoutIdeal.nD Cert.ReferenceMixoutIdeal.τ).loc Cert.ReferenceMixoutIdeal.main_arg1))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1))
      ∧ r.2.sem = fun _ => 0)

def quiescent_KernelPoolpost [hKernelPoolpost : Cert.KernelPoolpost.Facts] : Prop :=
  ∀ (m : (ℓ : Loc Cert.KernelPoolpost.nD Cert.KernelPoolpost.τ Cert.KernelPoolpost.sig) → Buf (Elt Bits) ℓ) (g : Dev Cert.KernelPoolpost.nD → PrngReg), Pre_KernelPoolpost m →
    θ_run (Cert.KernelPoolpost.defs (F := Bits)) (onTc (τ := Cert.KernelPoolpost.τ) (Cert.KernelPoolpost.main (F := Bits))) ⟨m, fun _ => 0, g⟩ (fun r => (∀ c : Dev Cert.KernelPoolpost.nD,
      r.2.mem ((c.tc : Thread Cert.KernelPoolpost.nD Cert.KernelPoolpost.τ).loc Cert.KernelPoolpost.main_arg0) = m ((c.tc : Thread Cert.KernelPoolpost.nD Cert.KernelPoolpost.τ).loc Cert.KernelPoolpost.main_arg0)
      ∧ r.2.mem ((c.tc : Thread Cert.KernelPoolpost.nD Cert.KernelPoolpost.τ).loc Cert.KernelPoolpost.main_arg1) = m ((c.tc : Thread Cert.KernelPoolpost.nD Cert.KernelPoolpost.τ).loc Cert.KernelPoolpost.main_arg1)
      ∧ r.2.mem ((c.tc : Thread Cert.KernelPoolpost.nD Cert.KernelPoolpost.τ).loc Cert.KernelPoolpost.main_arg2) = m ((c.tc : Thread Cert.KernelPoolpost.nD Cert.KernelPoolpost.τ).loc Cert.KernelPoolpost.main_arg2))
      ∧ r.2.sem = fun _ => 0)

def quiescent_KernelPoolpostIdeal [hKernelPoolpostIdeal : Cert.KernelPoolpostIdeal.Facts] : Prop :=
  ∀ (m : (ℓ : Loc Cert.KernelPoolpostIdeal.nD Cert.KernelPoolpostIdeal.τ Cert.KernelPoolpostIdeal.sig) → Buf (Elt Ideal) ℓ) (g : Dev Cert.KernelPoolpostIdeal.nD → PrngReg), Pre_KernelPoolpostIdeal m →
    θ_run (Cert.KernelPoolpostIdeal.defs (F := Ideal)) (onTc (τ := Cert.KernelPoolpostIdeal.τ) (Cert.KernelPoolpostIdeal.main (F := Ideal))) ⟨m, fun _ => 0, g⟩ (fun r => (∀ c : Dev Cert.KernelPoolpostIdeal.nD,
      r.2.mem ((c.tc : Thread Cert.KernelPoolpostIdeal.nD Cert.KernelPoolpostIdeal.τ).loc Cert.KernelPoolpostIdeal.main_arg0) = m ((c.tc : Thread Cert.KernelPoolpostIdeal.nD Cert.KernelPoolpostIdeal.τ).loc Cert.KernelPoolpostIdeal.main_arg0)
      ∧ r.2.mem ((c.tc : Thread Cert.KernelPoolpostIdeal.nD Cert.KernelPoolpostIdeal.τ).loc Cert.KernelPoolpostIdeal.main_arg1) = m ((c.tc : Thread Cert.KernelPoolpostIdeal.nD Cert.KernelPoolpostIdeal.τ).loc Cert.KernelPoolpostIdeal.main_arg1)
      ∧ r.2.mem ((c.tc : Thread Cert.KernelPoolpostIdeal.nD Cert.KernelPoolpostIdeal.τ).loc Cert.KernelPoolpostIdeal.main_arg2) = m ((c.tc : Thread Cert.KernelPoolpostIdeal.nD Cert.KernelPoolpostIdeal.τ).loc Cert.KernelPoolpostIdeal.main_arg2))
      ∧ r.2.sem = fun _ => 0)

def quiescent_ReferencePoolpostIdeal [hReferencePoolpostIdeal : Cert.ReferencePoolpostIdeal.Facts] : Prop :=
  ∀ (m : (ℓ : Loc Cert.ReferencePoolpostIdeal.nD Cert.ReferencePoolpostIdeal.τ Cert.ReferencePoolpostIdeal.sig) → Buf (Elt Ideal) ℓ) (g : Dev Cert.ReferencePoolpostIdeal.nD → PrngReg), Pre_ReferencePoolpostIdeal m →
    θ_run (Cert.ReferencePoolpostIdeal.defs (F := Ideal)) (onTc (τ := Cert.ReferencePoolpostIdeal.τ) (Cert.ReferencePoolpostIdeal.main (F := Ideal))) ⟨m, fun _ => 0, g⟩ (fun r => (∀ c : Dev Cert.ReferencePoolpostIdeal.nD,
      r.2.mem ((c.tc : Thread Cert.ReferencePoolpostIdeal.nD Cert.ReferencePoolpostIdeal.τ).loc Cert.ReferencePoolpostIdeal.main_arg0) = m ((c.tc : Thread Cert.ReferencePoolpostIdeal.nD Cert.ReferencePoolpostIdeal.τ).loc Cert.ReferencePoolpostIdeal.main_arg0)
      ∧ r.2.mem ((c.tc : Thread Cert.ReferencePoolpostIdeal.nD Cert.ReferencePoolpostIdeal.τ).loc Cert.ReferencePoolpostIdeal.main_arg1) = m ((c.tc : Thread Cert.ReferencePoolpostIdeal.nD Cert.ReferencePoolpostIdeal.τ).loc Cert.ReferencePoolpostIdeal.main_arg1)
      ∧ r.2.mem ((c.tc : Thread Cert.ReferencePoolpostIdeal.nD Cert.ReferencePoolpostIdeal.τ).loc Cert.ReferencePoolpostIdeal.main_arg2) = m ((c.tc : Thread Cert.ReferencePoolpostIdeal.nD Cert.ReferencePoolpostIdeal.τ).loc Cert.ReferencePoolpostIdeal.main_arg2))
      ∧ r.2.sem = fun _ => 0)

def quiescent_KernelPoolpre [hKernelPoolpre : Cert.KernelPoolpre.Facts] : Prop :=
  ∀ (m : (ℓ : Loc Cert.KernelPoolpre.nD Cert.KernelPoolpre.τ Cert.KernelPoolpre.sig) → Buf (Elt Bits) ℓ) (g : Dev Cert.KernelPoolpre.nD → PrngReg), Pre_KernelPoolpre m →
    θ_run (Cert.KernelPoolpre.defs (F := Bits)) (onTc (τ := Cert.KernelPoolpre.τ) (Cert.KernelPoolpre.main (F := Bits))) ⟨m, fun _ => 0, g⟩ (fun r => (∀ c : Dev Cert.KernelPoolpre.nD,
      r.2.mem ((c.tc : Thread Cert.KernelPoolpre.nD Cert.KernelPoolpre.τ).loc Cert.KernelPoolpre.main_arg0) = m ((c.tc : Thread Cert.KernelPoolpre.nD Cert.KernelPoolpre.τ).loc Cert.KernelPoolpre.main_arg0)
      ∧ r.2.mem ((c.tc : Thread Cert.KernelPoolpre.nD Cert.KernelPoolpre.τ).loc Cert.KernelPoolpre.main_arg1) = m ((c.tc : Thread Cert.KernelPoolpre.nD Cert.KernelPoolpre.τ).loc Cert.KernelPoolpre.main_arg1)
      ∧ r.2.mem ((c.tc : Thread Cert.KernelPoolpre.nD Cert.KernelPoolpre.τ).loc Cert.KernelPoolpre.main_arg2) = m ((c.tc : Thread Cert.KernelPoolpre.nD Cert.KernelPoolpre.τ).loc Cert.KernelPoolpre.main_arg2)
      ∧ r.2.mem ((c.tc : Thread Cert.KernelPoolpre.nD Cert.KernelPoolpre.τ).loc Cert.KernelPoolpre.main_arg3) = m ((c.tc : Thread Cert.KernelPoolpre.nD Cert.KernelPoolpre.τ).loc Cert.KernelPoolpre.main_arg3))
      ∧ r.2.sem = fun _ => 0)

def quiescent_KernelPoolpreIdeal [hKernelPoolpreIdeal : Cert.KernelPoolpreIdeal.Facts] : Prop :=
  ∀ (m : (ℓ : Loc Cert.KernelPoolpreIdeal.nD Cert.KernelPoolpreIdeal.τ Cert.KernelPoolpreIdeal.sig) → Buf (Elt Ideal) ℓ) (g : Dev Cert.KernelPoolpreIdeal.nD → PrngReg), Pre_KernelPoolpreIdeal m →
    θ_run (Cert.KernelPoolpreIdeal.defs (F := Ideal)) (onTc (τ := Cert.KernelPoolpreIdeal.τ) (Cert.KernelPoolpreIdeal.main (F := Ideal))) ⟨m, fun _ => 0, g⟩ (fun r => (∀ c : Dev Cert.KernelPoolpreIdeal.nD,
      r.2.mem ((c.tc : Thread Cert.KernelPoolpreIdeal.nD Cert.KernelPoolpreIdeal.τ).loc Cert.KernelPoolpreIdeal.main_arg0) = m ((c.tc : Thread Cert.KernelPoolpreIdeal.nD Cert.KernelPoolpreIdeal.τ).loc Cert.KernelPoolpreIdeal.main_arg0)
      ∧ r.2.mem ((c.tc : Thread Cert.KernelPoolpreIdeal.nD Cert.KernelPoolpreIdeal.τ).loc Cert.KernelPoolpreIdeal.main_arg1) = m ((c.tc : Thread Cert.KernelPoolpreIdeal.nD Cert.KernelPoolpreIdeal.τ).loc Cert.KernelPoolpreIdeal.main_arg1)
      ∧ r.2.mem ((c.tc : Thread Cert.KernelPoolpreIdeal.nD Cert.KernelPoolpreIdeal.τ).loc Cert.KernelPoolpreIdeal.main_arg2) = m ((c.tc : Thread Cert.KernelPoolpreIdeal.nD Cert.KernelPoolpreIdeal.τ).loc Cert.KernelPoolpreIdeal.main_arg2)
      ∧ r.2.mem ((c.tc : Thread Cert.KernelPoolpreIdeal.nD Cert.KernelPoolpreIdeal.τ).loc Cert.KernelPoolpreIdeal.main_arg3) = m ((c.tc : Thread Cert.KernelPoolpreIdeal.nD Cert.KernelPoolpreIdeal.τ).loc Cert.KernelPoolpreIdeal.main_arg3))
      ∧ r.2.sem = fun _ => 0)

def quiescent_ReferencePoolpreIdeal [hReferencePoolpreIdeal : Cert.ReferencePoolpreIdeal.Facts] : Prop :=
  ∀ (m : (ℓ : Loc Cert.ReferencePoolpreIdeal.nD Cert.ReferencePoolpreIdeal.τ Cert.ReferencePoolpreIdeal.sig) → Buf (Elt Ideal) ℓ) (g : Dev Cert.ReferencePoolpreIdeal.nD → PrngReg), Pre_ReferencePoolpreIdeal m →
    θ_run (Cert.ReferencePoolpreIdeal.defs (F := Ideal)) (onTc (τ := Cert.ReferencePoolpreIdeal.τ) (Cert.ReferencePoolpreIdeal.main (F := Ideal))) ⟨m, fun _ => 0, g⟩ (fun r => (∀ c : Dev Cert.ReferencePoolpreIdeal.nD,
      r.2.mem ((c.tc : Thread Cert.ReferencePoolpreIdeal.nD Cert.ReferencePoolpreIdeal.τ).loc Cert.ReferencePoolpreIdeal.main_arg0) = m ((c.tc : Thread Cert.ReferencePoolpreIdeal.nD Cert.ReferencePoolpreIdeal.τ).loc Cert.ReferencePoolpreIdeal.main_arg0)
      ∧ r.2.mem ((c.tc : Thread Cert.ReferencePoolpreIdeal.nD Cert.ReferencePoolpreIdeal.τ).loc Cert.ReferencePoolpreIdeal.main_arg1) = m ((c.tc : Thread Cert.ReferencePoolpreIdeal.nD Cert.ReferencePoolpreIdeal.τ).loc Cert.ReferencePoolpreIdeal.main_arg1)
      ∧ r.2.mem ((c.tc : Thread Cert.ReferencePoolpreIdeal.nD Cert.ReferencePoolpreIdeal.τ).loc Cert.ReferencePoolpreIdeal.main_arg2) = m ((c.tc : Thread Cert.ReferencePoolpreIdeal.nD Cert.ReferencePoolpreIdeal.τ).loc Cert.ReferencePoolpreIdeal.main_arg2)
      ∧ r.2.mem ((c.tc : Thread Cert.ReferencePoolpreIdeal.nD Cert.ReferencePoolpreIdeal.τ).loc Cert.ReferencePoolpreIdeal.main_arg3) = m ((c.tc : Thread Cert.ReferencePoolpreIdeal.nD Cert.ReferencePoolpreIdeal.τ).loc Cert.ReferencePoolpreIdeal.main_arg3))
      ∧ r.2.sem = fun _ => 0)

def preserves_KernelDown_KernelDownIdeal : Prop :=
  True

def algebraic_KernelDownIdeal_ReferenceDownIdeal_pre_finite [hKernelDownIdeal : Cert.KernelDownIdeal.Facts] [hReferenceDownIdeal : Cert.ReferenceDownIdeal.Facts] [hPre_finite : Cert.Pre_finite.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal_finite m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v45_0)) (v1 : (c : Dev Cert.KernelDownIdeal.nD) → Buf (Elt Ideal) ((c.tc : Thread Cert.KernelDownIdeal.nD Cert.KernelDownIdeal.τ).loc Cert.KernelDownIdeal.main_v45_1)) (v2 : (c : Dev Cert.KernelDownIdeal.nD) → Buf (Elt Ideal) ((c.tc : Thread Cert.KernelDownIdeal.nD Cert.KernelDownIdeal.τ).loc Cert.KernelDownIdeal.main_v45_2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v45_0) = v0 c
          ∧ r.2.mem ((c.tc : Thread Cert.KernelDownIdeal.nD Cert.KernelDownIdeal.τ).loc Cert.KernelDownIdeal.main_v45_1) = v1 c
          ∧ r.2.mem ((c.tc : Thread Cert.KernelDownIdeal.nD Cert.KernelDownIdeal.τ).loc Cert.KernelDownIdeal.main_v45_2) = v2 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v57) = v0 c
          ∧ r.2.mem ((c.tc : Thread Cert.ReferenceDownIdeal.nD Cert.ReferenceDownIdeal.τ).loc Cert.ReferenceDownIdeal.main_v31) = v1 c
          ∧ r.2.mem ((c.tc : Thread Cert.ReferenceDownIdeal.nD Cert.ReferenceDownIdeal.τ).loc Cert.ReferenceDownIdeal.main_v59) = v2 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v40) = v0 c
          ∧ r.2.mem ((c.tc : Thread Cert.ReferenceUpIdeal.nD Cert.ReferenceUpIdeal.τ).loc Cert.ReferenceUpIdeal.main_v23) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelWup_KernelWupIdeal : Prop :=
  True

def algebraic_KernelWupIdeal_ReferenceWupIdeal [hKernelWupIdeal : Cert.KernelWupIdeal.Facts] [hReferenceWupIdeal : Cert.ReferenceWupIdeal.Facts] : Prop :=
  ∀ (m : (ℓ : Loc Cert.KernelWupIdeal.nD Cert.KernelWupIdeal.τ Cert.KernelWupIdeal.sig) → Buf (Elt Ideal) ℓ) (g : Dev Cert.KernelWupIdeal.nD → PrngReg)
    (m' : (ℓ : Loc Cert.ReferenceWupIdeal.nD Cert.ReferenceWupIdeal.τ Cert.ReferenceWupIdeal.sig) → Buf (Elt Ideal) ℓ) (g' : Dev Cert.ReferenceWupIdeal.nD → PrngReg), Pre_KernelWupIdeal m →
    (∀ c : Dev Cert.KernelWupIdeal.nD,
      m' ((c.tc : Thread Cert.ReferenceWupIdeal.nD Cert.ReferenceWupIdeal.τ).loc Cert.ReferenceWupIdeal.main_arg0) = m ((c.tc : Thread Cert.KernelWupIdeal.nD Cert.KernelWupIdeal.τ).loc Cert.KernelWupIdeal.main_arg0)
      ∧ m' ((c.tc : Thread Cert.ReferenceWupIdeal.nD Cert.ReferenceWupIdeal.τ).loc Cert.ReferenceWupIdeal.main_arg1) = m ((c.tc : Thread Cert.KernelWupIdeal.nD Cert.KernelWupIdeal.τ).loc Cert.KernelWupIdeal.main_arg1)) →
    ∃ (v0 : (c : Dev Cert.KernelWupIdeal.nD) → Buf (Elt Ideal) ((c.tc : Thread Cert.KernelWupIdeal.nD Cert.KernelWupIdeal.τ).loc Cert.KernelWupIdeal.main_v0)),
      θ_run (Cert.KernelWupIdeal.defs (F := Ideal)) (onTc (τ := Cert.KernelWupIdeal.τ) (Cert.KernelWupIdeal.main (F := Ideal))) ⟨m, fun _ => 0, g⟩ (fun r => ∀ c : Dev Cert.KernelWupIdeal.nD,
          r.2.mem ((c.tc : Thread Cert.KernelWupIdeal.nD Cert.KernelWupIdeal.τ).loc Cert.KernelWupIdeal.main_v0) = v0 c
          ∧ r.2.mem ((c.tc : Thread Cert.KernelWupIdeal.nD Cert.KernelWupIdeal.τ).loc Cert.KernelWupIdeal.main_arg0) = m ((c.tc : Thread Cert.KernelWupIdeal.nD Cert.KernelWupIdeal.τ).loc Cert.KernelWupIdeal.main_arg0)
          ∧ r.2.mem ((c.tc : Thread Cert.KernelWupIdeal.nD Cert.KernelWupIdeal.τ).loc Cert.KernelWupIdeal.main_arg1) = m ((c.tc : Thread Cert.KernelWupIdeal.nD Cert.KernelWupIdeal.τ).loc Cert.KernelWupIdeal.main_arg1))
      ∧ θ_run (Cert.ReferenceWupIdeal.defs (F := Ideal)) (onTc (τ := Cert.ReferenceWupIdeal.τ) (Cert.ReferenceWupIdeal.main (F := Ideal))) ⟨m', fun _ => 0, g'⟩ (fun r => ∀ c : Dev Cert.ReferenceWupIdeal.nD,
          r.2.mem ((c.tc : Thread Cert.ReferenceWupIdeal.nD Cert.ReferenceWupIdeal.τ).loc Cert.ReferenceWupIdeal.main_v8) = v0 c
          ∧ r.2.mem ((c.tc : Thread Cert.ReferenceWupIdeal.nD Cert.ReferenceWupIdeal.τ).loc Cert.ReferenceWupIdeal.main_arg0) = m' ((c.tc : Thread Cert.ReferenceWupIdeal.nD Cert.ReferenceWupIdeal.τ).loc Cert.ReferenceWupIdeal.main_arg0)
          ∧ r.2.mem ((c.tc : Thread Cert.ReferenceWupIdeal.nD Cert.ReferenceWupIdeal.τ).loc Cert.ReferenceWupIdeal.main_arg1) = m' ((c.tc : Thread Cert.ReferenceWupIdeal.nD Cert.ReferenceWupIdeal.τ).loc Cert.ReferenceWupIdeal.main_arg1))

def preserves_KernelWdown_KernelWdownIdeal : Prop :=
  True

def algebraic_KernelWdownIdeal_ReferenceWdownIdeal [hKernelWdownIdeal : Cert.KernelWdownIdeal.Facts] [hReferenceWdownIdeal : Cert.ReferenceWdownIdeal.Facts] : Prop :=
  ∀ (m : (ℓ : Loc Cert.KernelWdownIdeal.nD Cert.KernelWdownIdeal.τ Cert.KernelWdownIdeal.sig) → Buf (Elt Ideal) ℓ) (g : Dev Cert.KernelWdownIdeal.nD → PrngReg)
    (m' : (ℓ : Loc Cert.ReferenceWdownIdeal.nD Cert.ReferenceWdownIdeal.τ Cert.ReferenceWdownIdeal.sig) → Buf (Elt Ideal) ℓ) (g' : Dev Cert.ReferenceWdownIdeal.nD → PrngReg), Pre_KernelWdownIdeal m →
    (∀ c : Dev Cert.KernelWdownIdeal.nD,
      m' ((c.tc : Thread Cert.ReferenceWdownIdeal.nD Cert.ReferenceWdownIdeal.τ).loc Cert.ReferenceWdownIdeal.main_arg0) = m ((c.tc : Thread Cert.KernelWdownIdeal.nD Cert.KernelWdownIdeal.τ).loc Cert.KernelWdownIdeal.main_arg0)
      ∧ m' ((c.tc : Thread Cert.ReferenceWdownIdeal.nD Cert.ReferenceWdownIdeal.τ).loc Cert.ReferenceWdownIdeal.main_arg1) = m ((c.tc : Thread Cert.KernelWdownIdeal.nD Cert.KernelWdownIdeal.τ).loc Cert.KernelWdownIdeal.main_arg1)) →
    ∃ (v0 : (c : Dev Cert.KernelWdownIdeal.nD) → Buf (Elt Ideal) ((c.tc : Thread Cert.KernelWdownIdeal.nD Cert.KernelWdownIdeal.τ).loc Cert.KernelWdownIdeal.main_v0)),
      θ_run (Cert.KernelWdownIdeal.defs (F := Ideal)) (onTc (τ := Cert.KernelWdownIdeal.τ) (Cert.KernelWdownIdeal.main (F := Ideal))) ⟨m, fun _ => 0, g⟩ (fun r => ∀ c : Dev Cert.KernelWdownIdeal.nD,
          r.2.mem ((c.tc : Thread Cert.KernelWdownIdeal.nD Cert.KernelWdownIdeal.τ).loc Cert.KernelWdownIdeal.main_v0) = v0 c
          ∧ r.2.mem ((c.tc : Thread Cert.KernelWdownIdeal.nD Cert.KernelWdownIdeal.τ).loc Cert.KernelWdownIdeal.main_arg0) = m ((c.tc : Thread Cert.KernelWdownIdeal.nD Cert.KernelWdownIdeal.τ).loc Cert.KernelWdownIdeal.main_arg0)
          ∧ r.2.mem ((c.tc : Thread Cert.KernelWdownIdeal.nD Cert.KernelWdownIdeal.τ).loc Cert.KernelWdownIdeal.main_arg1) = m ((c.tc : Thread Cert.KernelWdownIdeal.nD Cert.KernelWdownIdeal.τ).loc Cert.KernelWdownIdeal.main_arg1))
      ∧ θ_run (Cert.ReferenceWdownIdeal.defs (F := Ideal)) (onTc (τ := Cert.ReferenceWdownIdeal.τ) (Cert.ReferenceWdownIdeal.main (F := Ideal))) ⟨m', fun _ => 0, g'⟩ (fun r => ∀ c : Dev Cert.ReferenceWdownIdeal.nD,
          r.2.mem ((c.tc : Thread Cert.ReferenceWdownIdeal.nD Cert.ReferenceWdownIdeal.τ).loc Cert.ReferenceWdownIdeal.main_v7) = v0 c
          ∧ r.2.mem ((c.tc : Thread Cert.ReferenceWdownIdeal.nD Cert.ReferenceWdownIdeal.τ).loc Cert.ReferenceWdownIdeal.main_arg0) = m' ((c.tc : Thread Cert.ReferenceWdownIdeal.nD Cert.ReferenceWdownIdeal.τ).loc Cert.ReferenceWdownIdeal.main_arg0)
          ∧ r.2.mem ((c.tc : Thread Cert.ReferenceWdownIdeal.nD Cert.ReferenceWdownIdeal.τ).loc Cert.ReferenceWdownIdeal.main_arg1) = m' ((c.tc : Thread Cert.ReferenceWdownIdeal.nD Cert.ReferenceWdownIdeal.τ).loc Cert.ReferenceWdownIdeal.main_arg1))

def preserves_KernelSconv_KernelSconvIdeal : Prop :=
  True

def algebraic_KernelSconvIdeal_ReferenceSconvIdeal [hKernelSconvIdeal : Cert.KernelSconvIdeal.Facts] [hReferenceSconvIdeal : Cert.ReferenceSconvIdeal.Facts] : Prop :=
  ∀ (m : (ℓ : Loc Cert.KernelSconvIdeal.nD Cert.KernelSconvIdeal.τ Cert.KernelSconvIdeal.sig) → Buf (Elt Ideal) ℓ) (g : Dev Cert.KernelSconvIdeal.nD → PrngReg)
    (m' : (ℓ : Loc Cert.ReferenceSconvIdeal.nD Cert.ReferenceSconvIdeal.τ Cert.ReferenceSconvIdeal.sig) → Buf (Elt Ideal) ℓ) (g' : Dev Cert.ReferenceSconvIdeal.nD → PrngReg), Pre_KernelSconvIdeal m →
    (∀ c : Dev Cert.KernelSconvIdeal.nD,
      m' ((c.tc : Thread Cert.ReferenceSconvIdeal.nD Cert.ReferenceSconvIdeal.τ).loc Cert.ReferenceSconvIdeal.main_arg0) = m ((c.tc : Thread Cert.KernelSconvIdeal.nD Cert.KernelSconvIdeal.τ).loc Cert.KernelSconvIdeal.main_arg0)
      ∧ m' ((c.tc : Thread Cert.ReferenceSconvIdeal.nD Cert.ReferenceSconvIdeal.τ).loc Cert.ReferenceSconvIdeal.main_arg1) = m ((c.tc : Thread Cert.KernelSconvIdeal.nD Cert.KernelSconvIdeal.τ).loc Cert.KernelSconvIdeal.main_arg1)
      ∧ m' ((c.tc : Thread Cert.ReferenceSconvIdeal.nD Cert.ReferenceSconvIdeal.τ).loc Cert.ReferenceSconvIdeal.main_arg2) = m ((c.tc : Thread Cert.KernelSconvIdeal.nD Cert.KernelSconvIdeal.τ).loc Cert.KernelSconvIdeal.main_arg2)) →
    ∃ (v0 : (c : Dev Cert.KernelSconvIdeal.nD) → Buf (Elt Ideal) ((c.tc : Thread Cert.KernelSconvIdeal.nD Cert.KernelSconvIdeal.τ).loc Cert.KernelSconvIdeal.main_v0_0)) (v1 : (c : Dev Cert.KernelSconvIdeal.nD) → Buf (Elt Ideal) ((c.tc : Thread Cert.KernelSconvIdeal.nD Cert.KernelSconvIdeal.τ).loc Cert.KernelSconvIdeal.main_v0_1)) (v2 : (c : Dev Cert.KernelSconvIdeal.nD) → Buf (Elt Ideal) ((c.tc : Thread Cert.KernelSconvIdeal.nD Cert.KernelSconvIdeal.τ).loc Cert.KernelSconvIdeal.main_v0_2)) (v3 : (c : Dev Cert.KernelSconvIdeal.nD) → Buf (Elt Ideal) ((c.tc : Thread Cert.KernelSconvIdeal.nD Cert.KernelSconvIdeal.τ).loc Cert.KernelSconvIdeal.main_v0_3)),
      θ_run (Cert.KernelSconvIdeal.defs (F := Ideal)) (onTc (τ := Cert.KernelSconvIdeal.τ) (Cert.KernelSconvIdeal.main (F := Ideal))) ⟨m, fun _ => 0, g⟩ (fun r => ∀ c : Dev Cert.KernelSconvIdeal.nD,
          r.2.mem ((c.tc : Thread Cert.KernelSconvIdeal.nD Cert.KernelSconvIdeal.τ).loc Cert.KernelSconvIdeal.main_v0_0) = v0 c
          ∧ r.2.mem ((c.tc : Thread Cert.KernelSconvIdeal.nD Cert.KernelSconvIdeal.τ).loc Cert.KernelSconvIdeal.main_v0_1) = v1 c
          ∧ r.2.mem ((c.tc : Thread Cert.KernelSconvIdeal.nD Cert.KernelSconvIdeal.τ).loc Cert.KernelSconvIdeal.main_v0_2) = v2 c
          ∧ r.2.mem ((c.tc : Thread Cert.KernelSconvIdeal.nD Cert.KernelSconvIdeal.τ).loc Cert.KernelSconvIdeal.main_v0_3) = v3 c
          ∧ r.2.mem ((c.tc : Thread Cert.KernelSconvIdeal.nD Cert.KernelSconvIdeal.τ).loc Cert.KernelSconvIdeal.main_arg0) = m ((c.tc : Thread Cert.KernelSconvIdeal.nD Cert.KernelSconvIdeal.τ).loc Cert.KernelSconvIdeal.main_arg0)
          ∧ r.2.mem ((c.tc : Thread Cert.KernelSconvIdeal.nD Cert.KernelSconvIdeal.τ).loc Cert.KernelSconvIdeal.main_arg1) = m ((c.tc : Thread Cert.KernelSconvIdeal.nD Cert.KernelSconvIdeal.τ).loc Cert.KernelSconvIdeal.main_arg1)
          ∧ r.2.mem ((c.tc : Thread Cert.KernelSconvIdeal.nD Cert.KernelSconvIdeal.τ).loc Cert.KernelSconvIdeal.main_arg2) = m ((c.tc : Thread Cert.KernelSconvIdeal.nD Cert.KernelSconvIdeal.τ).loc Cert.KernelSconvIdeal.main_arg2))
      ∧ θ_run (Cert.ReferenceSconvIdeal.defs (F := Ideal)) (onTc (τ := Cert.ReferenceSconvIdeal.τ) (Cert.ReferenceSconvIdeal.main (F := Ideal))) ⟨m', fun _ => 0, g'⟩ (fun r => ∀ c : Dev Cert.ReferenceSconvIdeal.nD,
          r.2.mem ((c.tc : Thread Cert.ReferenceSconvIdeal.nD Cert.ReferenceSconvIdeal.τ).loc Cert.ReferenceSconvIdeal.main_v57) = v0 c
          ∧ r.2.mem ((c.tc : Thread Cert.ReferenceSconvIdeal.nD Cert.ReferenceSconvIdeal.τ).loc Cert.ReferenceSconvIdeal.main_v58) = v1 c
          ∧ r.2.mem ((c.tc : Thread Cert.ReferenceSconvIdeal.nD Cert.ReferenceSconvIdeal.τ).loc Cert.ReferenceSconvIdeal.main_v59) = v2 c
          ∧ r.2.mem ((c.tc : Thread Cert.ReferenceSconvIdeal.nD Cert.ReferenceSconvIdeal.τ).loc Cert.ReferenceSconvIdeal.main_v48) = v3 c
          ∧ r.2.mem ((c.tc : Thread Cert.ReferenceSconvIdeal.nD Cert.ReferenceSconvIdeal.τ).loc Cert.ReferenceSconvIdeal.main_arg0) = m' ((c.tc : Thread Cert.ReferenceSconvIdeal.nD Cert.ReferenceSconvIdeal.τ).loc Cert.ReferenceSconvIdeal.main_arg0)
          ∧ r.2.mem ((c.tc : Thread Cert.ReferenceSconvIdeal.nD Cert.ReferenceSconvIdeal.τ).loc Cert.ReferenceSconvIdeal.main_arg1) = m' ((c.tc : Thread Cert.ReferenceSconvIdeal.nD Cert.ReferenceSconvIdeal.τ).loc Cert.ReferenceSconvIdeal.main_arg1)
          ∧ r.2.mem ((c.tc : Thread Cert.ReferenceSconvIdeal.nD Cert.ReferenceSconvIdeal.τ).loc Cert.ReferenceSconvIdeal.main_arg2) = m' ((c.tc : Thread Cert.ReferenceSconvIdeal.nD Cert.ReferenceSconvIdeal.τ).loc Cert.ReferenceSconvIdeal.main_arg2))

def preserves_KernelGateup_KernelGateupIdeal : Prop :=
  True

def algebraic_KernelGateupIdeal_ReferenceGateupIdeal [hKernelGateupIdeal : Cert.KernelGateupIdeal.Facts] [hReferenceGateupIdeal : Cert.ReferenceGateupIdeal.Facts] : Prop :=
  ∀ (m : (ℓ : Loc Cert.KernelGateupIdeal.nD Cert.KernelGateupIdeal.τ Cert.KernelGateupIdeal.sig) → Buf (Elt Ideal) ℓ) (g : Dev Cert.KernelGateupIdeal.nD → PrngReg)
    (m' : (ℓ : Loc Cert.ReferenceGateupIdeal.nD Cert.ReferenceGateupIdeal.τ Cert.ReferenceGateupIdeal.sig) → Buf (Elt Ideal) ℓ) (g' : Dev Cert.ReferenceGateupIdeal.nD → PrngReg), Pre_KernelGateupIdeal m →
    (∀ c : Dev Cert.KernelGateupIdeal.nD,
      m' ((c.tc : Thread Cert.ReferenceGateupIdeal.nD Cert.ReferenceGateupIdeal.τ).loc Cert.ReferenceGateupIdeal.main_arg0) = m ((c.tc : Thread Cert.KernelGateupIdeal.nD Cert.KernelGateupIdeal.τ).loc Cert.KernelGateupIdeal.main_arg0)
      ∧ m' ((c.tc : Thread Cert.ReferenceGateupIdeal.nD Cert.ReferenceGateupIdeal.τ).loc Cert.ReferenceGateupIdeal.main_arg1) = m ((c.tc : Thread Cert.KernelGateupIdeal.nD Cert.KernelGateupIdeal.τ).loc Cert.KernelGateupIdeal.main_arg1)) →
    ∃ (v0 : (c : Dev Cert.KernelGateupIdeal.nD) → Buf (Elt Ideal) ((c.tc : Thread Cert.KernelGateupIdeal.nD Cert.KernelGateupIdeal.τ).loc Cert.KernelGateupIdeal.main_v0_0)) (v1 : (c : Dev Cert.KernelGateupIdeal.nD) → Buf (Elt Ideal) ((c.tc : Thread Cert.KernelGateupIdeal.nD Cert.KernelGateupIdeal.τ).loc Cert.KernelGateupIdeal.main_v0_1)),
      θ_run (Cert.KernelGateupIdeal.defs (F := Ideal)) (onTc (τ := Cert.KernelGateupIdeal.τ) (Cert.KernelGateupIdeal.main (F := Ideal))) ⟨m, fun _ => 0, g⟩ (fun r => ∀ c : Dev Cert.KernelGateupIdeal.nD,
          r.2.mem ((c.tc : Thread Cert.KernelGateupIdeal.nD Cert.KernelGateupIdeal.τ).loc Cert.KernelGateupIdeal.main_v0_0) = v0 c
          ∧ r.2.mem ((c.tc : Thread Cert.KernelGateupIdeal.nD Cert.KernelGateupIdeal.τ).loc Cert.KernelGateupIdeal.main_v0_1) = v1 c
          ∧ r.2.mem ((c.tc : Thread Cert.KernelGateupIdeal.nD Cert.KernelGateupIdeal.τ).loc Cert.KernelGateupIdeal.main_arg0) = m ((c.tc : Thread Cert.KernelGateupIdeal.nD Cert.KernelGateupIdeal.τ).loc Cert.KernelGateupIdeal.main_arg0)
          ∧ r.2.mem ((c.tc : Thread Cert.KernelGateupIdeal.nD Cert.KernelGateupIdeal.τ).loc Cert.KernelGateupIdeal.main_arg1) = m ((c.tc : Thread Cert.KernelGateupIdeal.nD Cert.KernelGateupIdeal.τ).loc Cert.KernelGateupIdeal.main_arg1))
      ∧ θ_run (Cert.ReferenceGateupIdeal.defs (F := Ideal)) (onTc (τ := Cert.ReferenceGateupIdeal.τ) (Cert.ReferenceGateupIdeal.main (F := Ideal))) ⟨m', fun _ => 0, g'⟩ (fun r => ∀ c : Dev Cert.ReferenceGateupIdeal.nD,
          r.2.mem ((c.tc : Thread Cert.ReferenceGateupIdeal.nD Cert.ReferenceGateupIdeal.τ).loc Cert.ReferenceGateupIdeal.main_v11) = v0 c
          ∧ r.2.mem ((c.tc : Thread Cert.ReferenceGateupIdeal.nD Cert.ReferenceGateupIdeal.τ).loc Cert.ReferenceGateupIdeal.main_v13) = v1 c
          ∧ r.2.mem ((c.tc : Thread Cert.ReferenceGateupIdeal.nD Cert.ReferenceGateupIdeal.τ).loc Cert.ReferenceGateupIdeal.main_arg0) = m' ((c.tc : Thread Cert.ReferenceGateupIdeal.nD Cert.ReferenceGateupIdeal.τ).loc Cert.ReferenceGateupIdeal.main_arg0)
          ∧ r.2.mem ((c.tc : Thread Cert.ReferenceGateupIdeal.nD Cert.ReferenceGateupIdeal.τ).loc Cert.ReferenceGateupIdeal.main_arg1) = m' ((c.tc : Thread Cert.ReferenceGateupIdeal.nD Cert.ReferenceGateupIdeal.τ).loc Cert.ReferenceGateupIdeal.main_arg1))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)) →
    ∃ (v0 : (c : Dev Cert.KernelPostIdeal.nD) → Buf (Elt Ideal) ((c.tc : Thread Cert.KernelPostIdeal.nD Cert.KernelPostIdeal.τ).loc Cert.KernelPostIdeal.main_v0_0)) (v1 : (c : Dev Cert.KernelPostIdeal.nD) → Buf (Elt Ideal) ((c.tc : Thread Cert.KernelPostIdeal.nD Cert.KernelPostIdeal.τ).loc Cert.KernelPostIdeal.main_v0_1)) (v2 : (c : Dev Cert.KernelPostIdeal.nD) → Buf (Elt Ideal) ((c.tc : Thread Cert.KernelPostIdeal.nD Cert.KernelPostIdeal.τ).loc Cert.KernelPostIdeal.main_v0_2)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v0_0) = v0 c
          ∧ r.2.mem ((c.tc : Thread Cert.KernelPostIdeal.nD Cert.KernelPostIdeal.τ).loc Cert.KernelPostIdeal.main_v0_1) = v1 c
          ∧ r.2.mem ((c.tc : Thread Cert.KernelPostIdeal.nD Cert.KernelPostIdeal.τ).loc Cert.KernelPostIdeal.main_v0_2) = v2 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v3) = v0 c
          ∧ r.2.mem ((c.tc : Thread Cert.ReferencePostIdeal.nD Cert.ReferencePostIdeal.τ).loc Cert.ReferencePostIdeal.main_v18) = v1 c
          ∧ r.2.mem ((c.tc : Thread Cert.ReferencePostIdeal.nD Cert.ReferencePostIdeal.τ).loc Cert.ReferencePostIdeal.main_v31) = v2 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)
      ∧ m' ((c.tc : Thread Cert.ReferencePleIdeal.nD Cert.ReferencePleIdeal.τ).loc Cert.ReferencePleIdeal.main_arg5) = m ((c.tc : Thread Cert.KernelPleIdeal.nD Cert.KernelPleIdeal.τ).loc Cert.KernelPleIdeal.main_arg5)
      ∧ m' ((c.tc : Thread Cert.ReferencePleIdeal.nD Cert.ReferencePleIdeal.τ).loc Cert.ReferencePleIdeal.main_arg6) = m ((c.tc : Thread Cert.KernelPleIdeal.nD Cert.KernelPleIdeal.τ).loc Cert.KernelPleIdeal.main_arg6)) →
    ∃ (v0 : (c : Dev Cert.KernelPleIdeal.nD) → Buf (Elt Ideal) ((c.tc : Thread Cert.KernelPleIdeal.nD Cert.KernelPleIdeal.τ).loc Cert.KernelPleIdeal.main_v21_0)) (v1 : (c : Dev Cert.KernelPleIdeal.nD) → Buf (Elt Ideal) ((c.tc : Thread Cert.KernelPleIdeal.nD Cert.KernelPleIdeal.τ).loc Cert.KernelPleIdeal.main_v21_1)) (v2 : (c : Dev Cert.KernelPleIdeal.nD) → Buf (Elt Ideal) ((c.tc : Thread Cert.KernelPleIdeal.nD Cert.KernelPleIdeal.τ).loc Cert.KernelPleIdeal.main_v21_2)) (v3 : (c : Dev Cert.KernelPleIdeal.nD) → Buf (Elt Ideal) ((c.tc : Thread Cert.KernelPleIdeal.nD Cert.KernelPleIdeal.τ).loc Cert.KernelPleIdeal.main_v21_3)) (v4 : (c : Dev Cert.KernelPleIdeal.nD) → Buf (Elt Ideal) ((c.tc : Thread Cert.KernelPleIdeal.nD Cert.KernelPleIdeal.τ).loc Cert.KernelPleIdeal.main_v21_4)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v21_0) = v0 c
          ∧ r.2.mem ((c.tc : Thread Cert.KernelPleIdeal.nD Cert.KernelPleIdeal.τ).loc Cert.KernelPleIdeal.main_v21_1) = v1 c
          ∧ r.2.mem ((c.tc : Thread Cert.KernelPleIdeal.nD Cert.KernelPleIdeal.τ).loc Cert.KernelPleIdeal.main_v21_2) = v2 c
          ∧ r.2.mem ((c.tc : Thread Cert.KernelPleIdeal.nD Cert.KernelPleIdeal.τ).loc Cert.KernelPleIdeal.main_v21_3) = v3 c
          ∧ r.2.mem ((c.tc : Thread Cert.KernelPleIdeal.nD Cert.KernelPleIdeal.τ).loc Cert.KernelPleIdeal.main_v21_4) = v4 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
          ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
          ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v91) = v0 c
          ∧ r.2.mem ((c.tc : Thread Cert.ReferencePleIdeal.nD Cert.ReferencePleIdeal.τ).loc Cert.ReferencePleIdeal.main_v92) = v1 c
          ∧ r.2.mem ((c.tc : Thread Cert.ReferencePleIdeal.nD Cert.ReferencePleIdeal.τ).loc Cert.ReferencePleIdeal.main_v93) = v2 c
          ∧ r.2.mem ((c.tc : Thread Cert.ReferencePleIdeal.nD Cert.ReferencePleIdeal.τ).loc Cert.ReferencePleIdeal.main_v51) = v3 c
          ∧ r.2.mem ((c.tc : Thread Cert.ReferencePleIdeal.nD Cert.ReferencePleIdeal.τ).loc Cert.ReferencePleIdeal.main_v74) = v4 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4)
          ∧ r.2.mem ((c.tc : Thread Cert.ReferencePleIdeal.nD Cert.ReferencePleIdeal.τ).loc Cert.ReferencePleIdeal.main_arg5) = m' ((c.tc : Thread Cert.ReferencePleIdeal.nD Cert.ReferencePleIdeal.τ).loc Cert.ReferencePleIdeal.main_arg5)
          ∧ r.2.mem ((c.tc : Thread Cert.ReferencePleIdeal.nD Cert.ReferencePleIdeal.τ).loc Cert.ReferencePleIdeal.main_arg6) = m' ((c.tc : Thread Cert.ReferencePleIdeal.nD Cert.ReferencePleIdeal.τ).loc Cert.ReferencePleIdeal.main_arg6))

def preserves_KernelMixpost_KernelMixpostIdeal : Prop :=
  True

def algebraic_KernelMixpostIdeal_ReferenceMixpostIdeal [hKernelMixpostIdeal : Cert.KernelMixpostIdeal.Facts] [hReferenceMixpostIdeal : Cert.ReferenceMixpostIdeal.Facts] : Prop :=
  ∀ (m : (ℓ : Loc Cert.KernelMixpostIdeal.nD Cert.KernelMixpostIdeal.τ Cert.KernelMixpostIdeal.sig) → Buf (Elt Ideal) ℓ) (g : Dev Cert.KernelMixpostIdeal.nD → PrngReg)
    (m' : (ℓ : Loc Cert.ReferenceMixpostIdeal.nD Cert.ReferenceMixpostIdeal.τ Cert.ReferenceMixpostIdeal.sig) → Buf (Elt Ideal) ℓ) (g' : Dev Cert.ReferenceMixpostIdeal.nD → PrngReg), Pre_KernelMixpostIdeal m →
    (∀ c : Dev Cert.KernelMixpostIdeal.nD,
      m' ((c.tc : Thread Cert.ReferenceMixpostIdeal.nD Cert.ReferenceMixpostIdeal.τ).loc Cert.ReferenceMixpostIdeal.main_arg0) = m ((c.tc : Thread Cert.KernelMixpostIdeal.nD Cert.KernelMixpostIdeal.τ).loc Cert.KernelMixpostIdeal.main_arg0)
      ∧ m' ((c.tc : Thread Cert.ReferenceMixpostIdeal.nD Cert.ReferenceMixpostIdeal.τ).loc Cert.ReferenceMixpostIdeal.main_arg1) = m ((c.tc : Thread Cert.KernelMixpostIdeal.nD Cert.KernelMixpostIdeal.τ).loc Cert.KernelMixpostIdeal.main_arg1)
      ∧ m' ((c.tc : Thread Cert.ReferenceMixpostIdeal.nD Cert.ReferenceMixpostIdeal.τ).loc Cert.ReferenceMixpostIdeal.main_arg2) = m ((c.tc : Thread Cert.KernelMixpostIdeal.nD Cert.KernelMixpostIdeal.τ).loc Cert.KernelMixpostIdeal.main_arg2)) →
    ∃ (v0 : (c : Dev Cert.KernelMixpostIdeal.nD) → Buf (Elt Ideal) ((c.tc : Thread Cert.KernelMixpostIdeal.nD Cert.KernelMixpostIdeal.τ).loc Cert.KernelMixpostIdeal.main_v0_0)) (v1 : (c : Dev Cert.KernelMixpostIdeal.nD) → Buf (Elt Ideal) ((c.tc : Thread Cert.KernelMixpostIdeal.nD Cert.KernelMixpostIdeal.τ).loc Cert.KernelMixpostIdeal.main_v0_1)),
      θ_run (Cert.KernelMixpostIdeal.defs (F := Ideal)) (onTc (τ := Cert.KernelMixpostIdeal.τ) (Cert.KernelMixpostIdeal.main (F := Ideal))) ⟨m, fun _ => 0, g⟩ (fun r => ∀ c : Dev Cert.KernelMixpostIdeal.nD,
          r.2.mem ((c.tc : Thread Cert.KernelMixpostIdeal.nD Cert.KernelMixpostIdeal.τ).loc Cert.KernelMixpostIdeal.main_v0_0) = v0 c
          ∧ r.2.mem ((c.tc : Thread Cert.KernelMixpostIdeal.nD Cert.KernelMixpostIdeal.τ).loc Cert.KernelMixpostIdeal.main_v0_1) = v1 c
          ∧ r.2.mem ((c.tc : Thread Cert.KernelMixpostIdeal.nD Cert.KernelMixpostIdeal.τ).loc Cert.KernelMixpostIdeal.main_arg0) = m ((c.tc : Thread Cert.KernelMixpostIdeal.nD Cert.KernelMixpostIdeal.τ).loc Cert.KernelMixpostIdeal.main_arg0)
          ∧ r.2.mem ((c.tc : Thread Cert.KernelMixpostIdeal.nD Cert.KernelMixpostIdeal.τ).loc Cert.KernelMixpostIdeal.main_arg1) = m ((c.tc : Thread Cert.KernelMixpostIdeal.nD Cert.KernelMixpostIdeal.τ).loc Cert.KernelMixpostIdeal.main_arg1)
          ∧ r.2.mem ((c.tc : Thread Cert.KernelMixpostIdeal.nD Cert.KernelMixpostIdeal.τ).loc Cert.KernelMixpostIdeal.main_arg2) = m ((c.tc : Thread Cert.KernelMixpostIdeal.nD Cert.KernelMixpostIdeal.τ).loc Cert.KernelMixpostIdeal.main_arg2))
      ∧ θ_run (Cert.ReferenceMixpostIdeal.defs (F := Ideal)) (onTc (τ := Cert.ReferenceMixpostIdeal.τ) (Cert.ReferenceMixpostIdeal.main (F := Ideal))) ⟨m', fun _ => 0, g'⟩ (fun r => ∀ c : Dev Cert.ReferenceMixpostIdeal.nD,
          r.2.mem ((c.tc : Thread Cert.ReferenceMixpostIdeal.nD Cert.ReferenceMixpostIdeal.τ).loc Cert.ReferenceMixpostIdeal.main_v34) = v0 c
          ∧ r.2.mem ((c.tc : Thread Cert.ReferenceMixpostIdeal.nD Cert.ReferenceMixpostIdeal.τ).loc Cert.ReferenceMixpostIdeal.main_v17) = v1 c
          ∧ r.2.mem ((c.tc : Thread Cert.ReferenceMixpostIdeal.nD Cert.ReferenceMixpostIdeal.τ).loc Cert.ReferenceMixpostIdeal.main_arg0) = m' ((c.tc : Thread Cert.ReferenceMixpostIdeal.nD Cert.ReferenceMixpostIdeal.τ).loc Cert.ReferenceMixpostIdeal.main_arg0)
          ∧ r.2.mem ((c.tc : Thread Cert.ReferenceMixpostIdeal.nD Cert.ReferenceMixpostIdeal.τ).loc Cert.ReferenceMixpostIdeal.main_arg1) = m' ((c.tc : Thread Cert.ReferenceMixpostIdeal.nD Cert.ReferenceMixpostIdeal.τ).loc Cert.ReferenceMixpostIdeal.main_arg1)
          ∧ r.2.mem ((c.tc : Thread Cert.ReferenceMixpostIdeal.nD Cert.ReferenceMixpostIdeal.τ).loc Cert.ReferenceMixpostIdeal.main_arg2) = m' ((c.tc : Thread Cert.ReferenceMixpostIdeal.nD Cert.ReferenceMixpostIdeal.τ).loc Cert.ReferenceMixpostIdeal.main_arg2))

def preserves_KernelMixout_KernelMixoutIdeal : Prop :=
  True

def algebraic_KernelMixoutIdeal_ReferenceMixoutIdeal [hKernelMixoutIdeal : Cert.KernelMixoutIdeal.Facts] [hReferenceMixoutIdeal : Cert.ReferenceMixoutIdeal.Facts] : Prop :=
  ∀ (m : (ℓ : Loc Cert.KernelMixoutIdeal.nD Cert.KernelMixoutIdeal.τ Cert.KernelMixoutIdeal.sig) → Buf (Elt Ideal) ℓ) (g : Dev Cert.KernelMixoutIdeal.nD → PrngReg)
    (m' : (ℓ : Loc Cert.ReferenceMixoutIdeal.nD Cert.ReferenceMixoutIdeal.τ Cert.ReferenceMixoutIdeal.sig) → Buf (Elt Ideal) ℓ) (g' : Dev Cert.ReferenceMixoutIdeal.nD → PrngReg), Pre_KernelMixoutIdeal m →
    (∀ c : Dev Cert.KernelMixoutIdeal.nD,
      m' ((c.tc : Thread Cert.ReferenceMixoutIdeal.nD Cert.ReferenceMixoutIdeal.τ).loc Cert.ReferenceMixoutIdeal.main_arg0) = m ((c.tc : Thread Cert.KernelMixoutIdeal.nD Cert.KernelMixoutIdeal.τ).loc Cert.KernelMixoutIdeal.main_arg0)
      ∧ m' ((c.tc : Thread Cert.ReferenceMixoutIdeal.nD Cert.ReferenceMixoutIdeal.τ).loc Cert.ReferenceMixoutIdeal.main_arg1) = m ((c.tc : Thread Cert.KernelMixoutIdeal.nD Cert.KernelMixoutIdeal.τ).loc Cert.KernelMixoutIdeal.main_arg1)) →
    ∃ (v0 : (c : Dev Cert.KernelMixoutIdeal.nD) → Buf (Elt Ideal) ((c.tc : Thread Cert.KernelMixoutIdeal.nD Cert.KernelMixoutIdeal.τ).loc Cert.KernelMixoutIdeal.main_v0)),
      θ_run (Cert.KernelMixoutIdeal.defs (F := Ideal)) (onTc (τ := Cert.KernelMixoutIdeal.τ) (Cert.KernelMixoutIdeal.main (F := Ideal))) ⟨m, fun _ => 0, g⟩ (fun r => ∀ c : Dev Cert.KernelMixoutIdeal.nD,
          r.2.mem ((c.tc : Thread Cert.KernelMixoutIdeal.nD Cert.KernelMixoutIdeal.τ).loc Cert.KernelMixoutIdeal.main_v0) = v0 c
          ∧ r.2.mem ((c.tc : Thread Cert.KernelMixoutIdeal.nD Cert.KernelMixoutIdeal.τ).loc Cert.KernelMixoutIdeal.main_arg0) = m ((c.tc : Thread Cert.KernelMixoutIdeal.nD Cert.KernelMixoutIdeal.τ).loc Cert.KernelMixoutIdeal.main_arg0)
          ∧ r.2.mem ((c.tc : Thread Cert.KernelMixoutIdeal.nD Cert.KernelMixoutIdeal.τ).loc Cert.KernelMixoutIdeal.main_arg1) = m ((c.tc : Thread Cert.KernelMixoutIdeal.nD Cert.KernelMixoutIdeal.τ).loc Cert.KernelMixoutIdeal.main_arg1))
      ∧ θ_run (Cert.ReferenceMixoutIdeal.defs (F := Ideal)) (onTc (τ := Cert.ReferenceMixoutIdeal.τ) (Cert.ReferenceMixoutIdeal.main (F := Ideal))) ⟨m', fun _ => 0, g'⟩ (fun r => ∀ c : Dev Cert.ReferenceMixoutIdeal.nD,
          r.2.mem ((c.tc : Thread Cert.ReferenceMixoutIdeal.nD Cert.ReferenceMixoutIdeal.τ).loc Cert.ReferenceMixoutIdeal.main_v7) = v0 c
          ∧ r.2.mem ((c.tc : Thread Cert.ReferenceMixoutIdeal.nD Cert.ReferenceMixoutIdeal.τ).loc Cert.ReferenceMixoutIdeal.main_arg0) = m' ((c.tc : Thread Cert.ReferenceMixoutIdeal.nD Cert.ReferenceMixoutIdeal.τ).loc Cert.ReferenceMixoutIdeal.main_arg0)
          ∧ r.2.mem ((c.tc : Thread Cert.ReferenceMixoutIdeal.nD Cert.ReferenceMixoutIdeal.τ).loc Cert.ReferenceMixoutIdeal.main_arg1) = m' ((c.tc : Thread Cert.ReferenceMixoutIdeal.nD Cert.ReferenceMixoutIdeal.τ).loc Cert.ReferenceMixoutIdeal.main_arg1))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)) →
    ∃ (v0 : (c : Dev Cert.KernelPreIdeal.nD) → Buf (Elt Ideal) ((c.tc : Thread Cert.KernelPreIdeal.nD Cert.KernelPreIdeal.τ).loc Cert.KernelPreIdeal.main_v0)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v0) = v0 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v12) = v0 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1))

def preserves_KernelPoolpost_KernelPoolpostIdeal : Prop :=
  True

def algebraic_KernelPoolpostIdeal_ReferencePoolpostIdeal [hKernelPoolpostIdeal : Cert.KernelPoolpostIdeal.Facts] [hReferencePoolpostIdeal : Cert.ReferencePoolpostIdeal.Facts] : Prop :=
  ∀ (m : (ℓ : Loc Cert.KernelPoolpostIdeal.nD Cert.KernelPoolpostIdeal.τ Cert.KernelPoolpostIdeal.sig) → Buf (Elt Ideal) ℓ) (g : Dev Cert.KernelPoolpostIdeal.nD → PrngReg)
    (m' : (ℓ : Loc Cert.ReferencePoolpostIdeal.nD Cert.ReferencePoolpostIdeal.τ Cert.ReferencePoolpostIdeal.sig) → Buf (Elt Ideal) ℓ) (g' : Dev Cert.ReferencePoolpostIdeal.nD → PrngReg), Pre_KernelPoolpostIdeal m →
    (∀ c : Dev Cert.KernelPoolpostIdeal.nD,
      m' ((c.tc : Thread Cert.ReferencePoolpostIdeal.nD Cert.ReferencePoolpostIdeal.τ).loc Cert.ReferencePoolpostIdeal.main_arg0) = m ((c.tc : Thread Cert.KernelPoolpostIdeal.nD Cert.KernelPoolpostIdeal.τ).loc Cert.KernelPoolpostIdeal.main_arg0)
      ∧ m' ((c.tc : Thread Cert.ReferencePoolpostIdeal.nD Cert.ReferencePoolpostIdeal.τ).loc Cert.ReferencePoolpostIdeal.main_arg1) = m ((c.tc : Thread Cert.KernelPoolpostIdeal.nD Cert.KernelPoolpostIdeal.τ).loc Cert.KernelPoolpostIdeal.main_arg1)
      ∧ m' ((c.tc : Thread Cert.ReferencePoolpostIdeal.nD Cert.ReferencePoolpostIdeal.τ).loc Cert.ReferencePoolpostIdeal.main_arg2) = m ((c.tc : Thread Cert.KernelPoolpostIdeal.nD Cert.KernelPoolpostIdeal.τ).loc Cert.KernelPoolpostIdeal.main_arg2)) →
    ∃ (v0 : (c : Dev Cert.KernelPoolpostIdeal.nD) → Buf (Elt Ideal) ((c.tc : Thread Cert.KernelPoolpostIdeal.nD Cert.KernelPoolpostIdeal.τ).loc Cert.KernelPoolpostIdeal.main_v0)),
      θ_run (Cert.KernelPoolpostIdeal.defs (F := Ideal)) (onTc (τ := Cert.KernelPoolpostIdeal.τ) (Cert.KernelPoolpostIdeal.main (F := Ideal))) ⟨m, fun _ => 0, g⟩ (fun r => ∀ c : Dev Cert.KernelPoolpostIdeal.nD,
          r.2.mem ((c.tc : Thread Cert.KernelPoolpostIdeal.nD Cert.KernelPoolpostIdeal.τ).loc Cert.KernelPoolpostIdeal.main_v0) = v0 c
          ∧ r.2.mem ((c.tc : Thread Cert.KernelPoolpostIdeal.nD Cert.KernelPoolpostIdeal.τ).loc Cert.KernelPoolpostIdeal.main_arg0) = m ((c.tc : Thread Cert.KernelPoolpostIdeal.nD Cert.KernelPoolpostIdeal.τ).loc Cert.KernelPoolpostIdeal.main_arg0)
          ∧ r.2.mem ((c.tc : Thread Cert.KernelPoolpostIdeal.nD Cert.KernelPoolpostIdeal.τ).loc Cert.KernelPoolpostIdeal.main_arg1) = m ((c.tc : Thread Cert.KernelPoolpostIdeal.nD Cert.KernelPoolpostIdeal.τ).loc Cert.KernelPoolpostIdeal.main_arg1)
          ∧ r.2.mem ((c.tc : Thread Cert.KernelPoolpostIdeal.nD Cert.KernelPoolpostIdeal.τ).loc Cert.KernelPoolpostIdeal.main_arg2) = m ((c.tc : Thread Cert.KernelPoolpostIdeal.nD Cert.KernelPoolpostIdeal.τ).loc Cert.KernelPoolpostIdeal.main_arg2))
      ∧ θ_run (Cert.ReferencePoolpostIdeal.defs (F := Ideal)) (onTc (τ := Cert.ReferencePoolpostIdeal.τ) (Cert.ReferencePoolpostIdeal.main (F := Ideal))) ⟨m', fun _ => 0, g'⟩ (fun r => ∀ c : Dev Cert.ReferencePoolpostIdeal.nD,
          r.2.mem ((c.tc : Thread Cert.ReferencePoolpostIdeal.nD Cert.ReferencePoolpostIdeal.τ).loc Cert.ReferencePoolpostIdeal.main_v12) = v0 c
          ∧ r.2.mem ((c.tc : Thread Cert.ReferencePoolpostIdeal.nD Cert.ReferencePoolpostIdeal.τ).loc Cert.ReferencePoolpostIdeal.main_arg0) = m' ((c.tc : Thread Cert.ReferencePoolpostIdeal.nD Cert.ReferencePoolpostIdeal.τ).loc Cert.ReferencePoolpostIdeal.main_arg0)
          ∧ r.2.mem ((c.tc : Thread Cert.ReferencePoolpostIdeal.nD Cert.ReferencePoolpostIdeal.τ).loc Cert.ReferencePoolpostIdeal.main_arg1) = m' ((c.tc : Thread Cert.ReferencePoolpostIdeal.nD Cert.ReferencePoolpostIdeal.τ).loc Cert.ReferencePoolpostIdeal.main_arg1)
          ∧ r.2.mem ((c.tc : Thread Cert.ReferencePoolpostIdeal.nD Cert.ReferencePoolpostIdeal.τ).loc Cert.ReferencePoolpostIdeal.main_arg2) = m' ((c.tc : Thread Cert.ReferencePoolpostIdeal.nD Cert.ReferencePoolpostIdeal.τ).loc Cert.ReferencePoolpostIdeal.main_arg2))

def preserves_KernelPoolpre_KernelPoolpreIdeal : Prop :=
  True

def algebraic_KernelPoolpreIdeal_ReferencePoolpreIdeal [hKernelPoolpreIdeal : Cert.KernelPoolpreIdeal.Facts] [hReferencePoolpreIdeal : Cert.ReferencePoolpreIdeal.Facts] : Prop :=
  ∀ (m : (ℓ : Loc Cert.KernelPoolpreIdeal.nD Cert.KernelPoolpreIdeal.τ Cert.KernelPoolpreIdeal.sig) → Buf (Elt Ideal) ℓ) (g : Dev Cert.KernelPoolpreIdeal.nD → PrngReg)
    (m' : (ℓ : Loc Cert.ReferencePoolpreIdeal.nD Cert.ReferencePoolpreIdeal.τ Cert.ReferencePoolpreIdeal.sig) → Buf (Elt Ideal) ℓ) (g' : Dev Cert.ReferencePoolpreIdeal.nD → PrngReg), Pre_KernelPoolpreIdeal m →
    (∀ c : Dev Cert.KernelPoolpreIdeal.nD,
      m' ((c.tc : Thread Cert.ReferencePoolpreIdeal.nD Cert.ReferencePoolpreIdeal.τ).loc Cert.ReferencePoolpreIdeal.main_arg0) = m ((c.tc : Thread Cert.KernelPoolpreIdeal.nD Cert.KernelPoolpreIdeal.τ).loc Cert.KernelPoolpreIdeal.main_arg0)
      ∧ m' ((c.tc : Thread Cert.ReferencePoolpreIdeal.nD Cert.ReferencePoolpreIdeal.τ).loc Cert.ReferencePoolpreIdeal.main_arg1) = m ((c.tc : Thread Cert.KernelPoolpreIdeal.nD Cert.KernelPoolpreIdeal.τ).loc Cert.KernelPoolpreIdeal.main_arg1)
      ∧ m' ((c.tc : Thread Cert.ReferencePoolpreIdeal.nD Cert.ReferencePoolpreIdeal.τ).loc Cert.ReferencePoolpreIdeal.main_arg2) = m ((c.tc : Thread Cert.KernelPoolpreIdeal.nD Cert.KernelPoolpreIdeal.τ).loc Cert.KernelPoolpreIdeal.main_arg2)
      ∧ m' ((c.tc : Thread Cert.ReferencePoolpreIdeal.nD Cert.ReferencePoolpreIdeal.τ).loc Cert.ReferencePoolpreIdeal.main_arg3) = m ((c.tc : Thread Cert.KernelPoolpreIdeal.nD Cert.KernelPoolpreIdeal.τ).loc Cert.KernelPoolpreIdeal.main_arg3)) →
    ∃ (v0 : (c : Dev Cert.KernelPoolpreIdeal.nD) → Buf (Elt Ideal) ((c.tc : Thread Cert.KernelPoolpreIdeal.nD Cert.KernelPoolpreIdeal.τ).loc Cert.KernelPoolpreIdeal.main_v0_0)) (v1 : (c : Dev Cert.KernelPoolpreIdeal.nD) → Buf (Elt Ideal) ((c.tc : Thread Cert.KernelPoolpreIdeal.nD Cert.KernelPoolpreIdeal.τ).loc Cert.KernelPoolpreIdeal.main_v0_1)),
      θ_run (Cert.KernelPoolpreIdeal.defs (F := Ideal)) (onTc (τ := Cert.KernelPoolpreIdeal.τ) (Cert.KernelPoolpreIdeal.main (F := Ideal))) ⟨m, fun _ => 0, g⟩ (fun r => ∀ c : Dev Cert.KernelPoolpreIdeal.nD,
          r.2.mem ((c.tc : Thread Cert.KernelPoolpreIdeal.nD Cert.KernelPoolpreIdeal.τ).loc Cert.KernelPoolpreIdeal.main_v0_0) = v0 c
          ∧ r.2.mem ((c.tc : Thread Cert.KernelPoolpreIdeal.nD Cert.KernelPoolpreIdeal.τ).loc Cert.KernelPoolpreIdeal.main_v0_1) = v1 c
          ∧ r.2.mem ((c.tc : Thread Cert.KernelPoolpreIdeal.nD Cert.KernelPoolpreIdeal.τ).loc Cert.KernelPoolpreIdeal.main_arg0) = m ((c.tc : Thread Cert.KernelPoolpreIdeal.nD Cert.KernelPoolpreIdeal.τ).loc Cert.KernelPoolpreIdeal.main_arg0)
          ∧ r.2.mem ((c.tc : Thread Cert.KernelPoolpreIdeal.nD Cert.KernelPoolpreIdeal.τ).loc Cert.KernelPoolpreIdeal.main_arg1) = m ((c.tc : Thread Cert.KernelPoolpreIdeal.nD Cert.KernelPoolpreIdeal.τ).loc Cert.KernelPoolpreIdeal.main_arg1)
          ∧ r.2.mem ((c.tc : Thread Cert.KernelPoolpreIdeal.nD Cert.KernelPoolpreIdeal.τ).loc Cert.KernelPoolpreIdeal.main_arg2) = m ((c.tc : Thread Cert.KernelPoolpreIdeal.nD Cert.KernelPoolpreIdeal.τ).loc Cert.KernelPoolpreIdeal.main_arg2)
          ∧ r.2.mem ((c.tc : Thread Cert.KernelPoolpreIdeal.nD Cert.KernelPoolpreIdeal.τ).loc Cert.KernelPoolpreIdeal.main_arg3) = m ((c.tc : Thread Cert.KernelPoolpreIdeal.nD Cert.KernelPoolpreIdeal.τ).loc Cert.KernelPoolpreIdeal.main_arg3))
      ∧ θ_run (Cert.ReferencePoolpreIdeal.defs (F := Ideal)) (onTc (τ := Cert.ReferencePoolpreIdeal.τ) (Cert.ReferencePoolpreIdeal.main (F := Ideal))) ⟨m', fun _ => 0, g'⟩ (fun r => ∀ c : Dev Cert.ReferencePoolpreIdeal.nD,
          r.2.mem ((c.tc : Thread Cert.ReferencePoolpreIdeal.nD Cert.ReferencePoolpreIdeal.τ).loc Cert.ReferencePoolpreIdeal.main_v34) = v0 c
          ∧ r.2.mem ((c.tc : Thread Cert.ReferencePoolpreIdeal.nD Cert.ReferencePoolpreIdeal.τ).loc Cert.ReferencePoolpreIdeal.main_v17) = v1 c
          ∧ r.2.mem ((c.tc : Thread Cert.ReferencePoolpreIdeal.nD Cert.ReferencePoolpreIdeal.τ).loc Cert.ReferencePoolpreIdeal.main_arg0) = m' ((c.tc : Thread Cert.ReferencePoolpreIdeal.nD Cert.ReferencePoolpreIdeal.τ).loc Cert.ReferencePoolpreIdeal.main_arg0)
          ∧ r.2.mem ((c.tc : Thread Cert.ReferencePoolpreIdeal.nD Cert.ReferencePoolpreIdeal.τ).loc Cert.ReferencePoolpreIdeal.main_arg1) = m' ((c.tc : Thread Cert.ReferencePoolpreIdeal.nD Cert.ReferencePoolpreIdeal.τ).loc Cert.ReferencePoolpreIdeal.main_arg1)
          ∧ r.2.mem ((c.tc : Thread Cert.ReferencePoolpreIdeal.nD Cert.ReferencePoolpreIdeal.τ).loc Cert.ReferencePoolpreIdeal.main_arg2) = m' ((c.tc : Thread Cert.ReferencePoolpreIdeal.nD Cert.ReferencePoolpreIdeal.τ).loc Cert.ReferencePoolpreIdeal.main_arg2)
          ∧ r.2.mem ((c.tc : Thread Cert.ReferencePoolpreIdeal.nD Cert.ReferencePoolpreIdeal.τ).loc Cert.ReferencePoolpreIdeal.main_arg3) = m' ((c.tc : Thread Cert.ReferencePoolpreIdeal.nD Cert.ReferencePoolpreIdeal.τ).loc Cert.ReferencePoolpreIdeal.main_arg3))

def Claim : Prop :=
  ∃ (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelWup : Cert.KernelWup.Facts) (hKernelWupIdeal : Cert.KernelWupIdeal.Facts) (hReferenceWupIdeal : Cert.ReferenceWupIdeal.Facts) (hKernelWdown : Cert.KernelWdown.Facts) (hKernelWdownIdeal : Cert.KernelWdownIdeal.Facts) (hReferenceWdownIdeal : Cert.ReferenceWdownIdeal.Facts) (hKernelSconv : Cert.KernelSconv.Facts) (hKernelSconvIdeal : Cert.KernelSconvIdeal.Facts) (hReferenceSconvIdeal : Cert.ReferenceSconvIdeal.Facts) (hKernelGateup : Cert.KernelGateup.Facts) (hKernelGateupIdeal : Cert.KernelGateupIdeal.Facts) (hReferenceGateupIdeal : Cert.ReferenceGateupIdeal.Facts) (hKernelPost : Cert.KernelPost.Facts) (hKernelPostIdeal : Cert.KernelPostIdeal.Facts) (hReferencePostIdeal : Cert.ReferencePostIdeal.Facts) (hKernelPle : Cert.KernelPle.Facts) (hKernelPleIdeal : Cert.KernelPleIdeal.Facts) (hReferencePleIdeal : Cert.ReferencePleIdeal.Facts) (hKernelMixpost : Cert.KernelMixpost.Facts) (hKernelMixpostIdeal : Cert.KernelMixpostIdeal.Facts) (hReferenceMixpostIdeal : Cert.ReferenceMixpostIdeal.Facts) (hKernelMixout : Cert.KernelMixout.Facts) (hKernelMixoutIdeal : Cert.KernelMixoutIdeal.Facts) (hReferenceMixoutIdeal : Cert.ReferenceMixoutIdeal.Facts) (hKernelPre : Cert.KernelPre.Facts) (hKernelPreIdeal : Cert.KernelPreIdeal.Facts) (hReferencePreIdeal : Cert.ReferencePreIdeal.Facts) (hKernelPoolpost : Cert.KernelPoolpost.Facts) (hKernelPoolpostIdeal : Cert.KernelPoolpostIdeal.Facts) (hReferencePoolpostIdeal : Cert.ReferencePoolpostIdeal.Facts) (hKernelPoolpre : Cert.KernelPoolpre.Facts) (hKernelPoolpreIdeal : Cert.KernelPoolpreIdeal.Facts) (hReferencePoolpreIdeal : Cert.ReferencePoolpreIdeal.Facts) (hPre_finite : Cert.Pre_finite.Facts),
    quiescent_KernelDown (hKernelDown := hKernelDown)
    ∧ quiescent_KernelDownIdeal (hKernelDownIdeal := hKernelDownIdeal)
    ∧ quiescent_KernelDownIdeal_pre_finite (hKernelDownIdeal := hKernelDownIdeal) (hPre_finite := hPre_finite)
    ∧ quiescent_ReferenceDownIdeal (hReferenceDownIdeal := hReferenceDownIdeal)
    ∧ quiescent_ReferenceDownIdeal_pre_finite (hReferenceDownIdeal := hReferenceDownIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelWup (hKernelWup := hKernelWup)
    ∧ quiescent_KernelWupIdeal (hKernelWupIdeal := hKernelWupIdeal)
    ∧ quiescent_ReferenceWupIdeal (hReferenceWupIdeal := hReferenceWupIdeal)
    ∧ quiescent_KernelWdown (hKernelWdown := hKernelWdown)
    ∧ quiescent_KernelWdownIdeal (hKernelWdownIdeal := hKernelWdownIdeal)
    ∧ quiescent_ReferenceWdownIdeal (hReferenceWdownIdeal := hReferenceWdownIdeal)
    ∧ quiescent_KernelSconv (hKernelSconv := hKernelSconv)
    ∧ quiescent_KernelSconvIdeal (hKernelSconvIdeal := hKernelSconvIdeal)
    ∧ quiescent_ReferenceSconvIdeal (hReferenceSconvIdeal := hReferenceSconvIdeal)
    ∧ quiescent_KernelGateup (hKernelGateup := hKernelGateup)
    ∧ quiescent_KernelGateupIdeal (hKernelGateupIdeal := hKernelGateupIdeal)
    ∧ quiescent_ReferenceGateupIdeal (hReferenceGateupIdeal := hReferenceGateupIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelMixpost (hKernelMixpost := hKernelMixpost)
    ∧ quiescent_KernelMixpostIdeal (hKernelMixpostIdeal := hKernelMixpostIdeal)
    ∧ quiescent_ReferenceMixpostIdeal (hReferenceMixpostIdeal := hReferenceMixpostIdeal)
    ∧ quiescent_KernelMixout (hKernelMixout := hKernelMixout)
    ∧ quiescent_KernelMixoutIdeal (hKernelMixoutIdeal := hKernelMixoutIdeal)
    ∧ quiescent_ReferenceMixoutIdeal (hReferenceMixoutIdeal := hReferenceMixoutIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelPoolpost (hKernelPoolpost := hKernelPoolpost)
    ∧ quiescent_KernelPoolpostIdeal (hKernelPoolpostIdeal := hKernelPoolpostIdeal)
    ∧ quiescent_ReferencePoolpostIdeal (hReferencePoolpostIdeal := hReferencePoolpostIdeal)
    ∧ quiescent_KernelPoolpre (hKernelPoolpre := hKernelPoolpre)
    ∧ quiescent_KernelPoolpreIdeal (hKernelPoolpreIdeal := hKernelPoolpreIdeal)
    ∧ quiescent_ReferencePoolpreIdeal (hReferencePoolpreIdeal := hReferencePoolpreIdeal)
    ∧ preserves_KernelDown_KernelDownIdeal
    ∧ algebraic_KernelDownIdeal_ReferenceDownIdeal_pre_finite (hKernelDownIdeal := hKernelDownIdeal) (hReferenceDownIdeal := hReferenceDownIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelWup_KernelWupIdeal
    ∧ algebraic_KernelWupIdeal_ReferenceWupIdeal (hKernelWupIdeal := hKernelWupIdeal) (hReferenceWupIdeal := hReferenceWupIdeal)
    ∧ preserves_KernelWdown_KernelWdownIdeal
    ∧ algebraic_KernelWdownIdeal_ReferenceWdownIdeal (hKernelWdownIdeal := hKernelWdownIdeal) (hReferenceWdownIdeal := hReferenceWdownIdeal)
    ∧ preserves_KernelSconv_KernelSconvIdeal
    ∧ algebraic_KernelSconvIdeal_ReferenceSconvIdeal (hKernelSconvIdeal := hKernelSconvIdeal) (hReferenceSconvIdeal := hReferenceSconvIdeal)
    ∧ preserves_KernelGateup_KernelGateupIdeal
    ∧ algebraic_KernelGateupIdeal_ReferenceGateupIdeal (hKernelGateupIdeal := hKernelGateupIdeal) (hReferenceGateupIdeal := hReferenceGateupIdeal)
    ∧ preserves_KernelPost_KernelPostIdeal
    ∧ algebraic_KernelPostIdeal_ReferencePostIdeal (hKernelPostIdeal := hKernelPostIdeal) (hReferencePostIdeal := hReferencePostIdeal)
    ∧ preserves_KernelPle_KernelPleIdeal
    ∧ algebraic_KernelPleIdeal_ReferencePleIdeal (hKernelPleIdeal := hKernelPleIdeal) (hReferencePleIdeal := hReferencePleIdeal)
    ∧ preserves_KernelMixpost_KernelMixpostIdeal
    ∧ algebraic_KernelMixpostIdeal_ReferenceMixpostIdeal (hKernelMixpostIdeal := hKernelMixpostIdeal) (hReferenceMixpostIdeal := hReferenceMixpostIdeal)
    ∧ preserves_KernelMixout_KernelMixoutIdeal
    ∧ algebraic_KernelMixoutIdeal_ReferenceMixoutIdeal (hKernelMixoutIdeal := hKernelMixoutIdeal) (hReferenceMixoutIdeal := hReferenceMixoutIdeal)
    ∧ preserves_KernelPre_KernelPreIdeal
    ∧ algebraic_KernelPreIdeal_ReferencePreIdeal (hKernelPreIdeal := hKernelPreIdeal) (hReferencePreIdeal := hReferencePreIdeal)
    ∧ preserves_KernelPoolpost_KernelPoolpostIdeal
    ∧ algebraic_KernelPoolpostIdeal_ReferencePoolpostIdeal (hKernelPoolpostIdeal := hKernelPoolpostIdeal) (hReferencePoolpostIdeal := hReferencePoolpostIdeal)
    ∧ preserves_KernelPoolpre_KernelPoolpreIdeal
    ∧ algebraic_KernelPoolpreIdeal_ReferencePoolpreIdeal (hKernelPoolpreIdeal := hKernelPoolpreIdeal) (hReferencePoolpreIdeal := hReferencePoolpreIdeal)
-- ==== Pre_finite.lean ====
abbrev S4096x1024 : Shape := ⟨2, ![4096, 1024]⟩
abbrev S1x1024 : Shape := ⟨2, ![1, 1024]⟩
abbrev S4x768x1024 : Shape := ⟨3, ![4, 768, 1024]⟩
abbrev S4096x6144 : Shape := ⟨2, ![4096, 6144]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S4x768x1024 .bf16) (main_arg3 : FVec F S4096x6144 .bf16) : IVec S4096x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== KernelDown.lean ====
abbrev S4096x1024 : Shape := ⟨2, ![4096, 1024]⟩
abbrev S1x1024 : Shape := ⟨2, ![1, 1024]⟩
abbrev S4x768x1024 : Shape := ⟨3, ![4, 768, 1024]⟩
abbrev S4096x6144 : Shape := ⟨2, ![4096, 6144]⟩
abbrev S_ : Shape := ⟨0, ![]⟩
abbrev S4096x768 : Shape := ⟨2, ![4096, 768]⟩
abbrev S1x768x1024 : Shape := ⟨3, ![1, 768, 1024]⟩
abbrev S768x1024 : Shape := ⟨2, ![768, 1024]⟩
abbrev S512x1024 : Shape := ⟨2, ![512, 1024]⟩
abbrev S512x6144 : Shape := ⟨2, ![512, 6144]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S256x768 : Shape := ⟨2, ![256, 768]⟩

abbrev nBuf : Space → Nat
  | .hbm => 85
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x768x1024, .bf16⟩
  | .hbm, ⟨3, _⟩ => ⟨S4096x6144, .bf16⟩
  | .hbm, ⟨4, _⟩ => ⟨S_, .f32⟩
  | .hbm, ⟨5, _⟩ => ⟨S4096x1024, .f32⟩
  | .hbm, ⟨6, _⟩ => ⟨S4096x768, .bf16⟩
  | .hbm, ⟨7, _⟩ => ⟨S4096x768, .f32⟩
  | .hbm, ⟨8, _⟩ => ⟨S4096x768, .bf16⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S_, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S4096x768, .f32⟩
  | .hbm, ⟨20, _⟩ => ⟨S1x768x1024, .bf16⟩
  | .hbm, ⟨21, _⟩ => ⟨S768x1024, .bf16⟩
  | .hbm, ⟨22, _⟩ => ⟨S768x1024, .f32⟩
  | .hbm, ⟨23, _⟩ => ⟨S4096x1024, .f32⟩
  | .hbm, ⟨24, _⟩ => ⟨S4096x1024, .f32⟩
  | .hbm, ⟨25, _⟩ => ⟨S4096x768, .bf16⟩
  | .hbm, ⟨26, _⟩ => ⟨S4096x768, .f32⟩
  | .hbm, ⟨27, _⟩ => ⟨S4096x768, .bf16⟩
  | .hbm, ⟨28, _⟩ => ⟨S4096x768, .f32⟩
  | .hbm, ⟨29, _⟩ => ⟨S4096x768, .f32⟩
  | .hbm, ⟨30, _⟩ => ⟨S4096x768, .f32⟩
  | .hbm, ⟨31, _⟩ => ⟨S_, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | .hbm, ⟨37, _⟩ => ⟨S4096x768, .f32⟩
  | .hbm, ⟨38, _⟩ => ⟨S4096x768, .f32⟩
  | .hbm, ⟨39, _⟩ => ⟨S1x768x1024, .bf16⟩
  | .hbm, ⟨40, _⟩ => ⟨S768x1024, .bf16⟩
  | .hbm, ⟨41, _⟩ => ⟨S768x1024, .f32⟩
  | .hbm, ⟨42, _⟩ => ⟨S4096x1024, .f32⟩
  | .hbm, ⟨43, _⟩ => ⟨S4096x1024, .f32⟩
  | .hbm, ⟨44, _⟩ => ⟨S4096x768, .bf16⟩
  | .hbm, ⟨45, _⟩ => ⟨S4096x768, .f32⟩
  | .hbm, ⟨46, _⟩ => ⟨S4096x768, .bf16⟩
  | .hbm, ⟨47, _⟩ => ⟨S4096x768, .f32⟩
  | .hbm, ⟨48, _⟩ => ⟨S4096x768, .f32⟩
  | .hbm, ⟨49, _⟩ => ⟨S4096x768, .f32⟩
  | .hbm, ⟨50, _⟩ => ⟨S_, .f32⟩
  | .hbm, ⟨51, _⟩ => ⟨S4096x768, .f32⟩
  | .hbm, ⟨52, _⟩ => ⟨S4096x768, .f32⟩
  | .hbm, ⟨53, _⟩ => ⟨S_, .f32⟩
  | .hbm, ⟨54, _⟩ => ⟨S4096x768, .f32⟩
  | .hbm, ⟨55, _⟩ => ⟨S4096x768, .f32⟩
  | .hbm, ⟨56, _⟩ => ⟨S4096x768, .f32⟩
  | .hbm, ⟨57, _⟩ => ⟨S4096x768, .f32⟩
  | .hbm, ⟨58, _⟩ => ⟨S1x768x1024, .bf16⟩
  | .hbm, ⟨59, _⟩ => ⟨S768x1024, .bf16⟩
  | .hbm, ⟨60, _⟩ => ⟨S768x1024, .f32⟩
  | .hbm, ⟨61, _⟩ => ⟨S4096x1024, .f32⟩
  | .hbm, ⟨62, _⟩ => ⟨S4096x1024, .f32⟩
  | .hbm, ⟨63, _⟩ => ⟨S4096x768, .bf16⟩
  | .hbm, ⟨64, _⟩ => ⟨S4096x768, .f32⟩
  | .hbm, ⟨65, _⟩ => ⟨S4096x768, .bf16⟩
  | .hbm, ⟨66, _⟩ => ⟨S4096x768, .f32⟩
  | .hbm, ⟨67, _⟩ => ⟨S4096x768, .f32⟩
  | .hbm, ⟨68, _⟩ => ⟨S4096x768, .f32⟩
  | .hbm, ⟨69, _⟩ => ⟨S_, .f32⟩
  | .hbm, ⟨70, _⟩ => ⟨S4096x768, .f32⟩
  | .hbm, ⟨71, _⟩ => ⟨S4096x768, .f32⟩
  | .hbm, ⟨72, _⟩ => ⟨S_, .f32⟩
  | .hbm, ⟨73, _⟩ => ⟨S4096x768, .f32⟩
  | .hbm, ⟨74, _⟩ => ⟨S4096x768, .f32⟩
  | .hbm, ⟨75, _⟩ => ⟨S4096x768, .f32⟩
  | .hbm, ⟨76, _⟩ => ⟨S4096x768, .f32⟩
  | .hbm, ⟨77, _⟩ => ⟨S1x768x1024, .bf16⟩
  | .hbm, ⟨78, _⟩ => ⟨S768x1024, .bf16⟩
  | .hbm, ⟨79, _⟩ => ⟨S768x1024, .f32⟩
  | .hbm, ⟨80, _⟩ => ⟨S4096x1024, .f32⟩
  | .hbm, ⟨81, _⟩ => ⟨S4096x1024, .f32⟩
  | .hbm, ⟨82, _⟩ => ⟨S4096x1024, .bf16⟩
  | .hbm, ⟨83, _⟩ => ⟨S1x1024, .f32⟩
  | .hbm, ⟨84, _⟩ => ⟨S4096x6144, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x768x1024, .bf16⟩
  | .local _ .vmem, ⟨6, _⟩ => ⟨S512x6144, .bf16⟩
  | .local _ .vmem, ⟨7, _⟩ => ⟨S512x6144, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x6144, .bf16⟩
  | .local _ .vmem, ⟨12, _⟩ => ⟨S512x6144, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45_0 : Ref sig .tc := ⟨.hbm, 82, rfl⟩
abbrev main_v45_1 : Ref sig .tc := ⟨.hbm, 83, rfl⟩
abbrev main_v45_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v275 : BitVec 1 := Scalar.cmpi .eq arg0 c0_i32
  let v276 : BitVec 32 := Scalar.extui v275
  let c0_i32_138 : BitVec 32 := 0#32
  let v277 : BitVec 1 := Scalar.cmpi .ne v276 c0_i32_138
  v277

def k0_cond2 (i : grid0.Coords) : BitVec 1 :=
  let arg0 : BitVec 32 := BitVec.ofNat 32 (i 0).val
  let c0_i32_139 : BitVec 32 := 0#32
  let v278 : BitVec 1 := Scalar.cmpi .sgt arg0 c0_i32_139
  let v279 : BitVec 32 := Scalar.extui v278
  let c0_i32_140 : BitVec 32 := 0#32
  let v280 : BitVec 1 := Scalar.cmpi .ne v279 c0_i32_140
  v280

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDownIdeal.lean ====
abbrev S4096x1024 : Shape := ⟨2, ![4096, 1024]⟩
abbrev S1x1024 : Shape := ⟨2, ![1, 1024]⟩
abbrev S4x768x1024 : Shape := ⟨3, ![4, 768, 1024]⟩
abbrev S4096x6144 : Shape := ⟨2, ![4096, 6144]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x768x1024, .bf16⟩
  | .hbm, ⟨3, _⟩ => ⟨S4096x6144, .bf16⟩
  | .hbm, ⟨4, _⟩ => ⟨S4096x6144, .f32⟩
  | .hbm, ⟨5, _⟩ => ⟨S4096x4x2x768, .f32⟩
  | .hbm, ⟨6, _⟩ => ⟨S4x768x1024, .f32⟩
  | .hbm, ⟨7, _⟩ => ⟨S4096x4x1x768, .f32⟩
  | .hbm, ⟨8, _⟩ => ⟨S4096x4x768, .f32⟩
  | .hbm, ⟨9, _⟩ => ⟨S4096x4x768, .f32⟩
  | .hbm, ⟨10, _⟩ => ⟨S4096x4x768, .f32⟩
  | .hbm, ⟨11, _⟩ => ⟨S_, .f32⟩
  | .hbm, ⟨12, _⟩ => ⟨S4096x4x768, .f32⟩
  | .hbm, ⟨13, _⟩ => ⟨S4096x4x768, .f32⟩
  | .hbm, ⟨14, _⟩ => ⟨S_, .f32⟩
  | .hbm, ⟨15, _⟩ => ⟨S4096x4x768, .f32⟩
  | .hbm, ⟨16, _⟩ => ⟨S4096x4x768, .f32⟩
  | .hbm, ⟨17, _⟩ => ⟨S_, .f32⟩
  | .hbm, ⟨18, _⟩ => ⟨S4096x4x768, .f32⟩
  | .hbm, ⟨19, _⟩ => ⟨S4096x4x768, .f32⟩
  | .hbm, ⟨20, _⟩ => ⟨S4096x4x768, .f32⟩
  | .hbm, ⟨21, _⟩ => ⟨S4096x4x768, .f32⟩
  | .hbm, ⟨22, _⟩ => ⟨S4096x4x1x768, .f32⟩
  | .hbm, ⟨23, _⟩ => ⟨S4096x4x768, .f32⟩
  | .hbm, ⟨24, _⟩ => ⟨S4096x4x768, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x4x768, .f32⟩
  | .hbm, ⟨75, _⟩ => ⟨S4096x4x768, .f32⟩
  | .hbm, ⟨76, _⟩ => ⟨S4096x4x768, .f32⟩
  | .hbm, ⟨77, _⟩ => ⟨S4096x4x1x768, .f32⟩
  | .hbm, ⟨78, _⟩ => ⟨S_, .f32⟩
  | .hbm, ⟨79, _⟩ => ⟨S4096x4x2x768, .f32⟩
  | .hbm, ⟨80, _⟩ => ⟨S4096x4x768, .f32⟩
  | .hbm, ⟨81, _⟩ => ⟨S4096x4x768, .f32⟩
  | .hbm, ⟨82, _⟩ => ⟨S4096x4x768, .f32⟩
  | .hbm, ⟨83, _⟩ => ⟨S4096x4x768, .f32⟩
  | .hbm, ⟨84, _⟩ => ⟨S4096x4x1x768, .f32⟩
  | .hbm, ⟨85, _⟩ => ⟨S_, .f32⟩
  | .hbm, ⟨86, _⟩ => ⟨S4096x4x2x768, .f32⟩
  | .hbm, ⟨87, _⟩ => ⟨S4096x4x2x768, .f32⟩
  | .hbm, ⟨88, _⟩ => ⟨S4096x1024, .bf16⟩
  | .hbm, ⟨89, _⟩ => ⟨S4096x6144, .f32⟩
  | .hbm, ⟨90, _⟩ => ⟨S4096x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== KernelUp.lean ====
abbrev S4096x6144 : Shape := ⟨2, ![4096, 6144]⟩
abbrev S4x1024x1536 : Shape := ⟨3, ![4, 1024, 1536]⟩
abbrev S4096x1024 : Shape := ⟨2, ![4096, 1024]⟩
abbrev S1x1024 : Shape := ⟨2, ![1, 1024]⟩
abbrev S512x6144 : Shape := ⟨2, ![512, 6144]⟩
abbrev S512x1024 : Shape := ⟨2, ![512, 1024]⟩
abbrev S256x1536 : Shape := ⟨2, ![256, 1536]⟩
abbrev S1x1024x1536 : Shape := ⟨3, ![1, 1024, 1536]⟩
abbrev S1024x1536 : Shape := ⟨2, ![1024, 1536]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S4x1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v101 : BitVec 1 := Scalar.cmpi .eq arg0 c0_i32
  let v102 : BitVec 32 := Scalar.extui v101
  let c0_i32_68 : BitVec 32 := 0#32
  let v103 : BitVec 1 := Scalar.cmpi .ne v102 c0_i32_68
  v103

def k0_cond2 (i : grid0.Coords) : BitVec 1 :=
  let arg0 : BitVec 32 := BitVec.ofNat 32 (i 0).val
  let c0_i32_69 : BitVec 32 := 0#32
  let v104 : BitVec 1 := Scalar.cmpi .sgt arg0 c0_i32_69
  let v105 : BitVec 32 := Scalar.extui v104
  let c0_i32_70 : BitVec 32 := 0#32
  let v106 : BitVec 1 := Scalar.cmpi .ne v105 c0_i32_70
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceUpIdeal.lean ====
abbrev S4096x6144 : Shape := ⟨2, ![4096, 6144]⟩
abbrev S4x1024x1536 : Shape := ⟨3, ![4, 1024, 1536]⟩
abbrev S4096x1024 : Shape := ⟨2, ![4096, 1024]⟩
abbrev S1x1024 : Shape := ⟨2, ![1, 1024]⟩
abbrev S1024x4x1536 : Shape := ⟨3, ![1024, 4, 1536]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x1024x1536, .f32⟩
  | .hbm, ⟨6, _⟩ => ⟨S1024x4x1536, .f32⟩
  | .hbm, ⟨7, _⟩ => ⟨S1024x6144, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x6144, .f32⟩
  | .hbm, ⟨28, _⟩ => ⟨S4096x6144, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== KernelWup.lean ====
abbrev S4096x1024 : Shape := ⟨2, ![4096, 1024]⟩
abbrev S4096x6144 : Shape := ⟨2, ![4096, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceWupIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S4x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWdown.lean ====
abbrev S4096x3072 : Shape := ⟨2, ![4096, 3072]⟩
abbrev S4096x1024 : Shape := ⟨2, ![4096, 1024]⟩
abbrev S4x768x1024 : Shape := ⟨3, ![4, 768, 1024]⟩
abbrev S2048x768 : Shape := ⟨2, ![2048, 768]⟩
abbrev S2048x1024 : Shape := ⟨2, ![2048, 1024]⟩
abbrev S1x768x1024 : Shape := ⟨3, ![1, 768, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4x768x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S768x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceWdownIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩
abbrev S4x768x1024 : Shape := ⟨3, ![4, 768, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S3072x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S1024x3072, .f32⟩
  | .hbm, ⟨8, _⟩ => ⟨S3072x1024, .f32⟩
  | .hbm, ⟨9, _⟩ => ⟨S4x768x1024, .f32⟩
  | .hbm, ⟨10, _⟩ => ⟨S4x768x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelSconv.lean ====
abbrev S4096x1024 : Shape := ⟨2, ![4096, 1024]⟩
abbrev S4096x3072 : Shape := ⟨2, ![4096, 3072]⟩
abbrev S8x1024 : Shape := ⟨2, ![8, 1024]⟩
abbrev S4096x256 : Shape := ⟨2, ![4096, 256]⟩
abbrev S8x256 : Shape := ⟨2, ![8, 256]⟩
abbrev S4128x256 : Shape := ⟨2, ![4128, 256]⟩
abbrev S8x8x256 : Shape := ⟨3, ![8, 8, 256]⟩
abbrev S32x256 : Shape := ⟨2, ![32, 256]⟩
abbrev S256x256 : Shape := ⟨2, ![256, 256]⟩
abbrev S1x256 : Shape := ⟨2, ![1, 256]⟩
abbrev S264x256 : Shape := ⟨2, ![264, 256]⟩
abbrev S1x8x256 : Shape := ⟨3, ![1, 8, 256]⟩
abbrev S32x8x256 : Shape := ⟨3, ![32, 8, 256]⟩
abbrev S256 : Shape := ⟨1, ![256]⟩

abbrev nBuf : Space → Nat
  | .hbm => 7
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S8x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S8x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S8x256, .f32⟩
  | .local _ .vmem, ⟨9, _⟩ => ⟨S8x256, .f32⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S8x256, .f32⟩
  | .local _ .vmem, ⟨17, _⟩ => ⟨S8x256, .f32⟩
  | .local _ .vmem, ⟨18, _⟩ => ⟨S4128x256, .f32⟩
  | .local _ .vmem, ⟨19, _⟩ => ⟨S4128x256, .f32⟩
  | .local _ .vmem, ⟨20, _⟩ => ⟨S8x8x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v31 : BitVec 32 := Scalar.muli arg13 c256_i32
  v31
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v31 : BitVec 32 := Scalar.muli arg13 c256_i32
  let v32 : BitVec 32 := v31
  let v33 : Index := Scalar.indexCast v32
  let c0_31 : Index := 0#32
  ![v33.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v31 : BitVec 32 := Scalar.muli arg13 c256_i32
  let v32 : BitVec 32 := v31
  let c32_i32 : BitVec 32 := 32#32
  let v40 : BitVec 32 := Scalar.addi v32 c32_i32
  let v41 : Index := Scalar.indexCast v40
  let c0_33 : Index := 0#32
  ![v41.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v31 : BitVec 32 := Scalar.muli arg13 c256_i32
  let v32 : BitVec 32 := v31
  let v52 : Index := Scalar.indexCast v32
  let c0_36 : Index := 0#32
  ![v52.toNat, 0]
@[reducible] def k0_t2_loop : Scf.Loop 32 :=
  let c0_i32_8 : BitVec 32 := 0#32
  let c16_i32_9 : BitVec 32 := 16#32
  let v13 : BitVec 32 := Scalar.addi c0_i32_8 c16_i32_9
  let c1_i32_10 : BitVec 32 := 1#32
  ⟨c0_i32_8, v13, c1_i32_10⟩
def k0_mult2 (k0_t2 : Fin k0_t2_loop.trips) : BitVec 32 :=
  let c0_i32_8 : BitVec 32 := 0#32
  let c1_i32_10 : BitVec 32 := 1#32
  let arg13 : BitVec 32 := Scf.iv c0_i32_8 c1_i32_10 k0_t2
  let c256_i32 : BitVec 32 := 256#32
  let v31 : BitVec 32 := Scalar.muli arg13 c256_i32
  v31
def k0_off4 (k0_t2 : Fin k0_t2_loop.trips) (c24_i32 : BitVec 32) : Fin 2 → Nat :=
  let c0_i32_8 : BitVec 32 := 0#32
  let c1_i32_10 : BitVec 32 := 1#32
  let arg13 : BitVec 32 := Scf.iv c0_i32_8 c1_i32_10 k0_t2
  let c256_i32 : BitVec 32 := 256#32
  let v31 : BitVec 32 := Scalar.muli arg13 c256_i32
  let v32 : BitVec 32 := v31
  let v34 : BitVec 32 := Scalar.addi v32 c24_i32
  let v35 : Index := Scalar.indexCast v34
  let c0_33 : Index := 0#32
  ![v35.toNat, 0]
def k0_off5 (k0_t2 : Fin k0_t2_loop.trips) : Fin 2 → Nat :=
  let c0_i32_8 : BitVec 32 := 0#32
  let c1_i32_10 : BitVec 32 := 1#32
  let arg13 : BitVec 32 := Scf.iv c0_i32_8 c1_i32_10 k0_t2
  let c256_i32 : BitVec 32 := 256#32
  let v31 : BitVec 32 := Scalar.muli arg13 c256_i32
  let v32 : BitVec 32 := v31
  let v56 : Index := Scalar.indexCast v32
  let c0_43 : Index := 0#32
  ![v56.toNat, 0]
def k0_off6 (k0_t2 : Fin k0_t2_loop.trips) : Fin 2 → Nat :=
  let c0_i32_8 : BitVec 32 := 0#32
  let c1_i32_10 : BitVec 32 := 1#32
  let arg13 : BitVec 32 := Scf.iv c0_i32_8 c1_i32_10 k0_t2
  let c256_i32 : BitVec 32 := 256#32
  let v31 : BitVec 32 := Scalar.muli arg13 c256_i32
  let v32 : BitVec 32 := v31
  let v100 : Index := Scalar.indexCast v32
  let c0_61 : Index := 0#32
  ![v100.toNat, 0]
def k0_off7 (k0_t2 : Fin k0_t2_loop.trips) : Fin 2 → Nat :=
  let c0_i32_8 : BitVec 32 := 0#32
  let c1_i32_10 : BitVec 32 := 1#32
  let arg13 : BitVec 32 := Scf.iv c0_i32_8 c1_i32_10 k0_t2
  let c256_i32 : BitVec 32 := 256#32
  let v31 : BitVec 32 := Scalar.muli arg13 c256_i32
  let v32 : BitVec 32 := v31
  let c32_i32 : BitVec 32 := 32#32
  let v103 : BitVec 32 := Scalar.addi v32 c32_i32
  let v104 : Index := Scalar.indexCast v103
  let c0_62 : Index := 0#32
  ![v104.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceSconvIdeal.lean ====
abbrev S4096x1024 : Shape := ⟨2, ![4096, 1024]⟩
abbrev S4096x3072 : Shape := ⟨2, ![4096, 3072]⟩
abbrev S8x1024 : Shape := ⟨2, ![8, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S8x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4096x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S8x1024, .f32⟩
  | .hbm, ⟨39, _⟩ => ⟨S_, .f32⟩
  | .hbm, ⟨40, _⟩ => ⟨S4098x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S8x1024, .f32⟩
  | .hbm, ⟨49, _⟩ => ⟨S8x1024, .f32⟩
  | .hbm, ⟨50, _⟩ => ⟨S_, .f32⟩
  | .hbm, ⟨51, _⟩ => ⟨S4098x1024, .f32⟩
  | .hbm, ⟨52, _⟩ => ⟨S4098x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S8x1024, .f32⟩
  | .hbm, ⟨61, _⟩ => ⟨S8x1024, .f32⟩
  | .hbm, ⟨62, _⟩ => ⟨S_, .f32⟩
  | .hbm, ⟨63, _⟩ => ⟨S4098x1024, .f32⟩
  | .hbm, ⟨64, _⟩ => ⟨S4098x1024, .f32⟩
  | .hbm, ⟨65, _⟩ => ⟨S2x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x3072, .f32⟩
  | .hbm, ⟨70, _⟩ => ⟨S4096x3072, .bf16⟩
  | .hbm, ⟨71, _⟩ => ⟨S4096x1024, .bf16⟩
  | .hbm, ⟨72, _⟩ => ⟨S4096x1024, .bf16⟩
  | .hbm, ⟨73, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== KernelGateup.lean ====
abbrev S4096x1024 : Shape := ⟨2, ![4096, 1024]⟩
abbrev S4x1024x1536 : Shape := ⟨3, ![4, 1024, 1536]⟩
abbrev S4096x6144 : Shape := ⟨2, ![4096, 6144]⟩
abbrev S4096x3072 : Shape := ⟨2, ![4096, 3072]⟩
abbrev S1024x1024 : Shape := ⟨2, ![1024, 1024]⟩
abbrev S1x1024x1536 : Shape := ⟨3, ![1, 1024, 1536]⟩
abbrev S1024x1536 : Shape := ⟨2, ![1024, 1536]⟩
abbrev S1024x768 : Shape := ⟨2, ![1024, 768]⟩
abbrev S512x1024 : Shape := ⟨2, ![512, 1024]⟩
abbrev S512x1536 : Shape := ⟨2, ![512, 1536]⟩
abbrev S512x768 : Shape := ⟨2, ![512, 768]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S4096x6144, .bf16⟩
  | .hbm, ⟨3, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x768, .bf16⟩
  | .local _ .vmem, ⟨7, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGateupIdeal.lean ====
abbrev S4096x1024 : Shape := ⟨2, ![4096, 1024]⟩
abbrev S4x1024x1536 : Shape := ⟨3, ![4, 1024, 1536]⟩
abbrev S4x1024x768 : Shape := ⟨3, ![4, 1024, 768]⟩
abbrev S4096x4x768 : Shape := ⟨3, ![4096, 4, 768]⟩
abbrev S_ : Shape := ⟨0, ![]⟩
abbrev S4096x4x1536 : Shape := ⟨3, ![4096, 4, 1536]⟩
abbrev S4096x6144 : Shape := ⟨2, ![4096, 6144]⟩
abbrev S4096x3072 : Shape := ⟨2, ![4096, 3072]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S4096x1024, .f32⟩
  | .hbm, ⟨3, _⟩ => ⟨S4x1024x768, .bf16⟩
  | .hbm, ⟨4, _⟩ => ⟨S4x1024x768, .f32⟩
  | .hbm, ⟨5, _⟩ => ⟨S4096x4x768, .f32⟩
  | .hbm, ⟨6, _⟩ => ⟨S4x1024x768, .bf16⟩
  | .hbm, ⟨7, _⟩ => ⟨S4x1024x768, .f32⟩
  | .hbm, ⟨8, _⟩ => ⟨S4096x4x768, .f32⟩
  | .hbm, ⟨9, _⟩ => ⟨S4096x4x768, .f32⟩
  | .hbm, ⟨10, _⟩ => ⟨S4096x4x768, .f32⟩
  | .hbm, ⟨11, _⟩ => ⟨S_, .f32⟩
  | .hbm, ⟨12, _⟩ => ⟨S4096x4x768, .f32⟩
  | .hbm, ⟨13, _⟩ => ⟨S4096x4x768, .f32⟩
  | .hbm, ⟨14, _⟩ => ⟨S_, .f32⟩
  | .hbm, ⟨15, _⟩ => ⟨S4096x4x768, .f32⟩
  | .hbm, ⟨16, _⟩ => ⟨S4096x4x768, .f32⟩
  | .hbm, ⟨17, _⟩ => ⟨S4096x4x768, .f32⟩
  | .hbm, ⟨18, _⟩ => ⟨S4096x4x768, .f32⟩
  | .hbm, ⟨19, _⟩ => ⟨S4096x4x1536, .f32⟩
  | .hbm, ⟨20, _⟩ => ⟨S4096x6144, .f32⟩
  | .hbm, ⟨21, _⟩ => ⟨S4096x6144, .bf16⟩
  | .hbm, ⟨22, _⟩ => ⟨S4096x3072, .f32⟩
  | .hbm, ⟨23, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== KernelPost.lean ====
abbrev S4096x3072 : Shape := ⟨2, ![4096, 3072]⟩
abbrev S4x768x1024 : Shape := ⟨3, ![4, 768, 1024]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S256x768 : Shape := ⟨2, ![256, 768]⟩
abbrev S1x768x1024 : Shape := ⟨3, ![1, 768, 1024]⟩
abbrev S768x1024 : Shape := ⟨2, ![768, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S4x768x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S4x768x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferencePostIdeal.lean ====
abbrev S4096x3072 : Shape := ⟨2, ![4096, 3072]⟩
abbrev S4x768x1024 : Shape := ⟨3, ![4, 768, 1024]⟩
abbrev S4096x1024 : Shape := ⟨2, ![4096, 1024]⟩
abbrev S1x1024 : Shape := ⟨2, ![1, 1024]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4x768x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x3072, .f32⟩
  | .hbm, ⟨6, _⟩ => ⟨S4x768x1024, .f32⟩
  | .hbm, ⟨7, _⟩ => ⟨S3072x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== KernelPle.lean ====
abbrev S4096x1024 : Shape := ⟨2, ![4096, 1024]⟩
abbrev S4096x256 : Shape := ⟨2, ![4096, 256]⟩
abbrev S4x1280x1024 : Shape := ⟨3, ![4, 1280, 1024]⟩
abbrev S4x256x256 : Shape := ⟨3, ![4, 256, 256]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4x256x1024 : Shape := ⟨3, ![4, 256, 1024]⟩
abbrev S1024x1024 : Shape := ⟨2, ![1024, 1024]⟩
abbrev S256x4x256 : Shape := ⟨3, ![256, 4, 256]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x256x1024 : Shape := ⟨3, ![1, 256, 1024]⟩
abbrev S512x256 : Shape := ⟨2, ![512, 256]⟩

abbrev nBuf : Space → Nat
  | .hbm => 36
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .bf16⟩
  | .hbm, ⟨3, _⟩ => ⟨S4x1280x1024, .bf16⟩
  | .hbm, ⟨4, _⟩ => ⟨S4x256x256, .bf16⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4x256x1024, .bf16⟩
  | .hbm, ⟨23, _⟩ => ⟨S4x256x1024, .f32⟩
  | .hbm, ⟨24, _⟩ => ⟨S1024x1024, .f32⟩
  | .hbm, ⟨25, _⟩ => ⟨S4096x1024, .f32⟩
  | .hbm, ⟨26, _⟩ => ⟨S4096x256, .f32⟩
  | .hbm, ⟨27, _⟩ => ⟨S4x256x256, .f32⟩
  | .hbm, ⟨28, _⟩ => ⟨S256x4x256, .f32⟩
  | .hbm, ⟨29, _⟩ => ⟨S256x1024, .f32⟩
  | .hbm, ⟨30, _⟩ => ⟨S4096x1024, .f32⟩
  | .hbm, ⟨31, _⟩ => ⟨S4096x1024, .bf16⟩
  | .hbm, ⟨32, _⟩ => ⟨S4096x1024, .bf16⟩
  | .hbm, ⟨33, _⟩ => ⟨S4096x1024, .f32⟩
  | .hbm, ⟨34, _⟩ => ⟨S1x1024, .f32⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S4x256x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_20 : BitVec 32 := 0#32
  let v54 : BitVec 1 := Scalar.cmpi .ne v53 c0_i32_20
  v54

def k0_cond2 (i : grid0.Coords) : BitVec 1 :=
  let arg0 : BitVec 32 := BitVec.ofNat 32 (i 0).val
  let c0_i32_21 : BitVec 32 := 0#32
  let v55 : BitVec 1 := Scalar.cmpi .sgt arg0 c0_i32_21
  let v56 : BitVec 32 := Scalar.extui v55
  let c0_i32_22 : BitVec 32 := 0#32
  let v57 : BitVec 1 := Scalar.cmpi .ne v56 c0_i32_22
  v57

def k0_cond3 (i : grid0.Coords) : BitVec 1 :=
  let arg0 : BitVec 32 := BitVec.ofNat 32 (i 0).val
  let c0_i32_55 : BitVec 32 := 0#32
  let v112 : BitVec 1 := Scalar.cmpi .eq arg0 c0_i32_55
  let v113 : BitVec 32 := Scalar.extui v112
  let c0_i32_56 : BitVec 32 := 0#32
  let v114 : BitVec 1 := Scalar.cmpi .ne v113 c0_i32_56
  v114

def k0_cond4 (i : grid0.Coords) : BitVec 1 :=
  let arg0 : BitVec 32 := BitVec.ofNat 32 (i 0).val
  let c0_i32_57 : BitVec 32 := 0#32
  let v115 : BitVec 1 := Scalar.cmpi .sgt arg0 c0_i32_57
  let v116 : BitVec 32 := Scalar.extui v115
  let c0_i32_58 : BitVec 32 := 0#32
  let v117 : BitVec 1 := Scalar.cmpi .ne v116 c0_i32_58
  v117

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferencePleIdeal.lean ====
abbrev S4096x1024 : Shape := ⟨2, ![4096, 1024]⟩
abbrev S4096x256 : Shape := ⟨2, ![4096, 256]⟩
abbrev S4x1280x1024 : Shape := ⟨3, ![4, 1280, 1024]⟩
abbrev S4x256x256 : Shape := ⟨3, ![4, 256, 256]⟩
abbrev S1x1024 : Shape := ⟨2, ![1, 1024]⟩
abbrev S4x256x1024 : Shape := ⟨3, ![4, 256, 1024]⟩
abbrev S1024x1024 : Shape := ⟨2, ![1024, 1024]⟩
abbrev S256x4x256 : Shape := ⟨3, ![256, 4, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .bf16⟩
  | .hbm, ⟨3, _⟩ => ⟨S4x1280x1024, .bf16⟩
  | .hbm, ⟨4, _⟩ => ⟨S4x256x256, .bf16⟩
  | .hbm, ⟨5, _⟩ => ⟨S1x1024, .f32⟩
  | .hbm, ⟨6, _⟩ => ⟨S1x1024, .f32⟩
  | .hbm, ⟨7, _⟩ => ⟨S4x256x1024, .bf16⟩
  | .hbm, ⟨8, _⟩ => ⟨S4x256x1024, .f32⟩
  | .hbm, ⟨9, _⟩ => ⟨S1024x1024, .f32⟩
  | .hbm, ⟨10, _⟩ => ⟨S4x256x256, .f32⟩
  | .hbm, ⟨11, _⟩ => ⟨S256x4x256, .f32⟩
  | .hbm, ⟨12, _⟩ => ⟨S256x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x256, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x1024, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .bf16⟩
  | .hbm, ⟨118, _⟩ => ⟨S4096x1024, .bf16⟩
  | .hbm, ⟨119, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_16 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩

abbrev nD : Nat := 1
abbrev τ : Topo := Topo.v7x

variable {F : FTy → Type} [FloatOps F]
-- ==== KernelMixpost.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_13 : BitVec 32 := 0#32
  let v37 : BitVec 1 := Scalar.cmpi .ne v36 c0_i32_13
  v37

def k0_cond2 (i : grid0.Coords) : BitVec 1 :=
  let arg0 : BitVec 32 := BitVec.ofNat 32 (i 0).val
  let c0_i32_14 : BitVec 32 := 0#32
  let v38 : BitVec 1 := Scalar.cmpi .sgt arg0 c0_i32_14
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceMixpostIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelMixout.lean ====
abbrev S4096x1024 : Shape := ⟨2, ![4096, 1024]⟩
abbrev S4x1792x1024 : Shape := ⟨3, ![4, 1792, 1024]⟩
abbrev S4096x3072 : Shape := ⟨2, ![4096, 3072]⟩
abbrev S1024x1024 : Shape := ⟨2, ![1024, 1024]⟩
abbrev S1x768x1024 : Shape := ⟨3, ![1, 768, 1024]⟩
abbrev S1024x768 : Shape := ⟨2, ![1024, 768]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1792x1024, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMixoutIdeal.lean ====
abbrev S4096x1024 : Shape := ⟨2, ![4096, 1024]⟩
abbrev S4x1792x1024 : Shape := ⟨3, ![4, 1792, 1024]⟩
abbrev S4x768x1024 : Shape := ⟨3, ![4, 768, 1024]⟩
abbrev S3072x1024 : Shape := ⟨2, ![3072, 1024]⟩
abbrev S_ : Shape := ⟨0, ![]⟩
abbrev S4096x3072 : Shape := ⟨2, ![4096, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1792x1024, .bf16⟩
  | .hbm, ⟨2, _⟩ => ⟨S4x768x1024, .bf16⟩
  | .hbm, ⟨3, _⟩ => ⟨S4x768x1024, .f32⟩
  | .hbm, ⟨4, _⟩ => ⟨S3072x1024, .f32⟩
  | .hbm, ⟨5, _⟩ => ⟨S_, .f32⟩
  | .hbm, ⟨6, _⟩ => ⟨S4096x3072, .f32⟩
  | .hbm, ⟨7, _⟩ => ⟨S4096x1024, .f32⟩
  | .hbm, ⟨8, _⟩ => ⟨S4096x1024, .f32⟩
  | .hbm, ⟨9, _⟩ => ⟨S4096x3072, .f32⟩
  | .hbm, ⟨10, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelPre.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePreIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelPoolpost.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePoolpostIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KernelPoolpre.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferencePoolpreIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Rms.lean ====
/- The gradient of the root-mean-square norm over the extended reals, one row at a time: the form the kernels compute
   (`rmsGrad`, `postGrad`) against the form reverse-mode differentiation writes. No finiteness is asked: a row with an
   infinite entry has mean square `⊤`, so its reciprocal root is `0` and every term vanishes; on a real row the two
   forms differ by real factors moved through a sum. -/
module

public import Idealize.ShloMosaic.PureOps.Ideal.Laws
public import Idealize.ShloMosaic.Lib.IdealHost

@[expose] public section

noncomputable section

namespace Cert.Rms

open Idealize.ShloMosaic

/-! ## Real factors in the extended reals -/

theorem mul_add_of_nonneg {c : ℝ} (hc : 0 ≤ c) (a b : EReal) : (c : EReal) * (a + b) = c * a + c * b :=
  EReal.left_distrib_of_nonneg_of_ne_top (EReal.coe_nonneg.mpr hc) (EReal.coe_ne_top c) a b

theorem mul_sum_of_nonneg {ι : Type} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, mul_add_of_nonneg hc, ih]

theorem add_self_eq (a : EReal) : a + a = ((2 : ℝ) : EReal) * a := by
  have h := EReal.right_distrib_of_nonneg (c := a) (zero_le_one (α := EReal)) (zero_le_one (α := EReal))
  rw [one_mul] at h
  rw [← h, one_add_one_eq_two]
  norm_cast

/-- A square is nonnegative, and `⊤` off the reals. -/
theorem sq_nonneg' (a : EReal) : 0 ≤ a * a := by
  induction a with
  | bot => simp
  | top => simp
  | coe r => rw [← EReal.coe_mul]; exact EReal.coe_nonneg.mpr (mul_self_nonneg r)

theorem real_of_sq_ne_top {a : EReal} (h : a * a ≠ ⊤) : ∃ r : ℝ, a = r := by
  induction a with
  | bot => simp at h
  | top => simp at h
  | coe r => exact ⟨r, rfl⟩

/-! ## The constants -/

/-- The literal `1024.0`. -/
abbrev kN : EReal := Ideal.ofBits .f32 0x44800000#32
/-- The literal `1e-6`, as `f32` has it. -/
abbrev kEps : EReal := Ideal.ofBits .f32 0x358637BD#32
/-- The literal `-0.5`. -/
abbrev kNegHalf : EReal := Ideal.ofBits .f32 0xBF000000#32
/-- The literal `0.5`. -/
abbrev kHalf : EReal := Ideal.ofBits .f32 0x3F000000#32

theorem kN_eq : kN = ((1024 : ℝ) : EReal) := by
  simp [Ideal.ofBits, Ideal.ieee, -EReal.coe_mul]; norm_num

theorem kNegHalf_eq : kNegHalf = ((-(1 / 2) : ℝ) : EReal) := by
  simp [Ideal.ofBits, Ideal.ieee, -EReal.coe_mul]; norm_num

theorem kHalf_eq : kHalf = ((1 / 2 : ℝ) : EReal) := by
  simp [Ideal.ofBits, Ideal.ieee, -EReal.coe_mul]; norm_num

theorem kEps_eq : ∃ e : ℝ, 0 < e ∧ kEps = e := by
  refine ⟨_, ?_, by simp [Ideal.ofBits, Ideal.ieee, -EReal.coe_mul]; rfl⟩
  positivity

theorem div_kN (a : EReal) : Ideal.div a kN = a * ((1 / 1024 : ℝ) : EReal) := by
  rw [kN_eq, Ideal.div_coe (by norm_num)]

/-! ## The norm's row -/

variable {n : ℕ}

/-- The mean square of a row, plus epsilon. -/
def ms (x : Fin n → EReal) : EReal := Ideal.div (∑ k, x k * x k) kN + kEps

/-- The norm's factor. -/
def rr (x : Fin n → EReal) : EReal := Ideal.rsqrt (ms x)

/-- Either the mean square is `⊤`, or the row is real and its factor is `ρ > 0` with `ρ² · ms = 1`. -/
theorem ms_cases (x : Fin n → EReal) :
    ms x = ⊤ ∨ ∃ (y : Fin n → ℝ) (μ ρ : ℝ), (∀ k, x k = y k) ∧ ms x = μ ∧ rr x = ρ ∧ 0 < ρ ∧ 0 < μ ∧ ρ * ρ * μ = 1 := by
  obtain ⟨e, he, hE⟩ := kEps_eq
  have hs0 : 0 ≤ ∑ k, x k * x k := Finset.sum_nonneg fun k _ => sq_nonneg' (x k)
  by_cases ht : ∑ k, x k * x k = ⊤
  · left
    unfold ms
    rw [ht, div_kN, EReal.top_mul_coe_of_pos (by norm_num), hE]
    simp
  · right
    have hx : ∀ k, ∃ r : ℝ, x k = r := fun k => real_of_sq_ne_top fun h => ht <| by
      refine le_antisymm le_top ?_
      rw [← h]
      exact Finset.single_le_sum (f := fun k => x k * x k) (fun k _ => sq_nonneg' (x k)) (Finset.mem_univ k)
    choose y hy using hx
    have hms : ms x = (((∑ k, y k * y k) * (1 / 1024) + e : ℝ) : EReal) := by
      unfold ms
      rw [div_kN, hE]
      simp only [hy, EReal.coe_add, EReal.coe_mul]
      congr 2
      rw [show (∑ k, (y k : EReal) * y k) = ∑ k, ((y k * y k : ℝ) : EReal) from by simp only [EReal.coe_mul]]
      exact (map_sum (⟨⟨Real.toEReal, EReal.coe_zero⟩, EReal.coe_add⟩ : ℝ →+ EReal) _ _).symm
    have hμ : 0 < (∑ k, y k * y k) * (1 / 1024) + e := by
      have : 0 ≤ ∑ k, y k * y k := Finset.sum_nonneg fun k _ => mul_self_nonneg _
      positivity
    refine ⟨y, _, (Real.sqrt ((∑ k, y k * y k) * (1 / 1024) + e))⁻¹, hy, hms, ?_, ?_, hμ, ?_⟩
    · unfold rr
      rw [hms]
      show (if _ then _ else if _ then _ else _) = _
      rw [if_neg (not_lt.mpr hμ.le), if_neg hμ.ne']
    · exact inv_pos.mpr (Real.sqrt_pos.mpr hμ)
    · rw [← mul_inv, Real.mul_self_sqrt hμ.le]
      exact inv_mul_cancel₀ hμ.ne'

theorem rr_top {x : Fin n → EReal} (h : ms x = ⊤) : rr x = 0 := by unfold rr; rw [h]; rfl

/-- What differentiation multiplies the row by, twice. -/
def corr (x t : Fin n → EReal) : EReal :=
  Ideal.div ((∑ k, x k * t k) * (kNegHalf * Ideal.div (rr x) (ms x))) kN

theorem corr_top {x : Fin n → EReal} (h : ms x = ⊤) (t : Fin n → EReal) : corr x t = 0 := by
  unfold corr
  rw [rr_top h, h, div_kN, show Ideal.div 0 ⊤ = 0 from by simp [Ideal.div]]
  simp

/-- The gradient at a row `x` of the norm whose scaled cotangent is `t`: as the kernel before a product computes it. -/
def rmsGrad (x t : Fin n → EReal) (j : Fin n) : EReal :=
  rr x * (t j - x j * rr x * Ideal.div (∑ k, t k * (x k * rr x)) kN)

/-- The same gradient as the kernel after a product computes it. -/
def postGrad (x t : Fin n → EReal) (j : Fin n) : EReal :=
  rr x * t j - x j * (rr x * rr x * rr x * Ideal.div (∑ k, t k * x k) kN)

/-- The correction of a real row, collected: `S · (-½ρ³/1024)`. -/
theorem corr_real {x : Fin n → EReal} {μ ρ : ℝ} (hm : ms x = μ) (hr : rr x = ρ) (hρ : 0 < ρ) (hμ : 0 < μ)
    (h1 : ρ * ρ * μ = 1) (t : Fin n → EReal) :
    corr x t = (∑ k, x k * t k) * ((-(1 / 2) * (ρ * ρ * ρ) / 1024 : ℝ) : EReal) := by
  have hd : ρ * (1 / μ) = ρ * ρ * ρ := by
    have : 1 / μ = ρ * ρ := by field_simp; linarith
    rw [this]; ring
  unfold corr
  rw [hm, hr, Ideal.div_coe hμ.ne', div_kN, kNegHalf_eq, ← EReal.coe_mul, ← EReal.coe_mul, mul_assoc, ← EReal.coe_mul, hd]
  congr 2
  ring

theorem twice (s : EReal) (y c : ℝ) :
    (y : EReal) * (s * (c : EReal)) + s * (c : EReal) * y = s * ((2 * c * y : ℝ) : EReal) := by
  rw [mul_comm (y : EReal), add_self_eq, mul_comm, mul_assoc, mul_assoc, ← EReal.coe_mul, ← EReal.coe_mul]
  congr 2
  ring

theorem rmsGrad_eq (x t : Fin n → EReal) (j : Fin n) :
    t j * rr x + x j * corr x t + corr x t * x j = rmsGrad x t j := by
  rcases ms_cases x with h | ⟨y, μ, ρ, hy, hm, hr, hρ, hμ, h1⟩
  · unfold rmsGrad
    rw [corr_top h, rr_top h]
    simp
  · rw [corr_real hm hr hρ hμ h1, add_assoc, hy j, twice]
    unfold rmsGrad
    have hS : ∑ k, t k * (x k * rr x) = (ρ : EReal) * ∑ k, x k * t k := by
      rw [mul_sum_of_nonneg hρ.le]
      refine Finset.sum_congr rfl fun k _ => ?_
      rw [hr, mul_comm (x k), ← mul_assoc, mul_comm (t k), mul_assoc, mul_comm (t k)]
    rw [hS, hr, sub_eq_add_neg, mul_add_of_nonneg hρ.le, mul_comm (t j), div_kN, hy j]
    congr 1
    generalize ∑ k, x k * t k = S
    rw [← EReal.coe_mul, mul_comm (ρ : EReal) S, mul_assoc S, ← EReal.coe_mul, mul_comm _ (S * _), mul_assoc S, ← EReal.coe_mul,
      ← mul_neg, ← EReal.coe_neg, mul_comm (ρ : EReal), mul_assoc S, ← EReal.coe_mul]
    congr 2
    ring

theorem postGrad_eq (x t : Fin n → EReal) (j : Fin n) :
    t j * rr x + x j * corr x t + corr x t * x j = postGrad x t j := by
  rcases ms_cases x with h | ⟨y, μ, ρ, hy, hm, hr, hρ, hμ, h1⟩
  · unfold postGrad
    rw [corr_top h, rr_top h]
    simp
  · rw [corr_real hm hr hρ hμ h1, add_assoc, hy j, twice]
    unfold postGrad
    have hS : ∑ k, t k * x k = ∑ k, x k * t k := Finset.sum_congr rfl fun k _ => mul_comm _ _
    rw [hS, hr, sub_eq_add_neg, mul_comm (t j), div_kN, hy j]
    congr 1
    generalize ∑ k, x k * t k = S
    rw [← EReal.coe_mul, ← EReal.coe_mul, mul_comm ((ρ * ρ * ρ : ℝ) : EReal), mul_assoc S, ← EReal.coe_mul, mul_comm (y j : EReal),
      mul_assoc S, ← EReal.coe_mul, ← mul_neg, ← EReal.coe_neg]
    congr 2
    ring

end Cert.Rms

end
-- ==== Proof.UpPayloads.lean ====
module

public import proofs.«01_k».proof.Proof.Gen.KernelUpIdeal.Value
public import proofs.«01_k».proof.Proof.Rms
public import Idealize.ShloMosaic.Lib.Pointwise

@[expose] public section

set_option maxRecDepth 16384

noncomputable section

namespace Cert.KernelUpIdeal.Val

open Cert.KernelUpIdeal Cert.KernelUpIdeal.Gen Cert.KernelUpIdeal.Value Cert.Rms
open Idealize.ShloMosaic Idealize.ShloMosaic.TcCoe Idealize.SL.Sem

/-! ### The body's values at an index -/

/-- Four products, one per chip's shard of the weight, contracted over the shard's columns. -/
theorem pay4_at (a0 : Vec Ideal S256x1536 .bf16) (w0 : Vec Ideal S1x1024x1536 .bf16) (a1 : Vec Ideal S256x1536 .bf16)
    (w1 : Vec Ideal S1x1024x1536 .bf16) (a2 : Vec Ideal S256x1536 .bf16) (w2 : Vec Ideal S1x1024x1536 .bf16)
    (a3 : Vec Ideal S256x1536 .bf16) (w3 : Vec Ideal S1x1024x1536 .bf16) (r : Fin 256) (j : Fin 1024) :
    k0_pay4 (F := Ideal) a0 w0 a1 w1 a2 w2 a3 w3 (ix2 r j)
      = (∑ k : Fin 1536, a0 (ix2 r k) * w0 (ix3 0 j k)) + (∑ k : Fin 1536, a1 (ix2 r k) * w1 (ix3 0 j k))
        + (∑ k : Fin 1536, a2 (ix2 r k) * w2 (ix3 0 j k)) + (∑ k : Fin 1536, a3 (ix2 r k) * w3 (ix3 0 j k)) := by
  pointwise [k0_pay4]

theorem pay5_at (x : Vec Ideal S256x1024 .f32) (r : Fin 256) (z : Fin 1) :
    k0_pay5 (F := Ideal) x (ix2 r z) = rr fun k => x (ix2 r k) := by
  unfold rr ms kN kEps
  pointwise [k0_pay5]

theorem pay6_at (x : Vec Ideal S256x1024 .f32) (r : Fin 256) (j : Fin 1024) :
    k0_pay6 (F := Ideal) x (k0_pay5 (F := Ideal) x) (ix2 r j) = x (ix2 r j) * rr fun k => x (ix2 r k) := by
  have h := pay5_at x
  pointwise [k0_pay6, h]

theorem pay7_at (d : Vec Ideal S256x1024 .f32) (x : Vec Ideal S256x1024 .f32) (g : Vec Ideal S1x1024 .f32)
    (h : Vec Ideal S256x1024 .f32) (r : Fin 256) (j : Fin 1024) :
    k0_pay7 (F := Ideal) d x (k0_pay5 (F := Ideal) x) g h (ix2 r j)
      = h (ix2 r j) + rmsGrad (fun k => x (ix2 r k)) (fun k => d (ix2 r k) * g (ix2 0 k)) j := by
  have h5 := pay5_at x
  have h6 := pay6_at x
  unfold rmsGrad kN
  pointwise [k0_pay7, h5, h6]

theorem pay8_at (d : Vec Ideal S256x1024 .f32) (x : Vec Ideal S256x1024 .f32) (j : Fin 1024) :
    k0_pay8 (F := Ideal) (k0_pay3 (F := Ideal)) d x (k0_pay5 (F := Ideal) x) (ix2 0 j)
      = ∑ r : Fin 256, d (ix2 r j) * (x (ix2 r j) * rr fun k => x (ix2 r k)) := by
  have h6 := pay6_at x
  pointwise [k0_pay8, k0_pay3, h6]

/-! The second sub-block's values are the first's functions of its own loads. -/

theorem pay10_eq (a0 : Vec Ideal S256x1536 .bf16) (w0 : Vec Ideal S1x1024x1536 .bf16) (a1 : Vec Ideal S256x1536 .bf16)
    (w1 : Vec Ideal S1x1024x1536 .bf16) (a2 : Vec Ideal S256x1536 .bf16) (w2 : Vec Ideal S1x1024x1536 .bf16)
    (a3 : Vec Ideal S256x1536 .bf16) (w3 : Vec Ideal S1x1024x1536 .bf16) :
    k0_pay10 (F := Ideal) (k0_pay9 (F := Ideal) a0 w0 a1 w1) a2 w2 a3 w3 = k0_pay4 (F := Ideal) a0 w0 a1 w1 a2 w2 a3 w3 := rfl

theorem pay13_eq (s : Vec Ideal S256x1024 .f32) (a2 : Vec Ideal S256x1536 .bf16) (w2 : Vec Ideal S1x1024x1536 .bf16)
    (a3 : Vec Ideal S256x1536 .bf16) (w3 : Vec Ideal S1x1024x1536 .bf16) (x : Vec Ideal S256x1024 .f32)
    (g : Vec Ideal S1x1024 .f32) (h : Vec Ideal S256x1024 .f32) :
    k0_pay13 (F := Ideal) s a2 w2 a3 w3 x g h
      = k0_pay7 (F := Ideal) (k0_pay10 (F := Ideal) s a2 w2 a3 w3) x (k0_pay5 (F := Ideal) x) g h := rfl

theorem pay14_at (s : Vec Ideal S256x1024 .f32) (a2 : Vec Ideal S256x1536 .bf16) (w2 : Vec Ideal S1x1024x1536 .bf16)
    (a3 : Vec Ideal S256x1536 .bf16) (w3 : Vec Ideal S1x1024x1536 .bf16) (x : Vec Ideal S256x1024 .f32) (j : Fin 1024) :
    k0_pay14 (F := Ideal) s a2 w2 a3 w3 x (ix2 0 j)
      = ∑ r : Fin 256, k0_pay10 (F := Ideal) s a2 w2 a3 w3 (ix2 r j) * (x (ix2 r j) * rr fun k => x (ix2 r k)) := by
  have e : k0_pay12 (F := Ideal) x = k0_pay6 (F := Ideal) x (k0_pay5 (F := Ideal) x) := rfl
  have h6 := pay6_at x
  unfold k0_pay14
  rw [e]
  generalize k0_pay10 (F := Ideal) s a2 w2 a3 w3 = d
  pointwise [h6]

theorem pay1_at (u v : Vec Ideal S1x1024 .f32) (j : S1x1024.Idx) : k0_pay1 (F := Ideal) u v j = (u j + v j : EReal) := rfl

theorem pay2_at (u v acc : Vec Ideal S1x1024 .f32) (j : Fin 1024) :
    k0_pay2 (F := Ideal) u v acc (ix2 0 j) = acc (ix2 0 j) + (u (ix2 0 j) + v (ix2 0 j)) := by
  pointwise [k0_pay2, k0_pay1]

end Cert.KernelUpIdeal.Val

end
-- ==== Proof.UpBlocks.lean ====
module

public import proofs.«01_k».proof.Proof.UpPayloads
public import Idealize.ShloMosaic.Lib.Pipeline.ValueKit

@[expose] public section

set_option maxRecDepth 16384

noncomputable section

namespace Cert.KernelUpIdeal.Val

open Cert.KernelUpIdeal Cert.KernelUpIdeal.Gen Cert.KernelUpIdeal.Value Cert.Rms
open Idealize.ShloMosaic Idealize.ShloMosaic.TcCoe Idealize.SL.Sem

/-! ### What the body leaves in its two outputs' buffers -/

/-- A tile's row of the gradient of the normalized input: the cotangent's row against the four shards' weights. -/
def drow (x0 : Vec Ideal S512x6144 .bf16) (x1 : Vec Ideal S4x1024x1536 .bf16) (r : Fin 512) (j : Fin 1024) : EReal :=
  ∑ s : Fin 4, ∑ k : Fin 1536, x0 (ix2 r ⟨s.val * 1536 + k.val, by omega⟩) * x1 (ix3 s j k)

/-- The block of the input's gradient a point writes. -/
def oblk (x0 : Vec Ideal S512x6144 .bf16) (x1 : Vec Ideal S4x1024x1536 .bf16) (x2 : Vec Ideal S512x1024 .f32)
    (x3 : Vec Ideal S1x1024 .f32) (x4 : Vec Ideal S512x1024 .f32) (y : S512x1024.Idx) : EReal :=
  x4 y + rmsGrad (fun k => x2 (ix2 (y 0) k)) (fun k => drow x0 x1 (y 0) k * x3 (ix2 0 k)) (y 1)

/-- A point's share of the gain's gradient. -/
def gblk (x0 : Vec Ideal S512x6144 .bf16) (x1 : Vec Ideal S4x1024x1536 .bf16) (x2 : Vec Ideal S512x1024 .f32) (j : Fin 1024) : EReal :=
  ∑ r : Fin 512, drow x0 x1 r j * (x2 (ix2 r j) * rr fun k => x2 (ix2 r k))

/-- The two sub-blocks' rows, as the body computes them. -/
def dlo (x0 : Vec Ideal S512x6144 .bf16) (x1 : Vec Ideal S4x1024x1536 .bf16) : Vec Ideal S256x1024 .f32 :=
  k0_pay4 (F := Ideal) (View.ld x0 (Rect.unit ![0, 0] ![256, 1536] inb_S512x6144_S256x1536_0_0)) (View.ld x1 (Rect.unit ![0, 0, 0] ![1, 1024, 1536] inb_S4x1024x1536_S1x1024x1536_0_0_0))
    (View.ld x0 (Rect.unit ![0, 1536] ![256, 1536] inb_S512x6144_S256x1536_0_1536)) (View.ld x1 (Rect.unit ![1, 0, 0] ![1, 1024, 1536] inb_S4x1024x1536_S1x1024x1536_1_0_0))
    (View.ld x0 (Rect.unit ![0, 3072] ![256, 1536] inb_S512x6144_S256x1536_0_3072)) (View.ld x1 (Rect.unit ![2, 0, 0] ![1, 1024, 1536] inb_S4x1024x1536_S1x1024x1536_2_0_0))
    (View.ld x0 (Rect.unit ![0, 4608] ![256, 1536] inb_S512x6144_S256x1536_0_4608)) (View.ld x1 (Rect.unit ![3, 0, 0] ![1, 1024, 1536] inb_S4x1024x1536_S1x1024x1536_3_0_0))
def dhi (x0 : Vec Ideal S512x6144 .bf16) (x1 : Vec Ideal S4x1024x1536 .bf16) : Vec Ideal S256x1024 .f32 :=
  k0_pay4 (F := Ideal) (View.ld x0 (Rect.unit ![256, 0] ![256, 1536] inb_S512x6144_S256x1536_256_0)) (View.ld x1 (Rect.unit ![0, 0, 0] ![1, 1024, 1536] inb_S4x1024x1536_S1x1024x1536_0_0_0))
    (View.ld x0 (Rect.unit ![256, 1536] ![256, 1536] inb_S512x6144_S256x1536_256_1536)) (View.ld x1 (Rect.unit ![1, 0, 0] ![1, 1024, 1536] inb_S4x1024x1536_S1x1024x1536_1_0_0))
    (View.ld x0 (Rect.unit ![256, 3072] ![256, 1536] inb_S512x6144_S256x1536_256_3072)) (View.ld x1 (Rect.unit ![2, 0, 0] ![1, 1024, 1536] inb_S4x1024x1536_S1x1024x1536_2_0_0))
    (View.ld x0 (Rect.unit ![256, 4608] ![256, 1536] inb_S512x6144_S256x1536_256_4608)) (View.ld x1 (Rect.unit ![3, 0, 0] ![1, 1024, 1536] inb_S4x1024x1536_S1x1024x1536_3_0_0))

theorem dlo_at (x0 : Vec Ideal S512x6144 .bf16) (x1 : Vec Ideal S4x1024x1536 .bf16) (r : Fin 256) (j : Fin 1024) :
    dlo x0 x1 (ix2 r j) = drow x0 x1 ⟨r.val, by omega⟩ j := by
  unfold dlo drow
  rw [pay4_at, Fin.sum_univ_four]
  refine congrArg₂ (· + ·) (congrArg₂ (· + ·) (congrArg₂ (· + ·) ?_ ?_) ?_) ?_ <;> refine Finset.sum_congr rfl fun k _ => ?_
  all_goals
    refine congrArg₂ (fun u v : EReal => u * v) (congrArg x0 (funext fun d => Fin.ext ?_)) (congrArg x1 (funext fun d => Fin.ext ?_)) <;>
    fin_cases d <;> simp [Rect.idx_unit_val, ix2, ix3]

theorem dhi_at (x0 : Vec Ideal S512x6144 .bf16) (x1 : Vec Ideal S4x1024x1536 .bf16) (r : Fin 256) (j : Fin 1024) :
    dhi x0 x1 (ix2 r j) = drow x0 x1 ⟨256 + r.val, by omega⟩ j := by
  unfold dhi drow
  rw [pay4_at, Fin.sum_univ_four]
  refine congrArg₂ (· + ·) (congrArg₂ (· + ·) (congrArg₂ (· + ·) ?_ ?_) ?_) ?_ <;> refine Finset.sum_congr rfl fun k _ => ?_
  all_goals
    refine congrArg₂ (fun u v : EReal => u * v) (congrArg x0 (funext fun d => Fin.ext ?_)) (congrArg x1 (funext fun d => Fin.ext ?_)) <;>
    fin_cases d <;> simp [Rect.idx_unit_val, ix2, ix3]

theorem z2 : (![0, 0] : Fin 2 → ℕ) = fun _ => 0 := funext fun a => by fin_cases a <;> rfl

def lo (x : Vec Ideal S512x1024 .f32) : Vec Ideal S256x1024 .f32 := View.ld x (Rect.unit ![0, 0] ![256, 1024] inb_S512x1024_S256x1024_0_0)
def hi (x : Vec Ideal S512x1024 .f32) : Vec Ideal S256x1024 .f32 := View.ld x (Rect.unit ![256, 0] ![256, 1024] inb_S512x1024_S256x1024_256_0)

theorem lo_at (x : Vec Ideal S512x1024 .f32) (r : Fin 256) (j : Fin 1024) : lo x (ix2 r j) = x (ix2 ⟨r.val, by omega⟩ j) :=
  congrArg x (funext fun d => Fin.ext (by fin_cases d <;> simp [Rect.idx_unit_val, ix2]))

theorem hi_at (x : Vec Ideal S512x1024 .f32) (r : Fin 256) (j : Fin 1024) : hi x (ix2 r j) = x (ix2 ⟨256 + r.val, by omega⟩ j) :=
  congrArg x (funext fun d => Fin.ext (by fin_cases d <;> simp [Rect.idx_unit_val, ix2]))

section
variable (x0 : Vec Ideal S512x6144 .bf16) (x1 : Vec Ideal S4x1024x1536 .bf16) (x2 : Vec Ideal S512x1024 .f32) (x3 : Vec Ideal S1x1024 .f32) (x4 : Vec Ideal S512x1024 .f32)

theorem piece_lo (r : Fin 256) (j : Fin 1024) :
    k0_pay7 (F := Ideal) (dlo x0 x1) (lo x2) (k0_pay5 (F := Ideal) (lo x2)) x3 (lo x4) (ix2 r j)
      = oblk x0 x1 x2 x3 x4 (ix2 ⟨r.val, by omega⟩ j) := by
  rw [pay7_at]
  simp only [lo_at, dlo_at]
  rfl

theorem piece_hi (r : Fin 256) (j : Fin 1024) :
    k0_pay7 (F := Ideal) (dhi x0 x1) (hi x2) (k0_pay5 (F := Ideal) (hi x2)) x3 (hi x4) (ix2 r j)
      = oblk x0 x1 x2 x3 x4 (ix2 ⟨256 + r.val, by omega⟩ j) := by
  rw [pay7_at]
  simp only [hi_at, dhi_at]
  rfl

/-- The two stores' payloads are the two halves of the block. -/
theorem pieces (y : S256x1024.Idx) :
    k0_pay7 (F := Ideal) (dlo x0 x1) (lo x2) (k0_pay5 (F := Ideal) (lo x2)) x3 (lo x4) y
        = oblk x0 x1 x2 x3 x4 ((Rect.unit (s := S512x1024) ![0, 0] ![256, 1024] inb_S512x1024_S256x1024_0_0).emb y)
      ∧ k0_pay7 (F := Ideal) (dhi x0 x1) (hi x2) (k0_pay5 (F := Ideal) (hi x2)) x3 (hi x4) y
        = oblk x0 x1 x2 x3 x4 ((Rect.unit (s := S512x1024) ![256, 0] ![256, 1024] inb_S512x1024_S256x1024_256_0).emb y) := by
  obtain ⟨r, j, rfl⟩ : ∃ (r : Fin 256) (j : Fin 1024), y = ix2 r j := ⟨y 0, y 1, eq_ix2 y⟩
  refine ⟨(piece_lo x0 x1 x2 x3 x4 r j).trans (congrArg _ ?_), (piece_hi x0 x1 x2 x3 x4 r j).trans (congrArg _ ?_)⟩ <;>
  · funext d
    apply Fin.ext
    match d with
    | ⟨0, _⟩ => show _ = _ + 1 * r.val; simp [ix2]
    | ⟨1, _⟩ => show j.val = 0 + 1 * j.val; omega

/-- The two sub-blocks' row sums make the point's share. -/
theorem sums (j : Fin 1024) :
    (∑ r : Fin 256, dlo x0 x1 (ix2 r j) * (lo x2 (ix2 r j) * rr fun k => lo x2 (ix2 r k)))
        + (∑ r : Fin 256, dhi x0 x1 (ix2 r j) * (hi x2 (ix2 r j) * rr fun k => hi x2 (ix2 r k)))
      = gblk x0 x1 x2 j := by
  simp only [lo_at, hi_at, dlo_at, dhi_at]
  rw [gblk, Fin.sum_univ_two_halves 256 256 (show 256 + 256 = 512 from rfl)]
end

section
variable (c : Dev nD) (i : grid0.Coords) (arg1 : Memref sig .tc .vmem S512x6144 .bf16) (harg1 : arg1.IsWhole) (arg2 : Memref sig .tc .vmem S4x1024x1536 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x6144 .bf16) (x1 : Vec Ideal S4x1024x1536 .bf16) (x2 : Vec Ideal S512x1024 .f32) (x3 : Vec Ideal S1x1024 .f32) (x4 : Vec Ideal S512x1024 .f32)

theorem out_A_5 (hc0 : cond0_0 i) (hc1 : ¬cond0_1 i) :
    out0_A_5 c i arg1 harg1 arg2 harg2 arg3 harg3 arg4 harg4 arg5 harg5 arg6 harg6 arg7 harg7 hc0 hc1 x0 x1 x2 x3 x4 = oblk x0 x1 x2 x3 x4 := by
  unfold out0_A_5
  rw [View.read_writes_eq_canon _ _ _ (cover0_A_5 c i arg1 harg1 arg2 harg2 arg3 harg3 arg4 harg4 arg5 harg5 arg6 harg6 arg7 harg7 hc0 hc1 x0 x1 x2 x3 x4)]
  funext y
  refine View.canon_apply_of_pieces _ _ ?_ y (cover0_A_5 c i arg1 harg1 arg2 harg2 arg3 harg3 arg4 harg4 arg5 harg5 arg6 harg6 arg7 harg7 hc0 hc1 x0 x1 x2 x3 x4 y)
  unfold kernelRun0_A
  dsimp only
  sl_unfold_words
  simp only [View.readAt_eq_ld, Memref.IsWhole.read_unread, View.ld_unit_zero (S := S1x1024) z2]
  intro p hp x
  rcases List.mem_cons.mp hp with rfl | hp
  · exact (pieces x0 x1 x2 x3 x4 x).2
  · obtain rfl := List.mem_singleton.mp hp
    exact (pieces x0 x1 x2 x3 x4 x).1

theorem out_A_6 (hc0 : cond0_0 i) (hc1 : ¬cond0_1 i) (j : Fin 1024) :
    out0_A_6 c i arg1 harg1 arg2 harg2 arg3 harg3 arg4 harg4 arg5 harg5 arg6 harg6 arg7 harg7 hc0 hc1 x0 x1 x2 x3 x4 (ix2 0 j) = gblk x0 x1 x2 j := by
  unfold out0_A_6
  rw [View.read_writes_eq_canon _ _ _ (cover0_A_6 c i arg1 harg1 arg2 harg2 arg3 harg3 arg4 harg4 arg5 harg5 arg6 harg6 arg7 harg7 hc0 hc1 x0 x1 x2 x3 x4)]
  unfold kernelRun0_A
  dsimp only
  sl_unfold_words
  rw [View.canon_unit_zero z2]
  simp only [View.readAt_eq_ld, Memref.IsWhole.read_unread, View.ld_unit_zero (S := S1x1024) z2]
  exact (congrArg₂ (fun u v : EReal => u + v) (pay8_at (dlo x0 x1) (lo x2) j) (pay14_at _ _ _ _ _ (hi x2) j)).trans (sums x0 x1 x2 j)

theorem out_B_5 (hc0 : ¬cond0_0 i) (hc1 : cond0_1 i) (xo6 : Vec Ideal S1x1024 .f32) :
    out0_B_5 c i arg1 harg1 arg2 harg2 arg3 harg3 arg4 harg4 arg5 harg5 arg6 harg6 arg7 harg7 hc0 hc1 x0 x1 x2 x3 x4 xo6 = oblk x0 x1 x2 x3 x4 := by
  unfold out0_B_5
  rw [View.read_writes_eq_canon _ _ _ (cover0_B_5 c i arg1 harg1 arg2 harg2 arg3 harg3 arg4 harg4 arg5 harg5 arg6 harg6 arg7 harg7 hc0 hc1 x0 x1 x2 x3 x4 xo6)]
  funext y
  refine View.canon_apply_of_pieces _ _ ?_ y (cover0_B_5 c i arg1 harg1 arg2 harg2 arg3 harg3 arg4 harg4 arg5 harg5 arg6 harg6 arg7 harg7 hc0 hc1 x0 x1 x2 x3 x4 xo6 y)
  unfold kernelRun0_B
  dsimp only
  sl_unfold_words
  simp only [View.readAt_eq_ld, Memref.IsWhole.read_unread, View.ld_unit_zero (S := S1x1024) z2]
  intro p hp x
  rcases List.mem_cons.mp hp with rfl | hp
  · exact (pieces x0 x1 x2 x3 x4 x).2
  · obtain rfl := List.mem_singleton.mp hp
    exact (pieces x0 x1 x2 x3 x4 x).1

theorem out_B_6 (hc0 : ¬cond0_0 i) (hc1 : cond0_1 i) (xo6 : Vec Ideal S1x1024 .f32) (j : Fin 1024) :
    out0_B_6 c i arg1 harg1 arg2 harg2 arg3 harg3 arg4 harg4 arg5 harg5 arg6 harg6 arg7 harg7 hc0 hc1 x0 x1 x2 x3 x4 xo6 (ix2 0 j) = xo6 (ix2 0 j) + gblk x0 x1 x2 j := by
  unfold out0_B_6
  rw [View.read_writes_eq_canon _ _ _ (cover0_B_6 c i arg1 harg1 arg2 harg2 arg3 harg3 arg4 harg4 arg5 harg5 arg6 harg6 arg7 harg7 hc0 hc1 x0 x1 x2 x3 x4 xo6)]
  unfold kernelRun0_B
  dsimp only
  sl_unfold_words
  rw [View.canon_unit_zero z2]
  simp only [View.readAt_eq_ld, Memref.IsWhole.read_unread, View.ld_unit_zero (S := S1x1024) z2]
  exact (pay2_at _ _ xo6 j).trans (congrArg (fun u : EReal => xo6 (ix2 0 j) + u) ((congrArg₂ (fun u v : EReal => u + v) (pay8_at (dlo x0 x1) (lo x2) j) (pay14_at _ _ _ _ _ (hi x2) j)).trans (sums x0 x1 x2 j)))

end

end Cert.KernelUpIdeal.Val

end
-- ==== Proof.UpKernel.lean ====
module

public import proofs.«01_k».proof.Proof.UpBlocks

@[expose] public section

set_option maxRecDepth 16384

noncomputable section

namespace Cert.KernelUpIdeal.Val

open Cert.KernelUpIdeal Cert.KernelUpIdeal.Gen Cert.KernelUpIdeal.Value Cert.Rms
open Idealize.ShloMosaic Idealize.ShloMosaic.TcCoe Idealize.SL.Sem

variable (m : (ℓ : Loc nD τ sig) → Buf (Elt Ideal) ℓ) (ρ : Dev nD → PrngReg)

/-! ### The arguments and the tiles the points take of them -/

abbrev a0 (c : Dev nD) : Vec Ideal S4096x6144 .bf16 := m ((c : Thread nD τ).loc main_arg0)
abbrev a1 (c : Dev nD) : Vec Ideal S4x1024x1536 .bf16 := m ((c : Thread nD τ).loc main_arg1)
abbrev a2 (c : Dev nD) : Vec Ideal S4096x1024 .f32 := m ((c : Thread nD τ).loc main_arg2)
abbrev a3 (c : Dev nD) : Vec Ideal S1x1024 .f32 := m ((c : Thread nD τ).loc main_arg3)
abbrev a4 (c : Dev nD) : Vec Ideal S4096x1024 .f32 := m ((c : Thread nD τ).loc main_arg4)

abbrev t0 (c : Dev nD) (t : Fin cfg0.N) : Vec Ideal S512x6144 .bf16 := iblk m c 0 t
abbrev t1 (c : Dev nD) (t : Fin cfg0.N) : Vec Ideal S4x1024x1536 .bf16 := iblk m c 1 t
abbrev t2 (c : Dev nD) (t : Fin cfg0.N) : Vec Ideal S512x1024 .f32 := iblk m c 2 t
abbrev t3 (c : Dev nD) (t : Fin cfg0.N) : Vec Ideal S1x1024 .f32 := iblk m c 3 t
abbrev t4 (c : Dev nD) (t : Fin cfg0.N) : Vec Ideal S512x1024 .f32 := iblk m c 4 t

/-- Row `r` of point `t`'s tile. -/
abbrev row (t : Fin cfg0.N) (r : Fin 512) : Fin 4096 := ⟨t.val * 512 + r.val, by have := lt_of_lt_of_eq t.isLt (show cfg0.N = 8 from N_0); omega⟩

theorem idx0 : ∀ t : Fin cfg0.N, win0_0.index t (0 : Fin 2) = t.val ∧ win0_0.index t (1 : Fin 2) = 0 :=
  (by decide +kernel : ∀ t : Fin grid0.N, _)
theorem t0_at (c : Dev nD) (t : Fin cfg0.N) (r : Fin 512) (k : Fin 6144) : t0 m c t (ix2 r k) = a0 m c (ix2 (row t r) k) := by
  unfold t0 iblk
  refine congrArg (a0 m c) (funext fun d => Fin.ext ?_)
  obtain ⟨e0, e1⟩ := idx0 t
  match d with
  | ⟨0, _⟩ => show win0_0.index t (0 : Fin 2) * 512 + 1 * r.val = t.val * 512 + r.val; omega
  | ⟨1, _⟩ => show win0_0.index t (1 : Fin 2) * 6144 + 1 * k.val = k.val; omega

theorem idx2 : ∀ t : Fin cfg0.N, win0_2.index t (0 : Fin 2) = t.val ∧ win0_2.index t (1 : Fin 2) = 0 :=
  (by decide +kernel : ∀ t : Fin grid0.N, _)
theorem t2_at (c : Dev nD) (t : Fin cfg0.N) (r : Fin 512) (k : Fin 1024) : t2 m c t (ix2 r k) = a2 m c (ix2 (row t r) k) := by
  unfold t2 iblk
  refine congrArg (a2 m c) (funext fun d => Fin.ext ?_)
  obtain ⟨e0, e1⟩ := idx2 t
  match d with
  | ⟨0, _⟩ => show win0_2.index t (0 : Fin 2) * 512 + 1 * r.val = t.val * 512 + r.val; omega
  | ⟨1, _⟩ => show win0_2.index t (1 : Fin 2) * 1024 + 1 * k.val = k.val; omega

theorem idx4 : ∀ t : Fin cfg0.N, win0_4.index t (0 : Fin 2) = t.val ∧ win0_4.index t (1 : Fin 2) = 0 :=
  (by decide +kernel : ∀ t : Fin grid0.N, _)
theorem t4_at (c : Dev nD) (t : Fin cfg0.N) (r : Fin 512) (k : Fin 1024) : t4 m c t (ix2 r k) = a4 m c (ix2 (row t r) k) := by
  unfold t4 iblk
  refine congrArg (a4 m c) (funext fun d => Fin.ext ?_)
  obtain ⟨e0, e1⟩ := idx4 t
  match d with
  | ⟨0, _⟩ => show win0_4.index t (0 : Fin 2) * 512 + 1 * r.val = t.val * 512 + r.val; omega
  | ⟨1, _⟩ => show win0_4.index t (1 : Fin 2) * 1024 + 1 * k.val = k.val; omega

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem t1_at (c : Dev nD) (t : Fin cfg0.N) (s : Fin 4) (j : Fin 1024) (k : Fin 1536) : t1 m c t (ix3 s j k) = a1 m c (ix3 s j k) := by
  unfold t1 iblk
  refine congrArg (a1 m c) (funext fun d => Fin.ext ?_)
  obtain ⟨e0, e1, e2⟩ := idx1 t
  match d with
  | ⟨0, _⟩ => show win0_1.index t (0 : Fin 3) * 4 + 1 * s.val = s.val; omega
  | ⟨1, _⟩ => show win0_1.index t (1 : Fin 3) * 1024 + 1 * j.val = j.val; omega
  | ⟨2, _⟩ => show win0_1.index t (2 : Fin 3) * 1536 + 1 * k.val = k.val; omega

theorem idx3 : ∀ t : Fin cfg0.N, win0_3.index t (0 : Fin 2) = 0 ∧ win0_3.index t (1 : Fin 2) = 0 :=
  (by decide +kernel : ∀ t : Fin grid0.N, _)
theorem t3_at (c : Dev nD) (t : Fin cfg0.N) (k : Fin 1024) : t3 m c t (ix2 0 k) = a3 m c (ix2 0 k) := by
  unfold t3 iblk
  refine congrArg (a3 m c) (funext fun d => Fin.ext ?_)
  obtain ⟨e0, e1⟩ := idx3 t
  match d with
  | ⟨0, _⟩ => show win0_3.index t (0 : Fin 2) * 1 + 1 * 0 = 0; omega
  | ⟨1, _⟩ => show win0_3.index t (1 : Fin 2) * 1024 + 1 * k.val = k.val; omega

/-! ### The whole arrays -/

/-- The gradient of the normalized input: the cotangent against the weights, all four chips' columns. -/
def drows (c : Dev nD) (i : Fin 4096) (j : Fin 1024) : EReal :=
  ∑ s : Fin 4, ∑ k : Fin 1536, a0 m c (ix2 i ⟨s.val * 1536 + k.val, by omega⟩) * a1 m c (ix3 s j k)

theorem drow_eq (c : Dev nD) (t : Fin cfg0.N) (r : Fin 512) (j : Fin 1024) :
    drow (t0 m c t) (t1 m c t) r j = drows m c (row t r) j := by
  unfold drow drows
  simp only [t0_at, t1_at]

theorem oblk_eq (c : Dev nD) (t : Fin cfg0.N) (r : Fin 512) (j : Fin 1024) :
    oblk (t0 m c t) (t1 m c t) (t2 m c t) (t3 m c t) (t4 m c t) (ix2 r j)
      = a4 m c (ix2 (row t r) j) + rmsGrad (fun k => a2 m c (ix2 (row t r) k)) (fun k => drows m c (row t r) k * a3 m c (ix2 0 k)) j := by
  unfold oblk
  refine congrArg₂ (fun u v : EReal => u + v) (t4_at m c t r j) (congrArg₂ (fun x y => rmsGrad x y j) (funext fun k => t2_at m c t r k) (funext fun k => ?_))
  exact congrArg₂ (fun u v : EReal => u * v) (drow_eq m c t r k) (t3_at m c t k)

theorem gblk_eq (c : Dev nD) (t : Fin cfg0.N) (j : Fin 1024) :
    gblk (t0 m c t) (t1 m c t) (t2 m c t) j
      = ∑ r : Fin 512, drows m c (row t r) j * (a2 m c (ix2 (row t r) j) * rr fun k => a2 m c (ix2 (row t r) k)) := by
  unfold gblk
  simp only [drow_eq, t2_at]

/-- What a point leaves: its block of the input's gradient, and the shares of the gain's gradient up to it. -/
theorem outs_fst (c : Dev nD) (t : Fin cfg0.N) :
    (outsAt0 m c t.val t.isLt).1 = oblk (t0 m c t) (t1 m c t) (t2 m c t) (t3 m c t) (t4 m c t) := by
  have hN := lt_of_lt_of_eq t.isLt (show cfg0.N = 8 from N_0)
  by_cases h : 1 ≤ t.val
  · rw [outsAt0_B m c t (by omega) h]
    dsimp only
    rw [out_B_5]
  · rw [outsAt0_A m c t (by omega) h]
    dsimp only
    rw [out_A_5]

theorem outs_snd (c : Dev nD) (j : Fin 1024) : ∀ (n : ℕ) (hn : n < cfg0.N),
    (outsAt0 m c n hn).2 (ix2 0 j) = ∑ t : Fin (n + 1), gblk (t0 m c ⟨t.val, by omega⟩) (t1 m c ⟨t.val, by omega⟩) (t2 m c ⟨t.val, by omega⟩) j
  | 0, hn => by
    rw [outsAt0_A m c ⟨0, hn⟩ rfl (by dsimp only; omega)]
    dsimp only
    rw [out_A_6, Fin.sum_univ_one]
    rfl
  | n + 1, hn => by
    have hN := lt_of_lt_of_eq hn (show cfg0.N = 8 from N_0)
    rw [outsAt0_B m c ⟨n + 1, hn⟩ (by dsimp only; omega) (by dsimp only; omega)]
    dsimp only
    rw [out_B_6, Fin.sum_univ_castSucc]
    exact congrArg₂ (fun u v : EReal => u + v) (outs_snd c j n (by omega)) rfl

theorem disjoint6 : ∀ t t' : Fin cfg0.N, (cfg0.win 6).flush t = true → (cfg0.win 6).flush t' = true → t ≠ t' →
    Disjoint ((cfg0.win 6).blk t).view.set ((cfg0.win 6).blk t').view.set := fun t t' h h' hne =>
  absurd (Fin.ext (by
    have h1 := (flush0_6 t).mp h
    have h2 := (flush0_6 t').mp h'
    have := lt_of_lt_of_eq t.isLt (show cfg0.N = 8 from N_0)
    have := lt_of_lt_of_eq t'.isLt (show cfg0.N = 8 from N_0)
    omega)) hne

theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-- The input's gradient after the run, at an index. -/
theorem dh_at (c : Dev nD) (i : Fin 4096) (j : Fin 1024) :
    ((dats m 0 c).arrAt 5 cfg0.N : Vec Ideal S4096x1024 .f32) (ix2 i j)
      = a4 m c (ix2 i j) + rmsGrad (fun k => a2 m c (ix2 i k)) (fun k => drows m c i k * a3 m c (ix2 0 k)) j := by
  have hN : cfg0.N = 8 := N_0
  obtain ⟨t, r, rfl⟩ : ∃ (t : Fin cfg0.N) (r : Fin 512), i = row t r :=
    ⟨⟨i.val / 512, by omega⟩, ⟨i.val % 512, by omega⟩, Fin.ext (by show i.val = i.val / 512 * 512 + i.val % 512; omega)⟩
  rw [← oblk_eq, ← outs_fst]
  have hb := congrFun ((blocks5 m c t (flush0_5 t)).trans (flushed5 m c t)) (ix2 r j : S512x1024.Idx)
  refine Eq.trans (congrArg ((dats m 0 c).arrAt 5 cfg0.N) (funext fun d => Fin.ext ?_)) hb
  obtain ⟨e0, e1⟩ := idx5 t
  match d with
  | ⟨0, _⟩ => show t.val * 512 + r.val = win0_5.index t (0 : Fin 2) * 512 + 1 * r.val; omega
  | ⟨1, _⟩ => show j.val = win0_5.index t (1 : Fin 2) * 1024 + 1 * j.val; omega

/-- The gain's gradient after the run, at an index. -/
theorem dg_at (c : Dev nD) (j : Fin 1024) :
    ((dats m 0 c).arrAt 6 cfg0.N : Vec Ideal S1x1024 .f32) (ix2 0 j)
      = ∑ i : Fin 4096, drows m c i j * (a2 m c (ix2 i j) * rr fun k => a2 m c (ix2 i k)) := by
  have hN : cfg0.N = 8 := N_0
  have h7 : 7 < cfg0.N := by omega
  have hf : (cfg0.win 6).flush ⟨7, h7⟩ = true := (flush0_6 _).mpr rfl
  have hb := congrFun (((dats m 0 c).read_blk_arrAt_eq_flushed 6 disjoint6 cfg0.N ⟨7, h7⟩ h7 hf).trans (flushed6 m c ⟨7, h7⟩)) (ix2 0 j : S1x1024.Idx)
  refine Eq.trans (congrArg ((dats m 0 c).arrAt 6 cfg0.N) (funext fun d => Fin.ext ?_)) (hb.trans ((outs_snd m c j 7 h7).trans ?_))
  · obtain ⟨e0, e1⟩ := idx6 ⟨7, h7⟩
    match d with
    | ⟨0, _⟩ => show 0 = win0_6.index ⟨7, h7⟩ (0 : Fin 2) * 1 + 1 * 0; omega
    | ⟨1, _⟩ => show j.val = win0_6.index ⟨7, h7⟩ (1 : Fin 2) * 1024 + 1 * j.val; omega
  · rw [Fin.sum_univ_tiles 8 512 (show 8 * 512 = 4096 from rfl)]
    exact Finset.sum_congr rfl fun t _ => gblk_eq m c _ j

end Cert.KernelUpIdeal.Val

end
-- ==== Proof.UpReference.lean ====
module

public import proofs.«01_k».proof.Proof.Rms
public import proofs.«01_k».proof.Proof.Gen.ReferenceUpIdeal.Read
public import Idealize.ShloMosaic.Lib.Pointwise

@[expose] public section

set_option maxRecDepth 16384

noncomputable section

namespace Cert.ReferenceUpIdeal.Val

open Cert.ReferenceUpIdeal Cert.ReferenceUpIdeal.Gen Cert.ReferenceUpIdeal.Read Cert.Rms Idealize.ShloMosaic

variable (x0 : Vec Ideal S4096x6144 .bf16) (x1 : Vec Ideal S4x1024x1536 .bf16) (x2 : Vec Ideal S4096x1024 .f32) (x3 : Vec Ideal S1x1024 .f32)

/-- The cotangent of the normalized input: the sum over all four chips' columns. -/
def dn (i : Fin 4096) (j : Fin 1024) : EReal :=
  ∑ s : Fin 4, ∑ k : Fin 1536, x0 (ix2 i ⟨s.val * 1536 + k.val, by omega⟩) * x1 (ix3 s j k)

theorem v20_at (i : Fin 4096) (j : Fin 1024) : val_main_v20 (F := Ideal) x0 x1 (ix2 i j) = dn x0 x1 i j := by
  rw [val_main_v20_apply, Fin.sum_univ_tiles 4 1536 (show 4 * 1536 = 6144 from rfl)]
  unfold dn
  refine Finset.sum_congr rfl fun s _ => Finset.sum_congr rfl fun k _ => ?_
  rw [val_main_v2_apply, val_main_v1_apply]
  refine congrArg₂ (fun u v : EReal => u * v) (congrArg x0 (funext fun e => Fin.ext ?_)) (congrArg x1 (funext fun e => Fin.ext ?_))
  · match e with
    | ⟨0, _⟩ => rfl
    | ⟨1, _⟩ => rfl
  · match e with
    | ⟨0, _⟩ => show (j.val * 6144 + (s.val * 1536 + k.val)) / 1536 % 4 = s.val; omega
    | ⟨1, _⟩ => show (j.val * 6144 + (s.val * 1536 + k.val)) / 6144 = j.val; omega
    | ⟨2, _⟩ => show (j.val * 6144 + (s.val * 1536 + k.val)) % 1536 = k.val; omega

/-- Row `i` of the block's input. -/
abbrev hrow (i : Fin 4096) : Fin 1024 → EReal := fun k => x2 (ix2 i k)

theorem v4_at (i : Fin 4096) : val_main_v4 (F := Ideal) x2 (ix1 i) = ∑ k : Fin 1024, hrow x2 i k * hrow x2 i k := by
  rw [val_main_v4_apply, val_main_cst_apply]
  rw [show (FloatOps.ofBits .f32 0x00000000#32 : Ideal .f32) = (0 : EReal) from Ideal.ofBits_zero _]
  refine (zero_add _).trans (Finset.sum_congr rfl fun k _ => ?_)
  rw [show idx_main_v4 (ix1 i) k = (ix2 i k : S4096x1024.Idx) from funext fun e => Fin.ext (by match e with | ⟨0, _⟩ => rfl | ⟨1, _⟩ => rfl)]
  rfl

theorem v9_at (i : Fin 4096) (u : Fin 1) : val_main_v9 (F := Ideal) x2 (ix2 i u) = ms (hrow x2 i) := by
  unfold ms
  rw [← v4_at x2 i, val_main_v9_apply, val_main_v7_apply, val_main_v5_apply]
  rw [show idx_main_v5 (ix2 i u) = (ix1 i : S4096.Idx) from funext fun e => Fin.ext (by match e with | ⟨0, _⟩ => rfl)]
  rfl

theorem v10_at (i : Fin 4096) (u : Fin 1) : val_main_v10 (F := Ideal) x2 (ix2 i u) = rr (hrow x2 i) := by
  unfold rr
  rw [← v9_at x2 i u]
  rfl

theorem v14_at (i : Fin 4096) (j : Fin 1024) : val_main_v14 (F := Ideal) x2 (ix2 i j) = rr (hrow x2 i) := by
  rw [val_main_v14_apply, ← v10_at x2 i 0]
  exact congrArg (val_main_v10 (F := Ideal) x2) (funext fun e => Fin.ext (by match e with | ⟨0, _⟩ => rfl | ⟨1, _⟩ => rfl))

/-- The scaled cotangent. -/
def tt (i : Fin 4096) (k : Fin 1024) : EReal := dn x0 x1 i k * x3 (ix2 0 k)

theorem v25_at (i : Fin 4096) (k : Fin 1024) : val_main_v25 (F := Ideal) x0 x1 x3 (ix2 i k) = tt x0 x1 x3 i k := by
  unfold tt
  rw [← v20_at, val_main_v25_apply, val_main_v24_apply,
    show idx_main_v24 (ix2 i k) = (ix2 0 k : S1x1024.Idx) from funext fun e => Fin.ext (by match e with | ⟨0, _⟩ => rfl | ⟨1, _⟩ => rfl)]
  rfl

theorem v33_at (i : Fin 4096) (u : Fin 1) :
    val_main_v33 (F := Ideal) x0 x1 x2 x3 (ix2 i u) = corr (hrow x2 i) (tt x0 x1 x3 i) := by
  have h27 : val_main_v27 (F := Ideal) x0 x1 x2 x3 (ix1 i) = ∑ k : Fin 1024, hrow x2 i k * tt x0 x1 x3 i k := by
    rw [val_main_v27_apply, val_main_cst_4_apply]
    rw [show (FloatOps.ofBits .f32 0x00000000#32 : Ideal .f32) = (0 : EReal) from Ideal.ofBits_zero _]
    refine (zero_add _).trans (Finset.sum_congr rfl fun k _ => ?_)
    rw [show idx_main_v27 (ix1 i) k = (ix2 i k : S4096x1024.Idx) from funext fun e => Fin.ext (by match e with | ⟨0, _⟩ => rfl | ⟨1, _⟩ => rfl),
      val_main_v26_apply, v25_at]
    rfl
  have h28 : val_main_v28 (F := Ideal) x0 x1 x2 x3 (ix2 i u) = ∑ k : Fin 1024, hrow x2 i k * tt x0 x1 x3 i k := by
    rw [← h27, val_main_v28_apply]
    exact congrArg (val_main_v27 (F := Ideal) x0 x1 x2 x3) (funext fun e => Fin.ext (by match e with | ⟨0, _⟩ => show i.val * 1 + u.val = i.val; omega))
  unfold corr
  rw [← h28, ← v9_at x2 i u, ← v10_at x2 i u]
  rfl

theorem v35_at (i : Fin 4096) (j : Fin 1024) :
    val_main_v35 (F := Ideal) x0 x1 x2 x3 (ix2 i j) = corr (hrow x2 i) (tt x0 x1 x3 i) := by
  rw [val_main_v35_apply, val_main_v34_apply, Fin.sum_univ_one, val_main_cst_6_apply]
  rw [show (FloatOps.ofBits .f32 0x00000000#32 : Ideal .f32) = (0 : EReal) from Ideal.ofBits_zero _]
  refine (zero_add _).trans ?_
  rw [← v33_at x0 x1 x2 x3 i 0]
  exact congrArg (val_main_v33 (F := Ideal) x0 x1 x2 x3) (funext fun e => Fin.ext (by match e with | ⟨0, _⟩ => rfl | ⟨1, _⟩ => rfl))

/-- The gradient of the block's input: what came in beside it plus the norm's gradient. -/
theorem dh_at (x4 : Vec Ideal S4096x1024 .f32) (i : Fin 4096) (j : Fin 1024) :
    val_main_v40 (F := Ideal) x0 x1 x2 x3 x4 (ix2 i j) = x4 (ix2 i j) + rmsGrad (hrow x2 i) (tt x0 x1 x3 i) j := by
  have h29 : val_main_v29 (F := Ideal) x2 (ix2 i j) = rr (hrow x2 i) := v14_at x2 i j
  rw [← rmsGrad_eq, ← v35_at x0 x1 x2 x3 i j, ← h29, ← v25_at]
  rfl

/-- The gradient of the gain: the normalized row against the cotangent, summed over the rows. -/
theorem dg_at (j : Fin 1024) :
    val_main_v23 (F := Ideal) x0 x1 x2 (ix2 0 j) = ∑ i : Fin 4096, dn x0 x1 i j * (x2 (ix2 i j) * rr (hrow x2 i)) := by
  rw [val_main_v23_apply, val_main_v22_apply, val_main_cst_3_apply]
  rw [show (FloatOps.ofBits .f32 0x00000000#32 : Ideal .f32) = (0 : EReal) from Ideal.ofBits_zero _]
  refine (zero_add _).trans (Finset.sum_congr rfl fun i _ => ?_)
  rw [show idx_main_v22 (idx_main_v23 (ix2 0 j)) i = (ix2 i j : S4096x1024.Idx) from
    funext fun e => Fin.ext (by match e with | ⟨0, _⟩ => rfl | ⟨1, _⟩ => show 0 * 1024 + j.val = j.val; omega)]
  rw [mul_comm, ← v20_at, ← v14_at x2 i j]
  rfl

end Cert.ReferenceUpIdeal.Val

end
-- ==== Proof.WupKernel.lean ====
module

public import proofs.«01_k».proof.Proof.Gen.KernelWupIdeal.Value
public import proofs.«01_k».proof.Proof.Gen.ReferenceWupIdeal.Read
public import Idealize.ShloMosaic.Lib.Pointwise

@[expose] public section

set_option maxRecDepth 16384

noncomputable section

namespace Cert.KernelWupIdeal.Val

open Cert.KernelWupIdeal Cert.KernelWupIdeal.Gen Cert.KernelWupIdeal.Value Idealize.ShloMosaic Idealize.ShloMosaic.TcCoe Idealize.SL.Sem

theorem pay2_at (acc : Vec Ideal S1024x1536 .f32) (x : Vec Ideal S2048x1024 .bf16) (y : Vec Ideal S2048x1536 .bf16)
    (a : Fin 1024) (b : Fin 1536) :
    k0_pay2 (F := Ideal) acc x y (ix2 a b) = acc (ix2 a b) + ∑ k : Fin 2048, x (ix2 k a) * y (ix2 k b) := by
  pointwise [k0_pay2]

theorem pay1_at (j : S1024x1536.Idx) : k0_pay1 (F := Ideal) j = 0 := by
  pointwise [k0_pay1]

theorem pay3_at (v : Vec Ideal S1024x1536 .f32) (a : Fin 1024) (b : Fin 1536) :
    k0_pay3 (F := Ideal) v (ix3 0 a b) = v (ix2 a b) := by
  pointwise [k0_pay3]

theorem z2 : (![0, 0] : Fin 2 → ℕ) = fun _ => 0 := funext fun a => by fin_cases a <;> rfl
theorem z3 : (![0, 0, 0] : Fin 3 → ℕ) = fun _ => 0 := funext fun a => by fin_cases a <;> rfl

theorem sout_A (c : Dev nD) (i : grid0.Coords) (arg3 : Memref sig .tc .vmem S2048x1024 .bf16) (harg3 : arg3.IsWhole) (arg4 : Memref sig .tc .vmem S2048x1536 .bf16) (harg4 : arg4.IsWhole) (arg5 : Memref sig .tc .vmem S1x1024x1536 .bf16) (harg5 : arg5.IsWhole) (arg6 : Memref sig .tc .vmem S1024x1536 .f32) (harg6 : arg6.IsWhole) (hc0 : cond0_0 i) (hc1 : ¬cond0_1 i)
    (x0 : Vec Ideal S2048x1024 .bf16) (x1 : Vec Ideal S2048x1536 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero z2]
  simp only [View.readAt_eq_ld, Memref.IsWhole.read_unread, View.ld_unit_zero (S := S2048x1024) z2,
    View.ld_unit_zero (S := S2048x1536) z2, View.readCov_cons_toLoadRect]

theorem out_B (c : Dev nD) (i : grid0.Coords) (arg3 : Memref sig .tc .vmem S2048x1024 .bf16) (harg3 : arg3.IsWhole) (arg4 : Memref sig .tc .vmem S2048x1536 .bf16) (harg4 : arg4.IsWhole) (arg5 : Memref sig .tc .vmem S1x1024x1536 .bf16) (harg5 : arg5.IsWhole) (arg6 : Memref sig .tc .vmem S1024x1536 .f32) (harg6 : arg6.IsWhole) (hc0 : ¬cond0_0 i) (hc1 : cond0_1 i)
    (x0 : Vec Ideal S2048x1024 .bf16) (x1 : Vec Ideal S2048x1536 .bf16) (xs0 : Vec Ideal S1024x1536 .f32) :
    out0_B_2 c i arg3 harg3 arg4 harg4 arg5 harg5 arg6 harg6 hc0 hc1 x0 x1 xs0 = k0_pay3 (F := Ideal) (k0_pay2 (F := Ideal) xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero z3]
  simp only [View.readAt_eq_ld, Memref.IsWhole.read_unread, View.ld_unit_zero (S := S2048x1024) z2,
    View.ld_unit_zero (S := S2048x1536) z2, View.ld_unit_zero (S := S1024x1536) z2, View.readCov_cons_toLoadRect]

variable (m : (ℓ : Loc nD τ sig) → Buf (Elt Ideal) ℓ) (ρ : Dev nD → PrngReg)

/-- The activations and the cotangent of the product, as device `c` holds them. -/
abbrev xn (c : Dev nD) : Vec Ideal S4096x1024 .bf16 := m ((c : Thread nD τ).loc main_arg0)
abbrev dz (c : Dev nD) : Vec Ideal S4096x6144 .bf16 := m ((c : Thread nD τ).loc main_arg1)

/-- Point `t`'s tiles of the two, at their shapes. -/
abbrev tx (c : Dev nD) (t : Fin cfg0.N) : Vec Ideal S2048x1024 .bf16 := iblk m c 0 t
abbrev td (c : Dev nD) (t : Fin cfg0.N) : Vec Ideal S2048x1536 .bf16 := iblk m c 1 t

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = t.val / 2 :=
  (by decide +kernel : ∀ t : Fin grid0.N, _)

/-- Point `t`'s tile of the activations: rows `2048·(t mod 2) …`. -/
theorem blk0 (c : Dev nD) (t : Fin cfg0.N) (k : Fin 2048) (a : Fin 1024) :
    tx m c t (ix2 k a) = xn m c (ix2 ⟨t.val % 2 * 2048 + k.val, by omega⟩ a) := by
  unfold tx iblk
  refine congrArg (xn m c) (funext fun d => Fin.ext ?_)
  obtain ⟨e0, e1⟩ := idx0 t
  match d with
  | ⟨0, _⟩ => show win0_0.index t (0 : Fin 2) * 2048 + 1 * k.val = t.val % 2 * 2048 + k.val; omega
  | ⟨1, _⟩ => show win0_0.index t (1 : Fin 2) * 1024 + 1 * a.val = a.val; omega

/-- Point `t`'s tile of the cotangent: rows `2048·(t mod 2) …` of shard `t / 2`. -/
theorem blk1 (c : Dev nD) (t : Fin cfg0.N) (k : Fin 2048) (b : Fin 1536) :
    td m c t (ix2 k b)
      = dz m c (ix2 ⟨t.val % 2 * 2048 + k.val, by omega⟩ ⟨t.val / 2 * 1536 + b.val, by have := lt_of_lt_of_eq t.isLt (show cfg0.N = 8 from N_0); omega⟩) := by
  unfold td iblk
  refine congrArg (dz m c) (funext fun d => Fin.ext ?_)
  obtain ⟨e0, e1⟩ := idx1 t
  match d with
  | ⟨0, _⟩ => show win0_1.index t (0 : Fin 2) * 2048 + 1 * k.val = t.val % 2 * 2048 + k.val; omega
  | ⟨1, _⟩ => show win0_1.index t (1 : Fin 2) * 1536 + 1 * b.val = t.val / 2 * 1536 + b.val; omega

/-- The weight gradient at shard `s`, row `a`, column `b`: the sum over all the rows of the activations. -/
def grad (c : Dev nD) (s : Fin 4) (a : Fin 1024) (b : Fin 1536) : EReal :=
  ∑ k : Fin 4096, xn m c (ix2 k a) * dz m c (ix2 k ⟨s.val * 1536 + b.val, by omega⟩)

/-- What the second of a shard's two points leaves in the output's buffer is the shard's gradient. -/
theorem outs_at (c : Dev nD) (s : Fin 4) (hn : 2 * s.val + 1 < cfg0.N) (a : Fin 1024) (b : Fin 1536) :
    (outsAt0 m c (2 * s.val + 1) hn).1 (ix3 0 a b) = grad m c s a b := by
  have hn' : 2 * s.val < cfg0.N := by omega
  rw [outsAt0_B m c ⟨2 * s.val + 1, hn⟩ (by dsimp only; omega) (by dsimp only; omega)]
  dsimp only
  rw [out_B, pay3_at, pay2_at]
  have eA := outsAt0_A m c ⟨2 * s.val, hn'⟩ (by dsimp only; omega) (by dsimp only; omega)
  have eA2 : (outsAt0 m c (2 * s.val + 1 - 1) (by omega)).2 (ix2 a b)
      = ∑ k : Fin 2048, xn m c (ix2 ⟨k.val, by omega⟩ a) * dz m c (ix2 ⟨k.val, by omega⟩ ⟨s.val * 1536 + b.val, by omega⟩) := by
    refine (congrFun (congrArg Prod.snd eA) (ix2 a b)).trans ?_
    dsimp only
    rw [sout_A, pay2_at, pay1_at, zero_add]
    refine Finset.sum_congr rfl fun k _ => ?_
    show tx m c ⟨2 * s.val, hn'⟩ (ix2 k a) * td m c ⟨2 * s.val, hn'⟩ (ix2 k b) = _
    rw [blk0, blk1]
    congr 2 <;> congr 1 <;> apply Fin.ext <;> dsimp only <;> omega
  have eB : ∑ k : Fin 2048, tx m c ⟨2 * s.val + 1, hn⟩ (ix2 k a)
        * td m c ⟨2 * s.val + 1, hn⟩ (ix2 k b)
      = ∑ k : Fin 2048, xn m c (ix2 ⟨2048 + k.val, by omega⟩ a) * dz m c (ix2 ⟨2048 + k.val, by omega⟩ ⟨s.val * 1536 + b.val, by omega⟩) := by
    refine Finset.sum_congr rfl fun k _ => ?_
    rw [blk0, blk1]
    congr 2 <;> congr 1 <;> apply Fin.ext <;> dsimp only <;> omega
  rw [grad, Fin.sum_univ_two_halves 2048 2048 (show 2048 + 2048 = 4096 from rfl)]
  exact congrArg₂ (fun x y : EReal => x + y) eA2 eB

/-- The output array after the run, at an index. -/
theorem G2_at (c : Dev nD) (s : Fin 4) (a : Fin 1024) (b : Fin 1536) :
    G2 m c (ix3 s a b) = grad m c s a b := by
  have hn : 2 * s.val + 1 < cfg0.N := by rw [show cfg0.N = 8 from N_0]; omega
  have hp : pt2Of (ix3 s a b) = 2 * s.val + 1 := by
    show 2 * (1 * (s.val / 1 - 0) + 1 * (a.val / 1024 - 0) + 1 * (b.val / 1536 - 0)) + 1 = _
    omega
  have hl : loc2Of (ix3 s a b) = ix3 0 a b := by
    funext d; apply Fin.ext
    match d with
    | ⟨0, _⟩ => show s.val % 1 = 0; omega
    | ⟨1, _⟩ => show a.val % 1024 = a.val; omega
    | ⟨2, _⟩ => show b.val % 1536 = b.val; omega
  rw [← outs_at m c s hn a b, outsAt0_sweep]
  unfold G2
  rw [dif_pos (by rw [hp]; exact hn), hl, fold0_congr m c _ _ _ _ hp]

end Cert.KernelWupIdeal.Val

namespace Cert.ReferenceWupIdeal.Val

open Cert.ReferenceWupIdeal Cert.ReferenceWupIdeal.Gen Cert.ReferenceWupIdeal.Read Idealize.ShloMosaic

/-- The reference's result at an index: the same sum. -/
theorem res_at (x : Vec Ideal S4096x1024 .bf16) (d : Vec Ideal S4096x6144 .bf16) (s : Fin 4) (a : Fin 1024) (b : Fin 1536) :
    val_main_v8 (F := Ideal) x d (ix3 s a b)
      = ∑ k : Fin 4096, x (ix2 k a) * d (ix2 k ⟨s.val * 1536 + b.val, by omega⟩) := by
  rw [val_main_v8_apply, val_main_v7_apply, val_main_v6_apply, val_main_v5_apply]
  show val_main_v4 (F := Ideal) x d _ = _
  rw [val_main_v4_apply]
  refine Finset.sum_congr rfl fun k _ => ?_
  rw [mul_comm]
  refine congrArg₂ (· * ·) (congrArg x (funext fun e => Fin.ext ?_)) (congrArg d (funext fun e => Fin.ext ?_))
  · match e with
    | ⟨0, _⟩ => rfl
    | ⟨1, _⟩ => show ((a.val * 4 + s.val) * 1536 + b.val) / 6144 = a.val; omega
  · match e with
    | ⟨0, _⟩ => rfl
    | ⟨1, _⟩ => show ((a.val * 4 + s.val) * 1536 + b.val) % 6144 = s.val * 1536 + b.val; omega

end Cert.ReferenceWupIdeal.Val

end
-- ==== Proof.WdownKernel.lean ====
module

public import proofs.«01_k».proof.Proof.Gen.KernelWdownIdeal.Value
public import proofs.«01_k».proof.Proof.Gen.ReferenceWdownIdeal.Read
public import Idealize.ShloMosaic.Lib.Pointwise

@[expose] public section

set_option maxRecDepth 16384

noncomputable section

namespace Cert.KernelWdownIdeal.Val

open Cert.KernelWdownIdeal Cert.KernelWdownIdeal.Gen Cert.KernelWdownIdeal.Value Idealize.ShloMosaic Idealize.ShloMosaic.TcCoe Idealize.SL.Sem

theorem pay2_at (acc : Vec Ideal S768x1024 .f32) (x : Vec Ideal S2048x768 .bf16) (y : Vec Ideal S2048x1024 .bf16)
    (a : Fin 768) (b : Fin 1024) :
    k0_pay2 (F := Ideal) acc x y (ix2 a b) = acc (ix2 a b) + ∑ k : Fin 2048, x (ix2 k a) * y (ix2 k b) := by
  pointwise [k0_pay2]

theorem pay1_at (j : S768x1024.Idx) : k0_pay1 (F := Ideal) j = 0 := by
  pointwise [k0_pay1]

theorem pay3_at (v : Vec Ideal S768x1024 .f32) (a : Fin 768) (b : Fin 1024) :
    k0_pay3 (F := Ideal) v (ix3 0 a b) = v (ix2 a b) := by
  pointwise [k0_pay3]

theorem z2 : (![0, 0] : Fin 2 → ℕ) = fun _ => 0 := funext fun a => by fin_cases a <;> rfl
theorem z3 : (![0, 0, 0] : Fin 3 → ℕ) = fun _ => 0 := funext fun a => by fin_cases a <;> rfl

theorem sout_A (c : Dev nD) (i : grid0.Coords) (arg3 : Memref sig .tc .vmem S2048x768 .bf16) (harg3 : arg3.IsWhole) (arg4 : Memref sig .tc .vmem S2048x1024 .bf16) (harg4 : arg4.IsWhole) (arg5 : Memref sig .tc .vmem S1x768x1024 .bf16) (harg5 : arg5.IsWhole) (arg6 : Memref sig .tc .vmem S768x1024 .f32) (harg6 : arg6.IsWhole) (hc0 : cond0_0 i) (hc1 : ¬cond0_1 i)
    (x0 : Vec Ideal S2048x768 .bf16) (x1 : Vec Ideal S2048x1024 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero z2]
  simp only [View.readAt_eq_ld, Memref.IsWhole.read_unread, View.ld_unit_zero (S := S2048x768) z2,
    View.ld_unit_zero (S := S2048x1024) z2, View.readCov_cons_toLoadRect]

theorem out_B (c : Dev nD) (i : grid0.Coords) (arg3 : Memref sig .tc .vmem S2048x768 .bf16) (harg3 : arg3.IsWhole) (arg4 : Memref sig .tc .vmem S2048x1024 .bf16) (harg4 : arg4.IsWhole) (arg5 : Memref sig .tc .vmem S1x768x1024 .bf16) (harg5 : arg5.IsWhole) (arg6 : Memref sig .tc .vmem S768x1024 .f32) (harg6 : arg6.IsWhole) (hc0 : ¬cond0_0 i) (hc1 : cond0_1 i)
    (x0 : Vec Ideal S2048x768 .bf16) (x1 : Vec Ideal S2048x1024 .bf16) (xs0 : Vec Ideal S768x1024 .f32) :
    out0_B_2 c i arg3 harg3 arg4 harg4 arg5 harg5 arg6 harg6 hc0 hc1 x0 x1 xs0 = k0_pay3 (F := Ideal) (k0_pay2 (F := Ideal) xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero z3]
  simp only [View.readAt_eq_ld, Memref.IsWhole.read_unread, View.ld_unit_zero (S := S2048x768) z2,
    View.ld_unit_zero (S := S2048x1024) z2, View.ld_unit_zero (S := S768x1024) z2, View.readCov_cons_toLoadRect]

variable (m : (ℓ : Loc nD τ sig) → Buf (Elt Ideal) ℓ) (ρ : Dev nD → PrngReg)

/-- The activations and the cotangent of the product, as device `c` holds them. -/
abbrev act (c : Dev nD) : Vec Ideal S4096x3072 .bf16 := m ((c : Thread nD τ).loc main_arg0)
abbrev df (c : Dev nD) : Vec Ideal S4096x1024 .bf16 := m ((c : Thread nD τ).loc main_arg1)

/-- Point `t`'s tiles of the two, at their shapes. -/
abbrev tx (c : Dev nD) (t : Fin cfg0.N) : Vec Ideal S2048x768 .bf16 := iblk m c 0 t
abbrev td (c : Dev nD) (t : Fin cfg0.N) : Vec Ideal S2048x1024 .bf16 := iblk m c 1 t

theorem idx0 : ∀ t : Fin cfg0.N, win0_0.index t (0 : Fin 2) = t.val % 2 ∧ win0_0.index t (1 : Fin 2) = t.val / 2 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)

/-- Point `t`'s tile of the activations: rows `2048·(t mod 2) …` of shard `t / 2`. -/
theorem blk0 (c : Dev nD) (t : Fin cfg0.N) (k : Fin 2048) (a : Fin 768) :
    tx m c t (ix2 k a) = act m c (ix2 ⟨t.val % 2 * 2048 + k.val, by omega⟩ ⟨t.val / 2 * 768 + a.val, by have := lt_of_lt_of_eq t.isLt (show cfg0.N = 8 from N_0); omega⟩) := by
  unfold tx iblk
  refine congrArg (act m c) (funext fun d => Fin.ext ?_)
  obtain ⟨e0, e1⟩ := idx0 t
  match d with
  | ⟨0, _⟩ => show win0_0.index t (0 : Fin 2) * 2048 + 1 * k.val = t.val % 2 * 2048 + k.val; omega
  | ⟨1, _⟩ => show win0_0.index t (1 : Fin 2) * 768 + 1 * a.val = t.val / 2 * 768 + a.val; omega

/-- Point `t`'s tile of the cotangent: rows `2048·(t mod 2) …`. -/
theorem blk1 (c : Dev nD) (t : Fin cfg0.N) (k : Fin 2048) (b : Fin 1024) :
    td m c t (ix2 k b)
      = df m c (ix2 ⟨t.val % 2 * 2048 + k.val, by omega⟩ b) := by
  unfold td iblk
  refine congrArg (df m c) (funext fun d => Fin.ext ?_)
  obtain ⟨e0, e1⟩ := idx1 t
  match d with
  | ⟨0, _⟩ => show win0_1.index t (0 : Fin 2) * 2048 + 1 * k.val = t.val % 2 * 2048 + k.val; omega
  | ⟨1, _⟩ => show win0_1.index t (1 : Fin 2) * 1024 + 1 * b.val = b.val; omega

/-- The weight gradient at shard `s`, row `a`, column `b`: the sum over all the rows of the activations. -/
def grad (c : Dev nD) (s : Fin 4) (a : Fin 768) (b : Fin 1024) : EReal :=
  ∑ k : Fin 4096, act m c (ix2 k ⟨s.val * 768 + a.val, by omega⟩) * df m c (ix2 k b)

/-- What the second of a shard's two points leaves in the output's buffer is the shard's gradient. -/
theorem outs_at (c : Dev nD) (s : Fin 4) (hn : 2 * s.val + 1 < cfg0.N) (a : Fin 768) (b : Fin 1024) :
    (outsAt0 m c (2 * s.val + 1) hn).1 (ix3 0 a b) = grad m c s a b := by
  have hn' : 2 * s.val < cfg0.N := by omega
  rw [outsAt0_B m c ⟨2 * s.val + 1, hn⟩ (by dsimp only; omega) (by dsimp only; omega)]
  dsimp only
  rw [out_B, pay3_at, pay2_at]
  have eA := outsAt0_A m c ⟨2 * s.val, hn'⟩ (by dsimp only; omega) (by dsimp only; omega)
  have eA2 : (outsAt0 m c (2 * s.val + 1 - 1) (by omega)).2 (ix2 a b)
      = ∑ k : Fin 2048, act m c (ix2 ⟨k.val, by omega⟩ ⟨s.val * 768 + a.val, by omega⟩) * df m c (ix2 ⟨k.val, by omega⟩ b) := by
    refine (congrFun (congrArg Prod.snd eA) (ix2 a b)).trans ?_
    dsimp only
    rw [sout_A, pay2_at, pay1_at, zero_add]
    refine Finset.sum_congr rfl fun k _ => ?_
    show tx m c ⟨2 * s.val, hn'⟩ (ix2 k a) * td m c ⟨2 * s.val, hn'⟩ (ix2 k b) = _
    rw [blk0, blk1]
    congr 2 <;> congr 1 <;> apply Fin.ext <;> dsimp only <;> omega
  have eB : ∑ k : Fin 2048, tx m c ⟨2 * s.val + 1, hn⟩ (ix2 k a)
        * td m c ⟨2 * s.val + 1, hn⟩ (ix2 k b)
      = ∑ k : Fin 2048, act m c (ix2 ⟨2048 + k.val, by omega⟩ ⟨s.val * 768 + a.val, by omega⟩) * df m c (ix2 ⟨2048 + k.val, by omega⟩ b) := by
    refine Finset.sum_congr rfl fun k _ => ?_
    rw [blk0, blk1]
    congr 2 <;> congr 1 <;> apply Fin.ext <;> dsimp only <;> omega
  rw [grad, Fin.sum_univ_two_halves 2048 2048 (show 2048 + 2048 = 4096 from rfl)]
  exact congrArg₂ (fun x y : EReal => x + y) eA2 eB

/-- The output array after the run, at an index. -/
theorem G2_at (c : Dev nD) (s : Fin 4) (a : Fin 768) (b : Fin 1024) :
    G2 m c (ix3 s a b) = grad m c s a b := by
  have hn : 2 * s.val + 1 < cfg0.N := by rw [show cfg0.N = 8 from N_0]; omega
  have hp : pt2Of (ix3 s a b) = 2 * s.val + 1 := by
    show 2 * (1 * (s.val / 1 - 0) + 1 * (a.val / 768 - 0) + 1 * (b.val / 1024 - 0)) + 1 = _
    omega
  have hl : loc2Of (ix3 s a b) = ix3 0 a b := by
    funext d; apply Fin.ext
    match d with
    | ⟨0, _⟩ => show s.val % 1 = 0; omega
    | ⟨1, _⟩ => show a.val % 768 = a.val; omega
    | ⟨2, _⟩ => show b.val % 1024 = b.val; omega
  rw [← outs_at m c s hn a b, outsAt0_sweep]
  unfold G2
  rw [dif_pos (by rw [hp]; exact hn), hl, fold0_congr m c _ _ _ _ hp]

end Cert.KernelWdownIdeal.Val

namespace Cert.ReferenceWdownIdeal.Val

open Cert.ReferenceWdownIdeal Cert.ReferenceWdownIdeal.Gen Cert.ReferenceWdownIdeal.Read Idealize.ShloMosaic

/-- The reference's result at an index: the same sum. -/
theorem res_at (x : Vec Ideal S4096x3072 .bf16) (d : Vec Ideal S4096x1024 .bf16) (s : Fin 4) (a : Fin 768) (b : Fin 1024) :
    val_main_v7 (F := Ideal) x d (ix3 s a b)
      = ∑ k : Fin 4096, x (ix2 k ⟨s.val * 768 + a.val, by omega⟩) * d (ix2 k b) := by
  rw [val_main_v7_apply, val_main_v6_apply, val_main_v5_apply]
  show val_main_v4 (F := Ideal) x d _ = _
  rw [val_main_v4_apply]
  refine Finset.sum_congr rfl fun k _ => ?_
  rw [mul_comm]
  refine congrArg₂ (· * ·) (congrArg x (funext fun e => Fin.ext ?_)) (congrArg d (funext fun e => Fin.ext ?_))
  · match e with
    | ⟨0, _⟩ => rfl
    | ⟨1, _⟩ => show ((s.val * 768 + a.val) * 1024 + b.val) / 1024 = s.val * 768 + a.val; omega
  · match e with
    | ⟨0, _⟩ => rfl
    | ⟨1, _⟩ => show ((s.val * 768 + a.val) * 1024 + b.val) % 1024 = b.val; omega

end Cert.ReferenceWdownIdeal.Val

end
-- ==== Proof.FfnClaims.lean ====
/- The frames of the three references, and the value claims of the norm's gradient before the gate and up products (`Up`)
   and of the two weight gradients (`Wup`, `Wdown`): the two runs end in the same arrays, index by index. -/
module

public import proofs.«01_k».proof.Defs
public import proofs.«01_k».proof.Proof.UpKernel
public import proofs.«01_k».proof.Proof.UpReference
public import proofs.«01_k».proof.Proof.WupKernel
public import proofs.«01_k».proof.Proof.WdownKernel
public import Idealize.ShloMosaic.Adequacy
public import Idealize.ShloMosaic.Init

@[expose] public section

set_option maxRecDepth 16384

noncomputable section

namespace Cert.FfnClaims

open Idealize.ShloMosaic Idealize.ShloMosaic.TcCoe Idealize.SL.Sem

/-! ### The references' frames: host programs, no semaphore declared -/

theorem frame_referenceUp : Cert.quiescent_ReferenceUpIdeal := fun m ρ _ =>
  (θ_run Cert.ReferenceUpIdeal.defs _ _).mono (fun r h => ⟨fun c => (h c).2.2, sem_eq_zero_of_no_sems (by decide) r.2⟩)
    (Cert.ReferenceUpIdeal.Value.run (F := Ideal) m ρ)

theorem frame_referenceWup : Cert.quiescent_ReferenceWupIdeal := fun m ρ _ =>
  (θ_run Cert.ReferenceWupIdeal.defs _ _).mono (fun r h => ⟨fun c => (h c).2, sem_eq_zero_of_no_sems (by decide) r.2⟩)
    (Cert.ReferenceWupIdeal.Value.run (F := Ideal) m ρ)

theorem frame_referenceWdown : Cert.quiescent_ReferenceWdownIdeal := fun m ρ _ =>
  (θ_run Cert.ReferenceWdownIdeal.defs _ _).mono (fun r h => ⟨fun c => (h c).2, sem_eq_zero_of_no_sems (by decide) r.2⟩)
    (Cert.ReferenceWdownIdeal.Value.run (F := Ideal) m ρ)

/-! ### Equal results -/

section Up

open Cert.KernelUpIdeal

theorem up_dh (m : (ℓ : Loc nD τ sig) → Buf (Elt Ideal) ℓ) (c : Dev nD) :
    Cert.ReferenceUpIdeal.Read.val_main_v40 (F := Ideal) (Val.a0 m c) (Val.a1 m c) (Val.a2 m c) (Val.a3 m c) (Val.a4 m c)
      = ((Gen.dats m 0 c).arrAt 5 cfg0.N : Vec Ideal S4096x1024 .f32) := by
  funext i
  obtain ⟨r, j, rfl⟩ : ∃ (r : Fin 4096) (j : Fin 1024), i = ix2 r j := ⟨i 0, i 1, eq_ix2 i⟩
  exact (Cert.ReferenceUpIdeal.Val.dh_at _ _ _ _ _ r j).trans (Val.dh_at m c r j).symm

theorem up_dg (m : (ℓ : Loc nD τ sig) → Buf (Elt Ideal) ℓ) (c : Dev nD) :
    Cert.ReferenceUpIdeal.Read.val_main_v23 (F := Ideal) (Val.a0 m c) (Val.a1 m c) (Val.a2 m c)
      = ((Gen.dats m 0 c).arrAt 6 cfg0.N : Vec Ideal S1x1024 .f32) := by
  funext i
  obtain ⟨r, j, rfl⟩ : ∃ (r : Fin 1) (j : Fin 1024), i = ix2 r j := ⟨i 0, i 1, eq_ix2 i⟩
  obtain rfl : r = 0 := Subsingleton.elim _ _
  exact (Cert.ReferenceUpIdeal.Val.dg_at _ _ _ j).trans (Val.dg_at m c j).symm

end Up

theorem value_up : Cert.algebraic_KernelUpIdeal_ReferenceUpIdeal := by
  intro m g m' g' _ agree
  refine ⟨fun c => (Cert.KernelUpIdeal.Gen.dats m 0 c).arrAt 5 Cert.KernelUpIdeal.cfg0.N,
    fun c => (Cert.KernelUpIdeal.Gen.dats m 0 c).arrAt 6 Cert.KernelUpIdeal.cfg0.N,
    Cert.KernelUpIdeal.Value.run_blocks (F := Ideal) m g,
    (θ_run Cert.ReferenceUpIdeal.defs _ _).mono (fun r h c => ⟨?_, ?_, (h c).2.2⟩) (Cert.ReferenceUpIdeal.Value.run (F := Ideal) m' g')⟩
  · obtain ⟨e0, e1, e2, e3, e4⟩ := agree c
    refine ((h c).1.trans (Cert.ReferenceUpIdeal.Read.val_main_v40_eq (F := Ideal) m' c)).trans ?_
    rw [e0, e1, e2, e3, e4]
    exact up_dh m c
  · obtain ⟨e0, e1, e2, -, -⟩ := agree c
    refine ((h c).2.1.trans (Cert.ReferenceUpIdeal.Read.val_main_v23_eq (F := Ideal) _ _ _)).trans ?_
    rw [e0, e1, e2]
    exact up_dg m c

theorem wup (m : (ℓ : Loc Cert.KernelWupIdeal.nD Cert.KernelWupIdeal.τ Cert.KernelWupIdeal.sig) → Buf (Elt Ideal) ℓ)
    (c : Dev Cert.KernelWupIdeal.nD) :
    Cert.ReferenceWupIdeal.Read.val_main_v8 (F := Ideal) (Cert.KernelWupIdeal.Val.xn m c) (Cert.KernelWupIdeal.Val.dz m c)
      = Cert.KernelWupIdeal.Value.G2 m c := by
  funext i
  obtain ⟨s, a, b, rfl⟩ : ∃ (s : Fin 4) (a : Fin 1024) (b : Fin 1536), i = ix3 s a b := ⟨i 0, i 1, i 2, eq_ix3 i⟩
  exact (Cert.ReferenceWupIdeal.Val.res_at _ _ s a b).trans (Cert.KernelWupIdeal.Val.G2_at m c s a b).symm

theorem value_wup : Cert.algebraic_KernelWupIdeal_ReferenceWupIdeal := by
  intro m g m' g' _ agree
  refine ⟨Cert.KernelWupIdeal.Value.G2 m, Cert.KernelWupIdeal.Value.run (F := Ideal) m g,
    (θ_run Cert.ReferenceWupIdeal.defs _ _).mono (fun r h c => ⟨?_, (h c).2⟩) (Cert.ReferenceWupIdeal.Value.run (F := Ideal) m' g')⟩
  obtain ⟨e0, e1⟩ := agree c
  refine ((h c).1.trans (Cert.ReferenceWupIdeal.Read.val_main_v8_eq (F := Ideal) _ _)).trans ?_
  rw [e0, e1]
  exact wup m c

theorem wdown (m : (ℓ : Loc Cert.KernelWdownIdeal.nD Cert.KernelWdownIdeal.τ Cert.KernelWdownIdeal.sig) → Buf (Elt Ideal) ℓ)
    (c : Dev Cert.KernelWdownIdeal.nD) :
    Cert.ReferenceWdownIdeal.Read.val_main_v7 (F := Ideal) (Cert.KernelWdownIdeal.Val.act m c) (Cert.KernelWdownIdeal.Val.df m c)
      = Cert.KernelWdownIdeal.Value.G2 m c := by
  funext i
  obtain ⟨s, a, b, rfl⟩ : ∃ (s : Fin 4) (a : Fin 768) (b : Fin 1024), i = ix3 s a b := ⟨i 0, i 1, i 2, eq_ix3 i⟩
  exact (Cert.ReferenceWdownIdeal.Val.res_at _ _ s a b).trans (Cert.KernelWdownIdeal.Val.G2_at m c s a b).symm

theorem value_wdown : Cert.algebraic_KernelWdownIdeal_ReferenceWdownIdeal := by
  intro m g m' g' _ agree
  refine ⟨Cert.KernelWdownIdeal.Value.G2 m, Cert.KernelWdownIdeal.Value.run (F := Ideal) m g,
    (θ_run Cert.ReferenceWdownIdeal.defs _ _).mono (fun r h c => ⟨?_, (h c).2⟩) (Cert.ReferenceWdownIdeal.Value.run (F := Ideal) m' g')⟩
  obtain ⟨e0, e1⟩ := agree c
  refine ((h c).1.trans (Cert.ReferenceWdownIdeal.Read.val_main_v7_eq (F := Ideal) _ _)).trans ?_
  rw [e0, e1]
  exact wdown m c

end Cert.FfnClaims

end
-- ==== Proof.Reals.lean ====
/- Values that are real numbers: sums, products and the norm's gradient keep to them, and on them the two forms of the
   logistic function and of the gate's gradient agree. -/
module

public import proofs.«01_k».proof.Proof.Rms
public import Mathlib.Analysis.Complex.Trigonometric

@[expose] public section

noncomputable section

namespace Cert.Rms

open Idealize.ShloMosaic

/-- A value that is neither infinity. -/
def IsReal (a : EReal) : Prop := ∃ r : ℝ, a = r

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem isReal_kHalf : IsReal kHalf := ⟨_, kHalf_eq⟩

theorem IsReal.div_kN {a : EReal} (ha : IsReal a) : IsReal (Ideal.div a kN) := by
  rw [Rms.div_kN]
  exact ha.mul ⟨_, rfl⟩

/-- A comparison `|a| < ∞` that came out true. -/
theorem isReal_of_abs_lt {a : EReal} (h : Ideal.cmp .olt (max a (-a)) (Ideal.ofBits .f32 0x7F800000#32) = 1#1) : IsReal a := by
  have ht : Ideal.ofBits .f32 0x7F800000#32 = ⊤ := by simp [Ideal.ofBits, Ideal.ieee]
  rw [ht] at h
  induction a with
  | bot => simp [Ideal.cmp] at h
  | top => simp [Ideal.cmp] at h
  | coe r => exact ⟨r, rfl⟩

theorem isReal_of_mul {a b : EReal} (h : IsReal (a * b)) (hb : b ≠ 0) : IsReal a := by
  obtain ⟨r, hr⟩ := h
  have hbs : b < 0 ∨ 0 < b := lt_or_gt_of_ne hb
  induction a with
  | bot =>
    rcases hbs with h0 | h0
    · rw [EReal.bot_mul_of_neg h0] at hr; exact absurd hr (EReal.coe_ne_top r).symm
    · rw [EReal.bot_mul_of_pos h0] at hr; exact absurd hr (EReal.coe_ne_bot r).symm
  | top =>
    rcases hbs with h0 | h0
    · rw [EReal.top_mul_of_neg h0] at hr; exact absurd hr (EReal.coe_ne_bot r).symm
    · rw [EReal.top_mul_of_pos h0] at hr; exact absurd hr (EReal.coe_ne_top r).symm
  | coe a => exact ⟨a, rfl⟩

theorem isReal_of_add {a b : EReal} (h : IsReal (a + b)) : IsReal a ∧ IsReal b := by
  obtain ⟨r, hr⟩ := h
  induction a with
  | bot => rw [EReal.bot_add] at hr; exact absurd hr (EReal.coe_ne_bot r).symm
  | top =>
    induction b with
    | bot => rw [EReal.add_bot] at hr; exact absurd hr (EReal.coe_ne_bot r).symm
    | top => rw [EReal.top_add_top] at hr; exact absurd hr (EReal.coe_ne_top r).symm
    | coe b => rw [EReal.top_add_coe] at hr; exact absurd hr (EReal.coe_ne_top r).symm
  | coe a =>
    refine ⟨⟨a, rfl⟩, ?_⟩
    induction b with
    | bot => rw [EReal.add_bot] at hr; exact absurd hr (EReal.coe_ne_bot r).symm
    | top => rw [EReal.coe_add_top] at hr; exact absurd hr (EReal.coe_ne_top r).symm
    | coe b => exact ⟨b, rfl⟩

/-- The terms of a real sum are real. -/
theorem isReal_of_sum {ι : Type} (s : Finset ι) {f : ι → EReal} (h : IsReal (∑ i ∈ s, f i)) : ∀ i ∈ s, IsReal (f i) := by
  classical
  induction s using Finset.induction_on with
  | empty => intro i hi; exact absurd hi (Finset.notMem_empty i)
  | insert a s ha ih =>
    rw [Finset.sum_insert ha] at h
    obtain ⟨h1, h2⟩ := isReal_of_add h
    intro i hi
    rcases Finset.mem_insert.mp hi with rfl | hi
    · exact h1
    · exact ih h2 i hi

theorem isReal_rr {n : ℕ} (x : Fin n → EReal) : IsReal (rr x) := by
  rcases ms_cases x with h | ⟨y, μ, ρ, hy, hm, hr, hρ, hμ, h1⟩
  · exact ⟨0, rr_top h⟩
  · exact ⟨ρ, hr⟩

theorem isReal_postGrad {n : ℕ} {x t : Fin n → EReal} (hx : ∀ k, IsReal (x k)) (ht : ∀ k, IsReal (t k)) (j : Fin n) :
    IsReal (postGrad x t j) := by
  unfold postGrad
  have hr := isReal_rr x
  exact (hr.mul (ht j)).sub ((hx j).mul (((hr.mul hr).mul hr).mul (IsReal.sum _ fun k => (ht k).mul (hx k)).div_kN))

/-! ### The logistic function -/

/-- `1 / (1 + e^{-x})`. -/
def logi (x : EReal) : EReal := Ideal.div 1 (1 + Ideal.exp (-x))

theorem logi_coe (r : ℝ) : logi r = ((1 / (1 + Real.exp (-r)) : ℝ) : EReal) := by
  unfold logi
  have hp : (0 : ℝ) < 1 + Real.exp (-r) := by positivity
  rw [show (-(r : EReal)) = ((-r : ℝ) : EReal) from rfl, Ideal.exp_coe, show (1 : EReal) + (Real.exp (-r) : EReal) = ((1 + Real.exp (-r) : ℝ) : EReal) from by
    rw [EReal.coe_add]; rfl, Ideal.div_coe hp.ne', one_mul]

/-- Half a hyperbolic tangent of half the argument, raised by a half, is the logistic function. -/
theorem half_tanh (r : ℝ) : kHalf * Ideal.tanh (kHalf * (r : EReal)) + kHalf = logi r := by
  rw [logi_coe, kHalf_eq, ← EReal.coe_mul, Ideal.tanh_coe, ← EReal.coe_mul, ← EReal.coe_add]
  congr 1
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [Real.tanh_eq, h1]
  generalize hb : Real.exp (-(1 / 2 * r)) = b at *
  have hb0 : 0 < b := hb ▸ Real.exp_pos _
  generalize Real.exp (1 / 2 * r) = a at *
  have ha : a = 1 / b := by field_simp; linarith
  subst ha
  have h3 : 0 < 1 + b * b := by positivity
  field_simp
  ring

theorem logi_top : logi ⊤ = 1 := by
  unfold logi
  rw [EReal.neg_top, Ideal.exp_bot, add_zero, show (1 : EReal) = ((1 : ℝ) : EReal) from rfl, Ideal.div_coe one_ne_zero]
  simp

theorem logi_bot : logi ⊥ = 0 := by
  unfold logi
  rw [EReal.neg_bot, Ideal.exp_top, show (1 : EReal) + ⊤ = ⊤ from EReal.add_top_of_ne_bot (by decide)]
  simp [Ideal.div]

/-- So it is on the infinities too. -/
theorem half_tanh' (x : EReal) : kHalf * Ideal.tanh (kHalf * x) + kHalf = logi x := by
  induction x with
  | bot =>
    rw [logi_bot, kHalf_eq, EReal.coe_mul_bot_of_pos (by norm_num), Ideal.tanh_bot]
    rw [show (-1 : EReal) = ((-1 : ℝ) : EReal) from rfl, ← EReal.coe_mul, ← EReal.coe_add]
    norm_num
  | top =>
    rw [logi_top, kHalf_eq, EReal.coe_mul_top_of_pos (by norm_num), Ideal.tanh_top]
    rw [show (1 : EReal) = ((1 : ℝ) : EReal) from rfl, ← EReal.coe_mul, ← EReal.coe_add]
    norm_num
  | coe r => exact half_tanh r

/-- The gate's gradient: the form collected over the logistic value against the sum of the product rule's two terms. -/
theorem gate_eq {d u x : EReal} (hd : IsReal d) (hu : IsReal u) (hx : IsReal x) :
    d * u * ((logi x + x * logi x) - x * logi x * logi x) = d * u * logi x + x * (d * u) * (logi x * (1 - logi x)) := by
  obtain ⟨d, rfl⟩ := hd
  obtain ⟨u, rfl⟩ := hu
  obtain ⟨x, rfl⟩ := hx
  rw [logi_coe]
  generalize 1 / (1 + Real.exp (-x)) = σ
  rw [show (1 : EReal) = ((1 : ℝ) : EReal) from rfl]
  simp only [← EReal.coe_mul, ← EReal.coe_add, ← EReal.coe_sub]
  congr 1
  ring

/-- The same where the gated value or the incoming gradient vanishes. -/
theorem gate_eq_of_zero {d u x : EReal} (h : x * logi x * u = 0 ∨ d = 0) :
    d * u * ((logi x + x * logi x) - x * logi x * logi x) = d * u * logi x + x * (d * u) * (logi x * (1 - logi x)) := by
  rcases h with h | rfl
  · rcases mul_eq_zero.mp h with h | rfl
    · rcases mul_eq_zero.mp h with rfl | h
      · simp
      · rw [h]; simp
    · simp
  · simp

theorem postGrad_top {n : ℕ} {x : Fin n → EReal} (h : ms x = ⊤) (t : Fin n → EReal) (j : Fin n) : postGrad x t j = 0 := by
  unfold postGrad
  rw [rr_top h]
  simp

end Cert.Rms

end
-- ==== Proof.DownPayloads.lean ====
module

public import proofs.«01_k».proof.Proof.Gen.KernelDownIdeal.Value
public import proofs.«01_k».proof.Proof.Rms
public import Idealize.ShloMosaic.Lib.Pointwise

@[expose] public section

set_option maxRecDepth 16384

noncomputable section

namespace Cert.KernelDownIdeal.Val

open Cert.KernelDownIdeal Cert.KernelDownIdeal.Gen Cert.KernelDownIdeal.Value Cert.Rms
open Idealize.ShloMosaic Idealize.ShloMosaic.TcCoe Idealize.SL.Sem

/-! ### The body's values at an index -/

/-- The logistic function as the body computes it. -/
def sg (x : EReal) : EReal := kHalf * Ideal.tanh (kHalf * x) + kHalf

/-- The gate's gradient from that of the gated product. -/
def gateG (da x u : EReal) : EReal := da * u * ((sg x + x * sg x) - x * sg x * sg x)

/-- The up half's gradient. -/
def upG (da x : EReal) : EReal := da * (x * sg x)

theorem pay7_at (f : Vec Ideal S256x1024 .f32) (r : Fin 256) (z : Fin 1) :
    k0_pay7 (F := Ideal) f (ix2 r z) = rr fun k => f (ix2 r k) := by
  unfold rr ms kN kEps
  pointwise [k0_pay7, k0_pay6]

theorem pay9_at (f d : Vec Ideal S256x1024 .f32) (g : Vec Ideal S1x1024 .f32) (r : Fin 256) (j : Fin 1024) :
    k0_pay9 (F := Ideal) f d g (ix2 r j)
      = postGrad (fun k => f (ix2 r k)) (fun k => kHalf * d (ix2 r k) * g (ix2 0 k)) j := by
  have h7 := pay7_at f
  unfold postGrad kN kHalf
  pointwise [k0_pay9, k0_pay8, k0_pay6, h7]

theorem pay10_at (f d : Vec Ideal S256x1024 .f32) (j : Fin 1024) :
    k0_pay10 (F := Ideal) f d (ix2 0 j)
      = ∑ r : Fin 256, kHalf * d (ix2 r j) * f (ix2 r j) * rr fun k => f (ix2 r k) := by
  have h7 := pay7_at f
  unfold kHalf
  pointwise [k0_pay10, k0_pay8, k0_pay6, h7]

theorem pay41_at (v : Vec Ideal S1x1024 .f32) (f d : Vec Ideal S256x1024 .f32) (j : Fin 1024) :
    k0_pay41 (F := Ideal) v (k0_pay37 (F := Ideal) f) (k0_pay38 (F := Ideal) f) d (ix2 0 j)
      = v (ix2 0 j) + ∑ r : Fin 256, kHalf * d (ix2 r j) * f (ix2 r j) * rr fun k => f (ix2 r k) := by
  have e : k0_pay38 (F := Ideal) f = k0_pay7 (F := Ideal) f := rfl
  have h7 := pay7_at f
  rw [e]
  unfold kHalf
  pointwise [k0_pay41, k0_pay39, k0_pay37, h7]

theorem pay5_at (v acc : Vec Ideal S1x1024 .f32) (j : Fin 1024) :
    k0_pay5 (F := Ideal) v acc (ix2 0 j) = acc (ix2 0 j) + v (ix2 0 j) := by
  pointwise [k0_pay5]

theorem pay11_at (df : Vec Ideal S256x1024 .bf16) (w : Vec Ideal S1x768x1024 .bf16) (r : Fin 256) (k : Fin 768) :
    k0_pay11 (F := Ideal) df w (ix2 r k) = ∑ n : Fin 1024, df (ix2 r n) * w (ix3 0 k n) := by
  pointwise [k0_pay11]

theorem pay13_at (x : Vec Ideal S256x768 .bf16) (r : Fin 256) (k : Fin 768) :
    k0_pay13 (F := Ideal) x (ix2 r k) = sg (x (ix2 r k)) := by
  unfold sg kHalf
  pointwise [k0_pay13, k0_pay12]

theorem pay15_at (df : Vec Ideal S256x1024 .bf16) (w : Vec Ideal S1x768x1024 .bf16) (x u : Vec Ideal S256x768 .bf16)
    (r : Fin 256) (k : Fin 768) :
    k0_pay15 (F := Ideal) df w x u (ix2 r k)
      = gateG (∑ n : Fin 1024, df (ix2 r n) * w (ix3 0 k n)) (x (ix2 r k)) (u (ix2 r k)) := by
  have h11 := pay11_at df w
  have h13 := pay13_at x
  unfold gateG
  pointwise [k0_pay15, k0_pay14, k0_pay12, h11, h13]

theorem pay16_at (df : Vec Ideal S256x1024 .bf16) (w : Vec Ideal S1x768x1024 .bf16) (x : Vec Ideal S256x768 .bf16)
    (r : Fin 256) (k : Fin 768) :
    k0_pay16 (F := Ideal) df w x (ix2 r k) = upG (∑ n : Fin 1024, df (ix2 r n) * w (ix3 0 k n)) (x (ix2 r k)) := by
  have h11 := pay11_at df w
  have h13 := pay13_at x
  unfold upG
  pointwise [k0_pay16, k0_pay14, k0_pay12, h11, h13]

end Cert.KernelDownIdeal.Val

end
-- ==== Proof.DownBlocks.lean ====
module

public import proofs.«01_k».proof.Proof.DownPayloads
public import Idealize.ShloMosaic.Lib.Pipeline.ValueKit

@[expose] public section

set_option maxRecDepth 16384

noncomputable section

namespace Cert.KernelDownIdeal.Val

open Cert.KernelDownIdeal Cert.KernelDownIdeal.Gen Cert.KernelDownIdeal.Value Cert.Rms
open Idealize.ShloMosaic Idealize.ShloMosaic.TcCoe Idealize.SL.Sem

/-! ### What the body leaves in its three outputs' buffers -/

/-- The block of the product's gradient a point writes. -/
def dfblk (x0 x1 : Vec Ideal S512x1024 .f32) (x2 : Vec Ideal S1x1024 .f32) (y : S512x1024.Idx) : EReal :=
  postGrad (fun k => x1 (ix2 (y 0) k)) (fun k => kHalf * x0 (ix2 (y 0) k) * x2 (ix2 0 k)) (y 1)

/-- A point's share of the gain's gradient. -/
def gblk (x0 x1 : Vec Ideal S512x1024 .f32) (j : Fin 1024) : EReal :=
  ∑ r : Fin 512, kHalf * x0 (ix2 r j) * x1 (ix2 r j) * rr fun k => x1 (ix2 r k)

/-- The gradient of the gated product, chip `s`'s columns. -/
def dablk (x0 x1 : Vec Ideal S512x1024 .f32) (x2 : Vec Ideal S1x1024 .f32) (x3 : Vec Ideal S4x768x1024 .bf16)
    (r : Fin 512) (s : Fin 4) (k : Fin 768) : EReal :=
  ∑ n : Fin 1024, dfblk x0 x1 x2 (ix2 r n) * x3 (ix3 s k n)

/-- Columns of the gate and up halves, chip `s`'s. -/
abbrev gcol (s : Fin 4) (k : Fin 768) : Fin 6144 := ⟨s.val * 1536 + k.val, by omega⟩
abbrev ucol (s : Fin 4) (k : Fin 768) : Fin 6144 := ⟨s.val * 1536 + 768 + k.val, by omega⟩

/-- The chip and the column within its half that a column of the gate and up array is. -/
abbrev chip (q : Fin 6144) : Fin 4 := ⟨q.val / 1536, by omega⟩
abbrev kcol (q : Fin 6144) : Fin 768 := ⟨q.val % 768, by omega⟩

/-- The block of the gate and up gradient a point writes. -/
def dzblk (x0 x1 : Vec Ideal S512x1024 .f32) (x2 : Vec Ideal S1x1024 .f32) (x3 : Vec Ideal S4x768x1024 .bf16)
    (x4 : Vec Ideal S512x6144 .bf16) (y : S512x6144.Idx) : EReal :=
  if (y 1).val % 1536 < 768 then
    gateG (dablk x0 x1 x2 x3 (y 0) (chip (y 1)) (kcol (y 1))) (x4 (ix2 (y 0) (gcol (chip (y 1)) (kcol (y 1))))) (x4 (ix2 (y 0) (ucol (chip (y 1)) (kcol (y 1)))))
  else upG (dablk x0 x1 x2 x3 (y 0) (chip (y 1)) (kcol (y 1))) (x4 (ix2 (y 0) (gcol (chip (y 1)) (kcol (y 1)))))

theorem chip_g (s : Fin 4) (k : Fin 768) : chip (gcol s k) = s := Fin.ext (by show (s.val * 1536 + k.val) / 1536 = s.val; omega)
theorem kcol_g (s : Fin 4) (k : Fin 768) : kcol (gcol s k) = k := Fin.ext (by show (s.val * 1536 + k.val) % 768 = k.val; omega)
theorem chip_u (s : Fin 4) (k : Fin 768) : chip (ucol s k) = s := Fin.ext (by show (s.val * 1536 + 768 + k.val) / 1536 = s.val; omega)
theorem kcol_u (s : Fin 4) (k : Fin 768) : kcol (ucol s k) = k := Fin.ext (by show (s.val * 1536 + 768 + k.val) % 768 = k.val; omega)

section
variable (x0 x1 : Vec Ideal S512x1024 .f32) (x2 : Vec Ideal S1x1024 .f32) (x3 : Vec Ideal S4x768x1024 .bf16) (x4 : Vec Ideal S512x6144 .bf16)

theorem dzblk_gate (r : Fin 512) (s : Fin 4) (k : Fin 768) :
    dzblk x0 x1 x2 x3 x4 (ix2 r (gcol s k)) = gateG (dablk x0 x1 x2 x3 r s k) (x4 (ix2 r (gcol s k))) (x4 (ix2 r (ucol s k))) := by
  unfold dzblk
  rw [if_pos (by show (s.val * 1536 + k.val) % 1536 < 768; omega)]
  show gateG (dablk x0 x1 x2 x3 r (chip (gcol s k)) (kcol (gcol s k))) (x4 (ix2 r (gcol (chip (gcol s k)) (kcol (gcol s k))))) (x4 (ix2 r (ucol (chip (gcol s k)) (kcol (gcol s k))))) = _
  rw [chip_g, kcol_g]

theorem dzblk_up (r : Fin 512) (s : Fin 4) (k : Fin 768) :
    dzblk x0 x1 x2 x3 x4 (ix2 r (ucol s k)) = upG (dablk x0 x1 x2 x3 r s k) (x4 (ix2 r (gcol s k))) := by
  unfold dzblk
  rw [if_neg (by show ¬(s.val * 1536 + 768 + k.val) % 1536 < 768; omega)]
  show upG (dablk x0 x1 x2 x3 r (chip (ucol s k)) (kcol (ucol s k))) (x4 (ix2 r (gcol (chip (ucol s k)) (kcol (ucol s k))))) = _
  rw [chip_u, kcol_u]

theorem z2 : (![0, 0] : Fin 2 → ℕ) = fun _ => 0 := funext fun a => by fin_cases a <;> rfl

def lo (x : Vec Ideal S512x1024 .f32) : Vec Ideal S256x1024 .f32 := View.ld x (Rect.unit ![0, 0] ![256, 1024] inb_S512x1024_S256x1024_0_0)
def hi (x : Vec Ideal S512x1024 .f32) : Vec Ideal S256x1024 .f32 := View.ld x (Rect.unit ![256, 0] ![256, 1024] inb_S512x1024_S256x1024_256_0)

theorem lo_at (x : Vec Ideal S512x1024 .f32) (r : Fin 256) (j : Fin 1024) : lo x (ix2 r j) = x (ix2 ⟨0 + r.val, by omega⟩ j) :=
  congrArg x (funext fun d => Fin.ext (by fin_cases d <;> simp [Rect.idx_unit_val, ix2]))

theorem hi_at (x : Vec Ideal S512x1024 .f32) (r : Fin 256) (j : Fin 1024) : hi x (ix2 r j) = x (ix2 ⟨256 + r.val, by omega⟩ j) :=
  congrArg x (funext fun d => Fin.ext (by fin_cases d <;> simp [Rect.idx_unit_val, ix2]))

/-- The two sub-blocks of the product's gradient, as the body computes them. -/
def dlo : Vec Ideal S256x1024 .bf16 := k0_pay9 (F := Ideal) (lo x1) (lo x0) x2
def dhi : Vec Ideal S256x1024 .bf16 := k0_pay9 (F := Ideal) (hi x1) (hi x0) x2

theorem dlo_at (r : Fin 256) (j : Fin 1024) : dlo x0 x1 x2 (ix2 r j) = dfblk x0 x1 x2 (ix2 ⟨0 + r.val, by omega⟩ j) := by
  unfold dlo
  rw [pay9_at]
  simp only [lo_at]
  rfl

theorem dhi_at (r : Fin 256) (j : Fin 1024) : dhi x0 x1 x2 (ix2 r j) = dfblk x0 x1 x2 (ix2 ⟨256 + r.val, by omega⟩ j) := by
  unfold dhi
  rw [pay9_at]
  simp only [hi_at]
  rfl

/-- The two stores of the product's gradient are the two halves of the block. -/
theorem pieces5 (y : S256x1024.Idx) :
    dlo x0 x1 x2 y = dfblk x0 x1 x2 ((Rect.unit (s := S512x1024) ![0, 0] ![256, 1024] inb_S512x1024_S256x1024_0_0).emb y)
      ∧ dhi x0 x1 x2 y = dfblk x0 x1 x2 ((Rect.unit (s := S512x1024) ![256, 0] ![256, 1024] inb_S512x1024_S256x1024_256_0).emb y) := by
  obtain ⟨r, j, rfl⟩ : ∃ (r : Fin 256) (j : Fin 1024), y = ix2 r j := ⟨y 0, y 1, eq_ix2 y⟩
  refine ⟨(dlo_at x0 x1 x2 r j).trans (congrArg _ ?_), (dhi_at x0 x1 x2 r j).trans (congrArg _ ?_)⟩ <;>
  · funext d
    apply Fin.ext
    match d with
    | ⟨0, _⟩ => show _ = _ + 1 * r.val; simp [ix2]
    | ⟨1, _⟩ => show j.val = 0 + 1 * j.val; omega

/-- A store to a gate half, from the sub-block `D` of the product's gradient starting at row `b`. -/
theorem gate_piece {D : Vec Ideal S256x1024 .bf16} {b : ℕ} (hb : b + 256 ≤ 512)
    (hD : ∀ (r : Fin 256) (j : Fin 1024), D (ix2 r j) = dfblk x0 x1 x2 (ix2 ⟨b + r.val, by omega⟩ j))
    (s : Fin 4) {n c0 c1 : ℕ} (hn : n = s.val) (h0 : c0 = s.val * 1536) (h1 : c1 = s.val * 1536 + 768)
    (hw : ∀ a, (![n, 0, 0] : Fin 3 → ℕ) a + S1x768x1024.size a ≤ S4x768x1024.size a)
    (hx : ∀ a, (![b, c0] : Fin 2 → ℕ) a + S256x768.size a ≤ S512x6144.size a)
    (hu : ∀ a, (![b, c1] : Fin 2 → ℕ) a + S256x768.size a ≤ S512x6144.size a) (y : S256x768.Idx) :
    k0_pay15 (F := Ideal) D (View.ld x3 (Rect.unit ![n, 0, 0] S1x768x1024.size hw)) (View.ld x4 (Rect.unit ![b, c0] S256x768.size hx))
        (View.ld x4 (Rect.unit ![b, c1] S256x768.size hu)) y
      = dzblk x0 x1 x2 x3 x4 ((Rect.unit (s := S512x6144) ![b, c0] S256x768.size hx).emb y) := by
  obtain ⟨r, k, rfl⟩ : ∃ (r : Fin 256) (k : Fin 768), y = ix2 r k := ⟨y 0, y 1, eq_ix2 y⟩
  subst hn h0 h1
  have e : (Rect.unit (s := S512x6144) ![b, s.val * 1536] S256x768.size hx).emb (ix2 r k) = ix2 ⟨b + r.val, by omega⟩ (gcol s k) :=
    funext fun d => Fin.ext (by
      match d with
      | ⟨0, _⟩ => show b + 1 * r.val = b + r.val; omega
      | ⟨1, _⟩ => show s.val * 1536 + 1 * k.val = s.val * 1536 + k.val; omega)
  have eu : (Rect.unit (s := S512x6144) ![b, s.val * 1536 + 768] S256x768.size hu).emb (ix2 r k) = ix2 ⟨b + r.val, by omega⟩ (ucol s k) :=
    funext fun d => Fin.ext (by
      match d with
      | ⟨0, _⟩ => show b + 1 * r.val = b + r.val; omega
      | ⟨1, _⟩ => show s.val * 1536 + 768 + 1 * k.val = s.val * 1536 + 768 + k.val; omega)
  rw [e, dzblk_gate, pay15_at]
  have hx' : View.ld x4 (Rect.unit ![b, s.val * 1536] S256x768.size hx) (ix2 r k) = x4 (ix2 ⟨b + r.val, by omega⟩ (gcol s k)) := congrArg x4 e
  have hu' : View.ld x4 (Rect.unit ![b, s.val * 1536 + 768] S256x768.size hu) (ix2 r k) = x4 (ix2 ⟨b + r.val, by omega⟩ (ucol s k)) := congrArg x4 eu
  refine (congrArg₂ (fun a b : EReal => gateG _ a b) hx' hu').trans (congrArg (fun a => gateG a _ _) (Finset.sum_congr rfl fun q _ => ?_))
  exact congrArg₂ (fun a b : EReal => a * b) (hD r q) (congrArg x3 (funext fun d => Fin.ext (by
    match d with
    | ⟨0, _⟩ => show s.val + 1 * 0 = s.val; omega
    | ⟨1, _⟩ => show 0 + 1 * k.val = k.val; omega
    | ⟨2, _⟩ => show 0 + 1 * q.val = q.val; omega)))

/-- A store to an up half. -/
theorem up_piece {D : Vec Ideal S256x1024 .bf16} {b : ℕ} (hb : b + 256 ≤ 512)
    (hD : ∀ (r : Fin 256) (j : Fin 1024), D (ix2 r j) = dfblk x0 x1 x2 (ix2 ⟨b + r.val, by omega⟩ j))
    (s : Fin 4) {n c0 c1 : ℕ} (hn : n = s.val) (h0 : c0 = s.val * 1536) (h1 : c1 = s.val * 1536 + 768)
    (hw : ∀ a, (![n, 0, 0] : Fin 3 → ℕ) a + S1x768x1024.size a ≤ S4x768x1024.size a)
    (hx : ∀ a, (![b, c0] : Fin 2 → ℕ) a + S256x768.size a ≤ S512x6144.size a)
    (hu : ∀ a, (![b, c1] : Fin 2 → ℕ) a + S256x768.size a ≤ S512x6144.size a) (y : S256x768.Idx) :
    k0_pay16 (F := Ideal) D (View.ld x3 (Rect.unit ![n, 0, 0] S1x768x1024.size hw)) (View.ld x4 (Rect.unit ![b, c0] S256x768.size hx)) y
      = dzblk x0 x1 x2 x3 x4 ((Rect.unit (s := S512x6144) ![b, c1] S256x768.size hu).emb y) := by
  obtain ⟨r, k, rfl⟩ : ∃ (r : Fin 256) (k : Fin 768), y = ix2 r k := ⟨y 0, y 1, eq_ix2 y⟩
  subst hn h0 h1
  have e : (Rect.unit (s := S512x6144) ![b, s.val * 1536] S256x768.size hx).emb (ix2 r k) = ix2 ⟨b + r.val, by omega⟩ (gcol s k) :=
    funext fun d => Fin.ext (by
      match d with
      | ⟨0, _⟩ => show b + 1 * r.val = b + r.val; omega
      | ⟨1, _⟩ => show s.val * 1536 + 1 * k.val = s.val * 1536 + k.val; omega)
  have eu : (Rect.unit (s := S512x6144) ![b, s.val * 1536 + 768] S256x768.size hu).emb (ix2 r k) = ix2 ⟨b + r.val, by omega⟩ (ucol s k) :=
    funext fun d => Fin.ext (by
      match d with
      | ⟨0, _⟩ => show b + 1 * r.val = b + r.val; omega
      | ⟨1, _⟩ => show s.val * 1536 + 768 + 1 * k.val = s.val * 1536 + 768 + k.val; omega)
  rw [eu, dzblk_up, pay16_at]
  have hx' : View.ld x4 (Rect.unit ![b, s.val * 1536] S256x768.size hx) (ix2 r k) = x4 (ix2 ⟨b + r.val, by omega⟩ (gcol s k)) := congrArg x4 e
  refine (congrArg (fun a : EReal => upG _ a) hx').trans (congrArg (fun a => upG a _) (Finset.sum_congr rfl fun q _ => ?_))
  exact congrArg₂ (fun a b : EReal => a * b) (hD r q) (congrArg x3 (funext fun d => Fin.ext (by
    match d with
    | ⟨0, _⟩ => show s.val + 1 * 0 = s.val; omega
    | ⟨1, _⟩ => show 0 + 1 * k.val = k.val; omega
    | ⟨2, _⟩ => show 0 + 1 * q.val = q.val; omega)))

/-- The two sub-blocks' row sums make the point's share. -/
theorem sums (j : Fin 1024) :
    (∑ r : Fin 256, kHalf * lo x0 (ix2 r j) * lo x1 (ix2 r j) * rr fun k => lo x1 (ix2 r k))
        + (∑ r : Fin 256, kHalf * hi x0 (ix2 r j) * hi x1 (ix2 r j) * rr fun k => hi x1 (ix2 r k))
      = gblk x0 x1 j := by
  simp only [lo_at, hi_at, zero_add]
  rw [gblk, Fin.sum_univ_two_halves 256 256 (show 256 + 256 = 512 from rfl)]

theorem share (j : Fin 1024) :
    k0_pay41 (F := Ideal) (k0_pay10 (F := Ideal) (lo x1) (lo x0)) (k0_pay37 (F := Ideal) (hi x1)) (k0_pay38 (F := Ideal) (hi x1)) (hi x0) (ix2 0 j)
      = gblk x0 x1 j := by
  rw [pay41_at, pay10_at, sums]
end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x768x1024 .bf16) (harg4 : arg4.IsWhole) (arg5 : Memref sig .tc .vmem S512x6144 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S512x6144 .bf16) (harg8 : arg8.IsWhole)
    (x0 : Vec Ideal S512x1024 .f32) (x1 : Vec Ideal S512x1024 .f32) (x2 : Vec Ideal S1x1024 .f32) (x3 : Vec Ideal S4x768x1024 .bf16) (x4 : Vec Ideal S512x6144 .bf16)

theorem out_A_5 (hc0 : cond0_0 i) (hc1 : ¬cond0_1 i) :
    out0_A_5 c i arg1 harg1 arg2 harg2 arg3 harg3 arg4 harg4 arg5 harg5 arg6 harg6 arg7 harg7 arg8 harg8 hc0 hc1 x0 x1 x2 x3 x4 = dfblk x0 x1 x2 := by
  unfold out0_A_5
  rw [View.read_writes_eq_canon _ _ _ (cover0_A_5 c i arg1 harg1 arg2 harg2 arg3 harg3 arg4 harg4 arg5 harg5 arg6 harg6 arg7 harg7 arg8 harg8 hc0 hc1 x0 x1 x2 x3 x4)]
  funext y
  refine View.canon_apply_of_pieces _ _ ?_ y (cover0_A_5 c i arg1 harg1 arg2 harg2 arg3 harg3 arg4 harg4 arg5 harg5 arg6 harg6 arg7 harg7 arg8 harg8 hc0 hc1 x0 x1 x2 x3 x4 y)
  unfold kernelRun0_A
  dsimp only
  sl_unfold_words
  simp only [View.readAt_eq_ld, Memref.IsWhole.read_unread, View.ld_unit_zero (S := S1x1024) z2]
  intro p hp x
  rcases List.mem_cons.mp hp with rfl | hp
  · exact (pieces5 x0 x1 x2 x).2
  · obtain rfl := List.mem_singleton.mp hp
    exact (pieces5 x0 x1 x2 x).1

theorem out_A_6 (hc0 : cond0_0 i) (hc1 : ¬cond0_1 i) (j : Fin 1024) :
    out0_A_6 c i arg1 harg1 arg2 harg2 arg3 harg3 arg4 harg4 arg5 harg5 arg6 harg6 arg7 harg7 arg8 harg8 hc0 hc1 x0 x1 x2 x3 x4 (ix2 0 j) = gblk x0 x1 j := by
  unfold out0_A_6
  rw [View.read_writes_eq_canon _ _ _ (cover0_A_6 c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero z2]
  simp only [View.readAt_eq_ld, Memref.IsWhole.read_unread, View.ld_unit_zero (S := S1x1024) z2]
  exact share x0 x1 j

theorem out_A_7 (hc0 : cond0_0 i) (hc1 : ¬cond0_1 i) :
    out0_A_7 c i arg1 harg1 arg2 harg2 arg3 harg3 arg4 harg4 arg5 harg5 arg6 harg6 arg7 harg7 arg8 harg8 hc0 hc1 x0 x1 x2 x3 x4 = dzblk x0 x1 x2 x3 x4 := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4)]
  funext y
  refine View.canon_apply_of_pieces _ _ ?_ y (cover0_A_7 c i arg1 harg1 arg2 harg2 arg3 harg3 arg4 harg4 arg5 harg5 arg6 harg6 arg7 harg7 arg8 harg8 hc0 hc1 x0 x1 x2 x3 x4 y)
  unfold kernelRun0_A
  dsimp only
  sl_unfold_words
  simp only [View.readAt_eq_ld, Memref.IsWhole.read_unread, View.ld_unit_zero (S := S1x1024) z2]
  intro p hp x
  rcases List.mem_cons.mp hp with rfl | hp
  · exact up_piece x0 x1 x2 x3 x4 (D := dhi x0 x1 x2) (b := 256) (by omega) (dhi_at x0 x1 x2) 3 (n := 3) (c0 := 4608) (c1 := 5376) rfl rfl rfl inb_S4x768x1024_S1x768x1024_3_0_0 inb_S512x6144_S256x768_256_4608 inb_S512x6144_S256x768_256_5376 x
  rcases List.mem_cons.mp hp with rfl | hp
  · exact gate_piece x0 x1 x2 x3 x4 (D := dhi x0 x1 x2) (b := 256) (by omega) (dhi_at x0 x1 x2) 3 (n := 3) (c0 := 4608) (c1 := 5376) rfl rfl rfl inb_S4x768x1024_S1x768x1024_3_0_0 inb_S512x6144_S256x768_256_4608 inb_S512x6144_S256x768_256_5376 x
  rcases List.mem_cons.mp hp with rfl | hp
  · exact up_piece x0 x1 x2 x3 x4 (D := dhi x0 x1 x2) (b := 256) (by omega) (dhi_at x0 x1 x2) 2 (n := 2) (c0 := 3072) (c1 := 3840) rfl rfl rfl inb_S4x768x1024_S1x768x1024_2_0_0 inb_S512x6144_S256x768_256_3072 inb_S512x6144_S256x768_256_3840 x
  rcases List.mem_cons.mp hp with rfl | hp
  · exact gate_piece x0 x1 x2 x3 x4 (D := dhi x0 x1 x2) (b := 256) (by omega) (dhi_at x0 x1 x2) 2 (n := 2) (c0 := 3072) (c1 := 3840) rfl rfl rfl inb_S4x768x1024_S1x768x1024_2_0_0 inb_S512x6144_S256x768_256_3072 inb_S512x6144_S256x768_256_3840 x
  rcases List.mem_cons.mp hp with rfl | hp
  · exact up_piece x0 x1 x2 x3 x4 (D := dhi x0 x1 x2) (b := 256) (by omega) (dhi_at x0 x1 x2) 1 (n := 1) (c0 := 1536) (c1 := 2304) rfl rfl rfl inb_S4x768x1024_S1x768x1024_1_0_0 inb_S512x6144_S256x768_256_1536 inb_S512x6144_S256x768_256_2304 x
  rcases List.mem_cons.mp hp with rfl | hp
  · exact gate_piece x0 x1 x2 x3 x4 (D := dhi x0 x1 x2) (b := 256) (by omega) (dhi_at x0 x1 x2) 1 (n := 1) (c0 := 1536) (c1 := 2304) rfl rfl rfl inb_S4x768x1024_S1x768x1024_1_0_0 inb_S512x6144_S256x768_256_1536 inb_S512x6144_S256x768_256_2304 x
  rcases List.mem_cons.mp hp with rfl | hp
  · exact up_piece x0 x1 x2 x3 x4 (D := dhi x0 x1 x2) (b := 256) (by omega) (dhi_at x0 x1 x2) 0 (n := 0) (c0 := 0) (c1 := 768) rfl rfl rfl inb_S4x768x1024_S1x768x1024_0_0_0 inb_S512x6144_S256x768_256_0 inb_S512x6144_S256x768_256_768 x
  rcases List.mem_cons.mp hp with rfl | hp
  · exact gate_piece x0 x1 x2 x3 x4 (D := dhi x0 x1 x2) (b := 256) (by omega) (dhi_at x0 x1 x2) 0 (n := 0) (c0 := 0) (c1 := 768) rfl rfl rfl inb_S4x768x1024_S1x768x1024_0_0_0 inb_S512x6144_S256x768_256_0 inb_S512x6144_S256x768_256_768 x
  rcases List.mem_cons.mp hp with rfl | hp
  · exact up_piece x0 x1 x2 x3 x4 (D := dlo x0 x1 x2) (b := 0) (by omega) (dlo_at x0 x1 x2) 3 (n := 3) (c0 := 4608) (c1 := 5376) rfl rfl rfl inb_S4x768x1024_S1x768x1024_3_0_0 inb_S512x6144_S256x768_0_4608 inb_S512x6144_S256x768_0_5376 x
  rcases List.mem_cons.mp hp with rfl | hp
  · exact gate_piece x0 x1 x2 x3 x4 (D := dlo x0 x1 x2) (b := 0) (by omega) (dlo_at x0 x1 x2) 3 (n := 3) (c0 := 4608) (c1 := 5376) rfl rfl rfl inb_S4x768x1024_S1x768x1024_3_0_0 inb_S512x6144_S256x768_0_4608 inb_S512x6144_S256x768_0_5376 x
  rcases List.mem_cons.mp hp with rfl | hp
  · exact up_piece x0 x1 x2 x3 x4 (D := dlo x0 x1 x2) (b := 0) (by omega) (dlo_at x0 x1 x2) 2 (n := 2) (c0 := 3072) (c1 := 3840) rfl rfl rfl inb_S4x768x1024_S1x768x1024_2_0_0 inb_S512x6144_S256x768_0_3072 inb_S512x6144_S256x768_0_3840 x
  rcases List.mem_cons.mp hp with rfl | hp
  · exact gate_piece x0 x1 x2 x3 x4 (D := dlo x0 x1 x2) (b := 0) (by omega) (dlo_at x0 x1 x2) 2 (n := 2) (c0 := 3072) (c1 := 3840) rfl rfl rfl inb_S4x768x1024_S1x768x1024_2_0_0 inb_S512x6144_S256x768_0_3072 inb_S512x6144_S256x768_0_3840 x
  rcases List.mem_cons.mp hp with rfl | hp
  · exact up_piece x0 x1 x2 x3 x4 (D := dlo x0 x1 x2) (b := 0) (by omega) (dlo_at x0 x1 x2) 1 (n := 1) (c0 := 1536) (c1 := 2304) rfl rfl rfl inb_S4x768x1024_S1x768x1024_1_0_0 inb_S512x6144_S256x768_0_1536 inb_S512x6144_S256x768_0_2304 x
  rcases List.mem_cons.mp hp with rfl | hp
  · exact gate_piece x0 x1 x2 x3 x4 (D := dlo x0 x1 x2) (b := 0) (by omega) (dlo_at x0 x1 x2) 1 (n := 1) (c0 := 1536) (c1 := 2304) rfl rfl rfl inb_S4x768x1024_S1x768x1024_1_0_0 inb_S512x6144_S256x768_0_1536 inb_S512x6144_S256x768_0_2304 x
  rcases List.mem_cons.mp hp with rfl | hp
  · exact up_piece x0 x1 x2 x3 x4 (D := dlo x0 x1 x2) (b := 0) (by omega) (dlo_at x0 x1 x2) 0 (n := 0) (c0 := 0) (c1 := 768) rfl rfl rfl inb_S4x768x1024_S1x768x1024_0_0_0 inb_S512x6144_S256x768_0_0 inb_S512x6144_S256x768_0_768 x
  · obtain rfl := List.mem_singleton.mp hp
    exact gate_piece x0 x1 x2 x3 x4 (D := dlo x0 x1 x2) (b := 0) (by omega) (dlo_at x0 x1 x2) 0 (n := 0) (c0 := 0) (c1 := 768) rfl rfl rfl inb_S4x768x1024_S1x768x1024_0_0_0 inb_S512x6144_S256x768_0_0 inb_S512x6144_S256x768_0_768 x

theorem out_B_5 (hc0 : ¬cond0_0 i) (hc1 : cond0_1 i) (xo6 : Vec Ideal S1x1024 .f32) :
    out0_B_5 c i arg1 harg1 arg2 harg2 arg3 harg3 arg4 harg4 arg5 harg5 arg6 harg6 arg7 harg7 arg8 harg8 hc0 hc1 x0 x1 x2 x3 x4 xo6 = dfblk x0 x1 x2 := by
  unfold out0_B_5
  rw [View.read_writes_eq_canon _ _ _ (cover0_B_5 c i arg1 harg1 arg2 harg2 arg3 harg3 arg4 harg4 arg5 harg5 arg6 harg6 arg7 harg7 arg8 harg8 hc0 hc1 x0 x1 x2 x3 x4 xo6)]
  funext y
  refine View.canon_apply_of_pieces _ _ ?_ y (cover0_B_5 c i arg1 harg1 arg2 harg2 arg3 harg3 arg4 harg4 arg5 harg5 arg6 harg6 arg7 harg7 arg8 harg8 hc0 hc1 x0 x1 x2 x3 x4 xo6 y)
  unfold kernelRun0_B
  dsimp only
  sl_unfold_words
  simp only [View.readAt_eq_ld, Memref.IsWhole.read_unread, View.ld_unit_zero (S := S1x1024) z2]
  intro p hp x
  rcases List.mem_cons.mp hp with rfl | hp
  · exact (pieces5 x0 x1 x2 x).2
  · obtain rfl := List.mem_singleton.mp hp
    exact (pieces5 x0 x1 x2 x).1

theorem out_B_6 (hc0 : ¬cond0_0 i) (hc1 : cond0_1 i) (xo6 : Vec Ideal S1x1024 .f32) (j : Fin 1024) :
    out0_B_6 c i arg1 harg1 arg2 harg2 arg3 harg3 arg4 harg4 arg5 harg5 arg6 harg6 arg7 harg7 arg8 harg8 hc0 hc1 x0 x1 x2 x3 x4 xo6 (ix2 0 j) = xo6 (ix2 0 j) + gblk x0 x1 j := by
  unfold out0_B_6
  rw [View.read_writes_eq_canon _ _ _ (cover0_B_6 c i arg1 harg1 arg2 harg2 arg3 harg3 arg4 harg4 arg5 harg5 arg6 harg6 arg7 harg7 arg8 harg8 hc0 hc1 x0 x1 x2 x3 x4 xo6)]
  unfold kernelRun0_B
  dsimp only
  sl_unfold_words
  rw [View.canon_unit_zero z2]
  simp only [View.readAt_eq_ld, Memref.IsWhole.read_unread, View.ld_unit_zero (S := S1x1024) z2]
  exact (pay5_at _ xo6 j).trans (congrArg (fun u : EReal => xo6 (ix2 0 j) + u) (share x0 x1 j))

theorem out_B_7 (hc0 : ¬cond0_0 i) (hc1 : cond0_1 i) (xo6 : Vec Ideal S1x1024 .f32) :
    out0_B_7 c i arg1 harg1 arg2 harg2 arg3 harg3 arg4 harg4 arg5 harg5 arg6 harg6 arg7 harg7 arg8 harg8 hc0 hc1 x0 x1 x2 x3 x4 xo6 = dzblk x0 x1 x2 x3 x4 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 xo6)]
  funext y
  refine View.canon_apply_of_pieces _ _ ?_ y (cover0_B_7 c i arg1 harg1 arg2 harg2 arg3 harg3 arg4 harg4 arg5 harg5 arg6 harg6 arg7 harg7 arg8 harg8 hc0 hc1 x0 x1 x2 x3 x4 xo6 y)
  unfold kernelRun0_B
  dsimp only
  sl_unfold_words
  simp only [View.readAt_eq_ld, Memref.IsWhole.read_unread, View.ld_unit_zero (S := S1x1024) z2]
  intro p hp x
  rcases List.mem_cons.mp hp with rfl | hp
  · exact up_piece x0 x1 x2 x3 x4 (D := dhi x0 x1 x2) (b := 256) (by omega) (dhi_at x0 x1 x2) 3 (n := 3) (c0 := 4608) (c1 := 5376) rfl rfl rfl inb_S4x768x1024_S1x768x1024_3_0_0 inb_S512x6144_S256x768_256_4608 inb_S512x6144_S256x768_256_5376 x
  rcases List.mem_cons.mp hp with rfl | hp
  · exact gate_piece x0 x1 x2 x3 x4 (D := dhi x0 x1 x2) (b := 256) (by omega) (dhi_at x0 x1 x2) 3 (n := 3) (c0 := 4608) (c1 := 5376) rfl rfl rfl inb_S4x768x1024_S1x768x1024_3_0_0 inb_S512x6144_S256x768_256_4608 inb_S512x6144_S256x768_256_5376 x
  rcases List.mem_cons.mp hp with rfl | hp
  · exact up_piece x0 x1 x2 x3 x4 (D := dhi x0 x1 x2) (b := 256) (by omega) (dhi_at x0 x1 x2) 2 (n := 2) (c0 := 3072) (c1 := 3840) rfl rfl rfl inb_S4x768x1024_S1x768x1024_2_0_0 inb_S512x6144_S256x768_256_3072 inb_S512x6144_S256x768_256_3840 x
  rcases List.mem_cons.mp hp with rfl | hp
  · exact gate_piece x0 x1 x2 x3 x4 (D := dhi x0 x1 x2) (b := 256) (by omega) (dhi_at x0 x1 x2) 2 (n := 2) (c0 := 3072) (c1 := 3840) rfl rfl rfl inb_S4x768x1024_S1x768x1024_2_0_0 inb_S512x6144_S256x768_256_3072 inb_S512x6144_S256x768_256_3840 x
  rcases List.mem_cons.mp hp with rfl | hp
  · exact up_piece x0 x1 x2 x3 x4 (D := dhi x0 x1 x2) (b := 256) (by omega) (dhi_at x0 x1 x2) 1 (n := 1) (c0 := 1536) (c1 := 2304) rfl rfl rfl inb_S4x768x1024_S1x768x1024_1_0_0 inb_S512x6144_S256x768_256_1536 inb_S512x6144_S256x768_256_2304 x
  rcases List.mem_cons.mp hp with rfl | hp
  · exact gate_piece x0 x1 x2 x3 x4 (D := dhi x0 x1 x2) (b := 256) (by omega) (dhi_at x0 x1 x2) 1 (n := 1) (c0 := 1536) (c1 := 2304) rfl rfl rfl inb_S4x768x1024_S1x768x1024_1_0_0 inb_S512x6144_S256x768_256_1536 inb_S512x6144_S256x768_256_2304 x
  rcases List.mem_cons.mp hp with rfl | hp
  · exact up_piece x0 x1 x2 x3 x4 (D := dhi x0 x1 x2) (b := 256) (by omega) (dhi_at x0 x1 x2) 0 (n := 0) (c0 := 0) (c1 := 768) rfl rfl rfl inb_S4x768x1024_S1x768x1024_0_0_0 inb_S512x6144_S256x768_256_0 inb_S512x6144_S256x768_256_768 x
  rcases List.mem_cons.mp hp with rfl | hp
  · exact gate_piece x0 x1 x2 x3 x4 (D := dhi x0 x1 x2) (b := 256) (by omega) (dhi_at x0 x1 x2) 0 (n := 0) (c0 := 0) (c1 := 768) rfl rfl rfl inb_S4x768x1024_S1x768x1024_0_0_0 inb_S512x6144_S256x768_256_0 inb_S512x6144_S256x768_256_768 x
  rcases List.mem_cons.mp hp with rfl | hp
  · exact up_piece x0 x1 x2 x3 x4 (D := dlo x0 x1 x2) (b := 0) (by omega) (dlo_at x0 x1 x2) 3 (n := 3) (c0 := 4608) (c1 := 5376) rfl rfl rfl inb_S4x768x1024_S1x768x1024_3_0_0 inb_S512x6144_S256x768_0_4608 inb_S512x6144_S256x768_0_5376 x
  rcases List.mem_cons.mp hp with rfl | hp
  · exact gate_piece x0 x1 x2 x3 x4 (D := dlo x0 x1 x2) (b := 0) (by omega) (dlo_at x0 x1 x2) 3 (n := 3) (c0 := 4608) (c1 := 5376) rfl rfl rfl inb_S4x768x1024_S1x768x1024_3_0_0 inb_S512x6144_S256x768_0_4608 inb_S512x6144_S256x768_0_5376 x
  rcases List.mem_cons.mp hp with rfl | hp
  · exact up_piece x0 x1 x2 x3 x4 (D := dlo x0 x1 x2) (b := 0) (by omega) (dlo_at x0 x1 x2) 2 (n := 2) (c0 := 3072) (c1 := 3840) rfl rfl rfl inb_S4x768x1024_S1x768x1024_2_0_0 inb_S512x6144_S256x768_0_3072 inb_S512x6144_S256x768_0_3840 x
  rcases List.mem_cons.mp hp with rfl | hp
  · exact gate_piece x0 x1 x2 x3 x4 (D := dlo x0 x1 x2) (b := 0) (by omega) (dlo_at x0 x1 x2) 2 (n := 2) (c0 := 3072) (c1 := 3840) rfl rfl rfl inb_S4x768x1024_S1x768x1024_2_0_0 inb_S512x6144_S256x768_0_3072 inb_S512x6144_S256x768_0_3840 x
  rcases List.mem_cons.mp hp with rfl | hp
  · exact up_piece x0 x1 x2 x3 x4 (D := dlo x0 x1 x2) (b := 0) (by omega) (dlo_at x0 x1 x2) 1 (n := 1) (c0 := 1536) (c1 := 2304) rfl rfl rfl inb_S4x768x1024_S1x768x1024_1_0_0 inb_S512x6144_S256x768_0_1536 inb_S512x6144_S256x768_0_2304 x
  rcases List.mem_cons.mp hp with rfl | hp
  · exact gate_piece x0 x1 x2 x3 x4 (D := dlo x0 x1 x2) (b := 0) (by omega) (dlo_at x0 x1 x2) 1 (n := 1) (c0 := 1536) (c1 := 2304) rfl rfl rfl inb_S4x768x1024_S1x768x1024_1_0_0 inb_S512x6144_S256x768_0_1536 inb_S512x6144_S256x768_0_2304 x
  rcases List.mem_cons.mp hp with rfl | hp
  · exact up_piece x0 x1 x2 x3 x4 (D := dlo x0 x1 x2) (b := 0) (by omega) (dlo_at x0 x1 x2) 0 (n := 0) (c0 := 0) (c1 := 768) rfl rfl rfl inb_S4x768x1024_S1x768x1024_0_0_0 inb_S512x6144_S256x768_0_0 inb_S512x6144_S256x768_0_768 x
  · obtain rfl := List.mem_singleton.mp hp
    exact gate_piece x0 x1 x2 x3 x4 (D := dlo x0 x1 x2) (b := 0) (by omega) (dlo_at x0 x1 x2) 0 (n := 0) (c0 := 0) (c1 := 768) rfl rfl rfl inb_S4x768x1024_S1x768x1024_0_0_0 inb_S512x6144_S256x768_0_0 inb_S512x6144_S256x768_0_768 x

end

end Cert.KernelDownIdeal.Val

end
-- ==== Proof.DownKernel.lean ====
module

public import proofs.«01_k».proof.Proof.DownBlocks

@[expose] public section

set_option maxRecDepth 16384

noncomputable section

namespace Cert.KernelDownIdeal.Val

open Cert.KernelDownIdeal Cert.KernelDownIdeal.Gen Cert.KernelDownIdeal.Value Cert.Rms
open Idealize.ShloMosaic Idealize.ShloMosaic.TcCoe Idealize.SL.Sem

variable (m : (ℓ : Loc nD τ sig) → Buf (Elt Ideal) ℓ) (ρ : Dev nD → PrngReg)

/-! ### The arguments, the product the host makes again, and the tiles the points take of them -/

abbrev a0 (c : Dev nD) : Vec Ideal S4096x1024 .f32 := m ((c : Thread nD τ).loc main_arg0)
abbrev a1 (c : Dev nD) : Vec Ideal S1x1024 .f32 := m ((c : Thread nD τ).loc main_arg1)
abbrev a2 (c : Dev nD) : Vec Ideal S4x768x1024 .bf16 := m ((c : Thread nD τ).loc main_arg2)
abbrev a3 (c : Dev nD) : Vec Ideal S4096x6144 .bf16 := m ((c : Thread nD τ).loc main_arg3)

/-- The product the norm was taken of, as the kernel finds it. -/
def farr (c : Dev nD) : Vec Ideal S4096x1024 .f32 := V m c main_v44

abbrev t0 (c : Dev nD) (t : Fin cfg0.N) : Vec Ideal S512x1024 .f32 := iblk m c 0 t
abbrev t1 (c : Dev nD) (t : Fin cfg0.N) : Vec Ideal S512x1024 .f32 := iblk m c 1 t
abbrev t2 (c : Dev nD) (t : Fin cfg0.N) : Vec Ideal S1x1024 .f32 := iblk m c 2 t
abbrev t3 (c : Dev nD) (t : Fin cfg0.N) : Vec Ideal S4x768x1024 .bf16 := iblk m c 3 t
abbrev t4 (c : Dev nD) (t : Fin cfg0.N) : Vec Ideal S512x6144 .bf16 := iblk m c 4 t

/-- Row `r` of point `t`'s tile. -/
abbrev row (t : Fin cfg0.N) (r : Fin 512) : Fin 4096 := ⟨t.val * 512 + r.val, by have := lt_of_lt_of_eq t.isLt (show cfg0.N = 8 from N_0); omega⟩

theorem idx0 : ∀ t : Fin cfg0.N, win0_0.index t (0 : Fin 2) = t.val ∧ win0_0.index t (1 : Fin 2) = 0 :=
  (by decide +kernel : ∀ t : Fin grid0.N, _)
theorem t0_at (c : Dev nD) (t : Fin cfg0.N) (r : Fin 512) (k : Fin 1024) : t0 m c t (ix2 r k) = a0 m c (ix2 (row t r) k) := by
  unfold t0 iblk
  refine (congrFun (V_main_arg0 m c) _).trans (congrArg (a0 m c) (funext fun d => Fin.ext ?_))
  obtain ⟨e0, e1⟩ := idx0 t
  match d with
  | ⟨0, _⟩ => show win0_0.index t (0 : Fin 2) * 512 + 1 * r.val = t.val * 512 + r.val; omega
  | ⟨1, _⟩ => show win0_0.index t (1 : Fin 2) * 1024 + 1 * k.val = k.val; omega

theorem idx1 : ∀ t : Fin cfg0.N, win0_1.index t (0 : Fin 2) = t.val ∧ win0_1.index t (1 : Fin 2) = 0 :=
  (by decide +kernel : ∀ t : Fin grid0.N, _)
theorem t1_at (c : Dev nD) (t : Fin cfg0.N) (r : Fin 512) (k : Fin 1024) : t1 m c t (ix2 r k) = farr m c (ix2 (row t r) k) := by
  unfold t1 iblk
  refine (congrArg (farr m c) (funext fun d => Fin.ext ?_))
  obtain ⟨e0, e1⟩ := idx1 t
  match d with
  | ⟨0, _⟩ => show win0_1.index t (0 : Fin 2) * 512 + 1 * r.val = t.val * 512 + r.val; omega
  | ⟨1, _⟩ => show win0_1.index t (1 : Fin 2) * 1024 + 1 * k.val = k.val; omega

theorem idx4 : ∀ t : Fin cfg0.N, win0_4.index t (0 : Fin 2) = t.val ∧ win0_4.index t (1 : Fin 2) = 0 :=
  (by decide +kernel : ∀ t : Fin grid0.N, _)
theorem t4_at (c : Dev nD) (t : Fin cfg0.N) (r : Fin 512) (k : Fin 6144) : t4 m c t (ix2 r k) = a3 m c (ix2 (row t r) k) := by
  unfold t4 iblk
  refine (congrFun (V_main_arg3 m c) _).trans (congrArg (a3 m c) (funext fun d => Fin.ext ?_))
  obtain ⟨e0, e1⟩ := idx4 t
  match d with
  | ⟨0, _⟩ => show win0_4.index t (0 : Fin 2) * 512 + 1 * r.val = t.val * 512 + r.val; omega
  | ⟨1, _⟩ => show win0_4.index t (1 : Fin 2) * 6144 + 1 * k.val = k.val; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem t3_at (c : Dev nD) (t : Fin cfg0.N) (s : Fin 4) (j : Fin 768) (k : Fin 1024) : t3 m c t (ix3 s j k) = a2 m c (ix3 s j k) := by
  unfold t3 iblk
  refine (congrFun (V_main_arg2 m c) _).trans (congrArg (a2 m c) (funext fun d => Fin.ext ?_))
  obtain ⟨e0, e1, e2⟩ := idx3 t
  match d with
  | ⟨0, _⟩ => show win0_3.index t (0 : Fin 3) * 4 + 1 * s.val = s.val; omega
  | ⟨1, _⟩ => show win0_3.index t (1 : Fin 3) * 768 + 1 * j.val = j.val; omega
  | ⟨2, _⟩ => show win0_3.index t (2 : Fin 3) * 1024 + 1 * k.val = k.val; omega

theorem idx2 : ∀ t : Fin cfg0.N, win0_2.index t (0 : Fin 2) = 0 ∧ win0_2.index t (1 : Fin 2) = 0 :=
  (by decide +kernel : ∀ t : Fin grid0.N, _)
theorem t2_at (c : Dev nD) (t : Fin cfg0.N) (k : Fin 1024) : t2 m c t (ix2 0 k) = a1 m c (ix2 0 k) := by
  unfold t2 iblk
  refine (congrFun (V_main_arg1 m c) _).trans (congrArg (a1 m c) (funext fun d => Fin.ext ?_))
  obtain ⟨e0, e1⟩ := idx2 t
  match d with
  | ⟨0, _⟩ => show win0_2.index t (0 : Fin 2) * 1 + 1 * 0 = 0; omega
  | ⟨1, _⟩ => show win0_2.index t (1 : Fin 2) * 1024 + 1 * k.val = k.val; omega

/-! ### The whole arrays -/

/-- The product's gradient. -/
def dfrow (c : Dev nD) (i : Fin 4096) (j : Fin 1024) : EReal :=
  postGrad (fun k => farr m c (ix2 i k)) (fun k => kHalf * a0 m c (ix2 i k) * a1 m c (ix2 0 k)) j

/-- The gradient of the gated product, chip `s`'s columns. -/
def darow (c : Dev nD) (i : Fin 4096) (s : Fin 4) (k : Fin 768) : EReal :=
  ∑ n : Fin 1024, dfrow m c i n * a2 m c (ix3 s k n)

theorem dfblk_eq (c : Dev nD) (t : Fin cfg0.N) (r : Fin 512) (j : Fin 1024) :
    dfblk (t0 m c t) (t1 m c t) (t2 m c t) (ix2 r j) = dfrow m c (row t r) j := by
  unfold dfblk dfrow
  refine congrArg₂ (fun x y => postGrad x y j) (funext fun k => t1_at m c t r k) (funext fun k => ?_)
  exact congrArg₂ (fun u v : EReal => u * v) (congrArg (fun u : EReal => kHalf * u) (t0_at m c t r k)) (t2_at m c t k)

theorem dablk_eq (c : Dev nD) (t : Fin cfg0.N) (r : Fin 512) (s : Fin 4) (k : Fin 768) :
    dablk (t0 m c t) (t1 m c t) (t2 m c t) (t3 m c t) r s k = darow m c (row t r) s k := by
  unfold dablk darow
  exact Finset.sum_congr rfl fun n _ => congrArg₂ (fun u v : EReal => u * v) (dfblk_eq m c t r n) (t3_at m c t s k n)

theorem gblk_eq (c : Dev nD) (t : Fin cfg0.N) (j : Fin 1024) :
    gblk (t0 m c t) (t1 m c t) j
      = ∑ r : Fin 512, kHalf * a0 m c (ix2 (row t r) j) * farr m c (ix2 (row t r) j) * rr fun k => farr m c (ix2 (row t r) k) := by
  unfold gblk
  simp only [t0_at, t1_at]

/-- What a point leaves: its blocks of the two gradients, and the shares of the gain's gradient up to it. -/
theorem outs_df (c : Dev nD) (t : Fin cfg0.N) :
    (outsAt0 m c t.val t.isLt).1 = dfblk (t0 m c t) (t1 m c t) (t2 m c t) := by
  have hN := lt_of_lt_of_eq t.isLt (show cfg0.N = 8 from N_0)
  by_cases h : 1 ≤ t.val
  · rw [outsAt0_B m c t (by omega) h]
    dsimp only
    rw [out_B_5]
  · rw [outsAt0_A m c t (by omega) h]
    dsimp only
    rw [out_A_5]

theorem outs_dz (c : Dev nD) (t : Fin cfg0.N) :
    (outsAt0 m c t.val t.isLt).2.2 = dzblk (t0 m c t) (t1 m c t) (t2 m c t) (t3 m c t) (t4 m c t) := by
  have hN := lt_of_lt_of_eq t.isLt (show cfg0.N = 8 from N_0)
  by_cases h : 1 ≤ t.val
  · rw [outsAt0_B m c t (by omega) h]
    dsimp only
    rw [out_B_7]
  · rw [outsAt0_A m c t (by omega) h]
    dsimp only
    rw [out_A_7]

theorem outs_dg (c : Dev nD) (j : Fin 1024) : ∀ (n : ℕ) (hn : n < cfg0.N),
    (outsAt0 m c n hn).2.1 (ix2 0 j) = ∑ t : Fin (n + 1), gblk (t0 m c ⟨t.val, by omega⟩) (t1 m c ⟨t.val, by omega⟩) j
  | 0, hn => by
    rw [outsAt0_A m c ⟨0, hn⟩ rfl (by dsimp only; omega)]
    dsimp only
    rw [out_A_6, Fin.sum_univ_one]
    rfl
  | n + 1, hn => by
    have hN := lt_of_lt_of_eq hn (show cfg0.N = 8 from N_0)
    rw [outsAt0_B m c ⟨n + 1, hn⟩ (by dsimp only; omega) (by dsimp only; omega)]
    dsimp only
    rw [out_B_6, Fin.sum_univ_castSucc]
    exact congrArg₂ (fun u v : EReal => u + v) (outs_dg c j n (by omega)) rfl

theorem disjoint6 : ∀ t t' : Fin cfg0.N, (cfg0.win 6).flush t = true → (cfg0.win 6).flush t' = true → t ≠ t' →
    Disjoint ((cfg0.win 6).blk t).view.set ((cfg0.win 6).blk t').view.set := fun t t' h h' hne =>
  absurd (Fin.ext (by
    have h1 := (flush0_6 t).mp h
    have h2 := (flush0_6 t').mp h'
    have := lt_of_lt_of_eq t.isLt (show cfg0.N = 8 from N_0)
    have := lt_of_lt_of_eq t'.isLt (show cfg0.N = 8 from N_0)
    omega)) hne

theorem idx5 : ∀ t : Fin cfg0.N, win0_5.index t (0 : Fin 2) = t.val ∧ win0_5.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

theorem row_surj (i : Fin 4096) : ∃ (t : Fin cfg0.N) (r : Fin 512), i = row t r :=
  ⟨⟨i.val / 512, by have hN : cfg0.N = 8 := N_0; omega⟩, ⟨i.val % 512, by omega⟩, Fin.ext (by show i.val = i.val / 512 * 512 + i.val % 512; omega)⟩

/-- The product's gradient after the run, at an index. -/
theorem df_at (c : Dev nD) (i : Fin 4096) (j : Fin 1024) :
    ((dats m 0 c).arrAt 5 cfg0.N : Vec Ideal S4096x1024 .bf16) (ix2 i j) = dfrow m c i j := by
  obtain ⟨t, r, rfl⟩ := row_surj i
  rw [← dfblk_eq, ← outs_df]
  have hb := congrFun ((blocks5 m c t (flush0_5 t)).trans (flushed5 m c t)) (ix2 r j : S512x1024.Idx)
  refine Eq.trans (congrArg ((dats m 0 c).arrAt 5 cfg0.N) (funext fun d => Fin.ext ?_)) hb
  obtain ⟨e0, e1⟩ := idx5 t
  match d with
  | ⟨0, _⟩ => show t.val * 512 + r.val = win0_5.index t (0 : Fin 2) * 512 + 1 * r.val; omega
  | ⟨1, _⟩ => show j.val = win0_5.index t (1 : Fin 2) * 1024 + 1 * j.val; omega

theorem dz_blk (c : Dev nD) (t : Fin cfg0.N) (r : Fin 512) (q : Fin 6144) :
    ((dats m 0 c).arrAt 7 cfg0.N : Vec Ideal S4096x6144 .bf16) (ix2 (row t r) q)
      = dzblk (t0 m c t) (t1 m c t) (t2 m c t) (t3 m c t) (t4 m c t) (ix2 r q) := by
  rw [← outs_dz]
  have hb := congrFun ((blocks7 m c t (flush0_7 t)).trans (flushed7 m c t)) (ix2 r q : S512x6144.Idx)
  refine Eq.trans (congrArg ((dats m 0 c).arrAt 7 cfg0.N) (funext fun d => Fin.ext ?_)) hb
  obtain ⟨e0, e1⟩ := idx7 t
  match d with
  | ⟨0, _⟩ => show t.val * 512 + r.val = win0_7.index t (0 : Fin 2) * 512 + 1 * r.val; omega
  | ⟨1, _⟩ => show q.val = win0_7.index t (1 : Fin 2) * 6144 + 1 * q.val; omega

/-- The gate half of the gate and up gradient after the run. -/
theorem dz_gate (c : Dev nD) (i : Fin 4096) (s : Fin 4) (k : Fin 768) :
    ((dats m 0 c).arrAt 7 cfg0.N : Vec Ideal S4096x6144 .bf16) (ix2 i (gcol s k))
      = gateG (darow m c i s k) (a3 m c (ix2 i (gcol s k))) (a3 m c (ix2 i (ucol s k))) := by
  obtain ⟨t, r, rfl⟩ := row_surj i
  rw [dz_blk, dzblk_gate, dablk_eq, t4_at, t4_at]

/-- The up half. -/
theorem dz_up (c : Dev nD) (i : Fin 4096) (s : Fin 4) (k : Fin 768) :
    ((dats m 0 c).arrAt 7 cfg0.N : Vec Ideal S4096x6144 .bf16) (ix2 i (ucol s k))
      = upG (darow m c i s k) (a3 m c (ix2 i (gcol s k))) := by
  obtain ⟨t, r, rfl⟩ := row_surj i
  rw [dz_blk, dzblk_up, dablk_eq, t4_at]

/-- The gain's gradient after the run, at an index. -/
theorem dg_at (c : Dev nD) (j : Fin 1024) :
    ((dats m 0 c).arrAt 6 cfg0.N : Vec Ideal S1x1024 .f32) (ix2 0 j)
      = ∑ i : Fin 4096, kHalf * a0 m c (ix2 i j) * farr m c (ix2 i j) * rr fun k => farr m c (ix2 i k) := by
  have hN : cfg0.N = 8 := N_0
  have h7 : 7 < cfg0.N := by omega
  have hf : (cfg0.win 6).flush ⟨7, h7⟩ = true := (flush0_6 _).mpr rfl
  have hb := congrFun (((dats m 0 c).read_blk_arrAt_eq_flushed 6 disjoint6 cfg0.N ⟨7, h7⟩ h7 hf).trans (flushed6 m c ⟨7, h7⟩)) (ix2 0 j : S1x1024.Idx)
  refine Eq.trans (congrArg ((dats m 0 c).arrAt 6 cfg0.N) (funext fun d => Fin.ext ?_)) (hb.trans ((outs_dg m c j 7 h7).trans ?_))
  · obtain ⟨e0, e1⟩ := idx6 ⟨7, h7⟩
    match d with
    | ⟨0, _⟩ => show 0 = win0_6.index ⟨7, h7⟩ (0 : Fin 2) * 1 + 1 * 0; omega
    | ⟨1, _⟩ => show j.val = win0_6.index ⟨7, h7⟩ (1 : Fin 2) * 1024 + 1 * j.val; omega
  · rw [Fin.sum_univ_tiles 8 512 (show 8 * 512 = 4096 from rfl)]
    exact Finset.sum_congr rfl fun t _ => gblk_eq m c _ j

end Cert.KernelDownIdeal.Val

end
-- ==== Proof.DownHost.lean ====
module

public import proofs.«01_k».proof.Proof.DownKernel

@[expose] public section

set_option maxRecDepth 16384

noncomputable section

namespace Cert.KernelDownIdeal.Val

open Cert.KernelDownIdeal Cert.KernelDownIdeal.Gen Cert.KernelDownIdeal.Value Cert.Rms
open Idealize.ShloMosaic Idealize.ShloMosaic.TcCoe Idealize.SL.Sem

variable (m : (ℓ : Loc nD τ sig) → Buf (Elt Ideal) ℓ) (ρ : Dev nD → PrngReg)

/-! ### The product the host makes again -/

/-- The logistic function as the host computes it. -/
def hsg (x : EReal) : EReal := Ideal.div 1 (1 + Ideal.exp (-x))

/-- One chip's share of the product: its gated columns against its rows of the weight. -/
def hprod (x u : Vec Ideal S4096x768 .bf16) (w : Vec Ideal S1x768x1024 .bf16) : FVec Ideal S4096x1024 .f32 :=
  Host.dotGeneral (F := Ideal) dot_S4096x768_S768x1024_S4096x1024_1_0_0_1_n_n none
    (mulf
      (mulf (extf .f32 x bitsLt_bf16_f32)
        (Host.divf (broadcastInDim S4096x768 ![] bcast_S_S4096x768 (constant S_ .f32 0x3F800000#32))
          (addf (broadcastInDim S4096x768 ![] bcast_S_S4096x768 (constant S_ .f32 0x3F800000#32))
            (Host.exp (Host.negf (extf .f32 x bitsLt_bf16_f32))))))
      (extf .f32 u bitsLt_bf16_f32))
    (extf .f32 (shapeCast S768x1024 w shapeCasts_S1x768x1024_S768x1024) bitsLt_bf16_f32)

theorem hprod_at (x u : Vec Ideal S4096x768 .bf16) (w : Vec Ideal S1x768x1024 .bf16) (i : Fin 4096) (j : Fin 1024) :
    hprod x u w (ix2 i j) = ∑ k : Fin 768, x (ix2 i k) * hsg (x (ix2 i k)) * u (ix2 i k) * w (ix3 0 k j) := by
  unfold hsg
  pointwise [hprod]

theorem farr_eq (c : Dev nD) :
    (farr m c : FVec Ideal S4096x1024 .f32) = addf (addf (addf (addf (broadcastInDim S4096x1024 ![] bcast_S_S4096x1024 (constant S_ .f32 0x00000000#32))
        (hprod (extractStridedSlice S4096x768 ![0, 0] (a3 m c) slices_S4096x6144_S4096x768_0_0)
          (extractStridedSlice S4096x768 ![0, 768] (a3 m c) slices_S4096x6144_S4096x768_0_768)
          (extractStridedSlice S1x768x1024 ![0, 0, 0] (a2 m c) slices_S4x768x1024_S1x768x1024_0_0_0)))
        (hprod (extractStridedSlice S4096x768 ![0, 1536] (a3 m c) slices_S4096x6144_S4096x768_0_1536)
          (extractStridedSlice S4096x768 ![0, 2304] (a3 m c) slices_S4096x6144_S4096x768_0_2304)
          (extractStridedSlice S1x768x1024 ![1, 0, 0] (a2 m c) slices_S4x768x1024_S1x768x1024_1_0_0)))
        (hprod (extractStridedSlice S4096x768 ![0, 3072] (a3 m c) slices_S4096x6144_S4096x768_0_3072)
          (extractStridedSlice S4096x768 ![0, 3840] (a3 m c) slices_S4096x6144_S4096x768_0_3840)
          (extractStridedSlice S1x768x1024 ![2, 0, 0] (a2 m c) slices_S4x768x1024_S1x768x1024_2_0_0)))
        (hprod (extractStridedSlice S4096x768 ![0, 4608] (a3 m c) slices_S4096x6144_S4096x768_0_4608)
          (extractStridedSlice S4096x768 ![0, 5376] (a3 m c) slices_S4096x6144_S4096x768_0_5376)
          (extractStridedSlice S1x768x1024 ![3, 0, 0] (a2 m c) slices_S4x768x1024_S1x768x1024_3_0_0)) := by
  show StableHlo.after (List.flatten [hostOps0, hostOps0_1, hostOps0_2, hostOps0_3, hostOps0_4, hostOps0_5, hostOps0_6, hostOps0_7, hostOps0_8])
    (fun b => m (c, b)) (Proc.devRef .tc main_v44) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- A gated column's entry. -/
def act (c : Dev nD) (i : Fin 4096) (s : Fin 4) (k : Fin 768) : EReal :=
  a3 m c (ix2 i (gcol s k)) * hsg (a3 m c (ix2 i (gcol s k))) * a3 m c (ix2 i (ucol s k))

theorem farr_at (c : Dev nD) (i : Fin 4096) (j : Fin 1024) :
    farr m c (ix2 i j) = ∑ s : Fin 4, ∑ k : Fin 768, act m c i s k * a2 m c (ix3 s k j) := by
  rw [farr_eq, Fin.sum_univ_four]
  show FloatOps.ofBits .f32 0x00000000#32 + hprod _ _ _ (ix2 i j) + hprod _ _ _ (ix2 i j) + hprod _ _ _ (ix2 i j) + hprod _ _ _ (ix2 i j) = (_ : EReal)
  rw [show (FloatOps.ofBits .f32 0x00000000#32 : Ideal .f32) = (0 : EReal) from Ideal.ofBits_zero _, zero_add, hprod_at, hprod_at, hprod_at, hprod_at]
  refine congrArg₂ (fun u v : EReal => u + v) (congrArg₂ (fun u v : EReal => u + v) (congrArg₂ (fun u v : EReal => u + v) ?_ ?_) ?_) ?_ <;>
    refine Finset.sum_congr rfl fun k _ => ?_
  all_goals
    unfold act
    refine congrArg₂ (fun u v : EReal => u * v) (congrArg₂ (fun u v : EReal => u * hsg u * v) (congrArg (a3 m c) ?_) (congrArg (a3 m c) ?_)) (congrArg (a2 m c) ?_) <;>
    exact funext fun d => Fin.ext (by fin_cases d <;> simp [ix2, ix3])

end Cert.KernelDownIdeal.Val

end
-- ==== Proof.DownReference.lean ====
module

public import proofs.«01_k».proof.Proof.Rms
public import proofs.«01_k».proof.Proof.Gen.ReferenceDownIdeal.Read
public import Idealize.ShloMosaic.Lib.Pointwise
public import Idealize.ShloMosaic.Lib.KernelVsHost
public import Idealize.ShloMosaic.Lib.TwoAxisContraction

@[expose] public section

set_option maxRecDepth 16384

noncomputable section

namespace Cert.ReferenceDownIdeal.Val

open Cert.ReferenceDownIdeal Cert.ReferenceDownIdeal.Gen Cert.ReferenceDownIdeal.Read Cert.Rms Idealize.ShloMosaic
open Idealize.ShloMosaic.ValueIdx (sum_contr2 contrEquiv2_symm_val0 contrEquiv2_symm_val1)

variable (x0 : Vec Ideal S4096x1024 .f32) (x1 : Vec Ideal S1x1024 .f32) (x2 : Vec Ideal S4x768x1024 .bf16) (x3 : Vec Ideal S4096x6144 .bf16)

/-- The gate's column `k` of chip `s`. -/
abbrev gcol (s : Fin 4) (k : Fin 768) : Fin 6144 := ⟨s.val * 1536 + k.val, by omega⟩
/-- The up half's column `k` of chip `s`. -/
abbrev ucol (s : Fin 4) (k : Fin 768) : Fin 6144 := ⟨s.val * 1536 + 768 + k.val, by omega⟩

/-- The logistic function as the reference computes it. -/
def hsg (x : EReal) : EReal := Ideal.div 1 (1 + Ideal.exp (-x))

theorem ofBits_one : (FloatOps.ofBits .f32 0x3F800000#32 : Ideal .f32) = (1 : EReal) := by
  show Ideal.ofBits .f32 0x3F800000#32 = (1 : EReal)
  simp [Ideal.ofBits, Ideal.ieee, -EReal.coe_mul]; norm_num

/-! ### The forward product -/

theorem v4_at (i : Fin 4096) (s : Fin 4) (k : Fin 768) : val_main_v4 (F := Ideal) x3 (ix3 i s k) = x3 (ix2 i (gcol s k)) := by
  rw [val_main_v4_apply, val_main_v3_apply, val_main_v1_apply, val_main_v0_apply]
  refine congrArg x3 (funext fun e => Fin.ext ?_)
  match e with
  | ⟨0, _⟩ =>
    show (((((i.val * 4 + s.val) * 768 + k.val) / 3072 * 4 + ((i.val * 4 + s.val) * 768 + k.val) / 768 % 4) * 2 + 0) * 768 + ((i.val * 4 + s.val) * 768 + k.val) % 768) / 6144 = i.val
    omega
  | ⟨1, _⟩ =>
    show (((((i.val * 4 + s.val) * 768 + k.val) / 3072 * 4 + ((i.val * 4 + s.val) * 768 + k.val) / 768 % 4) * 2 + 0) * 768 + ((i.val * 4 + s.val) * 768 + k.val) % 768) % 6144 = s.val * 1536 + k.val
    omega

theorem v7_at (i : Fin 4096) (s : Fin 4) (k : Fin 768) : val_main_v7 (F := Ideal) x3 (ix3 i s k) = x3 (ix2 i (ucol s k)) := by
  rw [val_main_v7_apply, val_main_v6_apply, val_main_v1_apply, val_main_v0_apply]
  refine congrArg x3 (funext fun e => Fin.ext ?_)
  match e with
  | ⟨0, _⟩ =>
    show (((((i.val * 4 + s.val) * 768 + k.val) / 3072 * 4 + ((i.val * 4 + s.val) * 768 + k.val) / 768 % 4) * 2 + (1 + 0)) * 768 + ((i.val * 4 + s.val) * 768 + k.val) % 768) / 6144 = i.val
    omega
  | ⟨1, _⟩ =>
    show (((((i.val * 4 + s.val) * 768 + k.val) / 3072 * 4 + ((i.val * 4 + s.val) * 768 + k.val) / 768 % 4) * 2 + (1 + 0)) * 768 + ((i.val * 4 + s.val) * 768 + k.val) % 768) % 6144 = s.val * 1536 + 768 + k.val
    omega

theorem v52_sg_at (i : Fin 4096) (s : Fin 4) (k : Fin 768) :
    val_main_v5_2 (F := Ideal) x3 (ix3 i s k) = hsg (x3 (ix2 i (gcol s k))) := by
  unfold hsg
  rw [← ofBits_one, ← v4_at x3 i s k]
  rfl

theorem v51_sg_at (i : Fin 4096) (s : Fin 4) (k : Fin 768) :
    val_main_v5_1 (F := Ideal) x3 (ix3 i s k) = hsg (x3 (ix2 i (gcol s k))) * (1 - hsg (x3 (ix2 i (gcol s k)))) := by
  rw [← ofBits_one, ← v52_sg_at x3 i s k]
  rfl

theorem v50_sg_at (i : Fin 4096) (s : Fin 4) (k : Fin 768) :
    val_main_v5_0 (F := Ideal) x3 (ix3 i s k) = x3 (ix2 i (gcol s k)) * hsg (x3 (ix2 i (gcol s k))) := by
  rw [← v52_sg_at x3 i s k, ← v4_at x3 i s k]
  rfl

/-- A gated column's entry. -/
def act (i : Fin 4096) (s : Fin 4) (k : Fin 768) : EReal :=
  x3 (ix2 i (gcol s k)) * hsg (x3 (ix2 i (gcol s k))) * x3 (ix2 i (ucol s k))

theorem v8_at (i : Fin 4096) (s : Fin 4) (k : Fin 768) : val_main_v8 (F := Ideal) x3 (ix3 i s k) = act x3 i s k := by
  unfold act
  rw [← v50_sg_at, ← v7_at x3 i s k]
  rfl

/-- Entry `(i, j)` of the product. -/
def farr (i : Fin 4096) (j : Fin 1024) : EReal := ∑ s : Fin 4, ∑ k : Fin 768, act x3 i s k * x2 (ix3 s k j)

theorem dot9_at (y0 : FVec Ideal S4096x4x768 .f32) (y1 : FVec Ideal S4x768x1024 .f32) (i : Fin 4096) (j : Fin 1024) :
    (Host.dotGeneral (F := Ideal) dot_S4096x4x768_S4x768x1024_S4096x1024_21_10_0_2_n_n none y0 y1 : FVec Ideal S4096x1024 .f32) (ix2 i j)
      = ∑ s : Fin 4, ∑ k : Fin 768, y0 (ix3 i s k) * y1 (ix3 s k j) := by
  simp only [Host.dotGeneral]
  rw [Ideal.dotGeneral_apply, sum_contr2 dot_S4096x4x768_S4x768x1024_S4096x1024_21_10_0_2_n_n 768 4 rfl rfl rfl, Finset.sum_comm]
  refine Finset.sum_congr rfl fun s _ => Finset.sum_congr rfl fun k _ => ?_
  have h0 := contrEquiv2_symm_val0 dot_S4096x4x768_S4x768x1024_S4096x1024_21_10_0_2_n_n 768 4 rfl rfl rfl (k, s)
  have h1 := contrEquiv2_symm_val1 dot_S4096x4x768_S4x768x1024_S4096x1024_21_10_0_2_n_n 768 4 rfl rfl rfl (k, s)
  refine congrArg₂ (fun u v : EReal => u * v) (congrArg y0 (funext fun e => Fin.ext ?_)) (congrArg y1 (funext fun e => Fin.ext ?_))
  · match e with
    | ⟨0, _⟩ => rfl
    | ⟨1, _⟩ => exact h1
    | ⟨2, _⟩ => exact h0
  · match e with
    | ⟨0, _⟩ => exact h1
    | ⟨1, _⟩ => exact h0
    | ⟨2, _⟩ => rfl

theorem v9_at (i : Fin 4096) (j : Fin 1024) : val_main_v9 (F := Ideal) x2 x3 (ix2 i j) = farr x2 x3 i j := by
  unfold val_main_v9 farr
  rw [dot9_at]
  refine Finset.sum_congr rfl fun s _ => Finset.sum_congr rfl fun k _ => ?_
  rw [v8_at]
  rfl

/-! ### The norm's gradient -/

/-- Row `i` of the product. -/
abbrev frow (i : Fin 4096) : Fin 1024 → EReal := fun k => farr x2 x3 i k

theorem v14_at (i : Fin 4096) (u : Fin 1) : val_main_v16 (F := Ideal) x2 x3 (ix2 i u) = ms (frow x2 x3 i) := by
  have h11 : val_main_v11 (F := Ideal) x2 x3 (ix1 i) = ∑ k : Fin 1024, frow x2 x3 i k * frow x2 x3 i k := by
    rw [val_main_v11_apply, val_main_cst_apply]
    rw [show (FloatOps.ofBits .f32 0x00000000#32 : Ideal .f32) = (0 : EReal) from Ideal.ofBits_zero _]
    refine (zero_add _).trans (Finset.sum_congr rfl fun k _ => ?_)
    rw [show idx_main_v11 (ix1 i) k = (ix2 i k : S4096x1024.Idx) from funext fun e => Fin.ext (by match e with | ⟨0, _⟩ => rfl | ⟨1, _⟩ => rfl),
      val_main_v10_apply, v9_at]
    rfl
  unfold ms
  rw [← h11, val_main_v16_apply, val_main_v14_apply, val_main_v12_apply]
  rw [show idx_main_v12 (ix2 i u) = (ix1 i : S4096.Idx) from funext fun e => Fin.ext (by match e with | ⟨0, _⟩ => rfl)]
  rfl

theorem v17_at (i : Fin 4096) (u : Fin 1) : val_main_v17 (F := Ideal) x2 x3 (ix2 i u) = rr (frow x2 x3 i) := by
  unfold rr
  rw [← v14_at x2 x3 i u]
  rfl

theorem v21_at (i : Fin 4096) (j : Fin 1024) : val_main_v21 (F := Ideal) x2 x3 (ix2 i j) = rr (frow x2 x3 i) := by
  rw [val_main_v21_apply, ← v17_at x2 x3 i 0]
  exact congrArg (val_main_v17 (F := Ideal) x2 x3) (funext fun e => Fin.ext (by match e with | ⟨0, _⟩ => rfl | ⟨1, _⟩ => rfl))

/-- The scaled cotangent. -/
def tt (i : Fin 4096) (k : Fin 1024) : EReal := kHalf * x0 (ix2 i k) * x1 (ix2 0 k)

theorem v28_at (i : Fin 4096) (k : Fin 1024) : val_main_v28 (F := Ideal) x0 (ix2 i k) = kHalf * x0 (ix2 i k) := rfl

theorem v33_at (i : Fin 4096) (k : Fin 1024) : val_main_v33 (F := Ideal) x0 x1 (ix2 i k) = tt x0 x1 i k := by
  unfold tt
  rw [val_main_v33_apply, val_main_v32_apply, v28_at,
    show idx_main_v32 (ix2 i k) = (ix2 0 k : S1x1024.Idx) from funext fun e => Fin.ext (by match e with | ⟨0, _⟩ => rfl | ⟨1, _⟩ => rfl)]
  rfl

theorem v41_at (i : Fin 4096) (u : Fin 1) :
    val_main_v41 (F := Ideal) x0 x1 x2 x3 (ix2 i u) = corr (frow x2 x3 i) (tt x0 x1 i) := by
  have h35 : val_main_v35 (F := Ideal) x0 x1 x2 x3 (ix1 i) = ∑ k : Fin 1024, frow x2 x3 i k * tt x0 x1 i k := by
    rw [val_main_v35_apply, val_main_cst_6_apply]
    rw [show (FloatOps.ofBits .f32 0x00000000#32 : Ideal .f32) = (0 : EReal) from Ideal.ofBits_zero _]
    refine (zero_add _).trans (Finset.sum_congr rfl fun k _ => ?_)
    rw [show idx_main_v35 (ix1 i) k = (ix2 i k : S4096x1024.Idx) from funext fun e => Fin.ext (by match e with | ⟨0, _⟩ => rfl | ⟨1, _⟩ => rfl),
      val_main_v34_apply, v33_at, v9_at]
    rfl
  have h36 : val_main_v36 (F := Ideal) x0 x1 x2 x3 (ix2 i u) = ∑ k : Fin 1024, frow x2 x3 i k * tt x0 x1 i k := by
    rw [← h35, val_main_v36_apply]
    exact congrArg (val_main_v35 (F := Ideal) x0 x1 x2 x3) (funext fun e => Fin.ext (by match e with | ⟨0, _⟩ => show i.val * 1 + u.val = i.val; omega))
  unfold corr
  rw [← h36, ← v14_at x2 x3 i u, ← v17_at x2 x3 i u]
  rfl

theorem v43_at (i : Fin 4096) (j : Fin 1024) :
    val_main_v43 (F := Ideal) x0 x1 x2 x3 (ix2 i j) = corr (frow x2 x3 i) (tt x0 x1 i) := by
  rw [val_main_v43_apply, val_main_v42_apply, Fin.sum_univ_one, val_main_cst_8_apply]
  rw [show (FloatOps.ofBits .f32 0x00000000#32 : Ideal .f32) = (0 : EReal) from Ideal.ofBits_zero _]
  refine (zero_add _).trans ?_
  rw [← v41_at x0 x1 x2 x3 i 0]
  exact congrArg (val_main_v41 (F := Ideal) x0 x1 x2 x3) (funext fun e => Fin.ext (by match e with | ⟨0, _⟩ => rfl | ⟨1, _⟩ => rfl))

/-- The gradient of the product's row. -/
def dfrow (i : Fin 4096) (j : Fin 1024) : EReal := postGrad (frow x2 x3 i) (tt x0 x1 i) j

theorem v47_at (i : Fin 4096) (j : Fin 1024) : val_main_v47 (F := Ideal) x0 x1 x2 x3 (ix2 i j) = dfrow x0 x1 x2 x3 i j := by
  have h37 : val_main_v37 (F := Ideal) x2 x3 (ix2 i j) = rr (frow x2 x3 i) := v21_at x2 x3 i j
  unfold dfrow
  have h9 : frow x2 x3 i j = val_main_v9 (F := Ideal) x2 x3 (ix2 i j) := (v9_at x2 x3 i j).symm
  rw [← postGrad_eq, ← v43_at x0 x1 x2 x3 i j, ← h37, ← v33_at, h9]
  rfl

theorem df_at (i : Fin 4096) (j : Fin 1024) : val_main_v57 (F := Ideal) x0 x1 x2 x3 (ix2 i j) = dfrow x0 x1 x2 x3 i j :=
  v47_at x0 x1 x2 x3 i j

/-- The gradient of the gain: the normalized row against the cotangent, summed over the rows. -/
theorem dg_at (j : Fin 1024) :
    val_main_v31 (F := Ideal) x0 x2 x3 (ix2 0 j) = ∑ i : Fin 4096, kHalf * x0 (ix2 i j) * (farr x2 x3 i j * rr (frow x2 x3 i)) := by
  rw [val_main_v31_apply, val_main_v30_apply, val_main_cst_5_apply]
  rw [show (FloatOps.ofBits .f32 0x00000000#32 : Ideal .f32) = (0 : EReal) from Ideal.ofBits_zero _]
  refine (zero_add _).trans (Finset.sum_congr rfl fun i _ => ?_)
  rw [show idx_main_v30 (idx_main_v31 (ix2 0 j)) i = (ix2 i j : S4096x1024.Idx) from
    funext fun e => Fin.ext (by match e with | ⟨0, _⟩ => rfl | ⟨1, _⟩ => show 0 * 1024 + j.val = j.val; omega)]
  rw [mul_comm (kHalf * _), ← v9_at, ← v21_at x2 x3 i j]
  rfl

/-! ### The gradient of the gate and up columns -/

/-- The gradient of a gated column. -/
def darow (i : Fin 4096) (s : Fin 4) (k : Fin 768) : EReal := ∑ n : Fin 1024, dfrow x0 x1 x2 x3 i n * x2 (ix3 s k n)

theorem v48_at (i : Fin 4096) (s : Fin 4) (k : Fin 768) : val_main_v48 (F := Ideal) x0 x1 x2 x3 (ix3 i s k) = darow x0 x1 x2 x3 i s k := by
  rw [val_main_v48_apply]
  unfold darow
  refine Finset.sum_congr rfl fun n _ => ?_
  rw [show lidx_main_v48 (ix3 i s k) n = (ix2 i n : S4096x1024.Idx) from funext fun e => Fin.ext (by match e with | ⟨0, _⟩ => rfl | ⟨1, _⟩ => rfl),
    show ridx_main_v48 (ix3 i s k) n = (ix3 s k n : S4x768x1024.Idx) from funext fun e => Fin.ext (by match e with | ⟨0, _⟩ => rfl | ⟨1, _⟩ => rfl | ⟨2, _⟩ => rfl),
    v47_at]
  rfl

theorem v49_at (i : Fin 4096) (s : Fin 4) (k : Fin 768) :
    val_main_v49 (F := Ideal) x0 x1 x2 x3 (ix3 i s k) = x3 (ix2 i (gcol s k)) * hsg (x3 (ix2 i (gcol s k))) * darow x0 x1 x2 x3 i s k := by
  rw [val_main_v49_apply, v50_sg_at, v48_at]
  rfl

theorem v53_at (i : Fin 4096) (s : Fin 4) (k : Fin 768) :
    val_main_v53 (F := Ideal) x0 x1 x2 x3 (ix3 i s k)
      = darow x0 x1 x2 x3 i s k * x3 (ix2 i (ucol s k)) * hsg (x3 (ix2 i (gcol s k)))
        + x3 (ix2 i (gcol s k)) * (darow x0 x1 x2 x3 i s k * x3 (ix2 i (ucol s k))) * (hsg (x3 (ix2 i (gcol s k))) * (1 - hsg (x3 (ix2 i (gcol s k))))) := by
  rw [← v52_sg_at x3 i s k, ← ofBits_one, ← v4_at x3 i s k, ← v7_at x3 i s k, ← v48_at]
  rfl

/-- The two halves' places: the flattened column's coordinates. -/
theorem idx58_gate (i : Fin 4096) (s : Fin 4) (k : Fin 768) :
    idx_main_v58 (ix2 i (gcol s k)) = (ix4 i s 0 k : S4096x4x2x768.Idx) := funext fun e => Fin.ext (by
  match e with
  | ⟨0, _⟩ => show (i.val * 6144 + (s.val * 1536 + k.val)) / 6144 = i.val; omega
  | ⟨1, _⟩ => show (i.val * 6144 + (s.val * 1536 + k.val)) / 1536 % 4 = s.val; omega
  | ⟨2, _⟩ => show (i.val * 6144 + (s.val * 1536 + k.val)) / 768 % 2 = 0; omega
  | ⟨3, _⟩ => show (i.val * 6144 + (s.val * 1536 + k.val)) % 768 = k.val; omega)

theorem idx58_up (i : Fin 4096) (s : Fin 4) (k : Fin 768) :
    idx_main_v58 (ix2 i (ucol s k)) = (ix4 i s 1 k : S4096x4x2x768.Idx) := funext fun e => Fin.ext (by
  match e with
  | ⟨0, _⟩ => show (i.val * 6144 + (s.val * 1536 + 768 + k.val)) / 6144 = i.val; omega
  | ⟨1, _⟩ => show (i.val * 6144 + (s.val * 1536 + 768 + k.val)) / 1536 % 4 = s.val; omega
  | ⟨2, _⟩ => show (i.val * 6144 + (s.val * 1536 + 768 + k.val)) / 768 % 2 = 1; omega
  | ⟨3, _⟩ => show (i.val * 6144 + (s.val * 1536 + 768 + k.val)) % 768 = k.val; omega)

theorem v52_gate (i : Fin 4096) (s : Fin 4) (k : Fin 768) : val_main_v52 (F := Ideal) x0 x1 x2 x3 (ix4 i s 0 k) = (0 : EReal) := by
  unfold val_main_v52
  rw [pad_apply_of_not_inside _ _ _ _ _ _ _ _ (2 : Fin 4) (by rintro ⟨h, -, -⟩; exact absurd h (show ¬ 1 ≤ 0 by decide)), val_main_cst_9_apply]
  exact Ideal.ofBits_zero _

theorem v52_up (i : Fin 4096) (s : Fin 4) (k : Fin 768) :
    val_main_v52 (F := Ideal) x0 x1 x2 x3 (ix4 i s 1 k) = val_main_v49 (F := Ideal) x0 x1 x2 x3 (ix3 i s k) := by
  unfold val_main_v52
  rw [pad_apply_of_inside _ _ _ _ _ _ _ _ (ix4 i s 0 k : S4096x4x1x768.Idx) (fun a => by
    match a with
    | ⟨0, _⟩ => show i.val = 0 + i.val * 1; omega
    | ⟨1, _⟩ => show s.val = 0 + s.val * 1; omega
    | ⟨2, _⟩ => rfl
    | ⟨3, _⟩ => show k.val = 0 + k.val * 1; omega), val_main_v51_apply]
  exact congrArg (val_main_v49 (F := Ideal) x0 x1 x2 x3) (funext fun e => Fin.ext (by match e with | ⟨0, _⟩ => rfl | ⟨1, _⟩ => rfl | ⟨2, _⟩ => rfl))

theorem v55_up (i : Fin 4096) (s : Fin 4) (k : Fin 768) : val_main_v55 (F := Ideal) x0 x1 x2 x3 (ix4 i s 1 k) = (0 : EReal) := by
  unfold val_main_v55
  rw [pad_apply_of_not_inside _ _ _ _ _ _ _ _ (2 : Fin 4) (by rintro ⟨-, -, h⟩; exact absurd h (show ¬ (1 - 0) / (0 + 1) < 1 by decide)), val_main_cst_10_apply]
  exact Ideal.ofBits_zero _

theorem v55_gate (i : Fin 4096) (s : Fin 4) (k : Fin 768) :
    val_main_v55 (F := Ideal) x0 x1 x2 x3 (ix4 i s 0 k) = val_main_v53 (F := Ideal) x0 x1 x2 x3 (ix3 i s k) := by
  unfold val_main_v55
  rw [pad_apply_of_inside _ _ _ _ _ _ _ _ (ix4 i s 0 k : S4096x4x1x768.Idx) (fun a => by
    match a with
    | ⟨0, _⟩ => show i.val = 0 + i.val * 1; omega
    | ⟨1, _⟩ => show s.val = 0 + s.val * 1; omega
    | ⟨2, _⟩ => rfl
    | ⟨3, _⟩ => show k.val = 0 + k.val * 1; omega), val_main_v54_apply]
  exact congrArg (val_main_v53 (F := Ideal) x0 x1 x2 x3) (funext fun e => Fin.ext (by match e with | ⟨0, _⟩ => rfl | ⟨1, _⟩ => rfl | ⟨2, _⟩ => rfl))

theorem dz_gate (i : Fin 4096) (s : Fin 4) (k : Fin 768) :
    val_main_v59 (F := Ideal) x0 x1 x2 x3 (ix2 i (gcol s k))
      = darow x0 x1 x2 x3 i s k * x3 (ix2 i (ucol s k)) * hsg (x3 (ix2 i (gcol s k)))
        + x3 (ix2 i (gcol s k)) * (darow x0 x1 x2 x3 i s k * x3 (ix2 i (ucol s k))) * (hsg (x3 (ix2 i (gcol s k))) * (1 - hsg (x3 (ix2 i (gcol s k))))) := by
  rw [val_main_v59_apply, val_main_v58_apply, idx58_gate, val_main_v56_apply, v52_gate, v55_gate, v53_at]
  exact zero_add _

theorem dz_up (i : Fin 4096) (s : Fin 4) (k : Fin 768) :
    val_main_v59 (F := Ideal) x0 x1 x2 x3 (ix2 i (ucol s k))
      = x3 (ix2 i (gcol s k)) * hsg (x3 (ix2 i (gcol s k))) * darow x0 x1 x2 x3 i s k := by
  rw [val_main_v59_apply, val_main_v58_apply, idx58_up, val_main_v56_apply, v52_up, v55_up, v49_at]
  exact add_zero _

end Cert.ReferenceDownIdeal.Val

end
-- ==== Proof.DownClaim.lean ====
/- The reference's frames and the value claim of the gradient of the block's last norm, of the product before it and of
   the gated unit (`Down`). Only the gate columns ask for a finite cotangent and gain. -/
module

public import proofs.«01_k».proof.Defs
public import proofs.«01_k».proof.Proof.Gen.Pre_finite
public import proofs.«01_k».proof.Proof.Reals
public import proofs.«01_k».proof.Proof.DownHost
public import proofs.«01_k».proof.Proof.DownReference
public import Idealize.ShloMosaic.Adequacy
public import Idealize.ShloMosaic.Init

@[expose] public section

set_option maxRecDepth 16384

noncomputable section

namespace Cert.DownClaim

open Idealize.ShloMosaic Idealize.ShloMosaic.TcCoe Idealize.SL.Sem Cert.Rms

theorem frame_referenceDown : Cert.quiescent_ReferenceDownIdeal := fun m ρ _ =>
  (θ_run Cert.ReferenceDownIdeal.defs _ _).mono (fun r h => ⟨fun c => (h c).2.2.2, sem_eq_zero_of_no_sems (by decide) r.2⟩)
    (Cert.ReferenceDownIdeal.Value.run (F := Ideal) m ρ)

theorem frame_referenceDown_finite : Cert.quiescent_ReferenceDownIdeal_pre_finite := fun m ρ _ => frame_referenceDown m ρ trivial

open Cert.KernelDownIdeal

variable (m : (ℓ : Loc nD τ sig) → Buf (Elt Ideal) ℓ)

/-! ### The two sides' rows -/

theorem act_eq (c : Dev nD) (i : Fin 4096) (s : Fin 4) (k : Fin 768) :
    Cert.ReferenceDownIdeal.Val.act (Val.a3 m c) i s k = Val.act m c i s k := rfl

theorem farr_eq (c : Dev nD) (i : Fin 4096) (j : Fin 1024) :
    Cert.ReferenceDownIdeal.Val.farr (Val.a2 m c) (Val.a3 m c) i j = Val.farr m c (ix2 i j) :=
  (Val.farr_at m c i j).symm

theorem frow_eq (c : Dev nD) (i : Fin 4096) :
    Cert.ReferenceDownIdeal.Val.frow (Val.a2 m c) (Val.a3 m c) i = fun k => Val.farr m c (ix2 i k) :=
  funext fun k => farr_eq m c i k

theorem dfrow_eq (c : Dev nD) (i : Fin 4096) (j : Fin 1024) :
    Cert.ReferenceDownIdeal.Val.dfrow (Val.a0 m c) (Val.a1 m c) (Val.a2 m c) (Val.a3 m c) i j = Val.dfrow m c i j := by
  unfold Cert.ReferenceDownIdeal.Val.dfrow Val.dfrow
  rw [frow_eq]
  rfl

theorem darow_eq (c : Dev nD) (i : Fin 4096) (s : Fin 4) (k : Fin 768) :
    Cert.ReferenceDownIdeal.Val.darow (Val.a0 m c) (Val.a1 m c) (Val.a2 m c) (Val.a3 m c) i s k = Val.darow m c i s k := by
  unfold Cert.ReferenceDownIdeal.Val.darow Val.darow
  exact Finset.sum_congr rfl fun n _ => by rw [dfrow_eq]

/-! ### Where the gate's two forms agree -/

theorem real0 (h : Cert.Pre_KernelDownIdeal_finite m) (c : Dev nD) (i : S4096x1024.Idx) : IsReal (Val.a0 m c i) :=
  isReal_of_abs_lt (congrFun (h c).1 i)

theorem real1 (h : Cert.Pre_KernelDownIdeal_finite m) (c : Dev nD) (i : S1x1024.Idx) : IsReal (Val.a1 m c i) :=
  isReal_of_abs_lt (congrFun (h c).2 i)

theorem sg_eq (x : EReal) : Val.sg x = logi x := half_tanh' x

theorem act_def (c : Dev nD) (i : Fin 4096) (s : Fin 4) (k : Fin 768) :
    Val.act m c i s k = Val.a3 m c (ix2 i (Val.gcol s k)) * logi (Val.a3 m c (ix2 i (Val.gcol s k))) * Val.a3 m c (ix2 i (Val.ucol s k)) := rfl

/-- Only the cotangent and the gain have to be finite. Where a row of the product is infinite, its gradient vanishes;
    where it is real, a gated column that meets the weight at all is real, and so are the weights it meets. -/
theorem gate_at (h : Cert.Pre_KernelDownIdeal_finite m) (c : Dev nD) (i : Fin 4096) (s : Fin 4) (k : Fin 768) :
    (Val.act m c i s k = 0 ∨ Val.darow m c i s k = 0) ∨ (IsReal (Val.darow m c i s k) ∧ IsReal (Val.a3 m c (ix2 i (Val.ucol s k)))
      ∧ IsReal (Val.a3 m c (ix2 i (Val.gcol s k)))) := by
  by_cases ha : Val.act m c i s k = 0
  · exact Or.inl (Or.inl ha)
  have hd0 (hz : ∀ n, Val.dfrow m c i n * Val.a2 m c (ix3 s k n) = 0) : Val.darow m c i s k = 0 := by
    unfold Val.darow
    exact Finset.sum_eq_zero fun n _ => hz n
  rcases ms_cases fun n => Val.farr m c (ix2 i n) with ht | ⟨y, -, -, hy, -⟩
  · refine Or.inl (Or.inr (hd0 fun n => ?_))
    unfold Val.dfrow
    rw [postGrad_top ht, zero_mul]
  · by_cases hw : ∀ n, Val.a2 m c (ix3 s k n) = 0
    · exact Or.inl (Or.inr (hd0 fun n => by rw [hw n, mul_zero]))
    · right
      have hp (n : Fin 1024) : IsReal (Val.act m c i s k * Val.a2 m c (ix3 s k n)) := by
        have hf : IsReal (∑ s : Fin 4, ∑ k : Fin 768, Val.act m c i s k * Val.a2 m c (ix3 s k n)) :=
          ⟨y n, (Val.farr_at m c i n).symm.trans (hy n)⟩
        exact isReal_of_sum _ (isReal_of_sum _ hf s (Finset.mem_univ s)) k (Finset.mem_univ k)
      obtain ⟨n0, hn0⟩ := not_forall.mp hw
      have hact : IsReal (Val.act m c i s k) := isReal_of_mul (hp n0) hn0
      have hwr (n : Fin 1024) : IsReal (Val.a2 m c (ix3 s k n)) := isReal_of_mul (by rw [mul_comm]; exact hp n) ha
      rw [act_def] at ha hact
      obtain ⟨hxl, hu⟩ := mul_ne_zero_iff.mp ha
      have hx := isReal_of_mul hact hu
      refine ⟨?_, isReal_of_mul (by rw [mul_comm]; exact hact) hxl, isReal_of_mul hx (mul_ne_zero_iff.mp hxl).2⟩
      unfold Val.darow
      exact IsReal.sum _ fun n => (isReal_postGrad (fun k => ⟨y k, hy k⟩)
        (fun k => (isReal_kHalf.mul (real0 m h c _)).mul (real1 m h c _)) n).mul (hwr n)

/-! ### Equal results -/

theorem down_df (c : Dev nD) :
    Cert.ReferenceDownIdeal.Read.val_main_v57 (F := Ideal) (Val.a0 m c) (Val.a1 m c) (Val.a2 m c) (Val.a3 m c)
      = ((Gen.dats m 0 c).arrAt 5 cfg0.N : Vec Ideal S4096x1024 .bf16) := by
  funext i
  obtain ⟨r, j, rfl⟩ : ∃ (r : Fin 4096) (j : Fin 1024), i = ix2 r j := ⟨i 0, i 1, eq_ix2 i⟩
  exact (Cert.ReferenceDownIdeal.Val.df_at _ _ _ _ r j).trans ((dfrow_eq m c r j).trans (Val.df_at m c r j).symm)

theorem down_dg (c : Dev nD) :
    Cert.ReferenceDownIdeal.Read.val_main_v31 (F := Ideal) (Val.a0 m c) (Val.a2 m c) (Val.a3 m c)
      = ((Gen.dats m 0 c).arrAt 6 cfg0.N : Vec Ideal S1x1024 .f32) := by
  funext i
  obtain ⟨r, j, rfl⟩ : ∃ (r : Fin 1) (j : Fin 1024), i = ix2 r j := ⟨i 0, i 1, eq_ix2 i⟩
  obtain rfl : r = 0 := Subsingleton.elim _ _
  refine (Cert.ReferenceDownIdeal.Val.dg_at _ _ _ j).trans (Eq.trans ?_ (Val.dg_at m c j).symm)
  refine Finset.sum_congr rfl fun i _ => ?_
  rw [frow_eq, farr_eq, ← mul_assoc]

/-- A column of the gated array is a gate's or an up half's. -/
theorem col_cases (q : Fin 6144) : (∃ (s : Fin 4) (k : Fin 768), q = Val.gcol s k) ∨ ∃ (s : Fin 4) (k : Fin 768), q = Val.ucol s k := by
  have hq := q.isLt
  by_cases h : q.val % 1536 < 768
  · exact Or.inl ⟨⟨q.val / 1536, by omega⟩, ⟨q.val % 1536, h⟩, Fin.ext (by show q.val = q.val / 1536 * 1536 + q.val % 1536; omega)⟩
  · exact Or.inr ⟨⟨q.val / 1536, by omega⟩, ⟨q.val % 1536 - 768, by omega⟩,
      Fin.ext (by show q.val = q.val / 1536 * 1536 + 768 + (q.val % 1536 - 768); omega)⟩

theorem down_dz (h : Cert.Pre_KernelDownIdeal_finite m) (c : Dev nD) :
    Cert.ReferenceDownIdeal.Read.val_main_v59 (F := Ideal) (Val.a0 m c) (Val.a1 m c) (Val.a2 m c) (Val.a3 m c)
      = ((Gen.dats m 0 c).arrAt 7 cfg0.N : Vec Ideal S4096x6144 .bf16) := by
  funext i
  obtain ⟨r, q, rfl⟩ : ∃ (r : Fin 4096) (q : Fin 6144), i = ix2 r q := ⟨i 0, i 1, eq_ix2 i⟩
  rcases col_cases q with ⟨s, k, rfl⟩ | ⟨s, k, rfl⟩
  · refine (Cert.ReferenceDownIdeal.Val.dz_gate _ _ _ _ r s k).trans (Eq.trans ?_ (Val.dz_gate m c r s k).symm)
    unfold Val.gateG
    rw [darow_eq, sg_eq]
    rcases gate_at m h c r s k with h0 | ⟨hd, hu, hx⟩
    · exact (gate_eq_of_zero h0).symm
    · exact (gate_eq hd hu hx).symm
  · refine (Cert.ReferenceDownIdeal.Val.dz_up _ _ _ _ r s k).trans (Eq.trans ?_ (Val.dz_up m c r s k).symm)
    unfold Val.upG
    rw [darow_eq, sg_eq, mul_comm]
    rfl

theorem value_down : Cert.algebraic_KernelDownIdeal_ReferenceDownIdeal_pre_finite := by
  intro m g m' g' hp agree
  refine ⟨fun c => (Gen.dats m 0 c).arrAt 5 cfg0.N, fun c => (Gen.dats m 0 c).arrAt 6 cfg0.N, fun c => (Gen.dats m 0 c).arrAt 7 cfg0.N,
    Value.run_blocks (F := Ideal) m g,
    (θ_run Cert.ReferenceDownIdeal.defs _ _).mono (fun r h c => ⟨?_, ?_, ?_, (h c).2.2.2⟩) (Cert.ReferenceDownIdeal.Value.run (F := Ideal) m' g')⟩
  · obtain ⟨e0, e1, e2, e3⟩ := agree c
    refine ((h c).1.trans (Cert.ReferenceDownIdeal.Read.val_main_v57_eq (F := Ideal) m' c)).trans ?_
    rw [e0, e1, e2, e3]
    exact down_df m c
  · obtain ⟨e0, -, e2, e3⟩ := agree c
    refine ((h c).2.1.trans (Cert.ReferenceDownIdeal.Read.val_main_v31_eq (F := Ideal) m' c)).trans ?_
    rw [e0, e2, e3]
    exact down_dg m c
  · obtain ⟨e0, e1, e2, e3⟩ := agree c
    refine ((h c).2.2.1.trans (Cert.ReferenceDownIdeal.Read.val_main_v59_eq (F := Ideal) m' c)).trans ?_
    rw [e0, e1, e2, e3]
    exact down_dz m hp c

end Cert.DownClaim

end
-- ==== Proof.SconvSpec.lean ====
module

public import proofs.«01_k».proof.Proof.Gen.KernelSconvIdeal.Skeleton
public import Idealize.ShloMosaic.Lib.VecWindow
public import Idealize.ShloMosaic.Lib.ValueIdx

@[expose] public section

set_option maxRecDepth 16384

noncomputable section

/-! What one grid point of the gated convolution's backward kernel leaves in its four output blocks, as plain
    functions of the five blocks it reads. The product `c * x` stands under 32 rows of zeros, the product
    `b * dy` over 32 rows of zeros; the outputs are read off windows of these two, chunk by chunk of 256 rows. -/

namespace Cert.Proof.SconvSpec

open Cert.KernelSconvIdeal Cert.KernelSconvIdeal.Gen
open Idealize.ShloMosaic Idealize.ShloMosaic.TcCoe
open Idealize.ShloMosaic.ValueIdx (ix2)
open Idealize.ShloMosaic.VecWindow (window put)

variable {F : FTy → Type} [FloatOps F]

theorem inb2 {a b c o : ℕ} (h : o + a ≤ c) : ∀ i, (![o, 0] : Fin 2 → ℕ) i + (⟨2, ![a, b]⟩ : Shape).size i ≤ (⟨2, ![c, b]⟩ : Shape).size i
  | ⟨0, _⟩ => h
  | ⟨1, _⟩ => (Nat.zero_add b).le

theorem inb3 {a b c o : ℕ} (h : o + 1 ≤ c) : ∀ i, (![o, 0, 0] : Fin 3 → ℕ) i + (⟨3, ![1, a, b]⟩ : Shape).size i ≤ (⟨3, ![c, a, b]⟩ : Shape).size i
  | ⟨0, _⟩ => h
  | ⟨1, _⟩ => (Nat.zero_add a).le
  | ⟨2, _⟩ => (Nat.zero_add b).le

/-- The 256 rows of a block from row `o`. -/
def rows (x : Vec F S4096x256 .bf16) (o : ℕ) (h : o + 256 ≤ 4096) : Vec F S256x256 .bf16 := window x ![o, 0] S256x256.size (inb2 h)

/-- The 256 rows of a padded product from row `o`. -/
def prows (z : Vec F S4128x256 .f32) (o : ℕ) (h : o + 256 ≤ 4128) : Vec F S256x256 .f32 := window z ![o, 0] S256x256.size (inb2 h)

/-- The 264 rows of a padded product from row `o`. -/
def wide (z : Vec F S4128x256 .f32) (o : ℕ) (h : o + 264 ≤ 4128) : Vec F S264x256 .f32 := window z ![o, 0] S264x256.size (inb2 h)

/-- Row `o` of the taps. -/
def tap (w : Vec F S8x256 .f32) (o : ℕ) (h : o + 1 ≤ 8) : Vec F S1x256 .f32 := window w ![o, 0] S1x256.size (inb2 h)

/-- Plane `o` of the partial sums. -/
def plane (a : Vec F S8x8x256 .f32) (o : ℕ) (h : o + 1 ≤ 8) : Vec F S1x8x256 .f32 := window a ![o, 0, 0] S1x8x256.size (inb3 h)

theorem mod_lt256 (n : ℕ) : n % 256 < 256 := Nat.mod_lt _ (by omega)

/-- `c * x` under 32 rows of zeros. -/
def zpad (x3 x4 : Vec F S4096x256 .bf16) : Vec F S4128x256 .f32 := fun y =>
  if h : (y 0).val < 32 then k0_pay13 (F := F) (ix2 ⟨(y 0).val, h⟩ (y 1))
  else k0_pay16 (rows x3 (256 * (((y 0).val - 32) / 256)) (by have : (y 0).val < 4128 := (y 0).isLt; omega))
    (rows x4 (256 * (((y 0).val - 32) / 256)) (by have : (y 0).val < 4128 := (y 0).isLt; omega))
    (ix2 ⟨((y 0).val - 32) % 256, mod_lt256 _⟩ (y 1))

/-- `b * dy` over 32 rows of zeros. -/
def gpad (x1 x2 : Vec F S4096x256 .bf16) : Vec F S4128x256 .f32 := fun y =>
  if h : (y 0).val < 4096 then k0_pay17 (rows x1 (256 * ((y 0).val / 256)) (by omega)) (rows x2 (256 * ((y 0).val / 256)) (by omega))
    (ix2 ⟨(y 0).val % 256, mod_lt256 _⟩ (y 1))
  else k0_pay14 (F := F) (ix2 ⟨(y 0).val - 4096, by have : (y 0).val < 4128 := (y 0).isLt; omega⟩ (y 1))

/-- A chunk of the gradient of the gate `b`. -/
def dbAt (x1 x2 x3 x4 : Vec F S4096x256 .bf16) (x5 : Vec F S8x256 .f32) (k : ℕ) (hk : k < 16) : Vec F S256x256 .bf16 :=
  k0_pay3 (tap x5 2 (by omega)) (wide (zpad x3 x4) (256 * k + 24) (by omega)) (tap x5 1 (by omega)) (wide (zpad x3 x4) (256 * k + 24) (by omega))
    (tap x5 0 (by omega)) (wide (zpad x3 x4) (256 * k + 24) (by omega)) (rows x1 (256 * k) (by omega))

/-- A chunk of the gradient of `c`. -/
def dcAt (x1 x2 x3 x4 : Vec F S4096x256 .bf16) (x5 : Vec F S8x256 .f32) (k : ℕ) (hk : k < 16) : Vec F S256x256 .bf16 :=
  k0_pay6 (wide (gpad x1 x2) (256 * k) (by omega)) (k0_pay4 (tap x5 2 (by omega))) (tap x5 1 (by omega)) (wide (gpad x1 x2) (256 * k) (by omega))
    (tap x5 0 (by omega)) (wide (gpad x1 x2) (256 * k) (by omega)) (rows x4 (256 * k) (by omega))

/-- A chunk of the gradient of `x`. -/
def dxAt (x1 x2 x3 x4 : Vec F S4096x256 .bf16) (x5 : Vec F S8x256 .f32) (k : ℕ) (hk : k < 16) : Vec F S256x256 .bf16 :=
  k0_pay7 (wide (gpad x1 x2) (256 * k) (by omega)) (k0_pay4 (tap x5 2 (by omega))) (tap x5 1 (by omega)) (wide (gpad x1 x2) (256 * k) (by omega))
    (tap x5 0 (by omega)) (wide (gpad x1 x2) (256 * k) (by omega)) (rows x3 (256 * k) (by omega))

/-- Sixteen chunks of 256 rows, one under another. -/
def stack (f : ∀ k, k < 16 → Vec F S256x256 .bf16) : Vec F S4096x256 .bf16 := fun y =>
  f ((y 0).val / 256) (by have : (y 0).val < 4096 := (y 0).isLt; omega) (ix2 ⟨(y 0).val % 256, mod_lt256 _⟩ (y 1))

def out6 (x1 x2 x3 x4 : Vec F S4096x256 .bf16) (x5 : Vec F S8x256 .f32) : Vec F S4096x256 .bf16 := stack (dbAt x1 x2 x3 x4 x5)
def out7 (x1 x2 x3 x4 : Vec F S4096x256 .bf16) (x5 : Vec F S8x256 .f32) : Vec F S4096x256 .bf16 := stack (dcAt x1 x2 x3 x4 x5)
def out8 (x1 x2 x3 x4 : Vec F S4096x256 .bf16) (x5 : Vec F S8x256 .f32) : Vec F S4096x256 .bf16 := stack (dxAt x1 x2 x3 x4 x5)

/-- What one chunk adds to the partial sums: a window `g` of `b * dy` against the rows `z` of `c * x`, at three shifts. -/
def accStep (a : Vec F S8x8x256 .f32) (g : Vec F S264x256 .f32) (z : Vec F S256x256 .f32) : Vec F S8x8x256 .f32 :=
  put (put (put a ![0, 0, 0] S1x8x256.size (k0_pay9 (k0_pay8 g) z (plane a 0 (by omega))))
    ![1, 0, 0] S1x8x256.size (k0_pay10 g z (plane a 1 (by omega))))
    ![2, 0, 0] S1x8x256.size (k0_pay18 (k0_pay11 (plane a 2 (by omega))) (k0_pay12 g z))

/-- The partial sums before chunk `k`. -/
def acc (g z : Vec F S4128x256 .f32) : ℕ → Vec F S8x8x256 .f32
  | 0 => k0_pay15
  | k + 1 => if h : k < 16 then accStep (acc g z k) (wide g (256 * k) (by omega)) (prows z (256 * k + 32) (by omega)) else acc g z k

theorem acc_succ (g z : Vec F S4128x256 .f32) (k : ℕ) (h : k < 16) :
    acc g z (k + 1) = accStep (acc g z k) (wide g (256 * k) (by omega)) (prows z (256 * k + 32) (by omega)) := by
  rw [acc, dif_pos h]

/-- The taps' gradient from the partial sums. -/
def fold (a : Vec F S8x8x256 .f32) : Vec F S8x256 .f32 :=
  put (put (put k0_pay19 ![0, 0] S1x256.size (k0_pay20 (plane a 2 (by omega))))
    ![1, 0] S1x256.size (k0_pay1 (plane a 1 (by omega))))
    ![2, 0] S1x256.size (k0_pay2 (plane a 0 (by omega)))

def out9 (x1 x2 x3 x4 : Vec F S4096x256 .bf16) (x5 : Vec F S8x256 .f32) : Vec F S8x256 .f32 :=
  fold (acc (gpad x1 x2) (zpad x3 x4) 16)

/-! ## The chunks where they stand -/

theorem rows_congr (x : Vec F S4096x256 .bf16) {o o' : ℕ} (e : o = o') (h : o + 256 ≤ 4096) (h' : o' + 256 ≤ 4096) : rows x o h = rows x o' h' := by
  subst e; rfl

theorem stack_at (f : ∀ k, k < 16 → Vec F S256x256 .bf16) (k : ℕ) (hk : k < 16) (x : S256x256.Idx) (y : S4096x256.Idx)
    (h0 : (y 0).val = 256 * k + (x 0).val) (h1 : y 1 = x 1) : stack f y = f k hk x := by
  have hx : (x 0).val < 256 := (x 0).isLt
  have e : ∀ k' (hk' : k' < 16) (i : Fin 256), k' = k → i = x 0 → f k' hk' (ix2 i (y 1)) = f k hk x := by
    rintro _ _ _ rfl rfl
    exact congrArg _ (funext fun a => match a with | ⟨0, _⟩ => rfl | ⟨1, _⟩ => h1)
  exact e _ _ _ (by omega) (Fin.ext (by show (y 0).val % 256 = _; omega))

theorem zpad_at (x3 x4 : Vec F S4096x256 .bf16) (k : ℕ) (hk : k < 16) (x : S256x256.Idx) (y : S4128x256.Idx)
    (h0 : (y 0).val = 256 * k + 32 + (x 0).val) (h1 : y 1 = x 1) :
    zpad x3 x4 y = k0_pay16 (rows x3 (256 * k) (by omega)) (rows x4 (256 * k) (by omega)) x := by
  have hx : (x 0).val < 256 := (x 0).isLt
  have e : ∀ o (ho : o + 256 ≤ 4096) (i : Fin 256), o = 256 * k → i = x 0 →
      k0_pay16 (rows x3 o ho) (rows x4 o ho) (ix2 i (y 1)) = k0_pay16 (rows x3 (256 * k) (by omega)) (rows x4 (256 * k) (by omega)) x := by
    rintro _ _ _ rfl rfl
    exact congrArg _ (funext fun a => match a with | ⟨0, _⟩ => rfl | ⟨1, _⟩ => h1)
  refine (dif_neg (by omega)).trans (e _ _ _ (by omega) (Fin.ext (by show ((y 0).val - 32) % 256 = _; omega)))

theorem zpad_top (x3 x4 : Vec F S4096x256 .bf16) (x : S32x256.Idx) (y : S4128x256.Idx) (h0 : (y 0).val = (x 0).val) (h1 : y 1 = x 1) :
    zpad x3 x4 y = k0_pay13 (F := F) x := by
  have hx : (x 0).val < 32 := (x 0).isLt
  refine (dif_pos (by omega)).trans (congrArg _ (funext fun a => match a with | ⟨0, _⟩ => Fin.ext h0 | ⟨1, _⟩ => h1))

theorem gpad_at (x1 x2 : Vec F S4096x256 .bf16) (k : ℕ) (hk : k < 16) (x : S256x256.Idx) (y : S4128x256.Idx)
    (h0 : (y 0).val = 256 * k + (x 0).val) (h1 : y 1 = x 1) :
    gpad x1 x2 y = k0_pay17 (rows x1 (256 * k) (by omega)) (rows x2 (256 * k) (by omega)) x := by
  have hx : (x 0).val < 256 := (x 0).isLt
  have e : ∀ o (ho : o + 256 ≤ 4096) (i : Fin 256), o = 256 * k → i = x 0 →
      k0_pay17 (rows x1 o ho) (rows x2 o ho) (ix2 i (y 1)) = k0_pay17 (rows x1 (256 * k) (by omega)) (rows x2 (256 * k) (by omega)) x := by
    rintro _ _ _ rfl rfl
    exact congrArg _ (funext fun a => match a with | ⟨0, _⟩ => rfl | ⟨1, _⟩ => h1)
  refine (dif_pos (by omega)).trans (e _ _ _ (by omega) (Fin.ext (by show (y 0).val % 256 = _; omega)))

theorem gpad_bot (x1 x2 : Vec F S4096x256 .bf16) (x : S32x256.Idx) (y : S4128x256.Idx) (h0 : (y 0).val = 4096 + (x 0).val) (h1 : y 1 = x 1) :
    gpad x1 x2 y = k0_pay14 (F := F) x := by
  refine (dif_neg (by omega)).trans (congrArg _ (funext fun a => match a with | ⟨0, _⟩ => Fin.ext (by show (y 0).val - 4096 = (x 0).val; omega) | ⟨1, _⟩ => h1))

end Cert.Proof.SconvSpec

end
-- ==== Proof.SconvRun.lean ====
module

public import proofs.«01_k».proof.Proof.Gen.KernelSconvIdeal.Frame
public import proofs.«01_k».proof.Proof.Gen.KernelSconvIdeal.Loops
public import proofs.«01_k».proof.Proof.SconvSpec
public import Idealize.ShloMosaic.Lib.Pipeline.Frame
public import Idealize.ShloMosaic.Lib.Tactic

@[expose] public section

set_option maxRecDepth 16384

noncomputable section

namespace Cert.Proof.SconvRun

open Cert.KernelSconvIdeal Cert.KernelSconvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.SconvSpec

variable {F : FTy → Type} [FloatOps F]

local notation "𝕄" => MT nD τ sig Unit (Elt F) ℕ (UR sig nD τ) ℕ

/-! ## Tiled writes -/

/-- A buffer written piece by piece, every piece of which agrees with one function and which together cover it, reads that function. -/
theorem read_tiles {κ : Kind} {sp : Space} {s : Shape} {e : EltTy} {n : ℕ} (v : View sig κ sp s e) (f : v.ty.Contents (Elt F))
    (L : ℕ → List (View.Piece (Elt F) s e)) (P : Fin n → View.Piece (Elt F) s e) (h0 : L 0 = []) (hs : ∀ k : Fin n, L (k.val + 1) = P k :: L k.val)
    (R : List (View.Piece (Elt F) s e)) (G : s.Idx → Elt F e) (hP : ∀ k x, (P k).2 x = G ((P k).1.emb x)) (hR : ∀ p ∈ R, ∀ x, p.2 x = G (p.1.emb x))
    (hc : ∀ y, (∃ k, y ∈ (P k).1.set) ∨ ∃ p ∈ R, y ∈ p.1.set) : v.read (Elt F) (v.writes (Elt F) f (L n ++ R)) = G := by
  have hm : ∀ m, m ≤ n → ∀ p, p ∈ L m ↔ ∃ k : Fin n, k.val < m ∧ p = P k := by
    intro m
    induction m with
    | zero => intro _ p; rw [h0]; exact ⟨fun h => absurd h List.not_mem_nil, fun ⟨_, h, _⟩ => absurd h (Nat.not_lt_zero _)⟩
    | succ m ih =>
      intro hm p
      rw [hs ⟨m, hm⟩, List.mem_cons, ih (by omega)]
      constructor
      · rintro (rfl | ⟨k, hk, rfl⟩)
        · exact ⟨⟨m, hm⟩, Nat.lt_succ_self _, rfl⟩
        · exact ⟨k, by omega, rfl⟩
      · rintro ⟨k, hk, rfl⟩
        rcases Nat.lt_succ_iff_lt_or_eq.1 hk with h | h
        · exact .inr ⟨k, h, rfl⟩
        · exact .inl (congrArg P (Fin.ext h))
  funext y
  refine View.read_writes_apply_of_pieces v f G _ (fun p hp x => ?_) y ?_
  · rcases List.mem_append.1 hp with h | h
    · obtain ⟨k, -, rfl⟩ := (hm n le_rfl p).1 h; exact hP k x
    · exact hR p h x
  · rcases hc y with ⟨k, hk⟩ | ⟨p, hp, hy⟩
    · exact ⟨P k, List.mem_append.2 (.inl ((hm n le_rfl _).2 ⟨k, k.isLt, rfl⟩)), hk⟩
    · exact ⟨p, List.mem_append.2 (.inr hp), hy⟩

theorem trips1 : k0_t1_loop.trips = 16 := by decide +kernel
theorem trips2 : k0_t2_loop.trips = 16 := by decide +kernel
theorem lt1 (k : Fin k0_t1_loop.trips) : k.val < 16 := trips1 ▸ k.isLt
theorem lt2 (k : Fin k0_t2_loop.trips) : k.val < 16 := trips2 ▸ k.isLt

/-! ## Loads -/

theorem load_rows {m : Memref sig .tc .vmem S4096x256 .bf16} (hm : m.IsWhole) (x : Vec F S4096x256 .bf16) {off : Fin 2 → ℕ} {o : ℕ} (h : off = ![o, 0])
    (inb : ∀ a, off a + S256x256.size a ≤ S4096x256.size a) (ho : o + 256 ≤ 4096) :
    m.view.readAt (Elt F) (Rect.unit (s := S4096x256) off S256x256.size inb).toLoadRect (hm.unread x) = rows x o ho := by
  subst h
  rw [View.readAt_unit m.view _ inb rfl, hm.read_unread]; rfl

theorem load_tap {m : Memref sig .tc .vmem S8x256 .f32} (hm : m.IsWhole) (x : Vec F S8x256 .f32) {off : Fin 2 → ℕ} {o : ℕ} (h : off = ![o, 0])
    (inb : ∀ a, off a + S1x256.size a ≤ S8x256.size a) (ho : o + 1 ≤ 8) :
    m.view.readAt (Elt F) (Rect.unit (s := S8x256) off S1x256.size inb).toLoadRect (hm.unread x) = tap x o ho := by
  subst h
  rw [View.readAt_unit m.view _ inb rfl, hm.read_unread]; rfl

theorem load_wide {m : Memref sig .tc .vmem S4128x256 .f32} {X : BufTy.Contents (Elt F) m.view.ty} {z : Vec F S4128x256 .f32} (hX : m.view.read (Elt F) X = z)
    {off : Fin 2 → ℕ} {o : ℕ} (h : off = ![o, 0]) (inb : ∀ a, off a + S264x256.size a ≤ S4128x256.size a) (ho : o + 264 ≤ 4128) :
    m.view.readAt (Elt F) (Rect.unit (s := S4128x256) off S264x256.size inb).toLoadRect X = wide z o ho := by
  subst h
  rw [View.readAt_unit m.view _ inb rfl, hX]; rfl

theorem load_prows {m : Memref sig .tc .vmem S4128x256 .f32} {X : BufTy.Contents (Elt F) m.view.ty} {z : Vec F S4128x256 .f32} (hX : m.view.read (Elt F) X = z)
    {off : Fin 2 → ℕ} {o : ℕ} (h : off = ![o, 0]) (inb : ∀ a, off a + S256x256.size a ≤ S4128x256.size a) (ho : o + 256 ≤ 4128) :
    m.view.readAt (Elt F) (Rect.unit (s := S4128x256) off S256x256.size inb).toLoadRect X = prows z o ho := by
  subst h
  rw [View.readAt_unit m.view _ inb rfl, hX]; rfl

theorem load_plane {m : Memref sig .tc .vmem S8x8x256 .f32} {X : BufTy.Contents (Elt F) m.view.ty} {z : Vec F S8x8x256 .f32} (hX : m.view.read (Elt F) X = z)
    {off : Fin 3 → ℕ} {o : ℕ} (h : off = ![o, 0, 0]) (inb : ∀ a, off a + S1x8x256.size a ≤ S8x8x256.size a) (ho : o + 1 ≤ 8) :
    m.view.readAt (Elt F) (Rect.unit (s := S8x8x256) off S1x8x256.size inb).toLoadRect X = plane z o ho := by
  subst h
  rw [View.readAt_unit m.view _ inb rfl, hX]; rfl

/-! ## One trip of each loop -/

theorem t1L (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S8x256 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S8x256 .f32) (harg9 : arg9.IsWhole) (arg10 : Memref sig .tc .vmem S4128x256 .f32) (harg10 : arg10.IsWhole) (arg11 : Memref sig .tc .vmem S4128x256 .f32) (harg11 : arg11.IsWhole) (arg12 : Memref sig .tc .vmem S8x8x256 .f32) (harg12 : arg12.IsWhole)
    (x1 x2 x3 x4 : Vec F S4096x256 .bf16) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) k
      = ([⟨Rect.unit (s := S4128x256) (k0_off2 k) S256x256.size (k0_off2_inb k), k0_pay16 (rows x3 (256 * k.val) (by have := lt1 k; omega)) (rows x4 (256 * k.val) (by have := lt1 k; omega))⟩],
         [⟨Rect.unit (s := S4128x256) (k0_off3 k) S256x256.size (k0_off3_inb k), k0_pay17 (rows x1 (256 * k.val) (by have := lt1 k; omega)) (rows x2 (256 * k.val) (by have := lt1 k; omega))⟩]) := by
  have hk := lt1 k
  unfold tripL_k0_t1 trip_k0_t1
  dsimp only
  rw [load_rows harg1 x1 (k0_off1_eq k) _ (by omega), load_rows harg2 x2 (k0_off1_eq k) _ (by omega), load_rows harg3 x3 (k0_off1_eq k) _ (by omega),
    load_rows harg4 x4 (k0_off1_eq k) _ (by omega)]

theorem t2L (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S8x256 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S8x256 .f32) (harg9 : arg9.IsWhole) (arg10 : Memref sig .tc .vmem S4128x256 .f32) (harg10 : arg10.IsWhole) (arg11 : Memref sig .tc .vmem S4128x256 .f32) (harg11 : arg11.IsWhole) (arg12 : Memref sig .tc .vmem S8x8x256 .f32) (harg12 : arg12.IsWhole)
    (x1 x3 x4 : Vec F S4096x256 .bf16) (x5 : Vec F S8x256 .f32) (X10 : BufTy.Contents (Elt F) arg10.view.ty) (X11 : BufTy.Contents (Elt F) arg11.view.ty)
    (g6 : BufTy.Contents (Elt F) arg6.view.ty) (g7 : BufTy.Contents (Elt F) arg7.view.ty) (g8 : BufTy.Contents (Elt F) arg8.view.ty) (g12 : BufTy.Contents (Elt F) arg12.view.ty)
    (z g : Vec F S4128x256 .f32) (hz : arg10.view.read (Elt F) X10 = z) (hg : arg11.view.read (Elt F) X11 = g)
    (a : Vec F S8x8x256 .f32) (ha : arg12.view.read (Elt F) g12 = a) (k : Fin k0_t2_loop.trips) (hk : k.val < 16) :
    tripL_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 k g6 g7 g8 g12
      = ([⟨Rect.unit (s := S4096x256) (k0_off5 k) S256x256.size (k0_off5_inb k),
            k0_pay3 (tap x5 2 (by omega)) (wide z (256 * k.val + 24) (by omega)) (tap x5 1 (by omega)) (wide z (256 * k.val + 24) (by omega)) (tap x5 0 (by omega))
              (wide z (256 * k.val + 24) (by omega)) (rows x1 (256 * k.val) (by omega))⟩],
         [⟨Rect.unit (s := S4096x256) (k0_off5 k) S256x256.size (k0_off5_inb k),
            k0_pay6 (wide g (256 * k.val) (by omega)) (k0_pay4 (tap x5 2 (by omega))) (tap x5 1 (by omega)) (wide g (256 * k.val) (by omega)) (tap x5 0 (by omega))
              (wide g (256 * k.val) (by omega)) (rows x4 (256 * k.val) (by omega))⟩],
         [⟨Rect.unit (s := S4096x256) (k0_off5 k) S256x256.size (k0_off5_inb k),
            k0_pay7 (wide g (256 * k.val) (by omega)) (k0_pay4 (tap x5 2 (by omega))) (tap x5 1 (by omega)) (wide g (256 * k.val) (by omega)) (tap x5 0 (by omega))
              (wide g (256 * k.val) (by omega)) (rows x3 (256 * k.val) (by omega))⟩],
         [⟨Rect.unit (s := S8x8x256) ![2, 0, 0] S1x8x256.size inb_S8x8x256_S1x8x256_2_0_0,
            k0_pay18 (k0_pay11 (plane a 2 (by omega))) (k0_pay12 (wide g (256 * k.val) (by omega)) (prows z (256 * k.val + 32) (by omega)))⟩,
          ⟨Rect.unit (s := S8x8x256) ![1, 0, 0] S1x8x256.size inb_S8x8x256_S1x8x256_1_0_0,
            k0_pay10 (wide g (256 * k.val) (by omega)) (prows z (256 * k.val + 32) (by omega)) (plane a 1 (by omega))⟩,
          ⟨Rect.unit (s := S8x8x256) ![0, 0, 0] S1x8x256.size inb_S8x8x256_S1x8x256_0_0_0,
            k0_pay9 (k0_pay8 (wide g (256 * k.val) (by omega))) (prows z (256 * k.val + 32) (by omega)) (plane a 0 (by omega))⟩]) := by
  unfold tripL_k0_t2 trip_k0_t2
  dsimp only
  unfold trip_k0_t2.sl.r trip_k0_t2.sl.r_1 trip_k0_t2.sl.r_2 trip_k0_t2.sl.r_3 trip_k0_t2.sl.r_4 trip_k0_t2.sl.r_5 trip_k0_t2.sl.v122
  unfold trip_k0_t2.sl.v138
  rw [load_rows harg1 x1 (k0_off5_eq k) _ (by omega), load_rows harg3 x3 (k0_off5_eq k) _ (by omega), load_rows harg4 x4 (k0_off5_eq k) _ (by omega),
    load_wide hz (show k0_off4 k 24#32 = ![256 * k.val + 24, 0] from k0_off4_eq k ⟨1, by omega⟩) _ (by omega), load_wide hg (show k0_off4 k 0#32 = ![256 * k.val, 0] from k0_off4_eq k ⟨0, by omega⟩) _ (by omega), load_wide hg (k0_off6_eq k) _ (by omega),
    load_prows hz (k0_off7_eq k) _ (by omega), load_tap harg5 x5 (o := 2) rfl _ (by omega), load_tap harg5 x5 (o := 1) rfl _ (by omega), load_tap harg5 x5 (o := 0) rfl _ (by omega),
    load_plane ha (o := 2) rfl _ (by omega), load_plane ha (o := 1) rfl _ (by omega), load_plane ha (o := 0) rfl _ (by omega)]

/-! ## The buffers after the loops -/

theorem tile_emb {a b c o : ℕ} {off : Fin 2 → ℕ} (h : off = ![o, 0]) (inb : ∀ i, off i + (⟨2, ![a, b]⟩ : Shape).size i ≤ (⟨2, ![c, b]⟩ : Shape).size i)
    (x : (⟨2, ![a, b]⟩ : Shape).Idx) :
    ((Rect.unit (s := ⟨2, ![c, b]⟩) off (⟨2, ![a, b]⟩ : Shape).size inb).emb x 0).val = o + (x 0).val
      ∧ (Rect.unit (s := ⟨2, ![c, b]⟩) off (⟨2, ![a, b]⟩ : Shape).size inb).emb x 1 = x 1 := by
  subst h
  exact ⟨by show o + 1 * (x 0).val = _; omega, Fin.ext (by show 0 + 1 * (x 1).val = _; omega)⟩

theorem tile_mem {a b c o : ℕ} {off : Fin 2 → ℕ} (h : off = ![o, 0]) (inb : ∀ i, off i + (⟨2, ![a, b]⟩ : Shape).size i ≤ (⟨2, ![c, b]⟩ : Shape).size i)
    (y : (⟨2, ![c, b]⟩ : Shape).Idx) (h1 : o ≤ (y 0).val) (h2 : (y 0).val < o + a) :
    y ∈ (Rect.unit (s := ⟨2, ![c, b]⟩) off (⟨2, ![a, b]⟩ : Shape).size inb).set := by
  subst h
  refine Rect.mem_set_unit.2 fun i => ?_
  match i with
  | ⟨0, _⟩ => exact ⟨h1, h2⟩
  | ⟨1, _⟩ => exact ⟨Nat.zero_le _, by show (y 1).val < 0 + b; have : (y 1).val < b := (y 1).isLt; omega⟩

theorem read_zpad (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S8x256 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S8x256 .f32) (harg9 : arg9.IsWhole) (arg10 : Memref sig .tc .vmem S4128x256 .f32) (harg10 : arg10.IsWhole) (arg11 : Memref sig .tc .vmem S4128x256 .f32) (harg11 : arg11.IsWhole) (arg12 : Memref sig .tc .vmem S8x8x256 .f32) (harg12 : arg12.IsWhole)
    (x1 x2 x3 x4 : Vec F S4096x256 .bf16) (f : BufTy.Contents (Elt F) arg10.view.ty) :
    arg10.view.read (Elt F) (arg10.view.writes (Elt F) f ((pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) k0_t1_loop.trips).1
      ++ [⟨Rect.unit ![0, 0] S32x256.size inb_S4128x256_S32x256_0_0, k0_pay13⟩])) = zpad x3 x4 := by
  refine read_tiles arg10.view f (fun m => (pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) m).1)
    (fun k => ⟨Rect.unit (s := S4128x256) (k0_off2 k) S256x256.size (k0_off2_inb k), k0_pay16 (rows x3 (256 * k.val) (by have := lt1 k; omega)) (rows x4 (256 * k.val) (by have := lt1 k; omega))⟩)
    rfl (fun k => ?_) _ _ (fun k x => ?_) (fun p hp x => ?_) (fun y => ?_)
  · show (pb_k0_t1 (F := F) Variants.none c none i arg1 harg1 arg2 harg2 arg3 harg3 arg4 harg4 arg5 harg5 arg6 harg6 arg7 harg7 arg8 harg8 arg9 harg9 arg10 harg10 arg11 harg11 arg12 harg12 _ _ _ _ (k.val + 1)).1 = _
    rw [pb_k0_t1_succ, t1L]; rfl
  · exact (zpad_at x3 x4 k.val (lt1 k) x _ (tile_emb (k0_off2_eq k) (k0_off2_inb k) x).1 (tile_emb (k0_off2_eq k) (k0_off2_inb k) x).2).symm
  · obtain rfl := List.mem_singleton.1 hp
    exact (zpad_top x3 x4 x _ ((tile_emb rfl inb_S4128x256_S32x256_0_0 x).1.trans (Nat.zero_add _)) (tile_emb rfl inb_S4128x256_S32x256_0_0 x).2).symm
  · have hy : (y 0).val < 4128 := (y 0).isLt
    by_cases h : (y 0).val < 32
    · exact .inr ⟨_, List.mem_singleton.2 rfl, tile_mem rfl inb_S4128x256_S32x256_0_0 y (Nat.zero_le _) (by omega)⟩
    · exact .inl ⟨⟨((y 0).val - 32) / 256, by rw [trips1]; omega⟩, tile_mem (k0_off2_eq _) (k0_off2_inb _) y (by show 256 * (((y 0).val - 32) / 256) + 32 ≤ _; omega)
        (by show _ < 256 * (((y 0).val - 32) / 256) + 32 + 256; omega)⟩

theorem read_gpad (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S8x256 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S8x256 .f32) (harg9 : arg9.IsWhole) (arg10 : Memref sig .tc .vmem S4128x256 .f32) (harg10 : arg10.IsWhole) (arg11 : Memref sig .tc .vmem S4128x256 .f32) (harg11 : arg11.IsWhole) (arg12 : Memref sig .tc .vmem S8x8x256 .f32) (harg12 : arg12.IsWhole)
    (x1 x2 x3 x4 : Vec F S4096x256 .bf16) (f : BufTy.Contents (Elt F) arg11.view.ty) :
    arg11.view.read (Elt F) (arg11.view.writes (Elt F) f ((pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) k0_t1_loop.trips).2
      ++ [⟨Rect.unit ![4096, 0] S32x256.size inb_S4128x256_S32x256_4096_0, k0_pay14⟩])) = gpad x1 x2 := by
  refine read_tiles arg11.view f (fun m => (pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) m).2)
    (fun k => ⟨Rect.unit (s := S4128x256) (k0_off3 k) S256x256.size (k0_off3_inb k), k0_pay17 (rows x1 (256 * k.val) (by have := lt1 k; omega)) (rows x2 (256 * k.val) (by have := lt1 k; omega))⟩)
    rfl (fun k => ?_) _ _ (fun k x => ?_) (fun p hp x => ?_) (fun y => ?_)
  · show (pb_k0_t1 (F := F) Variants.none c none i arg1 harg1 arg2 harg2 arg3 harg3 arg4 harg4 arg5 harg5 arg6 harg6 arg7 harg7 arg8 harg8 arg9 harg9 arg10 harg10 arg11 harg11 arg12 harg12 _ _ _ _ (k.val + 1)).2 = _
    rw [pb_k0_t1_succ, t1L]; rfl
  · exact (gpad_at x1 x2 k.val (lt1 k) x _ (tile_emb (k0_off3_eq k) (k0_off3_inb k) x).1 (tile_emb (k0_off3_eq k) (k0_off3_inb k) x).2).symm
  · obtain rfl := List.mem_singleton.1 hp
    exact (gpad_bot x1 x2 x _ (tile_emb rfl inb_S4128x256_S32x256_4096_0 x).1 (tile_emb rfl inb_S4128x256_S32x256_4096_0 x).2).symm
  · have hy : (y 0).val < 4128 := (y 0).isLt
    by_cases h : (y 0).val < 4096
    · exact .inl ⟨⟨(y 0).val / 256, by rw [trips1]; omega⟩, tile_mem (k0_off3_eq _) (k0_off3_inb _) y (by show 256 * ((y 0).val / 256) ≤ _; omega)
        (by show _ < 256 * ((y 0).val / 256) + 256; omega)⟩
    · exact .inr ⟨_, List.mem_singleton.2 rfl, tile_mem rfl inb_S4128x256_S32x256_4096_0 y (by omega) (by omega)⟩

theorem read_stack {κ : Kind} {sp : Space} (v : View sig κ sp S4096x256 .bf16) (f : v.ty.Contents (Elt F)) (L : ℕ → List (View.Piece (Elt F) S4096x256 .bf16)) (h0 : L 0 = [])
    (G : ∀ k, k < 16 → Vec F S256x256 .bf16)
    (hs : ∀ k : Fin k0_t2_loop.trips, L (k.val + 1) = ⟨Rect.unit (s := S4096x256) (k0_off5 k) S256x256.size (k0_off5_inb k), G k.val (lt2 k)⟩ :: L k.val) :
    v.read (Elt F) (v.writes (Elt F) f (L k0_t2_loop.trips)) = stack G := by
  rw [← List.append_nil (L k0_t2_loop.trips)]
  refine read_tiles v f L (fun k => ⟨Rect.unit (s := S4096x256) (k0_off5 k) S256x256.size (k0_off5_inb k), G k.val (lt2 k)⟩) h0 hs _ _ (fun k x => ?_)
    (fun p hp => absurd hp List.not_mem_nil) (fun y => .inl ?_)
  · exact (stack_at G k.val (lt2 k) x _ (tile_emb (k0_off5_eq k) (k0_off5_inb k) x).1 (tile_emb (k0_off5_eq k) (k0_off5_inb k) x).2).symm
  · have hy : (y 0).val < 4096 := (y 0).isLt
    exact ⟨⟨(y 0).val / 256, by rw [trips2]; omega⟩, tile_mem (k0_off5_eq _) (k0_off5_inb _) y (by show 256 * ((y 0).val / 256) ≤ _; omega)
      (by show _ < 256 * ((y 0).val / 256) + 256; omega)⟩

theorem fold_eq {a : Vec F S8x8x256 .f32} {p q r : Vec F S1x8x256 .f32} (hp : p = plane a 2 (by omega)) (hq : q = plane a 1 (by omega)) (hr : r = plane a 0 (by omega)) :
    VecWindow.put (s := S8x256) (VecWindow.put (VecWindow.put k0_pay19 ![0, 0] S1x256.size (k0_pay20 p)) ![1, 0] S1x256.size (k0_pay1 q)) ![2, 0] S1x256.size (k0_pay2 r) = fold a := by
  subst hp hq hr; rfl

section Second

variable (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S8x256 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S8x256 .f32) (harg9 : arg9.IsWhole) (arg10 : Memref sig .tc .vmem S4128x256 .f32) (harg10 : arg10.IsWhole) (arg11 : Memref sig .tc .vmem S4128x256 .f32) (harg11 : arg11.IsWhole) (arg12 : Memref sig .tc .vmem S8x8x256 .f32) (harg12 : arg12.IsWhole)
  (x1 x2 x3 x4 : Vec F S4096x256 .bf16) (x5 : Vec F S8x256 .f32) (X10 : BufTy.Contents (Elt F) arg10.view.ty) (X11 : BufTy.Contents (Elt F) arg11.view.ty)
  (g6 : BufTy.Contents (Elt F) arg6.view.ty) (g7 : BufTy.Contents (Elt F) arg7.view.ty) (g8 : BufTy.Contents (Elt F) arg8.view.ty) (g12 : BufTy.Contents (Elt F) arg12.view.ty)

variable {z g : Vec F S4128x256 .f32} (hz : arg10.view.read (Elt F) X10 = z) (hg : arg11.view.read (Elt F) X11 = g) (h12 : arg12.view.read (Elt F) g12 = k0_pay15)

include hz hg h12 in
theorem read_acc : ∀ m, m ≤ 16 → arg12.view.read (Elt F) (arg12.view.writes (Elt F) g12 (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 m).2.2.2) = acc g z m
  | 0, _ => h12
  | m + 1, hm => by
    have ih := read_acc m (by omega)
    have hs := pb_k0_t2_succ (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12
      ⟨m, by rw [trips2]; omega⟩
    rw [t2L c i arg1 harg1 arg2 harg2 arg3 harg3 arg4 harg4 arg5 harg5 arg6 harg6 arg7 harg7 arg8 harg8 arg9 harg9 arg10 harg10 arg11 harg11 arg12 harg12 x1 x3 x4 x5 X10 X11 _ _ _ _ z g hz hg (acc g z m) ih ⟨m, by rw [trips2]; omega⟩ hm] at hs
    dsimp only [List.cons_append, List.nil_append] at hs
    rw [show (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 (m + 1)) = _ from hs]
    dsimp only
    rw [View.read_writes_cons_put arg12.view g12 _ _ _ rfl, View.read_writes_cons_put arg12.view g12 _ _ _ rfl, View.read_writes_cons_put arg12.view g12 _ _ _ rfl, ih]
    exact (acc_succ g z m hm).symm

theorem read_db (hz : arg10.view.read (Elt F) X10 = zpad x3 x4) (hg : arg11.view.read (Elt F) X11 = gpad x1 x2) (h12 : arg12.view.read (Elt F) g12 = k0_pay15) :
    arg6.view.read (Elt F) (arg6.view.writes (Elt F) g6 (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 k0_t2_loop.trips).1) = out6 x1 x2 x3 x4 x5 :=
  read_stack arg6.view g6 (fun m => (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 m).1) rfl (dbAt x1 x2 x3 x4 x5) fun k => by
    have hs := pb_k0_t2_succ (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 k
    rw [t2L c i arg1 harg1 arg2 harg2 arg3 harg3 arg4 harg4 arg5 harg5 arg6 harg6 arg7 harg7 arg8 harg8 arg9 harg9 arg10 harg10 arg11 harg11 arg12 harg12 x1 x3 x4 x5 X10 X11 _ _ _ _ _ _ hz hg _ (read_acc c i arg1 harg1 arg2 harg2 arg3 harg3 arg4 harg4 arg5 harg5 arg6 harg6 arg7 harg7 arg8 harg8 arg9 harg9 arg10 harg10 arg11 harg11 arg12 harg12 x1 x3 x4 x5 X10 X11 g6 g7 g8 g12 hz hg h12 k.val (lt2 k).le) k (lt2 k)] at hs
    exact congrArg (fun p => p.1) hs

theorem read_dc (hz : arg10.view.read (Elt F) X10 = zpad x3 x4) (hg : arg11.view.read (Elt F) X11 = gpad x1 x2) (h12 : arg12.view.read (Elt F) g12 = k0_pay15) :
    arg7.view.read (Elt F) (arg7.view.writes (Elt F) g7 (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 k0_t2_loop.trips).2.1) = out7 x1 x2 x3 x4 x5 :=
  read_stack arg7.view g7 (fun m => (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 m).2.1) rfl (dcAt x1 x2 x3 x4 x5) fun k => by
    have hs := pb_k0_t2_succ (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 k
    rw [t2L c i arg1 harg1 arg2 harg2 arg3 harg3 arg4 harg4 arg5 harg5 arg6 harg6 arg7 harg7 arg8 harg8 arg9 harg9 arg10 harg10 arg11 harg11 arg12 harg12 x1 x3 x4 x5 X10 X11 _ _ _ _ _ _ hz hg _ (read_acc c i arg1 harg1 arg2 harg2 arg3 harg3 arg4 harg4 arg5 harg5 arg6 harg6 arg7 harg7 arg8 harg8 arg9 harg9 arg10 harg10 arg11 harg11 arg12 harg12 x1 x3 x4 x5 X10 X11 g6 g7 g8 g12 hz hg h12 k.val (lt2 k).le) k (lt2 k)] at hs
    exact congrArg (fun p => p.2.1) hs

theorem read_dx (hz : arg10.view.read (Elt F) X10 = zpad x3 x4) (hg : arg11.view.read (Elt F) X11 = gpad x1 x2) (h12 : arg12.view.read (Elt F) g12 = k0_pay15) :
    arg8.view.read (Elt F) (arg8.view.writes (Elt F) g8 (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 k0_t2_loop.trips).2.2.1) = out8 x1 x2 x3 x4 x5 :=
  read_stack arg8.view g8 (fun m => (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 m).2.2.1) rfl (dxAt x1 x2 x3 x4 x5) fun k => by
    have hs := pb_k0_t2_succ (F := F) Variants.none c none i arg1 harg1 arg2 harg2 arg3 harg3 arg4 harg4 arg5 harg5 arg6 harg6 arg7 harg7 arg8 harg8 arg9 harg9 arg10 harg10 arg11 harg11 arg12 harg12 (harg1.unread x1) (harg3.unread x3) (harg4.unread x4) (harg5.unread x5) X10 X11 g6 g7 g8 g12 k
    rw [t2L c i arg1 harg1 arg2 harg2 arg3 harg3 arg4 harg4 arg5 harg5 arg6 harg6 arg7 harg7 arg8 harg8 arg9 harg9 arg10 harg10 arg11 harg11 arg12 harg12 x1 x3 x4 x5 X10 X11 _ _ _ _ _ _ hz hg _ (read_acc c i arg1 harg1 arg2 harg2 arg3 harg3 arg4 harg4 arg5 harg5 arg6 harg6 arg7 harg7 arg8 harg8 arg9 harg9 arg10 harg10 arg11 harg11 arg12 harg12 x1 x3 x4 x5 X10 X11 g6 g7 g8 g12 hz hg h12 k.val (lt2 k).le) k (lt2 k)] at hs
    exact congrArg (fun p => p.2.2.1) hs

end Second

set_option maxHeartbeats 4000000 in
theorem run_point (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S8x256 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S8x256 .f32) (harg9 : arg9.IsWhole) (arg10 : Memref sig .tc .vmem S4128x256 .f32) (harg10 : arg10.IsWhole) (arg11 : Memref sig .tc .vmem S4128x256 .f32) (harg11 : arg11.IsWhole) (arg12 : Memref sig .tc .vmem S8x8x256 .f32) (harg12 : arg12.IsWhole)
    (x1 x2 x3 x4 : Vec F S4096x256 .bf16) (x5 : Vec F S8x256 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out6 x1 x2 x3 x4 x5) ∗ owns (c : Thread nD τ) arg7 fullShare (out7 x1 x2 x3 x4 x5)
            ∗ owns (c : Thread nD τ) arg8 fullShare (out8 x1 x2 x3 x4 x5) ∗ owns (c : Thread nD τ) arg9 fullShare (out9 x1 x2 x3 x4 x5)
            ∗ (∃ d, owns (c : Thread nD τ) arg10 fullShare d) ∗ (∃ d, owns (c : Thread nD τ) arg11 fullShare d)
            ∗ (∃ d, owns (c : Thread nD τ) arg12 fullShare d)) -∗ K ⟨⟩))
      ⊢ wp frame (wpE (defs₀ (F := F)) Variants.none c none) E (cc0_mix_l3_b_conv i arg1 harg1 arg2 harg2 arg3 harg3 arg4 harg4 arg5 harg5 arg6 harg6 arg7 harg7 arg8 harg8 arg9 harg9 arg10 harg10 arg11 harg11 arg12 harg12) K := by
  simp only [cc0_mix_l3_b_conv_eq_skeleton]; unfold cc0_mix_l3_b_conv_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3
  obtain rfl := harg4.eq_unread hf4; obtain rfl := harg5.eq_unread hf5
  sl_exec
  sl_step
  iapply Hk
  unfold run_point.sl.v26 run_point.sl.v run_point.sl.v16
  have hz := read_zpad c i arg1 harg1 arg2 harg2 arg3 harg3 arg4 harg4 arg5 harg5 arg6 harg6 arg7 harg7 arg8 harg8 arg9 harg9 arg10 harg10 arg11 harg11 arg12 harg12 x1 x2 x3 x4 f10
  have hg := read_gpad c i arg1 harg1 arg2 harg2 arg3 harg3 arg4 harg4 arg5 harg5 arg6 harg6 arg7 harg7 arg8 harg8 arg9 harg9 arg10 harg10 arg11 harg11 arg12 harg12 x1 x2 x3 x4 f11
  have h12 : arg12.view.read (Elt F) (arg12.view.writes (Elt F) arg12.view.junk run_point.sl.H12_1) = k0_pay15 := by
    unfold run_point.sl.H12_1
    exact View.read_writes_full arg12.view _ _ _ _
  have hacc := ((congrArg (arg12.view.read (Elt F)) (View.writes_append arg12.view arg12.view.junk _ _)).trans
    (read_acc c i arg1 harg1 arg2 harg2 arg3 harg3 arg4 harg4 arg5 harg5 arg6 harg6 arg7 harg7 arg8 harg8 arg9 harg9 arg10 harg10 arg11 harg11 arg12 harg12 x1 x3 x4 x5 _ _ f6 f7 f8 _ hz hg h12 k0_t2_loop.trips trips2.le)).trans (congrArg _ trips2)
  isplitl [H1]; · iexists _; isplitr; swap; iexact H1; ipureintro; exact harg1.read_unread _
  isplitl [H2]; · iexists _; isplitr; swap; iexact H2; ipureintro; exact harg2.read_unread _
  isplitl [H3]; · iexists _; isplitr; swap; iexact H3; ipureintro; exact harg3.read_unread _
  isplitl [H4]; · iexists _; isplitr; swap; iexact H4; ipureintro; exact harg4.read_unread _
  isplitl [H5]; · iexists _; isplitr; swap; iexact H5; ipureintro; exact harg5.read_unread _
  isplitl [H6]; · iexists _; isplitr; swap; iexact H6; ipureintro; exact read_db c i arg1 harg1 arg2 harg2 arg3 harg3 arg4 harg4 arg5 harg5 arg6 harg6 arg7 harg7 arg8 harg8 arg9 harg9 arg10 harg10 arg11 harg11 arg12 harg12 x1 x2 x3 x4 x5 _ _ f6 f7 f8 _ hz hg h12
  isplitl [H7]; · iexists _; isplitr; swap; iexact H7; ipureintro; exact read_dc c i arg1 harg1 arg2 harg2 arg3 harg3 arg4 harg4 arg5 harg5 arg6 harg6 arg7 harg7 arg8 harg8 arg9 harg9 arg10 harg10 arg11 harg11 arg12 harg12 x1 x2 x3 x4 x5 _ _ f6 f7 f8 _ hz hg h12
  isplitl [H8]; · iexists _; isplitr; swap; iexact H8; ipureintro; exact read_dx c i arg1 harg1 arg2 harg2 arg3 harg3 arg4 harg4 arg5 harg5 arg6 harg6 arg7 harg7 arg8 harg8 arg9 harg9 arg10 harg10 arg11 harg11 arg12 harg12 x1 x2 x3 x4 x5 _ _ f6 f7 f8 _ hz hg h12
  isplitl [H9]
  · iexists _; isplitr; swap; iexact H9; ipureintro
    unfold View.readCov
    refine (View.read_writes_cons_put arg9.view f9 _ _ _ rfl).trans ?_
    rw [View.read_writes_cons_put arg9.view f9 _ _ _ rfl, View.read_writes_cons_put arg9.view f9 _ _ _ rfl, View.read_writes_full]
    exact fold_eq (load_plane hacc (o := 2) rfl _ (by omega)) (load_plane hacc (o := 1) rfl _ (by omega)) (load_plane hacc (o := 0) rfl _ (by omega))
  isplitl [H10]; · iexists _; iexists _; isplitr; swap; iexact H10; ipureintro; rfl
  isplitl [H11]; · iexists _; iexists _; isplitr; swap; iexact H11; ipureintro; rfl
  iexists _; iexists _; isplitr; swap; iexact H12; ipureintro; rfl

end Cert.Proof.SconvRun

end
-- ==== Proof.SconvFrame.lean ====
module

public import proofs.«01_k».proof.Proof.SconvRun
public import Idealize.ShloMosaic.Lib.Pipeline.Frame
public import Idealize.ShloMosaic.Lib.Pipeline.FrameBody
public import Idealize.ShloMosaic.Lib.Tactic
public import Idealize.ShloMosaic.Lib.Claim

@[expose] public section

set_option maxRecDepth 16384

noncomputable section

namespace Cert.Proof.SconvFrame

open Cert.KernelSconvIdeal Cert.KernelSconvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.SconvSpec

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four blocks a grid point writes, from the five it reads. -/
def wr6 (c : Dev nD) (t : Fin cfg0.N) : Vec F S4096x256 .bf16 := out6 (iblk m c 0 t) (iblk m c 1 t) (iblk m c 2 t) (iblk m c 3 t) (iblk m c 4 t)
def wr7 (c : Dev nD) (t : Fin cfg0.N) : Vec F S4096x256 .bf16 := out7 (iblk m c 0 t) (iblk m c 1 t) (iblk m c 2 t) (iblk m c 3 t) (iblk m c 4 t)
def wr8 (c : Dev nD) (t : Fin cfg0.N) : Vec F S4096x256 .bf16 := out8 (iblk m c 0 t) (iblk m c 1 t) (iblk m c 2 t) (iblk m c 3 t) (iblk m c 4 t)
def wr9 (c : Dev nD) (t : Fin cfg0.N) : Vec F S8x256 .f32 := out9 (iblk m c 0 t) (iblk m c 1 t) (iblk m c 2 t) (iblk m c 3 t) (iblk m c 4 t)

/-- The pipeline's proof data: inputs left in place, outputs as above, the scratch at anything between points; the
    three windows on one array hold a share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wr6 m c t
    | ⟨6, _⟩ => wr7 m c t
    | ⟨7, _⟩ => wr8 m c t
    | ⟨8, _⟩ => wr9 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = wr6 m c t := by dsimp only [dats]
theorem after0_6 (c : Dev nD) (t : Fin cfg0.N) : (dats m 0 c).after 6 t = wr7 m c t := by dsimp only [dats]
theorem after0_7 (c : Dev nD) (t : Fin cfg0.N) : (dats m 0 c).after 7 t = wr8 m c t := by dsimp only [dats]
theorem after0_8 (c : Dev nD) (t : Fin cfg0.N) : (dats m 0 c).after 8 t = wr9 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (st0_5 t) fullShare (wr6 m c t) := by
  unfold Dat.leavesExact; rw [show cfg0.idle 5 (grid0.coords t) = false from rfl, after0_5]
theorem leaves0_6 (c : Dev nD) (t : Fin cfg0.N) : (dats m 0 c).leavesExact 6 t = owns (c : Thread nD τ) (st0_6 t) fullShare (wr7 m c t) := by
  unfold Dat.leavesExact; rw [show cfg0.idle 6 (grid0.coords t) = false from rfl, after0_6]
theorem leaves0_7 (c : Dev nD) (t : Fin cfg0.N) : (dats m 0 c).leavesExact 7 t = owns (c : Thread nD τ) (st0_7 t) fullShare (wr8 m c t) := by
  unfold Dat.leavesExact; rw [show cfg0.idle 7 (grid0.coords t) = false from rfl, after0_7]
theorem leaves0_8 (c : Dev nD) (t : Fin cfg0.N) : (dats m 0 c).leavesExact 8 t = owns (c : Thread nD τ) (st0_8 t) fullShare (wr9 m c t) := by
  unfold Dat.leavesExact; rw [show cfg0.idle 8 (grid0.coords t) = false from rfl, after0_8]

/-- The scratch operands as memrefs owned at some contents. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4, leaves0_5, leaves0_6, leaves0_7, leaves0_8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (SconvRun.run_point c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8))
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) Set.univ _)

  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: it ends with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.SconvFrame

end
-- ==== Proof.SconvPayloads.lean ====
module

public import proofs.«01_k».proof.Proof.SconvSpec
public import Idealize.ShloMosaic.Lib.Pointwise

@[expose] public section

set_option maxRecDepth 16384

noncomputable section

namespace Cert.Proof.SconvVal

open Cert.KernelSconvIdeal Cert.KernelSconvIdeal.Gen
open Idealize.ShloMosaic Idealize.ShloMosaic.TcCoe

/-! ### The body's values at an index -/

theorem pay3_at (w2 : Vec Ideal S1x256 .f32) (u2 : Vec Ideal S264x256 .f32) (w1 : Vec Ideal S1x256 .f32) (u1 : Vec Ideal S264x256 .f32)
    (w0 : Vec Ideal S1x256 .f32) (u0 : Vec Ideal S264x256 .f32) (d : Vec Ideal S256x256 .bf16) (r b : Fin 256) :
    k0_pay3 (F := Ideal) w2 u2 w1 u1 w0 u0 d (ix2 r b)
      = d (ix2 r b) * (w2 (ix2 0 b) * u2 (ix2 ⟨8 + r.val, by omega⟩ b) + w1 (ix2 0 b) * u1 (ix2 ⟨7 + r.val, by omega⟩ b)
        + w0 (ix2 0 b) * u0 (ix2 ⟨6 + r.val, by omega⟩ b)) := by
  have e1 : (8 + r.val + 264 - 1) % 264 = 7 + r.val := by omega
  have e0 : (8 + r.val + 264 - 2) % 264 = 6 + r.val := by omega
  pointwise [k0_pay3]
  simp only [e1, e0]

theorem pay5_at (u2 : Vec Ideal S264x256 .f32) (w2 : Vec Ideal S1x256 .f32) (w1 : Vec Ideal S1x256 .f32) (u1 : Vec Ideal S264x256 .f32)
    (w0 : Vec Ideal S1x256 .f32) (u0 : Vec Ideal S264x256 .f32) (r b : Fin 256) :
    k0_pay5 (F := Ideal) u2 (k0_pay4 w2) w1 u1 w0 u0 (ix2 r b)
      = w2 (ix2 0 b) * u2 (ix2 ⟨r.val, by omega⟩ b) + w1 (ix2 0 b) * u1 (ix2 ⟨r.val + 1, by omega⟩ b)
        + w0 (ix2 0 b) * u0 (ix2 ⟨r.val + 2, by omega⟩ b) := by
  have e1 : (r.val + 264 - 263) % 264 = r.val + 1 := by omega
  have e0 : (r.val + 264 - 262) % 264 = r.val + 2 := by omega
  pointwise [k0_pay5, k0_pay4]
  simp only [e1, e0]

theorem pay9_at (u : Vec Ideal S264x256 .f32) (z : Vec Ideal S256x256 .f32) (a : Vec Ideal S1x8x256 .f32) (r : Fin 8) (b : Fin 256) :
    k0_pay9 (F := Ideal) (k0_pay8 u) z a (ix3 0 r b)
      = a (ix3 0 r b) + ∑ s : Fin 32, u (ix2 ⟨8 * s.val + r.val, by omega⟩ b) * z (ix2 ⟨8 * s.val + r.val, by omega⟩ b) := by
  have e : ∀ s : Fin 32, s.val * 8 + r.val = 8 * s.val + r.val := fun s => by omega
  pointwise [k0_pay9, k0_pay8]
  simp only [e]

theorem pay10_at (u : Vec Ideal S264x256 .f32) (z : Vec Ideal S256x256 .f32) (a : Vec Ideal S1x8x256 .f32) (r : Fin 8) (b : Fin 256) :
    k0_pay10 (F := Ideal) u z a (ix3 0 r b)
      = a (ix3 0 r b) + ∑ s : Fin 32, u (ix2 ⟨8 * s.val + r.val + 1, by omega⟩ b) * z (ix2 ⟨8 * s.val + r.val, by omega⟩ b) := by
  have e : ∀ s : Fin 32, s.val * 8 + r.val = 8 * s.val + r.val := fun s => by omega
  have e' : ∀ s : Fin 32, (8 * s.val + r.val + 264 - 263) % 264 = 8 * s.val + r.val + 1 := fun s => by omega
  pointwise [k0_pay10]
  simp only [e, e']

theorem pay18_at (u : Vec Ideal S264x256 .f32) (z : Vec Ideal S256x256 .f32) (a : Vec Ideal S1x8x256 .f32) (r : Fin 8) (b : Fin 256) :
    k0_pay18 (F := Ideal) (k0_pay11 a) (k0_pay12 u z) (ix3 0 r b)
      = a (ix3 0 r b) + ∑ s : Fin 32, u (ix2 ⟨8 * s.val + r.val + 2, by omega⟩ b) * z (ix2 ⟨8 * s.val + r.val, by omega⟩ b) := by
  have e : ∀ s : Fin 32, s.val * 8 + r.val = 8 * s.val + r.val := fun s => by omega
  have e' : ∀ s : Fin 32, (8 * s.val + r.val + 264 - 262) % 264 = 8 * s.val + r.val + 2 := fun s => by omega
  pointwise [k0_pay18, k0_pay11, k0_pay12]
  simp only [e, e']

theorem pay1_at (a : Vec Ideal S1x8x256 .f32) (b : Fin 256) : k0_pay1 (F := Ideal) a (ix2 0 b) = ∑ r : Fin 8, a (ix3 0 r b) := by
  pointwise [k0_pay1]

theorem pay16_at (u v : Vec Ideal S256x256 .bf16) (r b : Fin 256) : k0_pay16 (F := Ideal) u v (ix2 r b) = u (ix2 r b) * v (ix2 r b) := by
  pointwise [k0_pay16]

theorem pay13_at (i : S32x256.Idx) : k0_pay13 (F := Ideal) i = 0 := by
  pointwise [k0_pay13]

theorem pay15_at (i : S8x8x256.Idx) : k0_pay15 (F := Ideal) i = 0 := by
  pointwise [k0_pay15]

theorem pay19_at (i : S8x256.Idx) : k0_pay19 (F := Ideal) i = 0 := by
  pointwise [k0_pay19]

end Cert.Proof.SconvVal

end
-- ==== Proof.SconvMath.lean ====
module

public import Mathlib.Data.EReal.Operations
public import Idealize.ShloMosaic.Lib.Pointwise

@[expose] public section

noncomputable section

/-! One column of the gated convolution's gradient over the extended reals. `q` is the product `c * x` moved down by two
    rows, zero above; `g` is the product `dy * b`, zero below. -/

namespace Cert.Sconv

open Idealize.ShloMosaic

def q (c x : Fin 4096 → EReal) (t : ℕ) : EReal := if h : 2 ≤ t ∧ t < 4098 then c ⟨t - 2, by omega⟩ * x ⟨t - 2, by omega⟩ else 0

def g (d b : Fin 4096 → EReal) (t : ℕ) : EReal := if h : t < 4096 then d ⟨t, h⟩ * b ⟨t, h⟩ else 0

theorem q_low (c x : Fin 4096 → EReal) (t : ℕ) (h : t < 2) : q c x t = 0 := dif_neg (by omega)
theorem q_in (c x : Fin 4096 → EReal) (t : ℕ) (s : Fin 4096) (h : t = s.val + 2) : q c x t = c s * x s := by
  subst h; exact dif_pos (by omega)
theorem g_high (d b : Fin 4096 → EReal) (t : ℕ) (h : 4096 ≤ t) : g d b t = 0 := dif_neg (by omega)
theorem g_in (d b : Fin 4096 → EReal) (t : ℕ) (s : Fin 4096) (h : t = s.val) : g d b t = d s * b s := by
  subst h; exact dif_pos s.isLt

/-- The convolution at row `t`. -/
def conv (w : Fin 8 → EReal) (c x : Fin 4096 → EReal) (t : ℕ) : EReal := w 2 * q c x (t + 2) + w 1 * q c x (t + 1) + w 0 * q c x t

/-- The gradient of the product `c * x` at row `t`. -/
def dq (w : Fin 8 → EReal) (d b : Fin 4096 → EReal) (t : ℕ) : EReal := w 2 * g d b t + w 1 * g d b (t + 1) + w 0 * g d b (t + 2)

/-- The gradient of tap `k`. -/
def dw (d b c x : Fin 4096 → EReal) (k : ℕ) : EReal := if k < 3 then ∑ t : Fin 4096, q c x (t.val + k) * g d b t.val else 0

/-- A sum moved by one row, both its ends zero. -/
theorem shift (h : ℕ → EReal) (n : ℕ) (h0 : h 0 = 0) (hn : h n = 0) : ∑ t : Fin n, h (t.val + 1) = ∑ t : Fin n, h t.val := by
  rw [← Finset.sum_range fun t => h (t + 1), ← Finset.sum_range h]
  have e := Finset.sum_range_succ h n
  rw [Finset.sum_range_succ', h0, hn, add_zero, add_zero] at e
  exact e

/-- Rows of `g` moved up against `q` are rows of `q` moved down against `g`. -/
theorem dw_0 (d b c x : Fin 4096 → EReal) : ∑ t : Fin 4096, g d b (t.val + 2) * q c x (t.val + 2) = dw d b c x 0 := by
  rw [dw, if_pos (by omega)]
  refine (shift (fun t => g d b (t + 1) * q c x (t + 1)) 4096 ?_ ?_).trans ((shift (fun t => g d b t * q c x t) 4096 ?_ ?_).trans
    (Finset.sum_congr rfl fun t _ => mul_comm _ _))
  · show g d b 1 * q c x 1 = 0
    rw [q_low c x 1 (by omega), mul_zero]
  · show g d b 4097 * q c x 4097 = 0
    rw [g_high d b 4097 (by omega), zero_mul]
  · show g d b 0 * q c x 0 = 0
    rw [q_low c x 0 (by omega), mul_zero]
  · show g d b 4096 * q c x 4096 = 0
    rw [g_high d b 4096 (by omega), zero_mul]

theorem dw_1 (d b c x : Fin 4096 → EReal) : ∑ t : Fin 4096, g d b (t.val + 1) * q c x (t.val + 2) = dw d b c x 1 := by
  rw [dw, if_pos (by omega)]
  refine (shift (fun t => g d b t * q c x (t + 1)) 4096 ?_ ?_).trans (Finset.sum_congr rfl fun t _ => mul_comm _ _)
  · show g d b 0 * q c x 1 = 0
    rw [q_low c x 1 (by omega), mul_zero]
  · show g d b 4096 * q c x 4097 = 0
    rw [g_high d b 4096 (by omega), zero_mul]

theorem dw_2 (d b c x : Fin 4096 → EReal) : ∑ t : Fin 4096, g d b t.val * q c x (t.val + 2) = dw d b c x 2 := by
  rw [dw, if_pos (by omega)]
  exact Finset.sum_congr rfl fun t _ => mul_comm _ _

theorem dw_ge (d b c x : Fin 4096 → EReal) (k : ℕ) (h : 3 ≤ k) : dw d b c x k = 0 := if_neg (by omega)

/-- Eight interleaved sums over sixteen chunks of thirty-two rows each are the sum over all the rows. -/
theorem chunks (f : ℕ → EReal) : ∑ r : Fin 8, ∑ k : Fin 16, ∑ s : Fin 32, f (256 * k.val + 8 * s.val + r.val) = ∑ t : Fin 4096, f t.val := by
  rw [Fin.sum_univ_tiles 16 256 (show 16 * 256 = 4096 from rfl), Finset.sum_comm]
  refine Finset.sum_congr rfl fun k _ => ?_
  rw [Fin.sum_univ_tiles 32 8 (show 32 * 8 = 256 from rfl), Finset.sum_comm]
  refine Finset.sum_congr rfl fun s _ => Finset.sum_congr rfl fun r _ => congrArg f ?_
  dsimp only; omega

end Cert.Sconv

end
-- ==== Proof.SconvBlocks.lean ====
module

public import proofs.«01_k».proof.Proof.SconvPayloads
public import proofs.«01_k».proof.Proof.SconvMath

@[expose] public section

set_option maxRecDepth 16384

noncomputable section

/-! One grid point's output blocks at an index, over the extended reals: column by column the functions of `Cert.Sconv`. -/

namespace Cert.Proof.SconvVal

open Cert.KernelSconvIdeal Cert.KernelSconvIdeal.Gen Cert.Proof.SconvSpec Cert.Sconv
open Idealize.ShloMosaic Idealize.ShloMosaic.TcCoe
open Idealize.ShloMosaic.VecWindow (window put)

/-! ### Windows at an index -/

theorem rows_at (x : Vec Ideal S4096x256 .bf16) (o : ℕ) (h : o + 256 ≤ 4096) (r b : Fin 256) (t : Fin 4096) (e : t.val = o + r.val) :
    rows x o h (ix2 r b) = x (ix2 t b) := by
  refine congrArg x (funext fun a => Fin.ext ?_)
  match a with
  | ⟨0, _⟩ => show o + 1 * r.val = t.val; omega
  | ⟨1, _⟩ => show 0 + 1 * b.val = b.val; omega

theorem prows_at (z : Vec Ideal S4128x256 .f32) (o : ℕ) (h : o + 256 ≤ 4128) (r b : Fin 256) :
    prows z o h (ix2 r b) = z (ix2 ⟨o + r.val, by omega⟩ b) := by
  refine congrArg z (funext fun a => Fin.ext ?_)
  match a with
  | ⟨0, _⟩ => show o + 1 * r.val = o + r.val; omega
  | ⟨1, _⟩ => show 0 + 1 * b.val = b.val; omega

theorem wide_at (z : Vec Ideal S4128x256 .f32) (o : ℕ) (h : o + 264 ≤ 4128) (r : Fin 264) (b : Fin 256) :
    wide z o h (ix2 r b) = z (ix2 ⟨o + r.val, by omega⟩ b) := by
  refine congrArg z (funext fun a => Fin.ext ?_)
  match a with
  | ⟨0, _⟩ => show o + 1 * r.val = o + r.val; omega
  | ⟨1, _⟩ => show 0 + 1 * b.val = b.val; omega

theorem tap_at (w : Vec Ideal S8x256 .f32) (o : ℕ) (k : Fin 8) (e : k.val = o) (h : o + 1 ≤ 8) (b : Fin 256) : tap w o h (ix2 0 b) = w (ix2 k b) := by
  subst e
  refine congrArg w (funext fun a => Fin.ext ?_)
  match a with
  | ⟨0, _⟩ => show k.val + 1 * 0 = k.val; omega
  | ⟨1, _⟩ => show 0 + 1 * b.val = b.val; omega

theorem plane_at (a : Vec Ideal S8x8x256 .f32) (o : ℕ) (p : Fin 8) (e : p.val = o) (h : o + 1 ≤ 8) (r : Fin 8) (b : Fin 256) :
    plane a o h (ix3 0 r b) = a (ix3 p r b) := by
  subst e
  refine congrArg a (funext fun d => Fin.ext ?_)
  match d with
  | ⟨0, _⟩ => show p.val + 1 * 0 = p.val; omega
  | ⟨1, _⟩ => show 0 + 1 * r.val = r.val; omega
  | ⟨2, _⟩ => show 0 + 1 * b.val = b.val; omega

theorem put3_eq (a : Vec Ideal S8x8x256 .f32) (o : Fin 8) (w : Vec Ideal S1x8x256 .f32) (r : Fin 8) (b : Fin 256) :
    put (s := S8x8x256) a ![o.val, 0, 0] S1x8x256.size w (ix3 o r b) = w (ix3 0 r b) := by
  refine (dif_pos fun d => ?_).trans (congrArg w (funext fun d => Fin.ext ?_))
  · match d with
    | ⟨0, _⟩ => show o.val ≤ o.val ∧ o.val < o.val + 1; omega
    | ⟨1, _⟩ => show 0 ≤ r.val ∧ r.val < 0 + 8; omega
    | ⟨2, _⟩ => show 0 ≤ b.val ∧ b.val < 0 + 256; omega
  · match d with
    | ⟨0, _⟩ => show o.val - o.val = 0; omega
    | ⟨1, _⟩ => show r.val - 0 = r.val; omega
    | ⟨2, _⟩ => show b.val - 0 = b.val; omega

theorem put3_ne (a : Vec Ideal S8x8x256 .f32) (o p : Fin 8) (hp : p ≠ o) (w : Vec Ideal S1x8x256 .f32) (r : Fin 8) (b : Fin 256) :
    put (s := S8x8x256) a ![o.val, 0, 0] S1x8x256.size w (ix3 p r b) = a (ix3 p r b) := by
  refine dif_neg fun h => hp ?_
  have h0 : o.val ≤ p.val ∧ p.val < o.val + 1 := h 0
  omega

theorem put2_eq (a : Vec Ideal S8x256 .f32) (o : Fin 8) (w : Vec Ideal S1x256 .f32) (b : Fin 256) :
    put (s := S8x256) a ![o.val, 0] S1x256.size w (ix2 o b) = w (ix2 0 b) := by
  refine (dif_pos fun d => ?_).trans (congrArg w (funext fun d => Fin.ext ?_))
  · match d with
    | ⟨0, _⟩ => show o.val ≤ o.val ∧ o.val < o.val + 1; omega
    | ⟨1, _⟩ => show 0 ≤ b.val ∧ b.val < 0 + 256; omega
  · match d with
    | ⟨0, _⟩ => show o.val - o.val = 0; omega
    | ⟨1, _⟩ => show b.val - 0 = b.val; omega

theorem put2_ne (a : Vec Ideal S8x256 .f32) (o p : Fin 8) (hp : p ≠ o) (w : Vec Ideal S1x256 .f32) (b : Fin 256) :
    put (s := S8x256) a ![o.val, 0] S1x256.size w (ix2 p b) = a (ix2 p b) := by
  refine dif_neg fun h => hp ?_
  have h0 : o.val ≤ p.val ∧ p.val < o.val + 1 := h 0
  omega

/-! ### The two padded products -/

/-- Column `b` of a block. -/
abbrev col (x : Vec Ideal S4096x256 .bf16) (b : Fin 256) : Fin 4096 → EReal := fun t => x (ix2 t b)
abbrev taps (w : Vec Ideal S8x256 .f32) (b : Fin 256) : Fin 8 → EReal := fun k => w (ix2 k b)

theorem zpad_eq (x3 x4 : Vec Ideal S4096x256 .bf16) (y : Fin 4128) (b : Fin 256) (t : ℕ) (h : y.val = t + 30) :
    zpad x3 x4 (ix2 y b) = q (col x3 b) (col x4 b) t := by
  by_cases ht : t < 2
  · rw [q_low _ _ _ ht]
    exact (zpad_top x3 x4 (ix2 ⟨t + 30, by omega⟩ b) _ h rfl).trans (pay13_at _)
  · have hy := y.isLt
    rw [zpad_at x3 x4 ((t - 2) / 256) (by omega) (ix2 ⟨(t - 2) % 256, by omega⟩ b) _ (by show y.val = 256 * ((t - 2) / 256) + 32 + (t - 2) % 256; omega) rfl,
      pay16_at, rows_at x3 _ _ _ b ⟨t - 2, by omega⟩ (by dsimp only; omega), rows_at x4 _ _ _ b ⟨t - 2, by omega⟩ (by dsimp only; omega)]
    exact (q_in (col x3 b) (col x4 b) t ⟨t - 2, by omega⟩ (by dsimp only; omega)).symm

theorem gpad_eq (x1 x2 : Vec Ideal S4096x256 .bf16) (y : Fin 4128) (b : Fin 256) (t : ℕ) (h : y.val = t) :
    gpad x1 x2 (ix2 y b) = g (col x1 b) (col x2 b) t := by
  by_cases ht : 4096 ≤ t
  · rw [g_high _ _ _ ht]
    exact (gpad_bot x1 x2 (ix2 ⟨t - 4096, by omega⟩ b) _ (by show y.val = 4096 + (t - 4096); omega) rfl).trans (pay13_at _)
  · rw [gpad_at x1 x2 (t / 256) (by omega) (ix2 ⟨t % 256, by omega⟩ b) _ (by show y.val = 256 * (t / 256) + t % 256; omega) rfl]
    refine (pay16_at _ _ _ _).trans ?_
    rw [rows_at x1 _ _ _ b ⟨t, by omega⟩ (by dsimp only; omega), rows_at x2 _ _ _ b ⟨t, by omega⟩ (by dsimp only; omega)]
    exact (g_in (col x1 b) (col x2 b) t ⟨t, by omega⟩ rfl).symm

/-! ### The three stacked outputs -/

section

variable (x1 x2 x3 x4 : Vec Ideal S4096x256 .bf16) (x5 : Vec Ideal S8x256 .f32)

theorem out6_at (t : Fin 4096) (b : Fin 256) :
    out6 x1 x2 x3 x4 x5 (ix2 t b) = x1 (ix2 t b) * conv (taps x5 b) (col x3 b) (col x4 b) t.val := by
  unfold out6
  rw [stack_at _ (t.val / 256) (by omega) (ix2 ⟨t.val % 256, by omega⟩ b) _ (by show t.val = 256 * (t.val / 256) + t.val % 256; omega) rfl]
  unfold dbAt
  rw [pay3_at, tap_at x5 2 2 rfl, tap_at x5 1 1 rfl, tap_at x5 0 0 rfl, wide_at, wide_at, wide_at, rows_at x1 _ _ _ b t (by dsimp only; omega),
    zpad_eq _ _ _ b (t.val + 2) (by dsimp only; omega), zpad_eq _ _ _ b (t.val + 1) (by dsimp only; omega), zpad_eq _ _ _ b t.val (by dsimp only; omega)]
  rfl

theorem dq_at (k : ℕ) (hk : k < 16) (r b : Fin 256) (t : Fin 4096) (e : t.val = 256 * k + r.val) :
    k0_pay5 (F := Ideal) (wide (gpad x1 x2) (256 * k) (by omega)) (k0_pay4 (tap x5 2 (by omega))) (tap x5 1 (by omega)) (wide (gpad x1 x2) (256 * k) (by omega))
      (tap x5 0 (by omega)) (wide (gpad x1 x2) (256 * k) (by omega)) (ix2 r b) = dq (taps x5 b) (col x1 b) (col x2 b) t.val := by
  rw [pay5_at, tap_at x5 2 2 rfl, tap_at x5 1 1 rfl, tap_at x5 0 0 rfl, wide_at, wide_at, wide_at,
    gpad_eq _ _ _ b t.val (by dsimp only; omega), gpad_eq _ _ _ b (t.val + 1) (by dsimp only; omega), gpad_eq _ _ _ b (t.val + 2) (by dsimp only; omega)]
  rfl

theorem out7_at (t : Fin 4096) (b : Fin 256) :
    out7 x1 x2 x3 x4 x5 (ix2 t b) = dq (taps x5 b) (col x1 b) (col x2 b) t.val * x4 (ix2 t b) := by
  unfold out7
  rw [stack_at _ (t.val / 256) (by omega) (ix2 ⟨t.val % 256, by omega⟩ b) _ (by show t.val = 256 * (t.val / 256) + t.val % 256; omega) rfl]
  exact congrArg₂ (fun x y : EReal => x * y) (dq_at x1 x2 x5 _ (by omega) _ b t (by dsimp only; omega)) (rows_at x4 _ (by omega) _ b t (by dsimp only; omega))

theorem out8_at (t : Fin 4096) (b : Fin 256) :
    out8 x1 x2 x3 x4 x5 (ix2 t b) = dq (taps x5 b) (col x1 b) (col x2 b) t.val * x3 (ix2 t b) := by
  unfold out8
  rw [stack_at _ (t.val / 256) (by omega) (ix2 ⟨t.val % 256, by omega⟩ b) _ (by show t.val = 256 * (t.val / 256) + t.val % 256; omega) rfl]
  exact congrArg₂ (fun x y : EReal => x * y) (dq_at x1 x2 x5 _ (by omega) _ b t (by dsimp only; omega)) (rows_at x3 _ (by omega) _ b t (by dsimp only; omega))

/-! ### The taps' gradient -/

/-- What row `r` of plane `p` takes from chunk `k`. -/
def part (p : Fin 8) (r : Fin 8) (b : Fin 256) (k : ℕ) : EReal :=
  ∑ s : Fin 32, g (col x1 b) (col x2 b) (256 * k + 8 * s.val + r.val + p.val) * q (col x3 b) (col x4 b) (256 * k + 8 * s.val + r.val + 2)

theorem part_eq (p : Fin 8) (hp : p.val < 3) (r : Fin 8) (b : Fin 256) (k : ℕ) (hk : k < 16) (f : Fin 32 → Fin 264)
    (hf : ∀ s, (f s).val = 8 * s.val + r.val + p.val) :
    ∑ s : Fin 32, wide (gpad x1 x2) (256 * k) (by omega) (ix2 (f s) b) * prows (zpad x3 x4) (256 * k + 32) (by omega) (ix2 ⟨8 * s.val + r.val, by omega⟩ b)
      = part x1 x2 x3 x4 p r b k := by
  refine Finset.sum_congr rfl fun s _ => ?_
  have e := hf s
  rw [wide_at, prows_at, gpad_eq _ _ _ b (256 * k + 8 * s.val + r.val + p.val) (by dsimp only; omega),
    zpad_eq _ _ _ b (256 * k + 8 * s.val + r.val + 2) (by dsimp only; omega)]

theorem accStep_at (a : Vec Ideal S8x8x256 .f32) (p : Fin 8) (hp : p.val < 3) (r : Fin 8) (b : Fin 256) (k : ℕ) (hk : k < 16) :
    accStep a (wide (gpad x1 x2) (256 * k) (by omega)) (prows (zpad x3 x4) (256 * k + 32) (by omega)) (ix3 p r b)
      = a (ix3 p r b) + part x1 x2 x3 x4 p r b k := by
  unfold accStep
  obtain rfl | rfl | rfl : p = 0 ∨ p = 1 ∨ p = 2 := by omega
  · refine (put3_ne _ 2 0 (by decide) _ r b).trans ((put3_ne _ 1 0 (by decide) _ r b).trans ((put3_eq _ 0 _ r b).trans ?_))
    rw [pay9_at, plane_at a 0 0 rfl]
    exact congrArg (a (ix3 0 r b) + ·) (part_eq x1 x2 x3 x4 0 hp r b k hk _ fun s => rfl)
  · refine (put3_ne _ 2 1 (by decide) _ r b).trans ((put3_eq _ 1 _ r b).trans ?_)
    rw [pay10_at, plane_at a 1 1 rfl]
    exact congrArg (a (ix3 1 r b) + ·) (part_eq x1 x2 x3 x4 1 hp r b k hk _ fun s => rfl)
  · refine (put3_eq _ 2 _ r b).trans ?_
    rw [pay18_at, plane_at a 2 2 rfl]
    exact congrArg (a (ix3 2 r b) + ·) (part_eq x1 x2 x3 x4 2 hp r b k hk _ fun s => rfl)

theorem acc_at (p : Fin 8) (hp : p.val < 3) (r : Fin 8) (b : Fin 256) :
    ∀ k, k ≤ 16 → acc (gpad x1 x2) (zpad x3 x4) k (ix3 p r b) = ∑ i ∈ Finset.range k, part x1 x2 x3 x4 p r b i
  | 0, _ => (pay15_at _).trans (Finset.sum_range_zero _).symm
  | k + 1, hk => by
    rw [acc_succ _ _ k hk, accStep_at x1 x2 x3 x4 _ p hp r b k hk, acc_at p hp r b k (by omega), Finset.sum_range_succ]

/-- A plane's eight rows added up. -/
theorem plane_sum (p : Fin 8) (hp : p.val < 3) (h : p.val + 1 ≤ 8) (b : Fin 256) :
    k0_pay1 (F := Ideal) (plane (acc (gpad x1 x2) (zpad x3 x4) 16) p.val h) (ix2 0 b)
      = ∑ t : Fin 4096, g (col x1 b) (col x2 b) (t.val + p.val) * q (col x3 b) (col x4 b) (t.val + 2) := by
  rw [pay1_at, ← chunks fun t => g (col x1 b) (col x2 b) (t + p.val) * q (col x3 b) (col x4 b) (t + 2)]
  refine Finset.sum_congr rfl fun r _ => ?_
  rw [plane_at _ _ p rfl, acc_at x1 x2 x3 x4 p hp r b 16 le_rfl, Finset.sum_range]
  rfl

theorem out9_at (k : Fin 8) (b : Fin 256) : out9 x1 x2 x3 x4 x5 (ix2 k b) = dw (col x1 b) (col x2 b) (col x3 b) (col x4 b) k.val := by
  unfold out9 fold
  obtain rfl | rfl | rfl | hk : k = 0 ∨ k = 1 ∨ k = 2 ∨ 3 ≤ k.val := by omega
  · refine (put2_ne _ 2 0 (by decide) _ b).trans ((put2_ne _ 1 0 (by decide) _ b).trans ((put2_eq _ 0 _ b).trans ?_))
    exact (plane_sum x1 x2 x3 x4 2 (by decide) _ b).trans (dw_0 _ _ _ _)
  · refine (put2_ne _ 2 1 (by decide) _ b).trans ((put2_eq _ 1 _ b).trans ?_)
    exact (plane_sum x1 x2 x3 x4 1 (by decide) _ b).trans (dw_1 _ _ _ _)
  · refine (put2_eq _ 2 _ b).trans ?_
    exact (plane_sum x1 x2 x3 x4 0 (by decide) _ b).trans (dw_2 _ _ _ _)
  · refine (put2_ne _ 2 k (by rintro rfl; exact absurd hk (by decide)) _ b).trans ((put2_ne _ 1 k (by rintro rfl; exact absurd hk (by decide)) _ b).trans
      ((put2_ne _ 0 k (by rintro rfl; exact absurd hk (by decide)) _ b).trans ?_))
    rw [pay19_at, dw_ge _ _ _ _ _ hk]

end

end Cert.Proof.SconvVal

end
-- ==== Proof.SconvKernel.lean ====
module

public import proofs.«01_k».proof.Proof.SconvFrame
public import proofs.«01_k».proof.Proof.SconvBlocks

@[expose] public section

set_option maxRecDepth 16384

noncomputable section

/-! The four output arrays after the run, at an index: each is written in four column blocks, one a grid point. -/

namespace Cert.Proof.SconvVal

open Cert.KernelSconvIdeal Cert.KernelSconvIdeal.Gen Cert.Proof.SconvSpec Cert.Proof.SconvFrame Cert.Sconv
open Idealize.ShloMosaic Idealize.ShloMosaic.TcCoe Idealize.SL.Sem

variable (m : (ℓ : Loc nD τ sig) → Buf (Elt Ideal) ℓ)

/-- The three arguments. -/
abbrev dy (c : Dev nD) : Vec Ideal S4096x1024 .bf16 := m ((c : Thread nD τ).loc main_arg0)
abbrev bgx (c : Dev nD) : Vec Ideal S4096x3072 .bf16 := m ((c : Thread nD τ).loc main_arg1)
abbrev wc (c : Dev nD) : Vec Ideal S8x1024 .f32 := m ((c : Thread nD τ).loc main_arg2)

/-- Column `j` of `dy` and of each third of `bgx`, and the taps of that column. -/
abbrev cy (c : Dev nD) (j : Fin 1024) : Fin 4096 → EReal := fun t => dy m c (ix2 t j)
abbrev cb (c : Dev nD) (j : Fin 1024) : Fin 4096 → EReal := fun t => bgx m c (ix2 t ⟨j.val, by omega⟩)
abbrev cc (c : Dev nD) (j : Fin 1024) : Fin 4096 → EReal := fun t => bgx m c (ix2 t ⟨1024 + j.val, by omega⟩)
abbrev cx (c : Dev nD) (j : Fin 1024) : Fin 4096 → EReal := fun t => bgx m c (ix2 t ⟨2048 + j.val, by omega⟩)
abbrev cw (c : Dev nD) (j : Fin 1024) : Fin 8 → EReal := fun k => wc m c (ix2 k j)

/-- Column `b` of point `p`'s blocks. -/
abbrev at_ (p : Fin cfg0.N) (b : Fin 256) : Fin 1024 :=
  ⟨p.val * 256 + b.val, by have := lt_of_lt_of_eq p.isLt (show cfg0.N = 4 from N_0); omega⟩

theorem i0 : ∀ t : Fin cfg0.N, win0_0.index t (0 : Fin 2) = 0 ∧ win0_0.index t (1 : Fin 2) = t.val := (by decide +kernel : ∀ t : Fin grid0.N, _)
theorem i1 : ∀ t : Fin cfg0.N, win0_1.index t (0 : Fin 2) = 0 ∧ win0_1.index t (1 : Fin 2) = t.val := (by decide +kernel : ∀ t : Fin grid0.N, _)
theorem i2 : ∀ t : Fin cfg0.N, win0_2.index t (0 : Fin 2) = 0 ∧ win0_2.index t (1 : Fin 2) = 4 + t.val := (by decide +kernel : ∀ t : Fin grid0.N, _)
theorem i3 : ∀ t : Fin cfg0.N, win0_3.index t (0 : Fin 2) = 0 ∧ win0_3.index t (1 : Fin 2) = 8 + t.val := (by decide +kernel : ∀ t : Fin grid0.N, _)
theorem i4 : ∀ t : Fin cfg0.N, win0_4.index t (0 : Fin 2) = 0 ∧ win0_4.index t (1 : Fin 2) = t.val := (by decide +kernel : ∀ t : Fin grid0.N, _)
theorem i5 : ∀ t : Fin cfg0.N, win0_5.index t (0 : Fin 2) = 0 ∧ win0_5.index t (1 : Fin 2) = t.val := (by decide +kernel : ∀ t : Fin grid0.N, _)
theorem i6 : ∀ t : Fin cfg0.N, win0_6.index t (0 : Fin 2) = 0 ∧ win0_6.index t (1 : Fin 2) = t.val := (by decide +kernel : ∀ t : Fin grid0.N, _)
theorem i7 : ∀ t : Fin cfg0.N, win0_7.index t (0 : Fin 2) = 0 ∧ win0_7.index t (1 : Fin 2) = t.val := (by decide +kernel : ∀ t : Fin grid0.N, _)
theorem i8 : ∀ t : Fin cfg0.N, win0_8.index t (0 : Fin 2) = 0 ∧ win0_8.index t (1 : Fin 2) = t.val := (by decide +kernel : ∀ t : Fin grid0.N, _)

/-- Point `p`'s five blocks, at their shapes. -/
abbrev t0 (c : Dev nD) (p : Fin cfg0.N) : Vec Ideal S4096x256 .bf16 := iblk m c 0 p
abbrev t1 (c : Dev nD) (p : Fin cfg0.N) : Vec Ideal S4096x256 .bf16 := iblk m c 1 p
abbrev t2 (c : Dev nD) (p : Fin cfg0.N) : Vec Ideal S4096x256 .bf16 := iblk m c 2 p
abbrev t3 (c : Dev nD) (p : Fin cfg0.N) : Vec Ideal S4096x256 .bf16 := iblk m c 3 p
abbrev t4 (c : Dev nD) (p : Fin cfg0.N) : Vec Ideal S8x256 .f32 := iblk m c 4 p

theorem t0_col (c : Dev nD) (p : Fin cfg0.N) (b : Fin 256) : col (t0 m c p) b = cy m c (at_ p b) := by
  funext t
  refine congrArg (dy m c) (funext fun d => Fin.ext ?_)
  obtain ⟨e0, e1⟩ := i0 p
  match d with
  | ⟨0, _⟩ => show win0_0.index p (0 : Fin 2) * 4096 + 1 * t.val = t.val; omega
  | ⟨1, _⟩ => show win0_0.index p (1 : Fin 2) * 256 + 1 * b.val = p.val * 256 + b.val; omega

theorem t1_col (c : Dev nD) (p : Fin cfg0.N) (b : Fin 256) : col (t1 m c p) b = cb m c (at_ p b) := by
  funext t
  refine congrArg (bgx m c) (funext fun d => Fin.ext ?_)
  obtain ⟨e0, e1⟩ := i1 p
  match d with
  | ⟨0, _⟩ => show win0_1.index p (0 : Fin 2) * 4096 + 1 * t.val = t.val; omega
  | ⟨1, _⟩ => show win0_1.index p (1 : Fin 2) * 256 + 1 * b.val = p.val * 256 + b.val; omega

theorem t2_col (c : Dev nD) (p : Fin cfg0.N) (b : Fin 256) : col (t2 m c p) b = cc m c (at_ p b) := by
  funext t
  refine congrArg (bgx m c) (funext fun d => Fin.ext ?_)
  obtain ⟨e0, e1⟩ := i2 p
  match d with
  | ⟨0, _⟩ => show win0_2.index p (0 : Fin 2) * 4096 + 1 * t.val = t.val; omega
  | ⟨1, _⟩ => show win0_2.index p (1 : Fin 2) * 256 + 1 * b.val = 1024 + (p.val * 256 + b.val); omega

theorem t3_col (c : Dev nD) (p : Fin cfg0.N) (b : Fin 256) : col (t3 m c p) b = cx m c (at_ p b) := by
  funext t
  refine congrArg (bgx m c) (funext fun d => Fin.ext ?_)
  obtain ⟨e0, e1⟩ := i3 p
  match d with
  | ⟨0, _⟩ => show win0_3.index p (0 : Fin 2) * 4096 + 1 * t.val = t.val; omega
  | ⟨1, _⟩ => show win0_3.index p (1 : Fin 2) * 256 + 1 * b.val = 2048 + (p.val * 256 + b.val); omega

theorem t4_col (c : Dev nD) (p : Fin cfg0.N) (b : Fin 256) : taps (t4 m c p) b = cw m c (at_ p b) := by
  funext k
  refine congrArg (wc m c) (funext fun d => Fin.ext ?_)
  obtain ⟨e0, e1⟩ := i4 p
  match d with
  | ⟨0, _⟩ => show win0_4.index p (0 : Fin 2) * 8 + 1 * k.val = k.val; omega
  | ⟨1, _⟩ => show win0_4.index p (1 : Fin 2) * 256 + 1 * b.val = p.val * 256 + b.val; omega

/-! ### Distinct points write distinct blocks -/

theorem inj5 : ∀ t t' : Fin cfg0.N, win0_5.index t = win0_5.index t' → t = t' := fun t t' h =>
  Fin.ext ((i5 t).2.symm.trans ((congrFun h (1 : Fin 2)).trans (i5 t').2))
theorem inj6 : ∀ t t' : Fin cfg0.N, win0_6.index t = win0_6.index t' → t = t' := fun t t' h =>
  Fin.ext ((i6 t).2.symm.trans ((congrFun h (1 : Fin 2)).trans (i6 t').2))
theorem inj7 : ∀ t t' : Fin cfg0.N, win0_7.index t = win0_7.index t' → t = t' := fun t t' h =>
  Fin.ext ((i7 t).2.symm.trans ((congrFun h (1 : Fin 2)).trans (i7 t').2))
theorem inj8 : ∀ t t' : Fin cfg0.N, win0_8.index t = win0_8.index t' → t = t' := fun t t' h =>
  Fin.ext ((i8 t).2.symm.trans ((congrFun h (1 : Fin 2)).trans (i8 t').2))

theorem split (j : Fin 1024) : ∃ (p : Fin cfg0.N) (b : Fin 256), j = at_ p b :=
  ⟨⟨j.val / 256, by rw [show cfg0.N = 4 from N_0]; omega⟩, ⟨j.val % 256, by omega⟩, Fin.ext (by show j.val = j.val / 256 * 256 + j.val % 256; omega)⟩

/-! ### The arrays -/

theorem db_at (c : Dev nD) (t : Fin 4096) (j : Fin 1024) :
    ((dats m 0 c).arrAt 5 cfg0.N : Vec Ideal S4096x1024 .bf16) (ix2 t j)
      = dy m c (ix2 t j) * conv (cw m c j) (cc m c j) (cx m c j) t.val := by
  obtain ⟨p, b, rfl⟩ := split j
  have hb := congrFun ((dats m 0 c).read_blk_arrAt_eq_flushed 5 (fun t t' _ _ hne => (cfg0.win 5).disjoint_blk fun h => hne (inj5 t t' h)) cfg0.N p p.isLt (flush0_5 p))
    (ix2 t b : S4096x256.Idx)
  refine Eq.trans (congrArg ((dats m 0 c).arrAt 5 cfg0.N) (funext fun d => Fin.ext ?_)) (hb.trans ?_)
  · obtain ⟨e0, e1⟩ := i5 p
    match d with
    | ⟨0, _⟩ => show t.val = win0_5.index p (0 : Fin 2) * 4096 + 1 * t.val; omega
    | ⟨1, _⟩ => show p.val * 256 + b.val = win0_5.index p (1 : Fin 2) * 256 + 1 * b.val; omega
  · rw [← t2_col, ← t3_col, ← t4_col]
    exact (out6_at (t0 m c p) (t1 m c p) (t2 m c p) (t3 m c p) (t4 m c p) t b).trans
      (congrArg (fun f : Fin 4096 → EReal => f t * _) (t0_col m c p b))

theorem dc_at (c : Dev nD) (t : Fin 4096) (j : Fin 1024) :
    ((dats m 0 c).arrAt 6 cfg0.N : Vec Ideal S4096x1024 .bf16) (ix2 t j)
      = dq (cw m c j) (cy m c j) (cb m c j) t.val * cx m c j t := by
  obtain ⟨p, b, rfl⟩ := split j
  have hb := congrFun ((dats m 0 c).read_blk_arrAt_eq_flushed 6 (fun t t' _ _ hne => (cfg0.win 6).disjoint_blk fun h => hne (inj6 t t' h)) cfg0.N p p.isLt (flush0_6 p))
    (ix2 t b : S4096x256.Idx)
  refine Eq.trans (congrArg ((dats m 0 c).arrAt 6 cfg0.N) (funext fun d => Fin.ext ?_)) (hb.trans ?_)
  · obtain ⟨e0, e1⟩ := i6 p
    match d with
    | ⟨0, _⟩ => show t.val = win0_6.index p (0 : Fin 2) * 4096 + 1 * t.val; omega
    | ⟨1, _⟩ => show p.val * 256 + b.val = win0_6.index p (1 : Fin 2) * 256 + 1 * b.val; omega
  · rw [← t0_col, ← t1_col, ← t3_col, ← t4_col]
    exact out7_at (t0 m c p) (t1 m c p) (t2 m c p) (t3 m c p) (t4 m c p) t b

theorem dx_at (c : Dev nD) (t : Fin 4096) (j : Fin 1024) :
    ((dats m 0 c).arrAt 7 cfg0.N : Vec Ideal S4096x1024 .bf16) (ix2 t j)
      = dq (cw m c j) (cy m c j) (cb m c j) t.val * cc m c j t := by
  obtain ⟨p, b, rfl⟩ := split j
  have hb := congrFun ((dats m 0 c).read_blk_arrAt_eq_flushed 7 (fun t t' _ _ hne => (cfg0.win 7).disjoint_blk fun h => hne (inj7 t t' h)) cfg0.N p p.isLt (flush0_7 p))
    (ix2 t b : S4096x256.Idx)
  refine Eq.trans (congrArg ((dats m 0 c).arrAt 7 cfg0.N) (funext fun d => Fin.ext ?_)) (hb.trans ?_)
  · obtain ⟨e0, e1⟩ := i7 p
    match d with
    | ⟨0, _⟩ => show t.val = win0_7.index p (0 : Fin 2) * 4096 + 1 * t.val; omega
    | ⟨1, _⟩ => show p.val * 256 + b.val = win0_7.index p (1 : Fin 2) * 256 + 1 * b.val; omega
  · rw [← t0_col, ← t1_col, ← t2_col, ← t4_col]
    exact out8_at (t0 m c p) (t1 m c p) (t2 m c p) (t3 m c p) (t4 m c p) t b

theorem dw_at (c : Dev nD) (k : Fin 8) (j : Fin 1024) :
    ((dats m 0 c).arrAt 8 cfg0.N : Vec Ideal S8x1024 .f32) (ix2 k j)
      = dw (cy m c j) (cb m c j) (cc m c j) (cx m c j) k.val := by
  obtain ⟨p, b, rfl⟩ := split j
  have hb := congrFun ((dats m 0 c).read_blk_arrAt_eq_flushed 8 (fun t t' _ _ hne => (cfg0.win 8).disjoint_blk fun h => hne (inj8 t t' h)) cfg0.N p p.isLt (flush0_8 p))
    (ix2 k b : S8x256.Idx)
  refine Eq.trans (congrArg ((dats m 0 c).arrAt 8 cfg0.N) (funext fun d => Fin.ext ?_)) (hb.trans ?_)
  · obtain ⟨e0, e1⟩ := i8 p
    match d with
    | ⟨0, _⟩ => show k.val = win0_8.index p (0 : Fin 2) * 8 + 1 * k.val; omega
    | ⟨1, _⟩ => show p.val * 256 + b.val = win0_8.index p (1 : Fin 2) * 256 + 1 * b.val; omega
  · rw [← t0_col, ← t1_col, ← t2_col, ← t3_col]
    exact out9_at (t0 m c p) (t1 m c p) (t2 m c p) (t3 m c p) (t4 m c p) k b

end Cert.Proof.SconvVal

end
-- ==== Proof.SconvReference.lean ====
module

public import proofs.«01_k».proof.Proof.Gen.ReferenceSconvIdeal.Read
public import proofs.«01_k».proof.Proof.SconvMath
public import Idealize.ShloMosaic.Lib.Pointwise

@[expose] public section

set_option maxRecDepth 16384

noncomputable section

/-! The reference's four results at an index. -/

namespace Cert.ReferenceSconvIdeal.Val

open Cert.ReferenceSconvIdeal Cert.ReferenceSconvIdeal.Gen Cert.ReferenceSconvIdeal.Read Cert.Sconv
open Idealize.ShloMosaic Idealize.ShloMosaic.TcCoe

variable (x0 : Vec Ideal S4096x1024 .bf16) (x1 : Vec Ideal S4096x3072 .bf16) (x2 : Vec Ideal S8x1024 .f32)

abbrev cy (j : Fin 1024) : Fin 4096 → EReal := fun t => x0 (ix2 t j)
abbrev cb (j : Fin 1024) : Fin 4096 → EReal := fun t => x1 (ix2 t ⟨j.val, by omega⟩)
abbrev cc (j : Fin 1024) : Fin 4096 → EReal := fun t => x1 (ix2 t ⟨1024 + j.val, by omega⟩)
abbrev cx (j : Fin 1024) : Fin 4096 → EReal := fun t => x1 (ix2 t ⟨2048 + j.val, by omega⟩)
abbrev cw (j : Fin 1024) : Fin 8 → EReal := fun k => x2 (ix2 k j)

theorem q_at (t : Fin 4098) (j : Fin 1024) : val_main_v6 (F := Ideal) x1 (ix2 t j) = q (cc x1 j) (cx x1 j) t.val := by
  pointwise [val_main_v6, val_main_v5, val_main_v4, val_main_v3, val_main_v2, val_main_v0, val_main_cst]
  by_cases h : t.val < 2
  · rw [dif_pos h, q_low _ _ _ h]
  · rw [dif_neg h]; exact (q_in (cc x1 j) (cx x1 j) t.val ⟨t.val - 2, by omega⟩ (by dsimp only; omega)).symm

theorem g_at (t : Fin 4096) (j : Fin 1024) : val_main_v24 (F := Ideal) x0 x1 (ix2 t j) = g (cy x0 j) (cb x1 j) t.val := by
  rw [g_in _ _ _ t rfl, mul_comm]
  pointwise [val_main_v24, val_main_v23, val_main_v1, val_main_v0]

/-- A product guarded by a condition outside which its factor is zero. -/
theorem drop {P : Prop} [Decidable P] (a w : EReal) (h : ¬P → a = 0) : (if _h : P then a * w else 0) = a * w := by
  by_cases hP : P
  · rw [dif_pos hP]
  · rw [dif_neg hP, h hP, zero_mul]

theorem conv_at (t : Fin 4096) (j : Fin 1024) :
    val_main_v21 (F := Ideal) x1 x2 (ix2 t j) = conv (cw x2 j) (cc x1 j) (cx x1 j) t.val := by
  have h := q_at x1
  pointwise [val_main_v21, val_main_v20, val_main_v19, val_main_v18, val_main_v17, val_main_v16, val_main_v15, val_main_v14, val_main_v13,
    val_main_v12, val_main_v11, val_main_v10, val_main_v9, val_main_v8, h]
  have e1 : 1 + t.val = t.val + 1 := Nat.add_comm _ _
  have e2 : 2 + t.val = t.val + 2 := Nat.add_comm _ _
  rw [e1, e2]
  unfold conv
  rw [mul_comm _ (x2 (ix2 0 j)), mul_comm _ (x2 (ix2 1 j)), mul_comm _ (x2 (ix2 2 j)), add_comm, add_comm (x2 (ix2 0 j) * _), ← add_assoc]

theorem dq_at (t : Fin 4096) (j : Fin 1024) :
    val_main_v52 (F := Ideal) x0 x1 x2 (ix2 t j) = dq (cw x2 j) (cy x0 j) (cb x1 j) t.val := by
  have h := g_at x0 x1
  pointwise [val_main_v52, val_main_v50, val_main_v49, val_main_v46, val_main_v45, val_main_v41, val_main_v40, val_main_v37, val_main_v36,
    val_main_v32, val_main_v30, val_main_v29, val_main_v18, val_main_v13, val_main_v9, val_main_cst_9, val_main_cst_6, val_main_cst_3, h]
  have e1 : 2 + t.val - 1 = t.val + 1 := by omega
  have e2 : 2 + t.val = t.val + 2 := Nat.add_comm _ _
  rw [drop _ _ fun hn => g_high _ _ _ (by omega), drop _ _ fun hn => g_high _ _ _ (by omega), e1, e2, mul_comm _ (x2 (ix2 0 j)), mul_comm _ (x2 (ix2 1 j)),
    mul_comm _ (x2 (ix2 2 j))]
  rfl

theorem dw_at (k : Fin 8) (j : Fin 1024) :
    val_main_v48 (F := Ideal) x0 x1 (ix2 k j) = dw (cy x0 j) (cb x1 j) (cc x1 j) (cx x1 j) k.val := by
  have h := g_at x0 x1
  have hq := q_at x1
  pointwise [val_main_v48, val_main_v47, val_main_v44, val_main_v43, val_main_v42, val_main_v39, val_main_v38, val_main_v35, val_main_v34,
    val_main_v33, val_main_v31, val_main_v28, val_main_v27, val_main_v26, val_main_v17, val_main_v12, val_main_v8,
    val_main_cst_1, val_main_cst_2, val_main_cst_4, val_main_cst_5, val_main_cst_7, val_main_cst_8, h, hq]
  have e1 : ∀ x : Fin 4096, 1 + x.val = x.val + 1 := fun x => Nat.add_comm _ _
  have e2 : ∀ x : Fin 4096, 2 + x.val = x.val + 2 := fun x => Nat.add_comm _ _
  simp only [e1, e2]
  unfold dw
  obtain rfl | rfl | rfl | hk : k = 0 ∨ k = 1 ∨ k = 2 ∨ 3 ≤ k.val := by omega
  · rw [dif_neg (by decide), dif_neg (by decide), dif_pos (by decide), if_pos (by decide), add_zero, zero_add]
    rfl
  · rw [dif_neg (by decide), dif_pos (by decide), dif_neg (by decide), if_pos (by decide), add_zero, zero_add]
    rfl
  · rw [dif_pos (by decide), dif_neg (by decide), dif_neg (by decide), if_pos (by decide), add_zero, add_zero]
    rfl
  · rw [dif_neg (by omega), dif_neg (by omega), dif_neg (by omega), if_neg (by omega), add_zero, add_zero]

theorem db_at (t : Fin 4096) (j : Fin 1024) :
    val_main_v57 (F := Ideal) x0 x1 x2 (ix2 t j) = x0 (ix2 t j) * conv (cw x2 j) (cc x1 j) (cx x1 j) t.val := by
  have h := conv_at x1 x2
  pointwise [val_main_v57, val_main_v56, val_main_v55, val_main_v25, val_main_v23, h]

theorem dc_at (t : Fin 4096) (j : Fin 1024) :
    val_main_v58 (F := Ideal) x0 x1 x2 (ix2 t j) = dq (cw x2 j) (cy x0 j) (cb x1 j) t.val * cx x1 j t := by
  have h := dq_at x0 x1 x2
  pointwise [val_main_v58, val_main_v56, val_main_v55, val_main_v54, val_main_v3, val_main_v0, h]

theorem dx_at (t : Fin 4096) (j : Fin 1024) :
    val_main_v59 (F := Ideal) x0 x1 x2 (ix2 t j) = dq (cw x2 j) (cy x0 j) (cb x1 j) t.val * cc x1 j t := by
  have h := dq_at x0 x1 x2
  have e : 2048 + j.val - 1024 - 1024 = j.val := by omega
  rw [mul_comm]
  pointwise [val_main_v59, val_main_v56, val_main_v55, val_main_v53, val_main_v2, val_main_v0, h]
  rw [dif_neg (by omega), dif_neg (by omega)]
  simp only [e]

end Cert.ReferenceSconvIdeal.Val

end
-- ==== Proof.SconvClaim.lean ====
/- The gated convolution's gradient (`Sconv`): the frames of the kernel, of its ideal print and of the reference, and the
   value claim. Kernel and ideal print have one text, so their frames are one run. -/
module

public import proofs.«01_k».proof.Defs
public import proofs.«01_k».proof.Proof.Gen.KernelSconv
public import proofs.«01_k».proof.Proof.Gen.ReferenceSconvIdeal.Run
public import proofs.«01_k».proof.Proof.SconvKernel
public import proofs.«01_k».proof.Proof.SconvReference
public import Idealize.ShloMosaic.Adequacy
public import Idealize.ShloMosaic.Init

@[expose] public section

set_option maxRecDepth 16384

noncomputable section

namespace Cert.SconvClaim

open Idealize.ShloMosaic Idealize.ShloMosaic.TcCoe Idealize.SL.Sem

theorem frame_ideal : Cert.quiescent_KernelSconvIdeal := fun m ρ _ => Cert.Proof.SconvFrame.frame (F := Ideal) m ρ

theorem defs₀_eq : Cert.KernelSconv.defs₀ (F := Bits) = Cert.KernelSconvIdeal.defs₀ := by
  unfold Cert.KernelSconv.defs₀ Cert.KernelSconvIdeal.defs₀
  refine congrArg (Defs.onTc (nD := Cert.KernelSconvIdeal.nD) (τ := Cert.KernelSconvIdeal.τ) (sig := Cert.KernelSconvIdeal.sig)
    (Val := Elt Bits) (Λ := Cert.KernelSconvIdeal.Λ₀)) ?_
  funext l x
  match l, x with
  | ⟨0, _⟩, (_, _) => rfl
  | ⟨_ + 1, h⟩, _ => exact absurd h (Nat.not_lt.2 (Nat.le_add_left _ _))

/-- The kernel and its ideal print have one body table, read at the machine's values. -/
theorem defs_eq : Cert.KernelSconv.defs (F := Bits) = Cert.KernelSconvIdeal.defs :=
  congrArg (Pipeline.defs (Cert.KernelSconvIdeal.pcfgs (F := Bits))) defs₀_eq

theorem frame_kernel : Cert.quiescent_KernelSconv := fun m ρ _ => by
  rw [defs_eq]
  exact Cert.Proof.SconvFrame.frame (F := Bits) m ρ

theorem frame_reference : Cert.quiescent_ReferenceSconvIdeal := fun m ρ _ =>
  (θ_run Cert.ReferenceSconvIdeal.defs _ _).mono (fun r h => ⟨fun c => (h c).2.2.2.2, sem_eq_zero_of_no_sems (by decide) r.2⟩)
    (Cert.ReferenceSconvIdeal.Value.run (F := Ideal) m ρ)

section Run

open Cert.KernelSconvIdeal Cert.KernelSconvIdeal.Gen Cert.Proof.SconvFrame

variable (m : (ℓ : Loc nD τ sig) → Buf (Elt Ideal) ℓ) (ρ : Dev nD → PrngReg)

/-- The kernel's run ends with the four output arrays at what the proof data say, the arguments unchanged. -/
theorem run_kernel : θ_run defs (onTc (τ := τ) (main (F := Ideal))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 5, (h.1 c).1 6, (h.1 c).1 7, (h.1 c).1 8, h.2 c⟩)
    (θ_run_and (run_main m ρ) (frame_of m ρ (dats m) (A_eq m) (run_main m ρ)))

theorem db (c : Dev nD) : Cert.ReferenceSconvIdeal.Read.val_main_v57 (F := Ideal) (Cert.Proof.SconvVal.dy m c) (Cert.Proof.SconvVal.bgx m c) (Cert.Proof.SconvVal.wc m c)
    = ((dats m 0 c).arrAt 5 cfg0.N : Vec Ideal S4096x1024 .bf16) := by
  funext i
  obtain ⟨t, j, rfl⟩ : ∃ (t : Fin 4096) (j : Fin 1024), i = ix2 t j := ⟨i 0, i 1, eq_ix2 i⟩
  exact (Cert.ReferenceSconvIdeal.Val.db_at _ _ _ t j).trans (Cert.Proof.SconvVal.db_at m c t j).symm

theorem dc (c : Dev nD) : Cert.ReferenceSconvIdeal.Read.val_main_v58 (F := Ideal) (Cert.Proof.SconvVal.dy m c) (Cert.Proof.SconvVal.bgx m c) (Cert.Proof.SconvVal.wc m c)
    = ((dats m 0 c).arrAt 6 cfg0.N : Vec Ideal S4096x1024 .bf16) := by
  funext i
  obtain ⟨t, j, rfl⟩ : ∃ (t : Fin 4096) (j : Fin 1024), i = ix2 t j := ⟨i 0, i 1, eq_ix2 i⟩
  exact (Cert.ReferenceSconvIdeal.Val.dc_at _ _ _ t j).trans (Cert.Proof.SconvVal.dc_at m c t j).symm

theorem dx (c : Dev nD) : Cert.ReferenceSconvIdeal.Read.val_main_v59 (F := Ideal) (Cert.Proof.SconvVal.dy m c) (Cert.Proof.SconvVal.bgx m c) (Cert.Proof.SconvVal.wc m c)
    = ((dats m 0 c).arrAt 7 cfg0.N : Vec Ideal S4096x1024 .bf16) := by
  funext i
  obtain ⟨t, j, rfl⟩ : ∃ (t : Fin 4096) (j : Fin 1024), i = ix2 t j := ⟨i 0, i 1, eq_ix2 i⟩
  exact (Cert.ReferenceSconvIdeal.Val.dx_at _ _ _ t j).trans (Cert.Proof.SconvVal.dx_at m c t j).symm

theorem dw (c : Dev nD) : Cert.ReferenceSconvIdeal.Read.val_main_v48 (F := Ideal) (Cert.Proof.SconvVal.dy m c) (Cert.Proof.SconvVal.bgx m c)
    = ((dats m 0 c).arrAt 8 cfg0.N : Vec Ideal S8x1024 .f32) := by
  funext i
  obtain ⟨k, j, rfl⟩ : ∃ (k : Fin 8) (j : Fin 1024), i = ix2 k j := ⟨i 0, i 1, eq_ix2 i⟩
  exact (Cert.ReferenceSconvIdeal.Val.dw_at _ _ k j).trans (Cert.Proof.SconvVal.dw_at m c k j).symm

end Run

theorem value : Cert.algebraic_KernelSconvIdeal_ReferenceSconvIdeal := by
  intro m g m' g' _ agree
  refine ⟨fun c => (Cert.Proof.SconvFrame.dats m 0 c).arrAt 5 Cert.KernelSconvIdeal.cfg0.N,
    fun c => (Cert.Proof.SconvFrame.dats m 0 c).arrAt 6 Cert.KernelSconvIdeal.cfg0.N,
    fun c => (Cert.Proof.SconvFrame.dats m 0 c).arrAt 7 Cert.KernelSconvIdeal.cfg0.N,
    fun c => (Cert.Proof.SconvFrame.dats m 0 c).arrAt 8 Cert.KernelSconvIdeal.cfg0.N, run_kernel m g,
    (θ_run Cert.ReferenceSconvIdeal.defs _ _).mono (fun r h c => ?_) (Cert.ReferenceSconvIdeal.Value.run (F := Ideal) m' g')⟩
  obtain ⟨e0, e1, e2⟩ := agree c
  refine ⟨?_, ?_, ?_, ?_, (h c).2.2.2.2⟩
  · refine ((h c).1.trans (Cert.ReferenceSconvIdeal.Read.val_main_v57_eq (F := Ideal) m' c)).trans ?_
    rw [e0, e1, e2]
    exact db m c
  · refine ((h c).2.1.trans (Cert.ReferenceSconvIdeal.Read.val_main_v58_eq (F := Ideal) m' c)).trans ?_
    rw [e0, e1, e2]
    exact dc m c
  · refine ((h c).2.2.1.trans (Cert.ReferenceSconvIdeal.Read.val_main_v59_eq (F := Ideal) m' c)).trans ?_
    rw [e0, e1, e2]
    exact dx m c
  · refine ((h c).2.2.2.1.trans (Cert.ReferenceSconvIdeal.Read.val_main_v48_eq (F := Ideal) _ _)).trans ?_
    rw [e0, e1]
    exact dw m c

end Cert.SconvClaim

end
-- ==== Proof.GateupKernel.lean ====
/- The gate and up products with the activation, in the kernel: each grid point takes 1024 rows and one chip's shard of the
   weight, multiplies them in two halves, and writes the products and `g·logi(g)·u`. -/
module

public import proofs.«01_k».proof.Proof.Gen.KernelGateupIdeal.Value
public import proofs.«01_k».proof.Proof.Rms
public import proofs.«01_k».proof.Proof.Reals
public import Idealize.ShloMosaic.Lib.Pointwise
public import Idealize.ShloMosaic.Lib.Pipeline.ValueKit

@[expose] public section

set_option maxRecDepth 16384

noncomputable section

namespace Cert.KernelGateupIdeal.Val

open Cert.KernelGateupIdeal Cert.KernelGateupIdeal.Gen Cert.KernelGateupIdeal.Value Cert.Rms
open Idealize.ShloMosaic Idealize.ShloMosaic.TcCoe Idealize.SL.Sem

/-! ### The body's values at an index -/

/-- A row against a column of the shard. -/
def prod (x : Vec Ideal S512x1024 .bf16) (w : Vec Ideal S1x1024x1536 .bf16) (r : Fin 512) (j : Fin 1536) : EReal :=
  ∑ k : Fin 1024, x (ix2 r k) * w (ix3 0 k j)

theorem pay2_at (x : Vec Ideal S512x1024 .bf16) (w : Vec Ideal S1x1024x1536 .bf16) (r : Fin 512) (j : Fin 1536) :
    k0_pay2 (F := Ideal) x w (ix2 r j) = prod x w r j := by
  unfold prod
  pointwise [k0_pay2]

theorem pay3_at (x : Vec Ideal S512x1024 .bf16) (w : Vec Ideal S1x1024x1536 .bf16) (r : Fin 512) (j : Fin 1536) :
    k0_pay3 (F := Ideal) x w (ix2 r j) = prod x w r j := by
  have h := pay2_at x w
  pointwise [k0_pay3, h]

theorem pay4_at (x : Vec Ideal S512x1024 .bf16) (w : Vec Ideal S1x1024x1536 .bf16) (r : Fin 512) (j : Fin 768) :
    k0_pay4 (F := Ideal) x w (ix2 r j)
      = prod x w r ⟨j.val, by omega⟩ * logi (prod x w r ⟨j.val, by omega⟩) * prod x w r ⟨768 + j.val, by omega⟩ := by
  rw [← half_tanh']
  have h := pay2_at x w
  pointwise [k0_pay4, h]

/-- The second half's values are the first's functions of its own loads. -/
theorem pay8_eq (x : Vec Ideal S512x1024 .bf16) (w : Vec Ideal S1x1024x1536 .bf16) :
    k0_pay8 (F := Ideal) x w = k0_pay3 (F := Ideal) x w := rfl

theorem pay1_eq (x : Vec Ideal S512x1024 .bf16) (w : Vec Ideal S1x1024x1536 .bf16) :
    k0_pay1 (F := Ideal) (k0_pay6 (F := Ideal) x w) (k0_pay7 (F := Ideal) x w) (k0_pay9 (F := Ideal) x w)
      = k0_pay4 (F := Ideal) x w := rfl

/-! ### What the body leaves in its two outputs' buffers -/

/-- The products of a tile's row. -/
def gu (x0 : Vec Ideal S1024x1024 .bf16) (x1 : Vec Ideal S1x1024x1536 .bf16) (r : Fin 1024) (j : Fin 1536) : EReal :=
  ∑ k : Fin 1024, x0 (ix2 r k) * x1 (ix3 0 k j)

/-- The block of products, and the block of activations. -/
def gblk (x0 : Vec Ideal S1024x1024 .bf16) (x1 : Vec Ideal S1x1024x1536 .bf16) (y : S1024x1536.Idx) : EReal := gu x0 x1 (y 0) (y 1)
def ablk (x0 : Vec Ideal S1024x1024 .bf16) (x1 : Vec Ideal S1x1024x1536 .bf16) (y : S1024x768.Idx) : EReal :=
  gu x0 x1 (y 0) ⟨(y 1).val, by have h : (y 1).val < 768 := (y 1).isLt; omega⟩
    * logi (gu x0 x1 (y 0) ⟨(y 1).val, by have h : (y 1).val < 768 := (y 1).isLt; omega⟩)
    * gu x0 x1 (y 0) ⟨768 + (y 1).val, by have h : (y 1).val < 768 := (y 1).isLt; omega⟩

theorem z3 : (![0, 0, 0] : Fin 3 → ℕ) = fun _ => 0 := funext fun a => by fin_cases a <;> rfl

section
variable (x0 : Vec Ideal S1024x1024 .bf16) (x1 : Vec Ideal S1x1024x1536 .bf16)

theorem prod_lo (r : Fin 512) (j : Fin 1536) :
    prod (View.ld x0 r0_0) x1 r j = gu x0 x1 ⟨r.val, by omega⟩ j := by
  unfold prod gu
  refine Finset.sum_congr rfl fun k _ => congrArg (fun u : EReal => u * x1 (ix3 0 k j)) (congrArg x0 (funext fun d => Fin.ext ?_))
  fin_cases d <;> simp [Rect.idx_unit_val, ix2]

theorem prod_hi (r : Fin 512) (j : Fin 1536) :
    prod (View.ld x0 r0_4) x1 r j = gu x0 x1 ⟨512 + r.val, by omega⟩ j := by
  unfold prod gu
  refine Finset.sum_congr rfl fun k _ => congrArg (fun u : EReal => u * x1 (ix3 0 k j)) (congrArg x0 (funext fun d => Fin.ext ?_))
  fin_cases d <;> simp [Rect.idx_unit_val, ix2]

theorem out_2 : out0_2 (F := Ideal) x0 x1 = gblk x0 x1 := by
  funext y
  unfold out0_2
  refine View.canon_apply_of_pieces _ _ ?_ y (cover0_2 _ _ y)
  rw [View.ld_unit_zero (S := S1x1024x1536) z3, pay8_eq]
  intro p hp x
  rcases List.mem_cons.mp hp with rfl | hp
  · obtain ⟨r, j, rfl⟩ : ∃ (r : Fin 512) (j : Fin 1536), x = ix2 r j := ⟨x 0, x 1, eq_ix2 x⟩
    refine (pay3_at _ _ r j).trans ((prod_hi x0 x1 r j).trans ?_)
    exact congrArg₂ (gu x0 x1) (Fin.ext (show 512 + r.val = 512 + 1 * r.val by omega)) (Fin.ext (show j.val = 0 + 1 * j.val by omega))
  · obtain rfl := List.mem_singleton.mp hp
    obtain ⟨r, j, rfl⟩ : ∃ (r : Fin 512) (j : Fin 1536), x = ix2 r j := ⟨x 0, x 1, eq_ix2 x⟩
    refine (pay3_at _ _ r j).trans ((prod_lo x0 x1 r j).trans ?_)
    exact congrArg₂ (gu x0 x1) (Fin.ext (show r.val = 0 + 1 * r.val by omega)) (Fin.ext (show j.val = 0 + 1 * j.val by omega))

theorem out_3 : out0_3 (F := Ideal) x0 x1 = ablk x0 x1 := by
  funext y
  unfold out0_3
  refine View.canon_apply_of_pieces _ _ ?_ y (cover0_3 _ _ y)
  rw [View.ld_unit_zero (S := S1x1024x1536) z3, pay1_eq]
  intro p hp x
  rcases List.mem_cons.mp hp with rfl | hp
  · obtain ⟨r, j, rfl⟩ : ∃ (r : Fin 512) (j : Fin 768), x = ix2 r j := ⟨x 0, x 1, eq_ix2 x⟩
    refine (pay4_at _ _ r j).trans ?_
    simp only [prod_hi]
    refine Eq.trans (b := ablk x0 x1 (ix2 ⟨512 + r.val, by omega⟩ j)) rfl (congrArg (ablk x0 x1) (funext fun d => Fin.ext ?_))
    match d with
    | ⟨0, _⟩ => show 512 + r.val = 512 + 1 * r.val; omega
    | ⟨1, _⟩ => show j.val = 0 + 1 * j.val; omega
  · obtain rfl := List.mem_singleton.mp hp
    obtain ⟨r, j, rfl⟩ : ∃ (r : Fin 512) (j : Fin 768), x = ix2 r j := ⟨x 0, x 1, eq_ix2 x⟩
    refine (pay4_at _ _ r j).trans ?_
    simp only [prod_lo]
    refine Eq.trans (b := ablk x0 x1 (ix2 ⟨r.val, by omega⟩ j)) rfl (congrArg (ablk x0 x1) (funext fun d => Fin.ext ?_))
    match d with
    | ⟨0, _⟩ => show r.val = 0 + 1 * r.val; omega
    | ⟨1, _⟩ => show j.val = 0 + 1 * j.val; omega
end

variable (m : (ℓ : Loc nD τ sig) → Buf (Elt Ideal) ℓ)

/-! ### The arguments and the tiles the points take of them -/

abbrev a0 (c : Dev nD) : Vec Ideal S4096x1024 .bf16 := m ((c : Thread nD τ).loc main_arg0)
abbrev a1 (c : Dev nD) : Vec Ideal S4x1024x1536 .bf16 := m ((c : Thread nD τ).loc main_arg1)

abbrev t0 (c : Dev nD) (t : Fin cfg0.N) : Vec Ideal S1024x1024 .bf16 := iblk m c 0 t
abbrev t1 (c : Dev nD) (t : Fin cfg0.N) : Vec Ideal S1x1024x1536 .bf16 := iblk m c 1 t

theorem hN : cfg0.N = 16 := N_0

/-- Row `r` of point `t`'s tile, and the chip whose shard it takes. -/
abbrev row (t : Fin cfg0.N) (r : Fin 1024) : Fin 4096 := ⟨t.val / 4 * 1024 + r.val, by have := lt_of_lt_of_eq t.isLt hN; omega⟩
abbrev chip (t : Fin cfg0.N) : Fin 4 := ⟨t.val % 4, by omega⟩

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)
theorem idx3 : ∀ t : Fin cfg0.N, win0_3.index t (0 : Fin 2) = t.val / 4 ∧ win0_3.index t (1 : Fin 2) = t.val % 4 :=
  (by decide +kernel : ∀ t : Fin grid0.N, _)

theorem t0_at (c : Dev nD) (t : Fin cfg0.N) (r k : Fin 1024) : t0 m c t (ix2 r k) = a0 m c (ix2 (row t r) k) := by
  unfold t0 iblk
  refine congrArg (a0 m c) (funext fun d => Fin.ext ?_)
  obtain ⟨e0, e1⟩ := idx0 t
  match d with
  | ⟨0, _⟩ => show win0_0.index t (0 : Fin 2) * 1024 + 1 * r.val = t.val / 4 * 1024 + r.val; omega
  | ⟨1, _⟩ => show win0_0.index t (1 : Fin 2) * 1024 + 1 * k.val = k.val; omega

theorem t1_at (c : Dev nD) (t : Fin cfg0.N) (k : Fin 1024) (j : Fin 1536) : t1 m c t (ix3 0 k j) = a1 m c (ix3 (chip t) k j) := by
  unfold t1 iblk
  refine congrArg (a1 m c) (funext fun d => Fin.ext ?_)
  obtain ⟨e0, e1, e2⟩ := idx1 t
  match d with
  | ⟨0, _⟩ => show win0_1.index t (0 : Fin 3) * 1 + 1 * 0 = t.val % 4; omega
  | ⟨1, _⟩ => show win0_1.index t (1 : Fin 3) * 1024 + 1 * k.val = k.val; omega
  | ⟨2, _⟩ => show win0_1.index t (2 : Fin 3) * 1536 + 1 * j.val = j.val; omega

/-! ### The whole arrays -/

/-- Row `i` of the input against column `j` of chip `s`'s shard. -/
def zz (c : Dev nD) (i : Fin 4096) (s : Fin 4) (j : Fin 1536) : EReal :=
  ∑ k : Fin 1024, a0 m c (ix2 i k) * a1 m c (ix3 s k j)

theorem gu_eq (c : Dev nD) (t : Fin cfg0.N) (r : Fin 1024) (j : Fin 1536) :
    gu (t0 m c t) (t1 m c t) r j = zz m c (row t r) (chip t) j := by
  unfold gu zz
  exact Finset.sum_congr rfl fun k _ => congrArg₂ (fun u v : EReal => u * v) (t0_at m c t r k) (t1_at m c t k j)

/-- The point writing row `i` of chip `s`'s columns. -/
def pt (i : Fin 4096) (s : Fin 4) : Fin cfg0.N := ⟨i.val / 1024 * 4 + s.val, by rw [hN]; omega⟩

theorem row_pt (i : Fin 4096) (s : Fin 4) : row (pt i s) ⟨i.val % 1024, by omega⟩ = i :=
  Fin.ext (show (i.val / 1024 * 4 + s.val) / 4 * 1024 + i.val % 1024 = i.val by omega)
theorem chip_pt (i : Fin 4096) (s : Fin 4) : chip (pt i s) = s :=
  Fin.ext (show (i.val / 1024 * 4 + s.val) % 4 = s.val by omega)

/-- The products after the run, at an index. -/
theorem gu_at (c : Dev nD) (i : Fin 4096) (s : Fin 4) (j : Fin 1536) :
    ((dats m 0 c).arrAt 2 cfg0.N : Vec Ideal S4096x6144 .bf16) (ix2 i ⟨s.val * 1536 + j.val, by omega⟩) = zz m c i s j := by
  have hb := congrFun ((blocks2 m c (pt i s) (flush0_2 _)).trans (flushed2 m c _)) (ix2 ⟨i.val % 1024, by omega⟩ j : S1024x1536.Idx)
  refine Eq.trans (congrArg ((dats m 0 c).arrAt 2 cfg0.N) (funext fun d => Fin.ext ?_)) (hb.trans ?_)
  · obtain ⟨e0, e1⟩ := idx2 (pt i s)
    have hv : (pt i s).val = i.val / 1024 * 4 + s.val := rfl
    match d with
    | ⟨0, _⟩ => show i.val = win0_2.index (pt i s) (0 : Fin 2) * 1024 + 1 * (i.val % 1024); omega
    | ⟨1, _⟩ => show s.val * 1536 + j.val = win0_2.index (pt i s) (1 : Fin 2) * 1536 + 1 * j.val; omega
  · refine (congrFun (out_2 _ _) (ix2 ⟨i.val % 1024, by omega⟩ j : S1024x1536.Idx)).trans ?_
    refine (gu_eq m c (pt i s) ⟨i.val % 1024, by omega⟩ j).trans ?_
    rw [row_pt, chip_pt]

/-- The activations after the run, at an index. -/
theorem a_at (c : Dev nD) (i : Fin 4096) (s : Fin 4) (j : Fin 768) :
    ((dats m 0 c).arrAt 3 cfg0.N : Vec Ideal S4096x3072 .bf16) (ix2 i ⟨s.val * 768 + j.val, by omega⟩)
      = zz m c i s ⟨j.val, by omega⟩ * logi (zz m c i s ⟨j.val, by omega⟩) * zz m c i s ⟨768 + j.val, by omega⟩ := by
  have hb := congrFun ((blocks3 m c (pt i s) (flush0_3 _)).trans (flushed3 m c _)) (ix2 ⟨i.val % 1024, by omega⟩ j : S1024x768.Idx)
  refine Eq.trans (congrArg ((dats m 0 c).arrAt 3 cfg0.N) (funext fun d => Fin.ext ?_)) (hb.trans ?_)
  · obtain ⟨e0, e1⟩ := idx3 (pt i s)
    have hv : (pt i s).val = i.val / 1024 * 4 + s.val := rfl
    match d with
    | ⟨0, _⟩ => show i.val = win0_3.index (pt i s) (0 : Fin 2) * 1024 + 1 * (i.val % 1024); omega
    | ⟨1, _⟩ => show s.val * 768 + j.val = win0_3.index (pt i s) (1 : Fin 2) * 768 + 1 * j.val; omega
  · refine (congrFun (out_3 _ _) (ix2 ⟨i.val % 1024, by omega⟩ j : S1024x768.Idx)).trans ?_
    have h := fun j' => (gu_eq m c (pt i s) ⟨i.val % 1024, by omega⟩ j').trans
      (by rw [row_pt, chip_pt] : zz m c (row (pt i s) ⟨i.val % 1024, by omega⟩) (chip (pt i s)) j' = zz m c i s j')
    exact congrArg₂ (fun u v : EReal => u * logi u * v) (h ⟨j.val, by omega⟩) (h ⟨768 + j.val, by omega⟩)

end Cert.KernelGateupIdeal.Val

end
-- ==== Proof.GateupClaim.lean ====
/- The gate and up products with the activation: the reference at an index, its frame, and the value claim. -/
module

public import proofs.«01_k».proof.Defs
public import proofs.«01_k».proof.Proof.GateupKernel
public import proofs.«01_k».proof.Proof.Gen.ReferenceGateupIdeal.Run
public import proofs.«01_k».proof.Proof.Gen.ReferenceGateupIdeal.Read
public import Idealize.ShloMosaic.Lib.Pointwise
public import Idealize.ShloMosaic.Adequacy
public import Idealize.ShloMosaic.Init

@[expose] public section

set_option maxRecDepth 16384

noncomputable section

namespace Cert.ReferenceGateupIdeal.Val

open Cert.ReferenceGateupIdeal Cert.ReferenceGateupIdeal.Gen Cert.ReferenceGateupIdeal.Read Cert.Rms Idealize.ShloMosaic

variable (x0 : Vec Ideal S4096x1024 .bf16) (x1 : Vec Ideal S4x1024x1536 .bf16)

/-- Row `i` of the input against column `j` of chip `s`'s shard. -/
def zz (i : Fin 4096) (s : Fin 4) (j : Fin 1536) : EReal := ∑ k : Fin 1024, x0 (ix2 i k) * x1 (ix3 s k j)

theorem v3_at (i : Fin 4096) (s : Fin 4) (j : Fin 768) :
    val_main_v3 (F := Ideal) x0 x1 (ix3 i s j) = zz x0 x1 i s ⟨j.val, by omega⟩ := by
  unfold zz
  pointwise [val_main_v3, val_main_v2, val_main_v1, val_main_v0]

theorem v6_at (i : Fin 4096) (s : Fin 4) (j : Fin 768) :
    val_main_v6 (F := Ideal) x0 x1 (ix3 i s j) = zz x0 x1 i s ⟨768 + j.val, by omega⟩ := by
  unfold zz
  pointwise [val_main_v6, val_main_v5, val_main_v4, val_main_v0]

theorem v8_at (i : Fin 4096) (s : Fin 4) (j : Fin 768) :
    val_main_v8 (F := Ideal) x0 x1 (ix3 i s j)
      = zz x0 x1 i s ⟨j.val, by omega⟩ * logi (zz x0 x1 i s ⟨j.val, by omega⟩) * zz x0 x1 i s ⟨768 + j.val, by omega⟩ := by
  rw [← v3_at, ← v6_at]
  refine congrArg (fun u : EReal => u * val_main_v6 (F := Ideal) x0 x1 (ix3 i s j)) ?_
  refine congrArg (fun u : EReal => val_main_v3 (F := Ideal) x0 x1 (ix3 i s j) * u) ?_
  unfold logi
  rw [← Ideal.ofBits_one_f32]
  rfl

theorem v9_at (i : Fin 4096) (s : Fin 4) (j : Fin 1536) : val_main_v9 (F := Ideal) x0 x1 (ix3 i s j) = zz x0 x1 i s j := by
  have h3 := v3_at x0 x1
  have h6 := v6_at x0 x1
  pointwise [val_main_v9, h3, h6]
  split
  · rfl
  · exact congrArg (zz x0 x1 i s) (Fin.ext (by show 768 + (j.val - 768) = j.val; omega))

/-- The two results, at an index. -/
theorem gu_at (i : Fin 4096) (s : Fin 4) (j : Fin 1536) :
    val_main_v11 (F := Ideal) x0 x1 (ix2 i ⟨s.val * 1536 + j.val, by omega⟩) = zz x0 x1 i s j := by
  refine Eq.trans (val_main_v10_apply (F := Ideal) x0 x1 _) ((congrArg (val_main_v9 (F := Ideal) x0 x1) (funext fun e => Fin.ext ?_)).trans (v9_at x0 x1 i s j))
  match e with
  | ⟨0, _⟩ => show (i.val * 6144 + (s.val * 1536 + j.val)) / 6144 = i.val; omega
  | ⟨1, _⟩ => show (i.val * 6144 + (s.val * 1536 + j.val)) / 1536 % 4 = s.val; omega
  | ⟨2, _⟩ => show (i.val * 6144 + (s.val * 1536 + j.val)) % 1536 = j.val; omega

theorem a_at (i : Fin 4096) (s : Fin 4) (j : Fin 768) :
    val_main_v13 (F := Ideal) x0 x1 (ix2 i ⟨s.val * 768 + j.val, by omega⟩)
      = zz x0 x1 i s ⟨j.val, by omega⟩ * logi (zz x0 x1 i s ⟨j.val, by omega⟩) * zz x0 x1 i s ⟨768 + j.val, by omega⟩ := by
  refine Eq.trans (val_main_v12_apply (F := Ideal) x0 x1 _) ((congrArg (val_main_v8 (F := Ideal) x0 x1) (funext fun e => Fin.ext ?_)).trans (v8_at x0 x1 i s j))
  match e with
  | ⟨0, _⟩ => show (i.val * 3072 + (s.val * 768 + j.val)) / 3072 = i.val; omega
  | ⟨1, _⟩ => show (i.val * 3072 + (s.val * 768 + j.val)) / 768 % 4 = s.val; omega
  | ⟨2, _⟩ => show (i.val * 3072 + (s.val * 768 + j.val)) % 768 = j.val; omega

end Cert.ReferenceGateupIdeal.Val

namespace Cert.GateupClaim

open Idealize.ShloMosaic Idealize.ShloMosaic.TcCoe Idealize.SL.Sem Cert.KernelGateupIdeal

theorem frame_reference : Cert.quiescent_ReferenceGateupIdeal := fun m ρ _ =>
  (θ_run Cert.ReferenceGateupIdeal.defs _ _).mono (fun r h => ⟨fun c => (h c).2.2, sem_eq_zero_of_no_sems (by decide) r.2⟩)
    (Cert.ReferenceGateupIdeal.Value.run (F := Ideal) m ρ)

theorem gu (m : (ℓ : Loc nD τ sig) → Buf (Elt Ideal) ℓ) (c : Dev nD) :
    Cert.ReferenceGateupIdeal.Read.val_main_v11 (F := Ideal) (Val.a0 m c) (Val.a1 m c)
      = ((Gen.dats m 0 c).arrAt 2 cfg0.N : Vec Ideal S4096x6144 .bf16) := by
  funext i
  obtain ⟨r, j, rfl⟩ : ∃ (r : Fin 4096) (j : Fin 6144), i = ix2 r j := ⟨i 0, i 1, eq_ix2 i⟩
  obtain ⟨s, k, rfl⟩ : ∃ (s : Fin 4) (k : Fin 1536), j = ⟨s.val * 1536 + k.val, by omega⟩ :=
    ⟨⟨j.val / 1536, by omega⟩, ⟨j.val % 1536, by omega⟩, Fin.ext (show j.val = j.val / 1536 * 1536 + j.val % 1536 by omega)⟩
  exact (Cert.ReferenceGateupIdeal.Val.gu_at _ _ r s k).trans (Val.gu_at m c r s k).symm

theorem act (m : (ℓ : Loc nD τ sig) → Buf (Elt Ideal) ℓ) (c : Dev nD) :
    Cert.ReferenceGateupIdeal.Read.val_main_v13 (F := Ideal) (Val.a0 m c) (Val.a1 m c)
      = ((Gen.dats m 0 c).arrAt 3 cfg0.N : Vec Ideal S4096x3072 .bf16) := by
  funext i
  obtain ⟨r, j, rfl⟩ : ∃ (r : Fin 4096) (j : Fin 3072), i = ix2 r j := ⟨i 0, i 1, eq_ix2 i⟩
  obtain ⟨s, k, rfl⟩ : ∃ (s : Fin 4) (k : Fin 768), j = ⟨s.val * 768 + k.val, by omega⟩ :=
    ⟨⟨j.val / 768, by omega⟩, ⟨j.val % 768, by omega⟩, Fin.ext (show j.val = j.val / 768 * 768 + j.val % 768 by omega)⟩
  exact (Cert.ReferenceGateupIdeal.Val.a_at _ _ r s k).trans (Val.a_at m c r s k).symm

theorem value : Cert.algebraic_KernelGateupIdeal_ReferenceGateupIdeal := by
  intro m g m' g' _ agree
  refine ⟨fun c => (Gen.dats m 0 c).arrAt 2 cfg0.N, fun c => (Gen.dats m 0 c).arrAt 3 cfg0.N,
    Value.run_blocks (F := Ideal) m g,
    (θ_run Cert.ReferenceGateupIdeal.defs _ _).mono (fun r h c => ⟨?_, ?_, (h c).2.2⟩) (Cert.ReferenceGateupIdeal.Value.run (F := Ideal) m' g')⟩
  · obtain ⟨e0, e1⟩ := agree c
    refine ((h c).1.trans (Cert.ReferenceGateupIdeal.Read.val_main_v11_eq (F := Ideal) _ _)).trans ?_
    rw [e0, e1]
    exact gu m c
  · obtain ⟨e0, e1⟩ := agree c
    refine ((h c).2.1.trans (Cert.ReferenceGateupIdeal.Read.val_main_v13_eq (F := Ideal) _ _)).trans ?_
    rw [e0, e1]
    exact act m c

end Cert.GateupClaim

end
-- ==== Proof.PostKernel.lean ====
/- The down product with the norm, the half residual and the next norm, in the kernel: each grid point takes 512 rows
   in two halves, adds the four chips' products, and writes the sum, the new residual and its normalized row. -/
module

public import proofs.«01_k».proof.Proof.Gen.KernelPostIdeal.Value
public import proofs.«01_k».proof.Proof.Rms
public import Idealize.ShloMosaic.Lib.Pointwise
public import Idealize.ShloMosaic.Lib.Pipeline.ValueKit

@[expose] public section

set_option maxRecDepth 16384

noncomputable section

namespace Cert.KernelPostIdeal.Val

open Cert.KernelPostIdeal Cert.KernelPostIdeal.Gen Cert.KernelPostIdeal.Value Cert.Rms
open Idealize.ShloMosaic Idealize.ShloMosaic.TcCoe Idealize.SL.Sem

/-! ### The body's values at an index -/

/-- A normalized row times a gain. -/
def normed (f : Fin 1024 → EReal) (g : Vec Ideal S1x1024 .f32) (j : Fin 1024) : EReal := f j * rr f * g (ix2 0 j)

/-- The residual's row after half the normalized row is added. -/
def stepped (f : Fin 1024 → EReal) (g : Vec Ideal S1x1024 .f32) (h : Fin 1024 → EReal) (j : Fin 1024) : EReal :=
  h j + kHalf * normed f g j

theorem pay2_at (b0 : Vec Ideal S256x768 .bf16) (w0 : Vec Ideal S1x768x1024 .bf16) (b1 : Vec Ideal S256x768 .bf16)
    (w1 : Vec Ideal S1x768x1024 .bf16) (b2 : Vec Ideal S256x768 .bf16) (w2 : Vec Ideal S1x768x1024 .bf16)
    (b3 : Vec Ideal S256x768 .bf16) (w3 : Vec Ideal S1x768x1024 .bf16) (r : Fin 256) (j : Fin 1024) :
    k0_pay2 (F := Ideal) b0 w0 b1 w1 b2 w2 b3 w3 (ix2 r j)
      = (∑ k : Fin 768, b0 (ix2 r k) * w0 (ix3 0 k j)) + (∑ k : Fin 768, b1 (ix2 r k) * w1 (ix3 0 k j))
        + (∑ k : Fin 768, b2 (ix2 r k) * w2 (ix3 0 k j)) + (∑ k : Fin 768, b3 (ix2 r k) * w3 (ix3 0 k j)) := by
  pointwise [k0_pay2]

section
variable (b0 : Vec Ideal S256x768 .bf16) (w0 : Vec Ideal S1x768x1024 .bf16) (b1 : Vec Ideal S256x768 .bf16)
    (w1 : Vec Ideal S1x768x1024 .bf16) (b2 : Vec Ideal S256x768 .bf16) (w2 : Vec Ideal S1x768x1024 .bf16)
    (b3 : Vec Ideal S256x768 .bf16) (w3 : Vec Ideal S1x768x1024 .bf16)

theorem pay3_at (r : Fin 256) (z : Fin 1) :
    k0_pay3 (F := Ideal) b0 w0 b1 w1 b2 w2 b3 w3 (ix2 r z) = rr fun k => k0_pay2 (F := Ideal) b0 w0 b1 w1 b2 w2 b3 w3 (ix2 r k) := by
  unfold k0_pay3
  generalize k0_pay2 (F := Ideal) b0 w0 b1 w1 b2 w2 b3 w3 = f
  unfold rr ms kN kEps
  pointwise []

/-! The second half's values are the first's functions of its own loads. -/

theorem pay8_eq : k0_pay8 (F := Ideal) (k0_pay6 (F := Ideal) b0 w0) (k0_pay7 (F := Ideal) b1 w1) b2 w2 b3 w3
    = k0_pay2 (F := Ideal) b0 w0 b1 w1 b2 w2 b3 w3 := rfl

theorem pay9_eq (h : Vec Ideal S256x1024 .f32) (g : Vec Ideal S1x1024 .f32) :
    k0_pay9 (F := Ideal) (k0_pay6 (F := Ideal) b0 w0) (k0_pay7 (F := Ideal) b1 w1) b2 w2 b3 w3 h g
      = k0_pay4 (F := Ideal) (k0_pay2 (F := Ideal) b0 w0 b1 w1 b2 w2 b3 w3) (k0_pay3 (F := Ideal) b0 w0 b1 w1 b2 w2 b3 w3) h g := rfl

theorem pay1_eq (h : Vec Ideal S256x1024 .f32) (g gn : Vec Ideal S1x1024 .f32) :
    k0_pay1 (F := Ideal) (k0_pay9 (F := Ideal) (k0_pay6 (F := Ideal) b0 w0) (k0_pay7 (F := Ideal) b1 w1) b2 w2 b3 w3 h g)
        (k0_pay10 (F := Ideal) (k0_pay6 (F := Ideal) b0 w0) (k0_pay7 (F := Ideal) b1 w1) b2 w2 b3 w3 h g) gn
      = k0_pay5 (F := Ideal) (k0_pay2 (F := Ideal) b0 w0 b1 w1 b2 w2 b3 w3) (k0_pay3 (F := Ideal) b0 w0 b1 w1 b2 w2 b3 w3) h g gn := rfl
end

theorem pay4_at (f : Vec Ideal S256x1024 .f32) (q : Vec Ideal S256x1 .f32) (h : Vec Ideal S256x1024 .f32) (g : Vec Ideal S1x1024 .f32)
    (r : Fin 256) (j : Fin 1024) (hq : q (ix2 r 0) = rr fun k => f (ix2 r k)) :
    k0_pay4 (F := Ideal) f q h g (ix2 r j) = stepped (fun k => f (ix2 r k)) g (fun k => h (ix2 r k)) j := by
  unfold stepped normed
  rw [← hq]
  pointwise [k0_pay4]

theorem pay5_at (f : Vec Ideal S256x1024 .f32) (q : Vec Ideal S256x1 .f32) (h : Vec Ideal S256x1024 .f32) (g gn : Vec Ideal S1x1024 .f32)
    (r : Fin 256) (j : Fin 1024) (hq : q (ix2 r 0) = rr fun k => f (ix2 r k)) :
    k0_pay5 (F := Ideal) f q h g gn (ix2 r j)
      = normed (stepped (fun k => f (ix2 r k)) g (fun k => h (ix2 r k))) gn j := by
  have e : stepped (fun k => f (ix2 r k)) g (fun k => h (ix2 r k)) = fun k => k0_pay4 (F := Ideal) f q h g (ix2 r k) :=
    funext fun k => (pay4_at f q h g r k hq).symm
  rw [e]
  unfold k0_pay5
  generalize k0_pay4 (F := Ideal) f q h g = x
  unfold normed rr ms kN kEps
  pointwise []

/-! ### What the body leaves in its three outputs' buffers -/

/-- A tile's row of the down product: the activations against the four shards. -/
def frow (x0 : Vec Ideal S512x3072 .bf16) (x1 : Vec Ideal S4x768x1024 .bf16) (r : Fin 512) (j : Fin 1024) : EReal :=
  ∑ s : Fin 4, ∑ k : Fin 768, x0 (ix2 r ⟨s.val * 768 + k.val, by omega⟩) * x1 (ix3 s k j)

def fblk (x0 : Vec Ideal S512x3072 .bf16) (x1 : Vec Ideal S4x768x1024 .bf16) (y : S512x1024.Idx) : EReal := frow x0 x1 (y 0) (y 1)
def hblk (x0 : Vec Ideal S512x3072 .bf16) (x1 : Vec Ideal S4x768x1024 .bf16) (x2 : Vec Ideal S512x1024 .f32) (x3 : Vec Ideal S1x1024 .f32)
    (y : S512x1024.Idx) : EReal := stepped (frow x0 x1 (y 0)) x3 (fun k => x2 (ix2 (y 0) k)) (y 1)
def nblk (x0 : Vec Ideal S512x3072 .bf16) (x1 : Vec Ideal S4x768x1024 .bf16) (x2 : Vec Ideal S512x1024 .f32) (x3 x4 : Vec Ideal S1x1024 .f32)
    (y : S512x1024.Idx) : EReal := normed (stepped (frow x0 x1 (y 0)) x3 (fun k => x2 (ix2 (y 0) k))) x4 (y 1)

theorem z2 : (![0, 0] : Fin 2 → ℕ) = fun _ => 0 := funext fun a => by fin_cases a <;> rfl

section
variable (x0 : Vec Ideal S512x3072 .bf16) (x1 : Vec Ideal S4x768x1024 .bf16) (x2 : Vec Ideal S512x1024 .f32) (x3 x4 : Vec Ideal S1x1024 .f32)

/-- The two halves' sums of products, and their reciprocal roots. -/
abbrev flo : Vec Ideal S256x1024 .f32 := k0_pay2 (F := Ideal) (View.ld x0 r0_0) (View.ld x1 r0_1) (View.ld x0 r0_2) (View.ld x1 r0_3) (View.ld x0 r0_4) (View.ld x1 r0_5) (View.ld x0 r0_6) (View.ld x1 r0_7)
abbrev fhi : Vec Ideal S256x1024 .f32 := k0_pay2 (F := Ideal) (View.ld x0 r0_10) (View.ld x1 r0_1) (View.ld x0 r0_11) (View.ld x1 r0_3) (View.ld x0 r0_12) (View.ld x1 r0_5) (View.ld x0 r0_13) (View.ld x1 r0_7)
abbrev qlo : Vec Ideal S256x1 .f32 := k0_pay3 (F := Ideal) (View.ld x0 r0_0) (View.ld x1 r0_1) (View.ld x0 r0_2) (View.ld x1 r0_3) (View.ld x0 r0_4) (View.ld x1 r0_5) (View.ld x0 r0_6) (View.ld x1 r0_7)
abbrev qhi : Vec Ideal S256x1 .f32 := k0_pay3 (F := Ideal) (View.ld x0 r0_10) (View.ld x1 r0_1) (View.ld x0 r0_11) (View.ld x1 r0_3) (View.ld x0 r0_12) (View.ld x1 r0_5) (View.ld x0 r0_13) (View.ld x1 r0_7)

theorem flo_at (r : Fin 256) (j : Fin 1024) : flo x0 x1 (ix2 r j) = frow x0 x1 ⟨r.val, by omega⟩ j := by
  unfold flo frow
  rw [pay2_at, Fin.sum_univ_four]
  refine congrArg₂ (· + ·) (congrArg₂ (· + ·) (congrArg₂ (· + ·) ?_ ?_) ?_) ?_ <;> refine Finset.sum_congr rfl fun k _ => ?_
  all_goals
    refine congrArg₂ (fun u v : EReal => u * v) (congrArg x0 (funext fun d => Fin.ext ?_)) (congrArg x1 (funext fun d => Fin.ext ?_)) <;>
    fin_cases d <;> simp [Rect.idx_unit_val, ix2, ix3]

theorem fhi_at (r : Fin 256) (j : Fin 1024) : fhi x0 x1 (ix2 r j) = frow x0 x1 ⟨256 + r.val, by omega⟩ j := by
  unfold fhi frow
  rw [pay2_at, Fin.sum_univ_four]
  refine congrArg₂ (· + ·) (congrArg₂ (· + ·) (congrArg₂ (· + ·) ?_ ?_) ?_) ?_ <;> refine Finset.sum_congr rfl fun k _ => ?_
  all_goals
    refine congrArg₂ (fun u v : EReal => u * v) (congrArg x0 (funext fun d => Fin.ext ?_)) (congrArg x1 (funext fun d => Fin.ext ?_)) <;>
    fin_cases d <;> simp [Rect.idx_unit_val, ix2, ix3]

theorem lo_at (r : Fin 256) (j : Fin 1024) : View.ld x2 r0_8 (ix2 r j : S256x1024.Idx) = x2 (ix2 ⟨r.val, by omega⟩ j) :=
  congrArg x2 (funext fun d => Fin.ext (by fin_cases d <;> simp [Rect.idx_unit_val, ix2]))

theorem hi_at (r : Fin 256) (j : Fin 1024) : View.ld x2 r0_14 (ix2 r j : S256x1024.Idx) = x2 (ix2 ⟨256 + r.val, by omega⟩ j) :=
  congrArg x2 (funext fun d => Fin.ext (by fin_cases d <;> simp [Rect.idx_unit_val, ix2]))

/-- A block that agrees with both halves' payloads is the buffer the two stores leave. -/
theorem canon_halves {e : EltTy} (G : Vec Ideal S512x1024 e) (p q : Vec Ideal S256x1024 e)
    (hp : ∀ (r : Fin 256) (j : Fin 1024), p (ix2 r j) = G (ix2 ⟨256 + r.val, by omega⟩ j))
    (hq : ∀ (r : Fin 256) (j : Fin 1024), q (ix2 r j) = G (ix2 ⟨r.val, by omega⟩ j))
    (hc : ∀ y : S512x1024.Idx, ∃ pc ∈ ([⟨r0_14, p⟩, ⟨r0_8, q⟩] : List (View.Piece (Elt Ideal) S512x1024 e)), y ∈ pc.1.set) :
    View.canon ([⟨r0_14, p⟩, ⟨r0_8, q⟩] : List (View.Piece (Elt Ideal) S512x1024 e)) = G := by
  funext y
  refine View.canon_apply_of_pieces G _ ?_ y (hc y)
  intro pc hpc x
  rcases List.mem_cons.mp hpc with rfl | hpc
  · obtain ⟨r, j, rfl⟩ : ∃ (r : Fin 256) (j : Fin 1024), x = ix2 r j := ⟨x 0, x 1, eq_ix2 x⟩
    refine (hp r j).trans (congrArg G (funext fun d => Fin.ext ?_))
    match d with
    | ⟨0, _⟩ => show 256 + r.val = 256 + 1 * r.val; omega
    | ⟨1, _⟩ => show j.val = 0 + 1 * j.val; omega
  · obtain rfl := List.mem_singleton.mp hpc
    obtain ⟨r, j, rfl⟩ : ∃ (r : Fin 256) (j : Fin 1024), x = ix2 r j := ⟨x 0, x 1, eq_ix2 x⟩
    refine (hq r j).trans (congrArg G (funext fun d => Fin.ext ?_))
    match d with
    | ⟨0, _⟩ => show r.val = 0 + 1 * r.val; omega
    | ⟨1, _⟩ => show j.val = 0 + 1 * j.val; omega

theorem out_5 : out0_5 (F := Ideal) x0 x1 x2 x3 x4 = fblk x0 x1 := by
  unfold_out out0_5
  rw [pay8_eq]
  exact canon_halves (fblk x0 x1) _ _ (fhi_at x0 x1) (flo_at x0 x1) (cover0_5 _ _)

theorem out_6 : out0_6 (F := Ideal) x0 x1 x2 x3 x4 = hblk x0 x1 x2 x3 := by
  unfold_out out0_6
  rw [pay9_eq, View.ld_unit_zero (S := S1x1024) z2]
  refine canon_halves (hblk x0 x1 x2 x3) _ _ (fun r j => ?_) (fun r j => ?_) (cover0_6 _ _)
  · refine (pay4_at (fhi x0 x1) (qhi x0 x1) _ _ r j (pay3_at _ _ _ _ _ _ _ _ r 0)).trans ?_
    simp only [fhi_at]
    exact congrArg (fun h => stepped (frow x0 x1 ⟨256 + r.val, by omega⟩) x3 h j) (funext fun k => hi_at x2 r k)
  · refine (pay4_at (flo x0 x1) (qlo x0 x1) _ _ r j (pay3_at _ _ _ _ _ _ _ _ r 0)).trans ?_
    simp only [flo_at]
    exact congrArg (fun h => stepped (frow x0 x1 ⟨r.val, by omega⟩) x3 h j) (funext fun k => lo_at x2 r k)

theorem out_7 : out0_7 (F := Ideal) x0 x1 x2 x3 x4 = nblk x0 x1 x2 x3 x4 := by
  unfold_out out0_7
  rw [pay1_eq, View.ld_unit_zero (S := S1x1024) z2, View.ld_unit_zero (S := S1x1024) z2]
  refine canon_halves (nblk x0 x1 x2 x3 x4) _ _ (fun r j => ?_) (fun r j => ?_) (cover0_7 _ _)
  · refine (pay5_at (fhi x0 x1) (qhi x0 x1) _ _ _ r j (pay3_at _ _ _ _ _ _ _ _ r 0)).trans ?_
    simp only [fhi_at]
    exact congrArg (fun h => normed (stepped (frow x0 x1 ⟨256 + r.val, by omega⟩) x3 h) x4 j) (funext fun k => hi_at x2 r k)
  · refine (pay5_at (flo x0 x1) (qlo x0 x1) _ _ _ r j (pay3_at _ _ _ _ _ _ _ _ r 0)).trans ?_
    simp only [flo_at]
    exact congrArg (fun h => normed (stepped (frow x0 x1 ⟨r.val, by omega⟩) x3 h) x4 j) (funext fun k => lo_at x2 r k)
end

variable (m : (ℓ : Loc nD τ sig) → Buf (Elt Ideal) ℓ)

/-! ### The arguments and the tiles the points take of them -/

abbrev a0 (c : Dev nD) : Vec Ideal S4096x3072 .bf16 := m ((c : Thread nD τ).loc main_arg0)
abbrev a1 (c : Dev nD) : Vec Ideal S4x768x1024 .bf16 := m ((c : Thread nD τ).loc main_arg1)
abbrev a2 (c : Dev nD) : Vec Ideal S4096x1024 .f32 := m ((c : Thread nD τ).loc main_arg2)
abbrev a3 (c : Dev nD) : Vec Ideal S1x1024 .f32 := m ((c : Thread nD τ).loc main_arg3)
abbrev a4 (c : Dev nD) : Vec Ideal S1x1024 .f32 := m ((c : Thread nD τ).loc main_arg4)

abbrev t0 (c : Dev nD) (t : Fin cfg0.N) : Vec Ideal S512x3072 .bf16 := iblk m c 0 t
abbrev t1 (c : Dev nD) (t : Fin cfg0.N) : Vec Ideal S4x768x1024 .bf16 := iblk m c 1 t
abbrev t2 (c : Dev nD) (t : Fin cfg0.N) : Vec Ideal S512x1024 .f32 := iblk m c 2 t
abbrev t3 (c : Dev nD) (t : Fin cfg0.N) : Vec Ideal S1x1024 .f32 := iblk m c 3 t
abbrev t4 (c : Dev nD) (t : Fin cfg0.N) : Vec Ideal S1x1024 .f32 := iblk m c 4 t

theorem hN : cfg0.N = 8 := N_0

/-- Row `r` of point `t`'s tile. -/
abbrev row (t : Fin cfg0.N) (r : Fin 512) : Fin 4096 := ⟨t.val * 512 + r.val, by have := lt_of_lt_of_eq t.isLt hN; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem t0_at (c : Dev nD) (t : Fin cfg0.N) (r : Fin 512) (k : Fin 3072) : t0 m c t (ix2 r k) = a0 m c (ix2 (row t r) k) := by
  unfold t0 iblk
  refine congrArg (a0 m c) (funext fun d => Fin.ext ?_)
  obtain ⟨e0, e1⟩ := idx0 t
  match d with
  | ⟨0, _⟩ => show win0_0.index t (0 : Fin 2) * 512 + 1 * r.val = t.val * 512 + r.val; omega
  | ⟨1, _⟩ => show win0_0.index t (1 : Fin 2) * 3072 + 1 * k.val = k.val; omega

theorem t1_at (c : Dev nD) (t : Fin cfg0.N) (s : Fin 4) (k : Fin 768) (j : Fin 1024) : t1 m c t (ix3 s k j) = a1 m c (ix3 s k j) := by
  unfold t1 iblk
  refine congrArg (a1 m c) (funext fun d => Fin.ext ?_)
  obtain ⟨e0, e1, e2⟩ := idx1 t
  match d with
  | ⟨0, _⟩ => show win0_1.index t (0 : Fin 3) * 4 + 1 * s.val = s.val; omega
  | ⟨1, _⟩ => show win0_1.index t (1 : Fin 3) * 768 + 1 * k.val = k.val; omega
  | ⟨2, _⟩ => show win0_1.index t (2 : Fin 3) * 1024 + 1 * j.val = j.val; omega

theorem t2_at (c : Dev nD) (t : Fin cfg0.N) (r : Fin 512) (k : Fin 1024) : t2 m c t (ix2 r k) = a2 m c (ix2 (row t r) k) := by
  unfold t2 iblk
  refine congrArg (a2 m c) (funext fun d => Fin.ext ?_)
  obtain ⟨e0, e1⟩ := idx2 t
  match d with
  | ⟨0, _⟩ => show win0_2.index t (0 : Fin 2) * 512 + 1 * r.val = t.val * 512 + r.val; omega
  | ⟨1, _⟩ => show win0_2.index t (1 : Fin 2) * 1024 + 1 * k.val = k.val; omega

theorem t3_eq (c : Dev nD) (t : Fin cfg0.N) : t3 m c t = a3 m c := by
  unfold t3 iblk
  refine funext fun y => congrArg (a3 m c) (funext fun d => Fin.ext ?_)
  obtain ⟨e0, e1⟩ := idx3 t
  match d with
  | ⟨0, _⟩ => show win0_3.index t (0 : Fin 2) * 1 + 1 * (y 0).val = (y 0).val; omega
  | ⟨1, _⟩ => show win0_3.index t (1 : Fin 2) * 1024 + 1 * (y 1).val = (y 1).val; omega

theorem t4_eq (c : Dev nD) (t : Fin cfg0.N) : t4 m c t = a4 m c := by
  unfold t4 iblk
  refine funext fun y => congrArg (a4 m c) (funext fun d => Fin.ext ?_)
  obtain ⟨e0, e1⟩ := idx4 t
  match d with
  | ⟨0, _⟩ => show win0_4.index t (0 : Fin 2) * 1 + 1 * (y 0).val = (y 0).val; omega
  | ⟨1, _⟩ => show win0_4.index t (1 : Fin 2) * 1024 + 1 * (y 1).val = (y 1).val; omega

/-! ### The whole arrays -/

/-- Row `i` of the down product. -/
def frows (c : Dev nD) (i : Fin 4096) (j : Fin 1024) : EReal :=
  ∑ s : Fin 4, ∑ k : Fin 768, a0 m c (ix2 i ⟨s.val * 768 + k.val, by omega⟩) * a1 m c (ix3 s k j)

/-- Row `i` of the residual after the step. -/
def hrows (c : Dev nD) (i : Fin 4096) (j : Fin 1024) : EReal := stepped (frows m c i) (a3 m c) (fun k => a2 m c (ix2 i k)) j

theorem frow_eq (c : Dev nD) (t : Fin cfg0.N) (r : Fin 512) : frow (t0 m c t) (t1 m c t) r = frows m c (row t r) := by
  funext j
  unfold frow frows
  simp only [t0_at, t1_at]

theorem hrow_eq (c : Dev nD) (t : Fin cfg0.N) (r : Fin 512) :
    stepped (frow (t0 m c t) (t1 m c t) r) (t3 m c t) (fun k => t2 m c t (ix2 r k)) = hrows m c (row t r) := by
  funext j
  unfold hrows
  rw [frow_eq, t3_eq]
  exact congrArg (fun h => stepped (frows m c (row t r)) (a3 m c) h j) (funext fun k => t2_at m c t r k)

/-- The point writing row `i`. -/
def pt (i : Fin 4096) : Fin cfg0.N := ⟨i.val / 512, by rw [hN]; omega⟩

theorem row_pt (i : Fin 4096) : row (pt i) ⟨i.val % 512, by omega⟩ = i :=
  Fin.ext (show i.val / 512 * 512 + i.val % 512 = i.val by omega)

theorem f_at (c : Dev nD) (i : Fin 4096) (j : Fin 1024) :
    ((dats m 0 c).arrAt 5 cfg0.N : Vec Ideal S4096x1024 .f32) (ix2 i j) = frows m c i j := by
  have hb := congrFun ((blocks5 m c (pt i) (flush0_5 _)).trans (flushed5 m c _)) (ix2 ⟨i.val % 512, by omega⟩ j : S512x1024.Idx)
  refine Eq.trans (congrArg ((dats m 0 c).arrAt 5 cfg0.N) (funext fun d => Fin.ext ?_)) (hb.trans ?_)
  · obtain ⟨e0, e1⟩ := idx5 (pt i)
    have hv : (pt i).val = i.val / 512 := rfl
    match d with
    | ⟨0, _⟩ => show i.val = win0_5.index (pt i) (0 : Fin 2) * 512 + 1 * (i.val % 512); omega
    | ⟨1, _⟩ => show j.val = win0_5.index (pt i) (1 : Fin 2) * 1024 + 1 * j.val; omega
  · refine (congrFun (out_5 _ _ _ _ _) (ix2 ⟨i.val % 512, by omega⟩ j : S512x1024.Idx)).trans ?_
    refine (congrFun (frow_eq m c (pt i) ⟨i.val % 512, by omega⟩) j).trans ?_
    rw [row_pt]

theorem h_at (c : Dev nD) (i : Fin 4096) (j : Fin 1024) :
    ((dats m 0 c).arrAt 6 cfg0.N : Vec Ideal S4096x1024 .f32) (ix2 i j) = hrows m c i j := by
  have hb := congrFun ((blocks6 m c (pt i) (flush0_6 _)).trans (flushed6 m c _)) (ix2 ⟨i.val % 512, by omega⟩ j : S512x1024.Idx)
  refine Eq.trans (congrArg ((dats m 0 c).arrAt 6 cfg0.N) (funext fun d => Fin.ext ?_)) (hb.trans ?_)
  · obtain ⟨e0, e1⟩ := idx6 (pt i)
    have hv : (pt i).val = i.val / 512 := rfl
    match d with
    | ⟨0, _⟩ => show i.val = win0_6.index (pt i) (0 : Fin 2) * 512 + 1 * (i.val % 512); omega
    | ⟨1, _⟩ => show j.val = win0_6.index (pt i) (1 : Fin 2) * 1024 + 1 * j.val; omega
  · refine (congrFun (out_6 _ _ _ _ _) (ix2 ⟨i.val % 512, by omega⟩ j : S512x1024.Idx)).trans ?_
    refine (congrFun (hrow_eq m c (pt i) ⟨i.val % 512, by omega⟩) j).trans ?_
    rw [row_pt]

theorem n_at (c : Dev nD) (i : Fin 4096) (j : Fin 1024) :
    ((dats m 0 c).arrAt 7 cfg0.N : Vec Ideal S4096x1024 .bf16) (ix2 i j) = normed (hrows m c i) (a4 m c) j := by
  have hb := congrFun ((blocks7 m c (pt i) (flush0_7 _)).trans (flushed7 m c _)) (ix2 ⟨i.val % 512, by omega⟩ j : S512x1024.Idx)
  refine Eq.trans (congrArg ((dats m 0 c).arrAt 7 cfg0.N) (funext fun d => Fin.ext ?_)) (hb.trans ?_)
  · obtain ⟨e0, e1⟩ := idx7 (pt i)
    have hv : (pt i).val = i.val / 512 := rfl
    match d with
    | ⟨0, _⟩ => show i.val = win0_7.index (pt i) (0 : Fin 2) * 512 + 1 * (i.val % 512); omega
    | ⟨1, _⟩ => show j.val = win0_7.index (pt i) (1 : Fin 2) * 1024 + 1 * j.val; omega
  · refine (congrFun (out_7 _ _ _ _ _) (ix2 ⟨i.val % 512, by omega⟩ j : S512x1024.Idx)).trans ?_
    refine (congrArg₂ (fun f g => normed f g j) (hrow_eq m c (pt i) ⟨i.val % 512, by omega⟩) (t4_eq m c (pt i))).trans ?_
    rw [row_pt]

end Cert.KernelPostIdeal.Val

end
-- ==== Proof.PostClaim.lean ====
/- The down product with the norm, the half residual and the next norm: the reference at an index, its frame, and the
   value claim. -/
module

public import proofs.«01_k».proof.Defs
public import proofs.«01_k».proof.Proof.PostKernel
public import proofs.«01_k».proof.Proof.Gen.ReferencePostIdeal.Run
public import proofs.«01_k».proof.Proof.Gen.ReferencePostIdeal.Read
public import Idealize.ShloMosaic.Lib.Pointwise
public import Idealize.ShloMosaic.Adequacy
public import Idealize.ShloMosaic.Init

@[expose] public section

set_option maxRecDepth 16384

noncomputable section

namespace Cert.ReferencePostIdeal.Val

open Cert.ReferencePostIdeal Cert.ReferencePostIdeal.Gen Cert.ReferencePostIdeal.Read Cert.Rms Idealize.ShloMosaic

variable (x0 : Vec Ideal S4096x3072 .bf16) (x1 : Vec Ideal S4x768x1024 .bf16) (x2 : Vec Ideal S4096x1024 .f32) (x3 x4 : Vec Ideal S1x1024 .f32)

/-- Row `i` of the down product, all four chips' columns. -/
def frows (i : Fin 4096) (j : Fin 1024) : EReal :=
  ∑ s : Fin 4, ∑ k : Fin 768, x0 (ix2 i ⟨s.val * 768 + k.val, by omega⟩) * x1 (ix3 s k j)

theorem f_at (i : Fin 4096) (j : Fin 1024) : val_main_v3 (F := Ideal) x0 x1 (ix2 i j) = frows x0 x1 i j := by
  rw [val_main_v3_apply, Fin.sum_univ_tiles 4 768 (show 4 * 768 = 3072 from rfl)]
  unfold frows
  refine Finset.sum_congr rfl fun s _ => Finset.sum_congr rfl fun k _ => ?_
  rw [val_main_v2_apply]
  refine congrArg₂ (fun u v : EReal => u * v) (congrArg x0 (funext fun e => Fin.ext ?_)) (congrArg x1 (funext fun e => Fin.ext ?_))
  · match e with
    | ⟨0, _⟩ => rfl
    | ⟨1, _⟩ => rfl
  · match e with
    | ⟨0, _⟩ => show ((s.val * 768 + k.val) * 1024 + j.val) / 786432 = s.val; omega
    | ⟨1, _⟩ => show ((s.val * 768 + k.val) * 1024 + j.val) / 1024 % 768 = k.val; omega
    | ⟨2, _⟩ => show ((s.val * 768 + k.val) * 1024 + j.val) % 1024 = j.val; omega

theorem v11_at (i : Fin 4096) (z : Fin 1) : val_main_v11 (F := Ideal) x0 x1 (ix2 i z) = rr (frows x0 x1 i) := by
  have h := f_at x0 x1
  unfold rr ms kN kEps
  pointwise [val_main_v11, val_main_v10, val_main_v9, val_main_v8, val_main_v7, val_main_v6, val_main_v5, val_main_v4,
    val_main_cst, val_main_cst_0, val_main_cst_1, h]

/-- Row `i` of the residual after half the normalized row is added. -/
def hrows (i : Fin 4096) (j : Fin 1024) : EReal :=
  x2 (ix2 i j) + kHalf * (frows x0 x1 i j * rr (frows x0 x1 i) * x3 (ix2 0 j))

theorem h_at (i : Fin 4096) (j : Fin 1024) : val_main_v18 (F := Ideal) x0 x1 x2 x3 (ix2 i j) = hrows x0 x1 x2 x3 i j := by
  have h := f_at x0 x1
  have h' := v11_at x0 x1
  unfold hrows kHalf
  pointwise [val_main_v18, val_main_v17, val_main_v16, val_main_v15, val_main_v14, val_main_v13, val_main_v12, val_main_cst_2, h, h']

theorem v26_at (i : Fin 4096) (z : Fin 1) : val_main_v26 (F := Ideal) x0 x1 x2 x3 (ix2 i z) = rr (hrows x0 x1 x2 x3 i) := by
  have h := h_at x0 x1 x2 x3
  unfold rr ms kN kEps
  pointwise [val_main_v26, val_main_v25, val_main_v24, val_main_v23, val_main_v22, val_main_v21, val_main_v20, val_main_v19,
    val_main_cst_3, val_main_cst_4, val_main_cst_5, h]

theorem n_at (i : Fin 4096) (j : Fin 1024) :
    val_main_v31 (F := Ideal) x0 x1 x2 x3 x4 (ix2 i j)
      = hrows x0 x1 x2 x3 i j * rr (hrows x0 x1 x2 x3 i) * x4 (ix2 0 j) := by
  have h := h_at x0 x1 x2 x3
  have h' := v26_at x0 x1 x2 x3
  pointwise [val_main_v31, val_main_v30, val_main_v29, val_main_v28, val_main_v27, h, h']

end Cert.ReferencePostIdeal.Val

namespace Cert.PostClaim

open Idealize.ShloMosaic Idealize.ShloMosaic.TcCoe Idealize.SL.Sem Cert.KernelPostIdeal

theorem frame_reference : Cert.quiescent_ReferencePostIdeal := fun m ρ _ =>
  (θ_run Cert.ReferencePostIdeal.defs _ _).mono (fun r h => ⟨fun c => (h c).2.2.2, sem_eq_zero_of_no_sems (by decide) r.2⟩)
    (Cert.ReferencePostIdeal.Value.run (F := Ideal) m ρ)

section
variable (m : (ℓ : Loc nD τ sig) → Buf (Elt Ideal) ℓ) (c : Dev nD)

theorem f : Cert.ReferencePostIdeal.Read.val_main_v3 (F := Ideal) (Val.a0 m c) (Val.a1 m c)
    = ((Gen.dats m 0 c).arrAt 5 cfg0.N : Vec Ideal S4096x1024 .f32) := by
  funext i
  obtain ⟨r, j, rfl⟩ : ∃ (r : Fin 4096) (j : Fin 1024), i = ix2 r j := ⟨i 0, i 1, eq_ix2 i⟩
  exact (Cert.ReferencePostIdeal.Val.f_at _ _ r j).trans (Val.f_at m c r j).symm

theorem h_new : Cert.ReferencePostIdeal.Read.val_main_v18 (F := Ideal) (Val.a0 m c) (Val.a1 m c) (Val.a2 m c) (Val.a3 m c)
    = ((Gen.dats m 0 c).arrAt 6 cfg0.N : Vec Ideal S4096x1024 .f32) := by
  funext i
  obtain ⟨r, j, rfl⟩ : ∃ (r : Fin 4096) (j : Fin 1024), i = ix2 r j := ⟨i 0, i 1, eq_ix2 i⟩
  exact (Cert.ReferencePostIdeal.Val.h_at _ _ _ _ r j).trans (Val.h_at m c r j).symm

theorem xn : Cert.ReferencePostIdeal.Read.val_main_v31 (F := Ideal) (Val.a0 m c) (Val.a1 m c) (Val.a2 m c) (Val.a3 m c) (Val.a4 m c)
    = ((Gen.dats m 0 c).arrAt 7 cfg0.N : Vec Ideal S4096x1024 .bf16) := by
  funext i
  obtain ⟨r, j, rfl⟩ : ∃ (r : Fin 4096) (j : Fin 1024), i = ix2 r j := ⟨i 0, i 1, eq_ix2 i⟩
  exact (Cert.ReferencePostIdeal.Val.n_at _ _ _ _ _ r j).trans (Val.n_at m c r j).symm

end

theorem value : Cert.algebraic_KernelPostIdeal_ReferencePostIdeal := by
  intro m g m' g' _ agree
  refine ⟨fun c => (Gen.dats m 0 c).arrAt 5 cfg0.N, fun c => (Gen.dats m 0 c).arrAt 6 cfg0.N, fun c => (Gen.dats m 0 c).arrAt 7 cfg0.N,
    Value.run_blocks (F := Ideal) m g,
    (θ_run Cert.ReferencePostIdeal.defs _ _).mono (fun r h c => ⟨?_, ?_, ?_, (h c).2.2.2⟩) (Cert.ReferencePostIdeal.Value.run (F := Ideal) m' g')⟩
  · obtain ⟨e0, e1, -, -, -⟩ := agree c
    refine ((h c).1.trans (Cert.ReferencePostIdeal.Read.val_main_v3_eq (F := Ideal) _ _)).trans ?_
    rw [e0, e1]
    exact f m c
  · obtain ⟨e0, e1, e2, e3, -⟩ := agree c
    refine ((h c).2.1.trans (Cert.ReferencePostIdeal.Read.val_main_v18_eq (F := Ideal) _ _ _ _)).trans ?_
    rw [e0, e1, e2, e3]
    exact h_new m c
  · obtain ⟨e0, e1, e2, e3, e4⟩ := agree c
    refine ((h c).2.2.1.trans (Cert.ReferencePostIdeal.Read.val_main_v31_eq (F := Ideal) m' c)).trans ?_
    rw [e0, e1, e2, e3, e4]
    exact xn m c

end Cert.PostClaim

end
-- ==== Proof.PleSpec.lean ====
/- The gradient of the gated layer embedding `norm(pe * sigmoid(zg))`, one row at a time: what the kernel and the reference
   both compute. `z` is the gate's row before the sigmoid, `p` the embedding's row, `d` the cotangent's row, `g` the gain. -/
module

public import proofs.«01_k».proof.Proof.Reals

@[expose] public section

noncomputable section

namespace Cert.Ple

open Idealize.ShloMosaic Cert.Rms

/-- The gated embedding. -/
def ee (z p : Fin 1024 → EReal) (j : Fin 1024) : EReal := p j * logi (z j)

/-- The gradient of the gated embedding, through the norm after it. -/
def de (z p d g : Fin 1024 → EReal) (j : Fin 1024) : EReal := postGrad (ee z p) (fun k => d k * g k) j

/-- The gradient of the embedding. -/
def dp (z p d g : Fin 1024 → EReal) (j : Fin 1024) : EReal := de z p d g j * logi (z j)

/-- The gradient of the gate before the sigmoid. -/
def dz (z p d g : Fin 1024 → EReal) (j : Fin 1024) : EReal := de z p d g j * p j * logi (z j) * (1 - logi (z j))

/-- A row's term of the gain's gradient. -/
def dg (z p d : Fin 1024 → EReal) (j : Fin 1024) : EReal := d j * ee z p j * rr (ee z p)

end Cert.Ple

end
-- ==== Proof.PleKernel.lean ====
/- The gradient of the gated layer embedding in the kernel: each grid point takes 512 rows, and the two gains' gradients
   are summed over the points. -/
module

public import proofs.«01_k».proof.Proof.Gen.KernelPleIdeal.Value
public import proofs.«01_k».proof.Proof.PleSpec
public import Idealize.ShloMosaic.Lib.Pointwise
public import Idealize.ShloMosaic.Lib.Pipeline.ValueKit

@[expose] public section

set_option maxRecDepth 16384

noncomputable section

namespace Cert.KernelPleIdeal.Val

open Cert.KernelPleIdeal Cert.KernelPleIdeal.Gen Cert.KernelPleIdeal.Value Cert.Rms
open Idealize.ShloMosaic Idealize.ShloMosaic.TcCoe Idealize.SL.Sem

/-! ### The body's values at an index -/

/-- A row of a tile. -/
abbrev rw (x : Vec Ideal S512x1024 .f32) (r : Fin 512) : Fin 1024 → EReal := fun k => x (ix2 r k)
/-- The gain's row. -/
abbrev gr (g : Vec Ideal S1x1024 .f32) : Fin 1024 → EReal := fun k => g (ix2 0 k)

section
variable (z p d : Vec Ideal S512x1024 .f32) (g : Vec Ideal S1x1024 .f32)

theorem pay3_at (r : Fin 512) (j : Fin 1024) : k0_pay3 (F := Ideal) z (ix2 r j) = logi (z (ix2 r j)) := by
  rw [← half_tanh']
  pointwise [k0_pay3]

theorem pay5_at (r : Fin 512) (j : Fin 1024) : k0_pay5 (F := Ideal) z p (ix2 r j) = Cert.Ple.ee (rw z r) (rw p r) j := by
  have h := pay3_at z
  unfold Cert.Ple.ee
  pointwise [k0_pay5, k0_pay4, h]

theorem pay6_at (r : Fin 512) (u : Fin 1) : k0_pay6 (F := Ideal) z p (ix2 r u) = rr (Cert.Ple.ee (rw z r) (rw p r)) := by
  have h := pay5_at z p
  unfold rr ms kN kEps
  pointwise [k0_pay6, h]

theorem pay7_at (r : Fin 512) (j : Fin 1024) :
    k0_pay7 (F := Ideal) z p d g (ix2 r j) = Cert.Ple.de (rw z r) (rw p r) (rw d r) (gr g) j := by
  have h := pay5_at z p
  have h' := pay6_at z p
  unfold Cert.Ple.de postGrad kN
  pointwise [k0_pay7, h, h']

theorem pay8_at (r : Fin 512) (j : Fin 1024) :
    k0_pay8 (F := Ideal) z p d g (ix2 r j) = Cert.Ple.dp (rw z r) (rw p r) (rw d r) (gr g) j := by
  have h := pay7_at z p d g
  have h' := pay3_at z
  unfold Cert.Ple.dp
  pointwise [k0_pay8, h, h']

/-- The gate's gradient, as the body has it. -/
abbrev pdz : FVec Ideal S512x1024 .bf16 := k0_pay9 (F := Ideal) (k0_pay3 (F := Ideal) z) (k0_pay4 (F := Ideal) p) (k0_pay7 (F := Ideal) z p d g)

theorem pay9_at (r : Fin 512) (j : Fin 1024) : pdz z p d g (ix2 r j) = Cert.Ple.dz (rw z r) (rw p r) (rw d r) (gr g) j := by
  have h := pay7_at z p d g
  have h' := pay3_at z
  unfold Cert.Ple.dz
  rw [← Ideal.ofBits_one_f32]
  pointwise [pdz, k0_pay9, k0_pay4, h, h']

theorem pay10_at (j : Fin 1024) :
    k0_pay10 (F := Ideal) (k0_pay5 (F := Ideal) z p) (k0_pay6 (F := Ideal) z p) d (ix2 0 j)
      = ∑ r : Fin 512, Cert.Ple.dg (rw z r) (rw p r) (rw d r) j := by
  have h := pay5_at z p
  have h' := pay6_at z p
  unfold Cert.Ple.dg
  pointwise [k0_pay10, h, h']

theorem pay11_at (acc : Vec Ideal S1x1024 .f32) (j : Fin 1024) :
    k0_pay11 (F := Ideal) (k0_pay5 (F := Ideal) z p) (k0_pay6 (F := Ideal) z p) d acc (ix2 0 j)
      = acc (ix2 0 j) + ∑ r : Fin 512, Cert.Ple.dg (rw z r) (rw p r) (rw d r) j := by
  have h := pay10_at z p d
  pointwise [k0_pay11, h]
end

/-- One chip's columns of the product by the transposed weight. -/
theorem pay16_at (y : FVec Ideal S512x1024 .bf16) (w : Vec Ideal S1x256x1024 .bf16) (r : Fin 512) (q : Fin 256) :
    k0_pay16 (F := Ideal) y w (ix2 r q) = ∑ k : Fin 1024, y (ix2 r k) * w (ix3 0 q k) := by
  pointwise [k0_pay16]

theorem pay15_eq (y : FVec Ideal S512x1024 .bf16) (w : Vec Ideal S1x256x1024 .bf16) :
    k0_pay15 (F := Ideal) y (k0_pay14 (F := Ideal) w) = k0_pay16 (F := Ideal) y w := rfl

theorem pay12_eq (s p d : FVec Ideal S512x1024 .f32) (w : Vec Ideal S1x256x1024 .bf16) :
    k0_pay12 (F := Ideal) s p d w = k0_pay16 (F := Ideal) (k0_pay9 (F := Ideal) s p d) w := rfl

theorem pay13_eq (s p d : FVec Ideal S512x1024 .f32) (w : Vec Ideal S1x256x1024 .bf16) :
    k0_pay13 (F := Ideal) s p d w = k0_pay16 (F := Ideal) (k0_pay9 (F := Ideal) s p d) w := rfl

theorem pay17_at (h : Vec Ideal S512x1024 .f32) (r : Fin 512) (u : Fin 1) : k0_pay17 (F := Ideal) h (ix2 r u) = rr (rw h r) := by
  unfold rr ms kN kEps
  pointwise [k0_pay17]

theorem pay18_at (h : Vec Ideal S512x1024 .f32) (r : Fin 512) (j : Fin 1024) :
    k0_pay18 (F := Ideal) h (ix2 r j) = h (ix2 r j) * rr (rw h r) := by
  have e := pay17_at h
  pointwise [k0_pay18, e]

theorem pay19_at (d h x : Vec Ideal S512x1024 .f32) (g : Vec Ideal S1x1024 .f32) (r : Fin 512) (j : Fin 1024) :
    k0_pay19 (F := Ideal) d h x g (ix2 r j) = d (ix2 r j) + rmsGrad (rw h r) (fun k => x (ix2 r k) * g (ix2 0 k)) j := by
  have e := pay17_at h
  have e' := pay18_at h
  unfold rmsGrad kN
  pointwise [k0_pay19, e, e']

theorem pay1_at (h x : Vec Ideal S512x1024 .f32) (j : Fin 1024) :
    k0_pay1 (F := Ideal) (k0_pay18 (F := Ideal) h) x (ix2 0 j) = ∑ r : Fin 512, x (ix2 r j) * (h (ix2 r j) * rr (rw h r)) := by
  have e := pay18_at h
  pointwise [k0_pay1, e]

theorem pay2_at (h x : Vec Ideal S512x1024 .f32) (acc : Vec Ideal S1x1024 .f32) (j : Fin 1024) :
    k0_pay2 (F := Ideal) (k0_pay18 (F := Ideal) h) x acc (ix2 0 j)
      = acc (ix2 0 j) + ∑ r : Fin 512, x (ix2 r j) * (h (ix2 r j) * rr (rw h r)) := by
  have e := pay1_at h x
  pointwise [k0_pay2, e]

end Cert.KernelPleIdeal.Val

end
-- ==== Proof.PleBlocks.lean ====
/- What the gated embedding's body leaves in its five outputs' buffers. The gate's gradient against the gate's weight
   goes into a scratch buffer first, a quarter of the columns for each chip's slice of the weight, and is read back whole. -/
module

public import proofs.«01_k».proof.Proof.PleKernel

@[expose] public section

set_option maxRecDepth 16384

noncomputable section

namespace Cert.KernelPleIdeal.Val

open Cert.KernelPleIdeal Cert.KernelPleIdeal.Gen Cert.KernelPleIdeal.Value Cert.Rms
open Idealize.ShloMosaic Idealize.ShloMosaic.TcCoe Idealize.SL.Sem

theorem z2 : (![0, 0] : Fin 2 → ℕ) = fun _ => 0 := funext fun a => by fin_cases a <;> rfl

/-! ### The scratch buffer -/

/-- A tile's rows against the weight, transposed: column `j` is row `j % 256` of chip `j / 256`. -/
def prod (y : FVec Ideal S512x1024 .bf16) (w : Vec Ideal S4x256x1024 .bf16) (i : S512x1024.Idx) : EReal :=
  ∑ k : Fin 1024, y (ix2 (i 0) k) * w (ix3 ⟨(i 1).val / 256, Nat.div_lt_of_lt_mul (i 1).isLt⟩ ⟨(i 1).val % 256, Nat.mod_lt _ (by omega)⟩ k)

/-- The weight's slice of chip `s`. -/
def sl (w : Vec Ideal S4x256x1024 .bf16) (s : Fin 4) : Vec Ideal S1x256x1024 .bf16 := fun i => w (ix3 s (i 1) (i 2))

theorem sl0 (w : Vec Ideal S4x256x1024 .bf16) : View.ld w (Rect.unit ![0, 0, 0] ![1, 256, 1024] inb_S4x256x1024_S1x256x1024_0_0_0) = sl w 0 :=
  funext fun i => congrArg w (funext fun d => Fin.ext (by fin_cases d <;> simp [Rect.idx_unit_val, ix3]))
theorem sl1 (w : Vec Ideal S4x256x1024 .bf16) : View.ld w (Rect.unit ![1, 0, 0] ![1, 256, 1024] inb_S4x256x1024_S1x256x1024_1_0_0) = sl w 1 :=
  funext fun i => congrArg w (funext fun d => Fin.ext (by fin_cases d <;> simp [Rect.idx_unit_val, ix3]))
theorem sl2 (w : Vec Ideal S4x256x1024 .bf16) : View.ld w (Rect.unit ![2, 0, 0] ![1, 256, 1024] inb_S4x256x1024_S1x256x1024_2_0_0) = sl w 2 :=
  funext fun i => congrArg w (funext fun d => Fin.ext (by fin_cases d <;> simp [Rect.idx_unit_val, ix3]))
theorem sl3 (w : Vec Ideal S4x256x1024 .bf16) : View.ld w (Rect.unit ![3, 0, 0] ![1, 256, 1024] inb_S4x256x1024_S1x256x1024_3_0_0) = sl w 3 :=
  funext fun i => congrArg w (funext fun d => Fin.ext (by fin_cases d <;> simp [Rect.idx_unit_val, ix3]))

/-- One chip's product is its quarter of the columns. -/
theorem piece (y : FVec Ideal S512x1024 .bf16) (w : Vec Ideal S4x256x1024 .bf16) (s : Fin 4) (r : Fin 512) (q : Fin 256) :
    k0_pay16 (F := Ideal) y (sl w s) (ix2 r q) = prod y w (ix2 r ⟨256 * s.val + q.val, by omega⟩) := by
  rw [pay16_at]
  refine Finset.sum_congr rfl fun k _ => congrArg (fun u : EReal => y (ix2 r k) * u) (congrArg w (funext fun d => Fin.ext ?_))
  match d with
  | ⟨0, _⟩ => show s.val = (256 * s.val + q.val) / 256; omega
  | ⟨1, _⟩ => show q.val = (256 * s.val + q.val) % 256; omega
  | ⟨2, _⟩ => rfl

/-- The four stores, the last first. -/
abbrev stores (y : FVec Ideal S512x1024 .bf16) (w : Vec Ideal S4x256x1024 .bf16) : List (View.Piece (Elt Ideal) S512x1024 .f32) :=
  [⟨Rect.unit ![0, 768] ![512, 256] inb_S512x1024_S512x256_0_768, k0_pay16 (F := Ideal) y (sl w 3)⟩,
    ⟨Rect.unit ![0, 512] ![512, 256] inb_S512x1024_S512x256_0_512, k0_pay16 (F := Ideal) y (sl w 2)⟩,
    ⟨Rect.unit ![0, 256] ![512, 256] inb_S512x1024_S512x256_0_256, k0_pay16 (F := Ideal) y (sl w 1)⟩,
    ⟨Rect.unit ![0, 0] ![512, 256] inb_S512x1024_S512x256_0_0, k0_pay16 (F := Ideal) y (sl w 0)⟩]

theorem stores_cover (y : FVec Ideal S512x1024 .bf16) (w : Vec Ideal S4x256x1024 .bf16) (i : S512x1024.Idx) :
    ∃ pc ∈ stores y w, i ∈ pc.1.set :=
  View.cover_of_tiledL (stores y w) ![512, 256] (by sl_kernel_rfl) i

theorem canon_stores (y : FVec Ideal S512x1024 .bf16) (w : Vec Ideal S4x256x1024 .bf16) : View.canon (stores y w) = prod y w := by
  funext i
  refine View.canon_apply_of_pieces (prod y w) _ ?_ i (stores_cover y w i)
  intro pc hpc x
  rcases List.mem_cons.mp hpc with rfl | hpc
  · obtain ⟨r, q, rfl⟩ : ∃ (r : Fin 512) (q : Fin 256), x = ix2 r q := ⟨x 0, x 1, eq_ix2 x⟩
    refine (piece y w 3 r q).trans (congrArg (prod y w) (funext fun d => Fin.ext ?_))
    match d with
    | ⟨0, _⟩ => show r.val = 0 + 1 * r.val; omega
    | ⟨1, _⟩ => show 256 * 3 + q.val = 768 + 1 * q.val; omega
  rcases List.mem_cons.mp hpc with rfl | hpc
  · obtain ⟨r, q, rfl⟩ : ∃ (r : Fin 512) (q : Fin 256), x = ix2 r q := ⟨x 0, x 1, eq_ix2 x⟩
    refine (piece y w 2 r q).trans (congrArg (prod y w) (funext fun d => Fin.ext ?_))
    match d with
    | ⟨0, _⟩ => show r.val = 0 + 1 * r.val; omega
    | ⟨1, _⟩ => show 256 * 2 + q.val = 512 + 1 * q.val; omega
  rcases List.mem_cons.mp hpc with rfl | hpc
  · obtain ⟨r, q, rfl⟩ : ∃ (r : Fin 512) (q : Fin 256), x = ix2 r q := ⟨x 0, x 1, eq_ix2 x⟩
    refine (piece y w 1 r q).trans (congrArg (prod y w) (funext fun d => Fin.ext ?_))
    match d with
    | ⟨0, _⟩ => show r.val = 0 + 1 * r.val; omega
    | ⟨1, _⟩ => show 256 * 1 + q.val = 256 + 1 * q.val; omega
  · obtain rfl := List.mem_singleton.mp hpc
    obtain ⟨r, q, rfl⟩ : ∃ (r : Fin 512) (q : Fin 256), x = ix2 r q := ⟨x 0, x 1, eq_ix2 x⟩
    refine (piece y w 0 r q).trans (congrArg (prod y w) (funext fun d => Fin.ext ?_))
    match d with
    | ⟨0, _⟩ => show r.val = 0 + 1 * r.val; omega
    | ⟨1, _⟩ => show 256 * 0 + q.val = 0 + 1 * q.val; omega

/-- The scratch buffer read back whole. -/
theorem readCov_stores {sp : Space} (v : View sig .tc sp S512x1024 .f32) (y : FVec Ideal S512x1024 .bf16) (w : Vec Ideal S4x256x1024 .bf16)
    (h : ∀ a, (![0, 0] : Fin 2 → ℕ) a + (![512, 1024] : Fin 2 → ℕ) a ≤ S512x1024.size a) :
    v.readCov (stores y w) (Rect.unit (s := S512x1024) ![0, 0] ![512, 1024] h).toLoadRect = prod y w := by
  rw [View.readCov_eq_canon_ld v (stores y w) _ (stores_cover y w), canon_stores]
  exact View.ld_unit_zero (S := S512x1024) z2 _ _

/-! ### The outputs -/

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S4x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole)
    (x0 : Vec Ideal S512x1024 .f32) (x1 : Vec Ideal S512x1024 .f32) (x2 : Vec Ideal S512x1024 .f32) (x3 : Vec Ideal S512x1024 .f32) (x4 : Vec Ideal S4x256x1024 .bf16) (x5 : Vec Ideal S1x1024 .f32) (x6 : Vec Ideal S1x1024 .f32)

theorem out_A_7 (hc0 : cond0_0 i) (hc1 : ¬cond0_1 i) (hc2 : cond0_2 i) (hc3 : ¬cond0_3 i) :
    out0_A_7 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = pdz x1 x2 x0 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun0_A
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]

theorem out_A_8 (hc0 : cond0_0 i) (hc1 : ¬cond0_1 i) (hc2 : cond0_2 i) (hc3 : ¬cond0_3 i) :
    out0_A_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = k0_pay8 (F := Ideal) x1 x2 x0 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun0_A
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]

theorem out_A_9 (hc0 : cond0_0 i) (hc1 : ¬cond0_1 i) (hc2 : cond0_2 i) (hc3 : ¬cond0_3 i) :
    out0_A_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = k0_pay19 (F := Ideal) x0 x3 (prod (pdz x1 x2 x0 x5) x4) x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun0_A
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]
  exact congrArg (fun s => k0_pay19 (F := Ideal) x0 x3 s x6) (readCov_stores arg13.view (pdz x1 x2 x0 x5) x4 _)

theorem out_A_10 (hc0 : cond0_0 i) (hc1 : ¬cond0_1 i) (hc2 : cond0_2 i) (hc3 : ¬cond0_3 i) :
    out0_A_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = k0_pay10 (F := Ideal) (k0_pay5 (F := Ideal) x1 x2) (k0_pay6 (F := Ideal) x1 x2) x0 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun0_A
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]

theorem out_A_11 (hc0 : cond0_0 i) (hc1 : ¬cond0_1 i) (hc2 : cond0_2 i) (hc3 : ¬cond0_3 i) :
    out0_A_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = k0_pay1 (F := Ideal) (k0_pay18 (F := Ideal) x3) (prod (pdz x1 x2 x0 x5) x4) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun0_A
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]
  exact congrArg (fun s => k0_pay1 (F := Ideal) (k0_pay18 (F := Ideal) x3) s) (readCov_stores arg13.view (pdz x1 x2 x0 x5) x4 _)

theorem out_B_7 (hc0 : ¬cond0_0 i) (hc1 : cond0_1 i) (hc2 : ¬cond0_2 i) (hc3 : cond0_3 i) (xo10 xo11 : Vec Ideal S1x1024 .f32) :
    out0_B_7 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11 = pdz x1 x2 x0 x5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11)]
  unfold kernelRun0_B
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]

theorem out_B_8 (hc0 : ¬cond0_0 i) (hc1 : cond0_1 i) (hc2 : ¬cond0_2 i) (hc3 : cond0_3 i) (xo10 xo11 : Vec Ideal S1x1024 .f32) :
    out0_B_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11 = k0_pay8 (F := Ideal) x1 x2 x0 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11)]
  unfold kernelRun0_B
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]

theorem out_B_9 (hc0 : ¬cond0_0 i) (hc1 : cond0_1 i) (hc2 : ¬cond0_2 i) (hc3 : cond0_3 i) (xo10 xo11 : Vec Ideal S1x1024 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11 = k0_pay19 (F := Ideal) x0 x3 (prod (pdz x1 x2 x0 x5) x4) x6 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11)]
  unfold kernelRun0_B
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]
  exact congrArg (fun s => k0_pay19 (F := Ideal) x0 x3 s x6) (readCov_stores arg13.view (pdz x1 x2 x0 x5) x4 _)

theorem out_B_10 (hc0 : ¬cond0_0 i) (hc1 : cond0_1 i) (hc2 : ¬cond0_2 i) (hc3 : cond0_3 i) (xo10 xo11 : Vec Ideal S1x1024 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11 = k0_pay11 (F := Ideal) (k0_pay5 (F := Ideal) x1 x2) (k0_pay6 (F := Ideal) x1 x2) x0 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11)]
  unfold kernelRun0_B
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]

theorem out_B_11 (hc0 : ¬cond0_0 i) (hc1 : cond0_1 i) (hc2 : ¬cond0_2 i) (hc3 : cond0_3 i) (xo10 xo11 : Vec Ideal S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11 = k0_pay2 (F := Ideal) (k0_pay18 (F := Ideal) x3) (prod (pdz x1 x2 x0 x5) x4) xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xo10 xo11)]
  unfold kernelRun0_B
  dsimp only
  sl_unfold_words
  rw [View.canon_unit_zero z2]
  simp only [View.readAt_eq_ld, Memref.IsWhole.read_unread, View.ld_unit_zero (S := S512x1024) z2, View.ld_unit_zero (S := S1x1024) z2, sl0, sl1, sl2, sl3]
  exact congrArg (fun s => k0_pay2 (F := Ideal) (k0_pay18 (F := Ideal) x3) s xo11) (readCov_stores arg13.view (pdz x1 x2 x0 x5) x4 _)

end

end Cert.KernelPleIdeal.Val

end
-- ==== Proof.PleArrays.lean ====
/- The gated embedding's result arrays after the run, at an index. -/
module

public import proofs.«01_k».proof.Proof.PleBlocks

@[expose] public section

set_option maxRecDepth 16384

noncomputable section

namespace Cert.KernelPleIdeal.Val

open Cert.KernelPleIdeal Cert.KernelPleIdeal.Gen Cert.KernelPleIdeal.Value Cert.Rms
open Idealize.ShloMosaic Idealize.ShloMosaic.TcCoe Idealize.SL.Sem

variable (m : (ℓ : Loc nD τ sig) → Buf (Elt Ideal) ℓ) (ρ : Dev nD → PrngReg)

/-! ### The arguments, the host's two products and the tiles the points take of them -/

abbrev a0 (c : Dev nD) : Vec Ideal S4096x1024 .f32 := m ((c : Thread nD τ).loc main_arg0)
abbrev a1 (c : Dev nD) : Vec Ideal S4096x1024 .f32 := m ((c : Thread nD τ).loc main_arg1)
abbrev a2 (c : Dev nD) : Vec Ideal S4096x256 .bf16 := m ((c : Thread nD τ).loc main_arg2)
abbrev a3 (c : Dev nD) : Vec Ideal S4x1280x1024 .bf16 := m ((c : Thread nD τ).loc main_arg3)
abbrev a4 (c : Dev nD) : Vec Ideal S4x256x256 .bf16 := m ((c : Thread nD τ).loc main_arg4)
abbrev a5 (c : Dev nD) : Vec Ideal S1x1024 .f32 := m ((c : Thread nD τ).loc main_arg5)
abbrev a6 (c : Dev nD) : Vec Ideal S1x1024 .f32 := m ((c : Thread nD τ).loc main_arg6)
/-- The gate before the sigmoid. -/
def zarr (c : Dev nD) : Vec Ideal S4096x1024 .f32 := V m c main_v15
/-- The projected embedding. -/
def parr (c : Dev nD) : Vec Ideal S4096x1024 .f32 := V m c main_v20

abbrev t0 (c : Dev nD) (t : Fin cfg0.N) : Vec Ideal S512x1024 .f32 := iblk m c 0 t
abbrev t1 (c : Dev nD) (t : Fin cfg0.N) : Vec Ideal S512x1024 .f32 := iblk m c 1 t
abbrev t2 (c : Dev nD) (t : Fin cfg0.N) : Vec Ideal S512x1024 .f32 := iblk m c 2 t
abbrev t3 (c : Dev nD) (t : Fin cfg0.N) : Vec Ideal S512x1024 .f32 := iblk m c 3 t
abbrev t4 (c : Dev nD) (t : Fin cfg0.N) : Vec Ideal S4x256x1024 .bf16 := iblk m c 4 t
abbrev t5 (c : Dev nD) (t : Fin cfg0.N) : Vec Ideal S1x1024 .f32 := iblk m c 5 t
abbrev t6 (c : Dev nD) (t : Fin cfg0.N) : Vec Ideal S1x1024 .f32 := iblk m c 6 t

theorem hN : cfg0.N = 8 := N_0

/-- Row `r` of point `t`'s tile. -/
abbrev row (t : Fin cfg0.N) (r : Fin 512) : Fin 4096 := ⟨t.val * 512 + r.val, by have := lt_of_lt_of_eq t.isLt hN; omega⟩

theorem idx0 : ∀ t : Fin cfg0.N, win0_0.index t (0 : Fin 2) = t.val ∧ win0_0.index t (1 : Fin 2) = 0 :=
  (by decide +kernel : ∀ t : Fin grid0.N, _)
theorem t0_at (c : Dev nD) (t : Fin cfg0.N) (r : Fin 512) (k : Fin 1024) : t0 m c t (ix2 r k) = a0 m c (ix2 (row t r) k) := by
  unfold t0 iblk
  refine congrArg (a0 m c) (funext fun d => Fin.ext ?_)
  obtain ⟨e0, e1⟩ := idx0 t
  match d with
  | ⟨0, _⟩ => show win0_0.index t (0 : Fin 2) * 512 + 1 * r.val = t.val * 512 + r.val; omega
  | ⟨1, _⟩ => show win0_0.index t (1 : Fin 2) * 1024 + 1 * k.val = k.val; omega

theorem idx1 : ∀ t : Fin cfg0.N, win0_1.index t (0 : Fin 2) = t.val ∧ win0_1.index t (1 : Fin 2) = 0 :=
  (by decide +kernel : ∀ t : Fin grid0.N, _)
theorem t1_at (c : Dev nD) (t : Fin cfg0.N) (r : Fin 512) (k : Fin 1024) : t1 m c t (ix2 r k) = zarr m c (ix2 (row t r) k) := by
  unfold t1 iblk
  refine congrArg (zarr m c) (funext fun d => Fin.ext ?_)
  obtain ⟨e0, e1⟩ := idx1 t
  match d with
  | ⟨0, _⟩ => show win0_1.index t (0 : Fin 2) * 512 + 1 * r.val = t.val * 512 + r.val; omega
  | ⟨1, _⟩ => show win0_1.index t (1 : Fin 2) * 1024 + 1 * k.val = k.val; omega

theorem idx2 : ∀ t : Fin cfg0.N, win0_2.index t (0 : Fin 2) = t.val ∧ win0_2.index t (1 : Fin 2) = 0 :=
  (by decide +kernel : ∀ t : Fin grid0.N, _)
theorem t2_at (c : Dev nD) (t : Fin cfg0.N) (r : Fin 512) (k : Fin 1024) : t2 m c t (ix2 r k) = parr m c (ix2 (row t r) k) := by
  unfold t2 iblk
  refine congrArg (parr m c) (funext fun d => Fin.ext ?_)
  obtain ⟨e0, e1⟩ := idx2 t
  match d with
  | ⟨0, _⟩ => show win0_2.index t (0 : Fin 2) * 512 + 1 * r.val = t.val * 512 + r.val; omega
  | ⟨1, _⟩ => show win0_2.index t (1 : Fin 2) * 1024 + 1 * k.val = k.val; omega

theorem idx3 : ∀ t : Fin cfg0.N, win0_3.index t (0 : Fin 2) = t.val ∧ win0_3.index t (1 : Fin 2) = 0 :=
  (by decide +kernel : ∀ t : Fin grid0.N, _)
theorem t3_at (c : Dev nD) (t : Fin cfg0.N) (r : Fin 512) (k : Fin 1024) : t3 m c t (ix2 r k) = a1 m c (ix2 (row t r) k) := by
  unfold t3 iblk
  refine congrArg (a1 m c) (funext fun d => Fin.ext ?_)
  obtain ⟨e0, e1⟩ := idx3 t
  match d with
  | ⟨0, _⟩ => show win0_3.index t (0 : Fin 2) * 512 + 1 * r.val = t.val * 512 + r.val; omega
  | ⟨1, _⟩ => show win0_3.index t (1 : Fin 2) * 1024 + 1 * k.val = k.val; omega

/-- The gate's rows of the weight stand after the block's other 1024. -/
theorem idx4 : ∀ t : Fin cfg0.N, win0_4.index t (0 : Fin 3) = 0 ∧ win0_4.index t (1 : Fin 3) = 4 ∧ win0_4.index t (2 : Fin 3) = 0 :=
  (by decide +kernel : ∀ t : Fin grid0.N, _)
theorem t4_at (c : Dev nD) (t : Fin cfg0.N) (s : Fin 4) (q : Fin 256) (k : Fin 1024) :
    t4 m c t (ix3 s q k) = a3 m c (ix3 s ⟨1024 + q.val, by omega⟩ k) := by
  unfold t4 iblk
  refine congrArg (a3 m c) (funext fun d => Fin.ext ?_)
  obtain ⟨e0, e1, e2⟩ := idx4 t
  match d with
  | ⟨0, _⟩ => show win0_4.index t (0 : Fin 3) * 4 + 1 * s.val = s.val; omega
  | ⟨1, _⟩ => show win0_4.index t (1 : Fin 3) * 256 + 1 * q.val = 1024 + q.val; omega
  | ⟨2, _⟩ => show win0_4.index t (2 : Fin 3) * 1024 + 1 * k.val = k.val; omega

theorem idx5 : ∀ t : Fin cfg0.N, win0_5.index t (0 : Fin 2) = 0 ∧ win0_5.index t (1 : Fin 2) = 0 :=
  (by decide +kernel : ∀ t : Fin grid0.N, _)
theorem t5_at (c : Dev nD) (t : Fin cfg0.N) (k : Fin 1024) : t5 m c t (ix2 0 k) = a5 m c (ix2 0 k) := by
  unfold t5 iblk
  refine congrArg (a5 m c) (funext fun d => Fin.ext ?_)
  obtain ⟨e0, e1⟩ := idx5 t
  match d with
  | ⟨0, _⟩ => show win0_5.index t (0 : Fin 2) * 1 + 1 * 0 = 0; omega
  | ⟨1, _⟩ => show win0_5.index t (1 : Fin 2) * 1024 + 1 * k.val = k.val; omega

theorem idx6 : ∀ t : Fin cfg0.N, win0_6.index t (0 : Fin 2) = 0 ∧ win0_6.index t (1 : Fin 2) = 0 :=
  (by decide +kernel : ∀ t : Fin grid0.N, _)
theorem t6_at (c : Dev nD) (t : Fin cfg0.N) (k : Fin 1024) : t6 m c t (ix2 0 k) = a6 m c (ix2 0 k) := by
  unfold t6 iblk
  refine congrArg (a6 m c) (funext fun d => Fin.ext ?_)
  obtain ⟨e0, e1⟩ := idx6 t
  match d with
  | ⟨0, _⟩ => show win0_6.index t (0 : Fin 2) * 1 + 1 * 0 = 0; omega
  | ⟨1, _⟩ => show win0_6.index t (1 : Fin 2) * 1024 + 1 * k.val = k.val; omega

/-! ### Rows -/

/-- A row of an array. -/
abbrev rw4 (x : Vec Ideal S4096x1024 .f32) (i : Fin 4096) : Fin 1024 → EReal := fun k => x (ix2 i k)

/-- The gate's gradient. -/
def dzrow (c : Dev nD) (i : Fin 4096) : Fin 1024 → EReal :=
  Cert.Ple.dz (rw4 (zarr m c) i) (rw4 (parr m c) i) (rw4 (a0 m c) i) (gr (a5 m c))

/-- The gradient of the gate's normalized input. -/
def dxrow (c : Dev nD) (i : Fin 4096) (j : Fin 1024) : EReal :=
  ∑ k : Fin 1024, dzrow m c i k * a3 m c (ix3 ⟨j.val / 256, by omega⟩ ⟨1024 + j.val % 256, by omega⟩ k)

theorem r0 (c : Dev nD) (t : Fin cfg0.N) (r : Fin 512) : rw (t0 m c t) r = rw4 (a0 m c) (row t r) := funext fun k => t0_at m c t r k
theorem r1 (c : Dev nD) (t : Fin cfg0.N) (r : Fin 512) : rw (t1 m c t) r = rw4 (zarr m c) (row t r) := funext fun k => t1_at m c t r k
theorem r2 (c : Dev nD) (t : Fin cfg0.N) (r : Fin 512) : rw (t2 m c t) r = rw4 (parr m c) (row t r) := funext fun k => t2_at m c t r k
theorem r3 (c : Dev nD) (t : Fin cfg0.N) (r : Fin 512) : rw (t3 m c t) r = rw4 (a1 m c) (row t r) := funext fun k => t3_at m c t r k
theorem r5 (c : Dev nD) (t : Fin cfg0.N) : gr (t5 m c t) = gr (a5 m c) := funext fun k => t5_at m c t k

/-- A point's rows of the gate's gradient. -/
abbrev tdz (c : Dev nD) (t : Fin cfg0.N) : FVec Ideal S512x1024 .bf16 := pdz (t1 m c t) (t2 m c t) (t0 m c t) (t5 m c t)
/-- A point's rows of the gradient of the gate's normalized input. -/
abbrev tdx (c : Dev nD) (t : Fin cfg0.N) : Vec Ideal S512x1024 .f32 := prod (tdz m c t) (t4 m c t)

theorem tdz_at (c : Dev nD) (t : Fin cfg0.N) (r : Fin 512) (j : Fin 1024) : tdz m c t (ix2 r j) = dzrow m c (row t r) j := by
  refine (pay9_at (t1 m c t) (t2 m c t) (t0 m c t) (t5 m c t) r j).trans ?_
  rw [r0, r1, r2, r5]
  rfl

theorem tdp_at (c : Dev nD) (t : Fin cfg0.N) (r : Fin 512) (j : Fin 1024) :
    k0_pay8 (F := Ideal) (t1 m c t) (t2 m c t) (t0 m c t) (t5 m c t) (ix2 r j)
      = Cert.Ple.dp (rw4 (zarr m c) (row t r)) (rw4 (parr m c) (row t r)) (rw4 (a0 m c) (row t r)) (gr (a5 m c)) j := by
  rw [pay8_at, r0, r1, r2, r5]

theorem tdx_at (c : Dev nD) (t : Fin cfg0.N) (r : Fin 512) (j : Fin 1024) : tdx m c t (ix2 r j) = dxrow m c (row t r) j :=
  Finset.sum_congr rfl fun k _ => congrArg₂ (fun u v : EReal => u * v) (tdz_at m c t r k) (t4_at m c t _ _ k)

theorem tdh_at (c : Dev nD) (t : Fin cfg0.N) (r : Fin 512) (j : Fin 1024) :
    k0_pay19 (F := Ideal) (t0 m c t) (t3 m c t) (tdx m c t) (t6 m c t) (ix2 r j)
      = a0 m c (ix2 (row t r) j) + rmsGrad (rw4 (a1 m c) (row t r)) (fun k => dxrow m c (row t r) k * a6 m c (ix2 0 k)) j := by
  rw [pay19_at, r3]
  refine congrArg₂ (fun u v : EReal => u + v) (t0_at m c t r j) (congrArg (fun y => rmsGrad (rw4 (a1 m c) (row t r)) y j) (funext fun k => ?_))
  exact congrArg₂ (fun u v : EReal => u * v) (tdx_at m c t r k) (t6_at m c t k)

/-- A point's share of the embedding gain's gradient. -/
def gshare (c : Dev nD) (t : Fin cfg0.N) (j : Fin 1024) : EReal :=
  ∑ r : Fin 512, Cert.Ple.dg (rw (t1 m c t) r) (rw (t2 m c t) r) (rw (t0 m c t) r) j
/-- A point's share of the input gain's gradient. -/
def pshare (c : Dev nD) (t : Fin cfg0.N) (j : Fin 1024) : EReal :=
  ∑ r : Fin 512, tdx m c t (ix2 r j) * (t3 m c t (ix2 r j) * rr (rw (t3 m c t) r))

/-! ### What a point leaves -/

theorem outs_7 (c : Dev nD) (t : Fin cfg0.N) : (outsAt0 m c t.val t.isLt).1 = tdz m c t := by
  have h8 := lt_of_lt_of_eq t.isLt hN
  by_cases h : 1 ≤ t.val
  · rw [outsAt0_B m c t (by omega) h (by omega) h]
    dsimp only
    rw [out_B_7]
  · rw [outsAt0_A m c t (by omega) h (by omega) h]
    dsimp only
    rw [out_A_7]

theorem outs_8 (c : Dev nD) (t : Fin cfg0.N) :
    (outsAt0 m c t.val t.isLt).2.1 = k0_pay8 (F := Ideal) (t1 m c t) (t2 m c t) (t0 m c t) (t5 m c t) := by
  have h8 := lt_of_lt_of_eq t.isLt hN
  by_cases h : 1 ≤ t.val
  · rw [outsAt0_B m c t (by omega) h (by omega) h]
    dsimp only
    rw [out_B_8]
  · rw [outsAt0_A m c t (by omega) h (by omega) h]
    dsimp only
    rw [out_A_8]

theorem outs_9 (c : Dev nD) (t : Fin cfg0.N) :
    (outsAt0 m c t.val t.isLt).2.2.1 = k0_pay19 (F := Ideal) (t0 m c t) (t3 m c t) (tdx m c t) (t6 m c t) := by
  have h8 := lt_of_lt_of_eq t.isLt hN
  by_cases h : 1 ≤ t.val
  · rw [outsAt0_B m c t (by omega) h (by omega) h]
    dsimp only
    rw [out_B_9]
  · rw [outsAt0_A m c t (by omega) h (by omega) h]
    dsimp only
    rw [out_A_9]

/-- A sum kept from point to point. -/
theorem sums_upto {N : ℕ} (f g : Fin N → EReal) (h0 : ∀ t : Fin N, ¬1 ≤ t.val → f t = g t)
    (hs : ∀ t : Fin N, 1 ≤ t.val → f t = f ⟨t.val - 1, by omega⟩ + g t) :
    ∀ (n : ℕ) (hn : n < N), f ⟨n, hn⟩ = ∑ t : Fin (n + 1), g ⟨t.val, by omega⟩
  | 0, hn => by
    rw [Fin.sum_univ_one]
    exact h0 ⟨0, hn⟩ (by dsimp only; omega)
  | n + 1, hn => by
    rw [Fin.sum_univ_castSucc]
    exact (hs ⟨n + 1, hn⟩ (by dsimp only; omega)).trans (congrArg (fun u : EReal => u + g ⟨n + 1, hn⟩) (sums_upto f g h0 hs n (by omega)))

/-- The two gains' buffers after a point. -/
def og (c : Dev nD) (j : Fin 1024) (t : Fin cfg0.N) : EReal := (outsAt0 m c t.val t.isLt).2.2.2.1 (ix2 0 j)
def op (c : Dev nD) (j : Fin 1024) (t : Fin cfg0.N) : EReal := (outsAt0 m c t.val t.isLt).2.2.2.2 (ix2 0 j)

theorem og_zero (c : Dev nD) (j : Fin 1024) (t : Fin cfg0.N) (h : ¬1 ≤ t.val) : og m c j t = gshare m c t j := by
  unfold og
  rw [outsAt0_A m c t (by omega) h (by omega) h]
  dsimp only
  rw [out_A_10]
  exact pay10_at (t1 m c t) (t2 m c t) (t0 m c t) j

theorem op_zero (c : Dev nD) (j : Fin 1024) (t : Fin cfg0.N) (h : ¬1 ≤ t.val) : op m c j t = pshare m c t j := by
  unfold op
  rw [outsAt0_A m c t (by omega) h (by omega) h]
  dsimp only
  rw [out_A_11]
  exact pay1_at (t3 m c t) (tdx m c t) j

theorem og_succ (c : Dev nD) (j : Fin 1024) (t : Fin cfg0.N) (h : 1 ≤ t.val) :
    og m c j t = og m c j ⟨t.val - 1, by omega⟩ + gshare m c t j := by
  have h8 := lt_of_lt_of_eq t.isLt hN
  unfold og
  rw [outsAt0_B m c t (by omega) h (by omega) h]
  dsimp only
  rw [out_B_10]
  exact pay11_at (t1 m c t) (t2 m c t) (t0 m c t) _ j

theorem op_succ (c : Dev nD) (j : Fin 1024) (t : Fin cfg0.N) (h : 1 ≤ t.val) :
    op m c j t = op m c j ⟨t.val - 1, by omega⟩ + pshare m c t j := by
  have h8 := lt_of_lt_of_eq t.isLt hN
  unfold op
  rw [outsAt0_B m c t (by omega) h (by omega) h]
  dsimp only
  rw [out_B_11]
  exact pay2_at (t3 m c t) (tdx m c t) _ j

/-! ### The whole arrays -/

theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

theorem tile_cases (i : Fin 4096) : ∃ (t : Fin cfg0.N) (r : Fin 512), i = row t r :=
  ⟨⟨i.val / 512, by rw [hN]; omega⟩, ⟨i.val % 512, by omega⟩, Fin.ext (by show i.val = i.val / 512 * 512 + i.val % 512; omega)⟩

theorem dz_at (c : Dev nD) (i : Fin 4096) (j : Fin 1024) :
    ((dats m 0 c).arrAt 7 cfg0.N : Vec Ideal S4096x1024 .bf16) (ix2 i j) = dzrow m c i j := by
  obtain ⟨t, r, rfl⟩ := tile_cases i
  rw [← tdz_at, ← outs_7]
  have hb := congrFun ((blocks7 m c t (flush0_7 t)).trans (flushed7 m c t)) (ix2 r j : S512x1024.Idx)
  refine Eq.trans (congrArg ((dats m 0 c).arrAt 7 cfg0.N) (funext fun d => Fin.ext ?_)) hb
  obtain ⟨e0, e1⟩ := idx7 t
  match d with
  | ⟨0, _⟩ => show t.val * 512 + r.val = win0_7.index t (0 : Fin 2) * 512 + 1 * r.val; omega
  | ⟨1, _⟩ => show j.val = win0_7.index t (1 : Fin 2) * 1024 + 1 * j.val; omega

theorem dp_at (c : Dev nD) (i : Fin 4096) (j : Fin 1024) :
    ((dats m 0 c).arrAt 8 cfg0.N : Vec Ideal S4096x1024 .bf16) (ix2 i j)
      = Cert.Ple.dp (rw4 (zarr m c) i) (rw4 (parr m c) i) (rw4 (a0 m c) i) (gr (a5 m c)) j := by
  obtain ⟨t, r, rfl⟩ := tile_cases i
  rw [← tdp_at, ← outs_8]
  have hb := congrFun ((blocks8 m c t (flush0_8 t)).trans (flushed8 m c t)) (ix2 r j : S512x1024.Idx)
  refine Eq.trans (congrArg ((dats m 0 c).arrAt 8 cfg0.N) (funext fun d => Fin.ext ?_)) hb
  obtain ⟨e0, e1⟩ := idx8 t
  match d with
  | ⟨0, _⟩ => show t.val * 512 + r.val = win0_8.index t (0 : Fin 2) * 512 + 1 * r.val; omega
  | ⟨1, _⟩ => show j.val = win0_8.index t (1 : Fin 2) * 1024 + 1 * j.val; omega

theorem dh_at (c : Dev nD) (i : Fin 4096) (j : Fin 1024) :
    ((dats m 0 c).arrAt 9 cfg0.N : Vec Ideal S4096x1024 .f32) (ix2 i j)
      = a0 m c (ix2 i j) + rmsGrad (rw4 (a1 m c) i) (fun k => dxrow m c i k * a6 m c (ix2 0 k)) j := by
  obtain ⟨t, r, rfl⟩ := tile_cases i
  rw [← tdh_at, ← outs_9]
  have hb := congrFun ((blocks9 m c t (flush0_9 t)).trans (flushed9 m c t)) (ix2 r j : S512x1024.Idx)
  refine Eq.trans (congrArg ((dats m 0 c).arrAt 9 cfg0.N) (funext fun d => Fin.ext ?_)) hb
  obtain ⟨e0, e1⟩ := idx9 t
  match d with
  | ⟨0, _⟩ => show t.val * 512 + r.val = win0_9.index t (0 : Fin 2) * 512 + 1 * r.val; omega
  | ⟨1, _⟩ => show j.val = win0_9.index t (1 : Fin 2) * 1024 + 1 * j.val; omega

theorem disjoint10 : ∀ t t' : Fin cfg0.N, (cfg0.win 10).flush t = true → (cfg0.win 10).flush t' = true → t ≠ t' →
    Disjoint ((cfg0.win 10).blk t).view.set ((cfg0.win 10).blk t').view.set := fun t t' h h' hne =>
  absurd (Fin.ext (by
    have h1 := (flush0_10 t).mp h
    have h2 := (flush0_10 t').mp h'
    have := lt_of_lt_of_eq t.isLt hN
    have := lt_of_lt_of_eq t'.isLt hN
    omega)) hne

theorem disjoint11 : ∀ t t' : Fin cfg0.N, (cfg0.win 11).flush t = true → (cfg0.win 11).flush t' = true → t ≠ t' →
    Disjoint ((cfg0.win 11).blk t).view.set ((cfg0.win 11).blk t').view.set := fun t t' h h' hne =>
  absurd (Fin.ext (by
    have h1 := (flush0_11 t).mp h
    have h2 := (flush0_11 t').mp h'
    have := lt_of_lt_of_eq t.isLt hN
    have := lt_of_lt_of_eq t'.isLt hN
    omega)) hne

theorem last10 (c : Dev nD) (j : Fin 1024) (t : Fin cfg0.N) (hf : (cfg0.win 10).flush t = true) :
    ((dats m 0 c).arrAt 10 cfg0.N : Vec Ideal S1x1024 .f32) (ix2 0 j) = og m c j t := by
  have hb := congrFun (((dats m 0 c).read_blk_arrAt_eq_flushed 10 disjoint10 cfg0.N t t.isLt hf).trans (flushed10 m c t)) (ix2 0 j : S1x1024.Idx)
  refine Eq.trans (congrArg ((dats m 0 c).arrAt 10 cfg0.N) (funext fun d => Fin.ext ?_)) hb
  obtain ⟨e0, e1⟩ := idx10 t
  match d with
  | ⟨0, _⟩ => show 0 = win0_10.index t (0 : Fin 2) * 1 + 1 * 0; omega
  | ⟨1, _⟩ => show j.val = win0_10.index t (1 : Fin 2) * 1024 + 1 * j.val; omega

theorem last11 (c : Dev nD) (j : Fin 1024) (t : Fin cfg0.N) (hf : (cfg0.win 11).flush t = true) :
    ((dats m 0 c).arrAt 11 cfg0.N : Vec Ideal S1x1024 .f32) (ix2 0 j) = op m c j t := by
  have hb := congrFun (((dats m 0 c).read_blk_arrAt_eq_flushed 11 disjoint11 cfg0.N t t.isLt hf).trans (flushed11 m c t)) (ix2 0 j : S1x1024.Idx)
  refine Eq.trans (congrArg ((dats m 0 c).arrAt 11 cfg0.N) (funext fun d => Fin.ext ?_)) hb
  obtain ⟨e0, e1⟩ := idx11 t
  match d with
  | ⟨0, _⟩ => show 0 = win0_11.index t (0 : Fin 2) * 1 + 1 * 0; omega
  | ⟨1, _⟩ => show j.val = win0_11.index t (1 : Fin 2) * 1024 + 1 * j.val; omega

theorem dg_at (c : Dev nD) (j : Fin 1024) :
    ((dats m 0 c).arrAt 10 cfg0.N : Vec Ideal S1x1024 .f32) (ix2 0 j)
      = ∑ i : Fin 4096, Cert.Ple.dg (rw4 (zarr m c) i) (rw4 (parr m c) i) (rw4 (a0 m c) i) j := by
  have h7 : 7 < cfg0.N := by rw [hN]; omega
  refine (last10 m c j ⟨7, h7⟩ ((flush0_10 _).mpr rfl)).trans ((sums_upto (og m c j) (fun t => gshare m c t j) (og_zero m c j) (og_succ m c j) 7 h7).trans ?_)
  rw [Fin.sum_univ_tiles 8 512 (show 8 * 512 = 4096 from rfl)]
  refine Finset.sum_congr rfl fun t _ => ?_
  unfold gshare
  exact Finset.sum_congr rfl fun r _ => by rw [r0, r1, r2]

theorem dgp_at (c : Dev nD) (j : Fin 1024) :
    ((dats m 0 c).arrAt 11 cfg0.N : Vec Ideal S1x1024 .f32) (ix2 0 j)
      = ∑ i : Fin 4096, dxrow m c i j * (a1 m c (ix2 i j) * rr (rw4 (a1 m c) i)) := by
  have h7 : 7 < cfg0.N := by rw [hN]; omega
  refine (last11 m c j ⟨7, h7⟩ ((flush0_11 _).mpr rfl)).trans ((sums_upto (op m c j) (fun t => pshare m c t j) (op_zero m c j) (op_succ m c j) 7 h7).trans ?_)
  rw [Fin.sum_univ_tiles 8 512 (show 8 * 512 = 4096 from rfl)]
  refine Finset.sum_congr rfl fun t _ => ?_
  unfold pshare
  exact Finset.sum_congr rfl fun r _ => congrArg₂ (fun u v : EReal => u * v) (tdx_at m c _ r j)
    (congrArg₂ (fun u v : EReal => u * v) (t3_at m c _ r j) (congrArg rr (r3 m c _ r)))

end Cert.KernelPleIdeal.Val

end
-- ==== Proof.PleReference.lean ====
/- The reference's gradient of the gated layer embedding, at an index. -/
module

public import proofs.«01_k».proof.Proof.PleSpec
public import proofs.«01_k».proof.Proof.Gen.ReferencePleIdeal.Read
public import Idealize.ShloMosaic.Lib.Pointwise
public import Idealize.ShloMosaic.Lib.KernelVsHost

@[expose] public section

set_option maxRecDepth 16384

noncomputable section

namespace Cert.ReferencePleIdeal.Val

open Cert.ReferencePleIdeal Cert.ReferencePleIdeal.Gen Cert.ReferencePleIdeal.Read Cert.Rms Idealize.ShloMosaic

variable (x0 x1 : Vec Ideal S4096x1024 .f32) (x2 : Vec Ideal S4096x256 .bf16) (x3 : Vec Ideal S4x1280x1024 .bf16)
  (x4 : Vec Ideal S4x256x256 .bf16) (x5 x6 : Vec Ideal S1x1024 .f32)

/-- A row of the gate before the sigmoid, of the projected embedding, of an argument, and the gain's row. -/
abbrev zrow (i : Fin 4096) : Fin 1024 → EReal := fun k => val_main_v21 (F := Ideal) x1 x3 x6 (ix2 i k)
abbrev prow (i : Fin 4096) : Fin 1024 → EReal := fun k => val_main_v23 (F := Ideal) x2 x4 (ix2 i k)
abbrev row (x : Vec Ideal S4096x1024 .f32) (i : Fin 4096) : Fin 1024 → EReal := fun k => x (ix2 i k)
abbrev gr (g : Vec Ideal S1x1024 .f32) : Fin 1024 → EReal := fun k => g (ix2 0 k)
/-- The gated embedding's row. -/
abbrev erow (i : Fin 4096) : Fin 1024 → EReal := Cert.Ple.ee (zrow x1 x3 x6 i) (prow x2 x4 i)

theorem v29_at (i : Fin 4096) (j : Fin 1024) : val_main_v29 (F := Ideal) x1 x3 x6 (ix2 i j) = logi (val_main_v21 (F := Ideal) x1 x3 x6 (ix2 i j)) := by
  unfold logi
  rw [← Ideal.ofBits_one_f32]
  pointwise [val_main_v29, val_main_v28, val_main_cst_4, val_main_v27, val_main_v26, val_main_cst_3, val_main_v25, val_main_v24]

theorem v33_at (i : Fin 4096) (j : Fin 1024) : val_main_v33 (F := Ideal) x1 x2 x3 x4 x6 (ix2 i j) = erow x1 x2 x3 x4 x6 i j := by
  have h := v29_at x1 x3 x6
  unfold erow Cert.Ple.ee
  pointwise [val_main_v33, h]

theorem v40_at (i : Fin 4096) (u : Fin 1) : val_main_v40 (F := Ideal) x1 x2 x3 x4 x6 (ix2 i u) = ms (erow x1 x2 x3 x4 x6 i) := by
  have h := v33_at x1 x2 x3 x4 x6
  unfold ms kN kEps
  pointwise [val_main_v40, val_main_v38, val_main_v39, val_main_v37, val_main_v36, val_main_v35, val_main_v34, val_main_cst_6, val_main_cst_7, val_main_cst_8, h]

theorem v41_at (i : Fin 4096) (u : Fin 1) : val_main_v41 (F := Ideal) x1 x2 x3 x4 x6 (ix2 i u) = rr (erow x1 x2 x3 x4 x6 i) := by
  have h := v40_at x1 x2 x3 x4 x6
  unfold rr
  pointwise [val_main_v41, h]

theorem v61_at (i : Fin 4096) (u : Fin 1) :
    val_main_v61 (F := Ideal) x0 x1 x2 x3 x4 x5 x6 (ix2 i u) = corr (erow x1 x2 x3 x4 x6 i) (fun k => x0 (ix2 i k) * x5 (ix2 0 k)) := by
  have h := v33_at x1 x2 x3 x4 x6
  have h' := v40_at x1 x2 x3 x4 x6
  have h'' := v41_at x1 x2 x3 x4 x6
  unfold corr kN kNegHalf
  pointwise [val_main_v61, val_main_v60, val_main_cst_12, val_main_v59, val_main_v56, val_main_v55, val_main_cst_11, val_main_v54, val_main_v53, val_main_v52,
    val_main_v44, val_main_v43, val_main_cst_9, val_main_v42, h, h', h'']

/-- The gated embedding's gradient. -/
abbrev derow (i : Fin 4096) : Fin 1024 → EReal := Cert.Ple.de (zrow x1 x3 x6 i) (prow x2 x4 i) (row x0 i) (gr x5)

theorem v63_at (i : Fin 4096) (j : Fin 1024) :
    val_main_v63 (F := Ideal) x0 x1 x2 x3 x4 x5 x6 (ix2 i j) = corr (erow x1 x2 x3 x4 x6 i) (fun k => x0 (ix2 i k) * x5 (ix2 0 k)) := by
  have h := v61_at x0 x1 x2 x3 x4 x5 x6
  pointwise [val_main_v63, val_main_v62, val_main_cst_13, h]
  exact Fin.sum_univ_one _

theorem v67_at (i : Fin 4096) (j : Fin 1024) : val_main_v67 (F := Ideal) x0 x1 x2 x3 x4 x5 x6 (ix2 i j) = derow x0 x1 x2 x3 x4 x5 x6 i j := by
  have h := v33_at x1 x2 x3 x4 x6
  have h' := v63_at x0 x1 x2 x3 x4 x5 x6
  have h'' := v41_at x1 x2 x3 x4 x6
  unfold derow Cert.Ple.de
  rw [← postGrad_eq]
  pointwise [val_main_v67, val_main_v66, val_main_v65, val_main_v64, val_main_v58, val_main_v57, val_main_v53, val_main_v52, h, h', h'']

theorem dp_at (i : Fin 4096) (j : Fin 1024) :
    val_main_v92 (F := Ideal) x0 x1 x2 x3 x4 x5 x6 (ix2 i j) = Cert.Ple.dp (zrow x1 x3 x6 i) (prow x2 x4 i) (row x0 i) (gr x5) j := by
  have h := v67_at x0 x1 x2 x3 x4 x5 x6
  have h' := v29_at x1 x3 x6
  unfold Cert.Ple.dp
  pointwise [val_main_v92, val_main_v69, h, h']

/-- The reference multiplies by the sigmoid's derivative, the kernel by its two factors one after the other. -/
theorem v70_at (i : Fin 4096) (j : Fin 1024) :
    val_main_v70 (F := Ideal) x0 x1 x2 x3 x4 x5 x6 (ix2 i j) = Cert.Ple.dz (zrow x1 x3 x6 i) (prow x2 x4 i) (row x0 i) (gr x5) j := by
  have h := v67_at x0 x1 x2 x3 x4 x5 x6
  have h' := v29_at x1 x3 x6
  have e : val_main_v70 (F := Ideal) x0 x1 x2 x3 x4 x5 x6 (ix2 i j)
      = prow x2 x4 i j * derow x0 x1 x2 x3 x4 x5 x6 i j * (logi (zrow x1 x3 x6 i j) * (1 - logi (zrow x1 x3 x6 i j))) := by
    rw [← Ideal.ofBits_one_f32]
    pointwise [val_main_v70, val_main_v68, val_main_v32, val_main_v31, val_main_v30, val_main_cst_5, h, h']
  rw [e]
  unfold Cert.Ple.dz
  rw [mul_comm (prow x2 x4 i j), ← mul_assoc]

theorem dz_at (i : Fin 4096) (j : Fin 1024) :
    val_main_v91 (F := Ideal) x0 x1 x2 x3 x4 x5 x6 (ix2 i j) = Cert.Ple.dz (zrow x1 x3 x6 i) (prow x2 x4 i) (row x0 i) (gr x5) j := by
  have h := v70_at x0 x1 x2 x3 x4 x5 x6
  pointwise [val_main_v91, h]

theorem dg_at (j : Fin 1024) :
    val_main_v51 (F := Ideal) x0 x1 x2 x3 x4 x6 (ix2 0 j) = ∑ i : Fin 4096, Cert.Ple.dg (zrow x1 x3 x6 i) (prow x2 x4 i) (row x0 i) j := by
  have h := v33_at x1 x2 x3 x4 x6
  have h' := v41_at x1 x2 x3 x4 x6
  have e : val_main_v51 (F := Ideal) x0 x1 x2 x3 x4 x6 (ix2 0 j)
      = ∑ i : Fin 4096, erow x1 x2 x3 x4 x6 i j * rr (erow x1 x2 x3 x4 x6 i) * x0 (ix2 i j) := by
    pointwise [val_main_v51, val_main_v50, val_main_cst_10, val_main_v49, val_main_v46, val_main_v45, h, h']
  rw [e]
  exact Finset.sum_congr rfl fun i _ => by unfold Cert.Ple.dg; rw [mul_comm, ← mul_assoc]

/-! ### Through the gate's product and the norm before it -/

theorem v2_at (j k : Fin 1024) :
    val_main_v2 (F := Ideal) x3 (ix2 j k) = x3 (ix3 ⟨j.val / 256, by omega⟩ ⟨1024 + j.val % 256, by omega⟩ k) := by
  pointwise [val_main_v2, val_main_v1, val_main_v0]

/-- The gradient of the gate's normalized input. -/
def dxrow (i : Fin 4096) (j : Fin 1024) : EReal :=
  ∑ k : Fin 1024, Cert.Ple.dz (zrow x1 x3 x6 i) (prow x2 x4 i) (row x0 i) (gr x5) k * x3 (ix3 ⟨j.val / 256, by omega⟩ ⟨1024 + j.val % 256, by omega⟩ k)

theorem v71_at (i : Fin 4096) (j : Fin 1024) :
    val_main_v71 (F := Ideal) x0 x1 x2 x3 x4 x5 x6 (ix2 i j) = dxrow x0 x1 x2 x3 x4 x5 x6 i j := by
  have h := v70_at x0 x1 x2 x3 x4 x5 x6
  have h' := v2_at x3
  unfold dxrow
  pointwise [val_main_v71, h, h']

theorem v12_at (i : Fin 4096) (u : Fin 1) : val_main_v12 (F := Ideal) x1 (ix2 i u) = ms (row x1 i) := by
  unfold ms kN kEps
  pointwise [val_main_v12, val_main_v11, val_main_v10, val_main_v9, val_main_v8, val_main_v7, val_main_v6, val_main_cst, val_main_cst_0, val_main_cst_1]

theorem v13_at (i : Fin 4096) (u : Fin 1) : val_main_v13 (F := Ideal) x1 (ix2 i u) = rr (row x1 i) := by
  have h := v12_at x1
  unfold rr
  pointwise [val_main_v13, h]

theorem v84_at (i : Fin 4096) (u : Fin 1) :
    val_main_v84 (F := Ideal) x0 x1 x2 x3 x4 x5 x6 (ix2 i u) = corr (row x1 i) (fun k => dxrow x0 x1 x2 x3 x4 x5 x6 i k * x6 (ix2 0 k)) := by
  have h := v71_at x0 x1 x2 x3 x4 x5 x6
  have h' := v12_at x1
  have h'' := v13_at x1
  unfold corr kN kNegHalf
  pointwise [val_main_v84, val_main_v83, val_main_cst_16, val_main_v82, val_main_v79, val_main_v78, val_main_cst_15, val_main_v77, val_main_v76, val_main_v75,
    val_main_v16, val_main_v15, val_main_cst_2, val_main_v14, h, h', h'']

theorem v86_at (i : Fin 4096) (j : Fin 1024) :
    val_main_v86 (F := Ideal) x0 x1 x2 x3 x4 x5 x6 (ix2 i j) = corr (row x1 i) (fun k => dxrow x0 x1 x2 x3 x4 x5 x6 i k * x6 (ix2 0 k)) := by
  have h := v84_at x0 x1 x2 x3 x4 x5 x6
  pointwise [val_main_v86, val_main_v85, val_main_cst_17, h]
  exact Fin.sum_univ_one _

theorem dh_at (i : Fin 4096) (j : Fin 1024) :
    val_main_v93 (F := Ideal) x0 x1 x2 x3 x4 x5 x6 (ix2 i j)
      = x0 (ix2 i j) + rmsGrad (row x1 i) (fun k => dxrow x0 x1 x2 x3 x4 x5 x6 i k * x6 (ix2 0 k)) j := by
  have h := v71_at x0 x1 x2 x3 x4 x5 x6
  have h' := v13_at x1
  have h'' := v86_at x0 x1 x2 x3 x4 x5 x6
  rw [← rmsGrad_eq]
  pointwise [val_main_v93, val_main_v90, val_main_v89, val_main_v88, val_main_v87, val_main_v81, val_main_v80, val_main_v76, val_main_v75, h, h', h'']

theorem dgp_at (j : Fin 1024) :
    val_main_v74 (F := Ideal) x0 x1 x2 x3 x4 x5 x6 (ix2 0 j)
      = ∑ i : Fin 4096, dxrow x0 x1 x2 x3 x4 x5 x6 i j * (x1 (ix2 i j) * rr (row x1 i)) := by
  have h := v71_at x0 x1 x2 x3 x4 x5 x6
  have h' := v13_at x1
  have e : val_main_v74 (F := Ideal) x0 x1 x2 x3 x4 x5 x6 (ix2 0 j)
      = ∑ i : Fin 4096, x1 (ix2 i j) * rr (row x1 i) * dxrow x0 x1 x2 x3 x4 x5 x6 i j := by
    pointwise [val_main_v74, val_main_v73, val_main_cst_14, val_main_v72, val_main_v18, val_main_v17, h, h']
  rw [e]
  exact Finset.sum_congr rfl fun i _ => mul_comm _ _

end Cert.ReferencePleIdeal.Val

end
-- ==== Proof.PleClaim.lean ====
/- The gradient of the gated layer embedding: the kernel's results are the reference's. -/
module

public import proofs.«01_k».proof.Defs
public import proofs.«01_k».proof.Proof.PleArrays
public import proofs.«01_k».proof.Proof.PleReference
public import proofs.«01_k».proof.Proof.Gen.ReferencePleIdeal.Run
public import Idealize.ShloMosaic.Adequacy
public import Idealize.ShloMosaic.Init

@[expose] public section

set_option maxRecDepth 16384

noncomputable section

namespace Cert.PleClaim

open Cert.KernelPleIdeal Cert.KernelPleIdeal.Gen Idealize.ShloMosaic Idealize.SL.Sem

theorem frame_reference : Cert.quiescent_ReferencePleIdeal := fun m ρ _ =>
  (θ_run Cert.ReferencePleIdeal.defs _ _).mono (fun r h => ⟨fun c => (h c).2.2.2.2.2, sem_eq_zero_of_no_sems (by decide) r.2⟩)
    (Cert.ReferencePleIdeal.Value.run (F := Ideal) m ρ)

section
variable (m : (ℓ : Loc nD τ sig) → Buf (Elt Ideal) ℓ) (c : Dev nD)

/-- The gate's product on the host is the reference's. -/
theorem zarr_eq : Val.zarr m c = Cert.ReferencePleIdeal.Read.val_main_v21 (F := Ideal) (Val.a1 m c) (Val.a3 m c) (Val.a6 m c) := by
  show StableHlo.after (List.flatten [hostOps0]) (fun b => m (c, b)) (Proc.devRef .tc main_v15) = _
  simp only [hostOps0, List.flatten_cons, List.flatten_nil, List.append_nil, List.cons_append, List.nil_append]
  after_results
  rfl

/-- The embedding's product on the host is the reference's. -/
theorem parr_eq : Val.parr m c = Cert.ReferencePleIdeal.Read.val_main_v23 (F := Ideal) (Val.a2 m c) (Val.a4 m c) := by
  show StableHlo.after (List.flatten [hostOps0]) (fun b => m (c, b)) (Proc.devRef .tc main_v20) = _
  simp only [hostOps0, List.flatten_cons, List.flatten_nil, List.append_nil, List.cons_append, List.nil_append]
  after_results
  rfl

theorem z_row (i : Fin 4096) : Cert.ReferencePleIdeal.Val.zrow (Val.a1 m c) (Val.a3 m c) (Val.a6 m c) i = Val.rw4 (Val.zarr m c) i :=
  funext fun k => congrFun (zarr_eq m c).symm (ix2 i k)

theorem p_row (i : Fin 4096) : Cert.ReferencePleIdeal.Val.prow (Val.a2 m c) (Val.a4 m c) i = Val.rw4 (Val.parr m c) i :=
  funext fun k => congrFun (parr_eq m c).symm (ix2 i k)

theorem dz_row (i : Fin 4096) :
    Cert.Ple.dz (Cert.ReferencePleIdeal.Val.zrow (Val.a1 m c) (Val.a3 m c) (Val.a6 m c) i) (Cert.ReferencePleIdeal.Val.prow (Val.a2 m c) (Val.a4 m c) i)
      (Cert.ReferencePleIdeal.Val.row (Val.a0 m c) i) (Cert.ReferencePleIdeal.Val.gr (Val.a5 m c)) = Val.dzrow m c i := by
  rw [z_row m c i, p_row m c i]
  rfl

theorem dx_row (i : Fin 4096) :
    Cert.ReferencePleIdeal.Val.dxrow (Val.a0 m c) (Val.a1 m c) (Val.a2 m c) (Val.a3 m c) (Val.a4 m c) (Val.a5 m c) (Val.a6 m c) i = Val.dxrow m c i :=
  funext fun j => Finset.sum_congr rfl fun k _ => congrArg (fun u : EReal => u * _) (congrFun (dz_row m c i) k)

theorem dz : Cert.ReferencePleIdeal.Read.val_main_v91 (F := Ideal) (Val.a0 m c) (Val.a1 m c) (Val.a2 m c) (Val.a3 m c) (Val.a4 m c) (Val.a5 m c) (Val.a6 m c)
    = ((Gen.dats m 0 c).arrAt 7 cfg0.N : Vec Ideal S4096x1024 .bf16) := by
  funext i
  obtain ⟨r, j, rfl⟩ : ∃ (r : Fin 4096) (j : Fin 1024), i = ix2 r j := ⟨i 0, i 1, eq_ix2 i⟩
  refine (Cert.ReferencePleIdeal.Val.dz_at _ _ _ _ _ _ _ r j).trans (Eq.trans ?_ (Val.dz_at m c r j).symm)
  exact congrFun (dz_row m c r) j

theorem dp : Cert.ReferencePleIdeal.Read.val_main_v92 (F := Ideal) (Val.a0 m c) (Val.a1 m c) (Val.a2 m c) (Val.a3 m c) (Val.a4 m c) (Val.a5 m c) (Val.a6 m c)
    = ((Gen.dats m 0 c).arrAt 8 cfg0.N : Vec Ideal S4096x1024 .bf16) := by
  funext i
  obtain ⟨r, j, rfl⟩ : ∃ (r : Fin 4096) (j : Fin 1024), i = ix2 r j := ⟨i 0, i 1, eq_ix2 i⟩
  refine (Cert.ReferencePleIdeal.Val.dp_at _ _ _ _ _ _ _ r j).trans (Eq.trans ?_ (Val.dp_at m c r j).symm)
  rw [z_row m c r, p_row m c r]

theorem dh : Cert.ReferencePleIdeal.Read.val_main_v93 (F := Ideal) (Val.a0 m c) (Val.a1 m c) (Val.a2 m c) (Val.a3 m c) (Val.a4 m c) (Val.a5 m c) (Val.a6 m c)
    = ((Gen.dats m 0 c).arrAt 9 cfg0.N : Vec Ideal S4096x1024 .f32) := by
  funext i
  obtain ⟨r, j, rfl⟩ : ∃ (r : Fin 4096) (j : Fin 1024), i = ix2 r j := ⟨i 0, i 1, eq_ix2 i⟩
  refine (Cert.ReferencePleIdeal.Val.dh_at _ _ _ _ _ _ _ r j).trans (Eq.trans ?_ (Val.dh_at m c r j).symm)
  rw [dx_row m c r]

theorem dg : Cert.ReferencePleIdeal.Read.val_main_v51 (F := Ideal) (Val.a0 m c) (Val.a1 m c) (Val.a2 m c) (Val.a3 m c) (Val.a4 m c) (Val.a6 m c)
    = ((Gen.dats m 0 c).arrAt 10 cfg0.N : Vec Ideal S1x1024 .f32) := by
  funext i
  obtain ⟨j, rfl⟩ : ∃ j : Fin 1024, i = ix2 0 j := ⟨i 1, (eq_ix2 i).trans (congrArg (fun u : Fin 1 => ix2 u (i 1)) (Subsingleton.elim (α := Fin 1) (i 0) 0))⟩
  refine (Cert.ReferencePleIdeal.Val.dg_at _ _ _ _ _ _ j).trans (Eq.trans ?_ (Val.dg_at m c j).symm)
  refine Finset.sum_congr rfl fun r _ => ?_
  rw [z_row m c r, p_row m c r]

theorem dgp : Cert.ReferencePleIdeal.Read.val_main_v74 (F := Ideal) (Val.a0 m c) (Val.a1 m c) (Val.a2 m c) (Val.a3 m c) (Val.a4 m c) (Val.a5 m c) (Val.a6 m c)
    = ((Gen.dats m 0 c).arrAt 11 cfg0.N : Vec Ideal S1x1024 .f32) := by
  funext i
  obtain ⟨j, rfl⟩ : ∃ j : Fin 1024, i = ix2 0 j := ⟨i 1, (eq_ix2 i).trans (congrArg (fun u : Fin 1 => ix2 u (i 1)) (Subsingleton.elim (α := Fin 1) (i 0) 0))⟩
  refine (Cert.ReferencePleIdeal.Val.dgp_at _ _ _ _ _ _ _ j).trans (Eq.trans ?_ (Val.dgp_at m c j).symm)
  refine Finset.sum_congr rfl fun r _ => ?_
  rw [dx_row m c r]

end

set_option maxHeartbeats 4000000 in
theorem value : Cert.algebraic_KernelPleIdeal_ReferencePleIdeal := by
  intro m g m' g' _ agree
  refine ⟨fun c => (Gen.dats m 0 c).arrAt 7 cfg0.N, fun c => (Gen.dats m 0 c).arrAt 8 cfg0.N, fun c => (Gen.dats m 0 c).arrAt 9 cfg0.N,
    fun c => (Gen.dats m 0 c).arrAt 10 cfg0.N, fun c => (Gen.dats m 0 c).arrAt 11 cfg0.N, Value.run_blocks (F := Ideal) m g,
    (θ_run Cert.ReferencePleIdeal.defs _ _).mono (fun r h c => ⟨?_, ?_, ?_, ?_, ?_, (h c).2.2.2.2.2⟩)
      (Cert.ReferencePleIdeal.Value.run (F := Ideal) m' g')⟩
  · obtain ⟨e0, e1, e2, e3, e4, e5, e6⟩ := agree c
    refine ((h c).1.trans (Cert.ReferencePleIdeal.Read.val_main_v91_eq (F := Ideal) m' c)).trans ?_
    rw [e0, e1, e2, e3, e4, e5, e6]
    exact dz m c
  · obtain ⟨e0, e1, e2, e3, e4, e5, e6⟩ := agree c
    refine ((h c).2.1.trans (Cert.ReferencePleIdeal.Read.val_main_v92_eq (F := Ideal) m' c)).trans ?_
    rw [e0, e1, e2, e3, e4, e5, e6]
    exact dp m c
  · obtain ⟨e0, e1, e2, e3, e4, e5, e6⟩ := agree c
    refine ((h c).2.2.1.trans (Cert.ReferencePleIdeal.Read.val_main_v93_eq (F := Ideal) m' c)).trans ?_
    rw [e0, e1, e2, e3, e4, e5, e6]
    exact dh m c
  · obtain ⟨e0, e1, e2, e3, e4, -, e6⟩ := agree c
    refine ((h c).2.2.2.1.trans (Cert.ReferencePleIdeal.Read.val_main_v51_eq (F := Ideal) m' c)).trans ?_
    rw [e0, e1, e2, e3, e4, e6]
    exact dg m c
  · obtain ⟨e0, e1, e2, e3, e4, e5, e6⟩ := agree c
    refine ((h c).2.2.2.2.1.trans (Cert.ReferencePleIdeal.Read.val_main_v74_eq (F := Ideal) m' c)).trans ?_
    rw [e0, e1, e2, e3, e4, e5, e6]
    exact dgp m c

end Cert.PleClaim

end
-- ==== Proof.RowTiles.lean ====
/- Kernels whose eight grid points take 512 rows each of an array of 4096: the rows of a point's tile, the indices its
   blocks read and write, a buffer written by one whole store, and a sum kept over the points. -/
module

public import proofs.«01_k».proof.Proof.PleArrays
public import Idealize.ShloMosaic.Lib.WritesUnit
public import Idealize.ShloMosaic.Lib.Pipeline.ValueKit

@[expose] public section

noncomputable section

namespace Cert.RowTiles

open Idealize.ShloMosaic Idealize.ShloMosaic.TcCoe

theorem z2 : (![0, 0] : Fin 2 → ℕ) = fun _ => 0 := funext fun a => by fin_cases a <;> rfl

/-- A buffer whose one store covers it holds what was stored. -/
theorem read_whole {sig : RefSig} {κ : Kind} {sp : Space} {d : Fin 2 → ℕ} {e : EltTy} {Val : EltTy → Type}
    (v : View sig κ sp ⟨2, d⟩ e) (f : v.ty.Contents Val)
    (inb : ∀ a, (![0, 0] : Fin 2 → ℕ) a + d a ≤ d a) (w : (⟨2, d⟩ : Shape).Idx → Val e) :
    v.read Val (v.writes Val f [⟨Rect.unit (s := ⟨2, d⟩) ![0, 0] d inb, w⟩]) = w :=
  funext fun y => View.read_writes_cons_unit_of_mem v f inb w [] y y z2 fun a => (Nat.zero_add _).symm

variable {N : ℕ} (hN : N = 8)

/-- Row `r` of point `t`'s tile. -/
def row (t : Fin N) (r : Fin 512) : Fin 4096 := ⟨t.val * 512 + r.val, by have := lt_of_lt_of_eq t.isLt hN; omega⟩

include hN in
/-- Every row is a row of one point's tile. -/
theorem row_cases (i : Fin 4096) : ∃ (t : Fin N) (r : Fin 512), i = row hN t r :=
  ⟨⟨i.val / 512, by omega⟩, ⟨i.val % 512, by omega⟩, Fin.ext (by show i.val = i.val / 512 * 512 + i.val % 512; omega)⟩

/-- The index of a tile's entry in the whole array, from the block's number. -/
theorem idx_row (t : Fin N) (r : Fin 512) (k : Fin 1024) {n0 n1 : ℕ} (e : n0 = t.val ∧ n1 = 0) (i : (⟨2, ![4096, 1024]⟩ : Shape).Idx)
    (h0 : (i (0 : Fin 2)).val = n0 * 512 + 1 * r.val) (h1 : (i (1 : Fin 2)).val = n1 * 1024 + 1 * k.val) : i = ix2 (row hN t r) k := by
  obtain ⟨rfl, rfl⟩ := e
  funext d
  match d with
  | ⟨0, _⟩ => exact Fin.ext (h0.trans (by show t.val * 512 + 1 * r.val = t.val * 512 + r.val; omega))
  | ⟨1, _⟩ => exact Fin.ext (h1.trans (by show 0 * 1024 + 1 * k.val = k.val; omega))

/-- The index of an entry of a gain, whose one block every point takes. -/
theorem idx_gain (k : Fin 1024) {n0 n1 : ℕ} (e : n0 = 0 ∧ n1 = 0) (i : (⟨2, ![1, 1024]⟩ : Shape).Idx)
    (h1 : (i (1 : Fin 2)).val = n1 * 1024 + 1 * k.val) : i = ix2 0 k := by
  obtain ⟨rfl, rfl⟩ := e
  funext d
  match d with
  | ⟨0, _⟩ => exact Subsingleton.elim (α := Fin 1) _ _
  | ⟨1, _⟩ => exact Fin.ext (h1.trans (by show 0 * 1024 + 1 * k.val = k.val; omega))

/-- What is kept from point to point, each adding its rows' terms, is at the last point the sum over all rows. -/
theorem sum_rows (f : Fin N → EReal) (g : Fin 4096 → EReal)
    (h0 : ∀ t : Fin N, ¬1 ≤ t.val → f t = ∑ r : Fin 512, g (row hN t r))
    (hs : ∀ t : Fin N, 1 ≤ t.val → f t = f ⟨t.val - 1, by omega⟩ + ∑ r : Fin 512, g (row hN t r)) (h7 : 7 < N) :
    f ⟨7, h7⟩ = ∑ i : Fin 4096, g i := by
  rw [Cert.KernelPleIdeal.Val.sums_upto f (fun t => ∑ r : Fin 512, g (row hN t r)) h0 hs 7 h7,
    Fin.sum_univ_tiles 8 512 (show 8 * 512 = 4096 from rfl)]
  rfl

end Cert.RowTiles

end
-- ==== Proof.MixpostKernel.lean ====
/- The gradient of the norm after a mixer, in the kernel: each grid point takes 512 rows, and the gain's gradient is summed
   over the points. -/
module

public import proofs.«01_k».proof.Proof.Gen.KernelMixpostIdeal.Value
public import proofs.«01_k».proof.Proof.Rms
public import proofs.«01_k».proof.Proof.RowTiles
public import Idealize.ShloMosaic.Lib.Pointwise

@[expose] public section

set_option maxRecDepth 16384

noncomputable section

namespace Cert.KernelMixpostIdeal.Val

open Cert.KernelMixpostIdeal Cert.KernelMixpostIdeal.Gen Cert.KernelMixpostIdeal.Value Cert.Rms Cert.RowTiles
open Idealize.ShloMosaic Idealize.ShloMosaic.TcCoe Idealize.SL.Sem

/-! ### The body's values at an index -/

section
variable (f d : Vec Ideal S512x1024 .f32) (g : Vec Ideal S1x1024 .f32)

theorem pay3_at (r : Fin 512) (j : Fin 1024) : k0_pay3 (F := Ideal) d (ix2 r j) = d (ix2 r j) := by
  have e : k0_pay3 (F := Ideal) d (ix2 r j) = (1 : EReal) * d (ix2 r j) := by
    rw [← Ideal.ofBits_one_f32]
    pointwise [k0_pay3]
  exact e.trans (one_mul _)

theorem pay2_at (r : Fin 512) (u : Fin 1) : k0_pay2 (F := Ideal) f (ix2 r u) = rr (fun k => f (ix2 r k)) := by
  unfold rr ms kN kEps
  pointwise [k0_pay2]

theorem pay4_at (r : Fin 512) (j : Fin 1024) :
    k0_pay4 (F := Ideal) f d g (ix2 r j) = postGrad (fun k => f (ix2 r k)) (fun k => d (ix2 r k) * g (ix2 0 k)) j := by
  have h := pay2_at f
  have h' := pay3_at d
  unfold postGrad kN
  pointwise [k0_pay4, h, h']

theorem pay5_at (j : Fin 1024) :
    k0_pay5 (F := Ideal) f d (ix2 0 j) = ∑ r : Fin 512, d (ix2 r j) * f (ix2 r j) * rr (fun k => f (ix2 r k)) := by
  have h := pay2_at f
  have h' := pay3_at d
  pointwise [k0_pay5, h, h']

theorem pay1_at (v w : Vec Ideal S1x1024 .f32) (j : Fin 1024) : k0_pay1 (F := Ideal) v w (ix2 0 j) = w (ix2 0 j) + v (ix2 0 j) := by
  pointwise [k0_pay1]
end

/-! ### What a point leaves -/

section
variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S1x1024 .f32) (harg3 : arg3.IsWhole)
  (arg4 : Memref sig .tc .vmem S512x1024 .bf16) (harg4 : arg4.IsWhole) (arg5 : Memref sig .tc .vmem S1x1024 .f32) (harg5 : arg5.IsWhole)
  (x0 x1 : Vec Ideal S512x1024 .f32) (x2 : Vec Ideal S1x1024 .f32)

/-- The first point stores its gradient of the gain. -/
theorem out_A (hc0 : cond0_0 i) (hc1 : ¬cond0_1 i) :
    out0_A_3 c i arg1 harg1 arg2 harg2 arg3 harg3 arg4 harg4 arg5 harg5 hc0 hc1 x0 x1 x2 = k0_pay4 (F := Ideal) x1 x0 x2
      ∧ out0_A_4 c i arg1 harg1 arg2 harg2 arg3 harg3 arg4 harg4 arg5 harg5 hc0 hc1 x0 x1 x2 = k0_pay5 (F := Ideal) x1 x0 := by
  unfold out0_A_3 out0_A_4 kernelRun0_A
  dsimp only
  sl_unfold_words
  simp only [View.readAt_eq_ld, Memref.IsWhole.read_unread, View.ld_unit_zero (S := S512x1024) z2, View.ld_unit_zero (S := S1x1024) z2]
  exact ⟨read_whole VO0_3 _ _ _, read_whole VO0_4 _ _ _⟩

/-- The others add theirs to what is there. -/
theorem out_B (hc0 : ¬cond0_0 i) (hc1 : cond0_1 i) (xo : Vec Ideal S1x1024 .f32) :
    out0_B_3 c i arg1 harg1 arg2 harg2 arg3 harg3 arg4 harg4 arg5 harg5 hc0 hc1 x0 x1 x2 xo = k0_pay4 (F := Ideal) x1 x0 x2
      ∧ out0_B_4 c i arg1 harg1 arg2 harg2 arg3 harg3 arg4 harg4 arg5 harg5 hc0 hc1 x0 x1 x2 xo
        = k0_pay1 (F := Ideal) (k0_pay5 (F := Ideal) x1 x0) xo := by
  unfold out0_B_3 out0_B_4 kernelRun0_B
  dsimp only
  sl_unfold_words
  simp only [View.readAt_eq_ld, Memref.IsWhole.read_unread, View.ld_unit_zero (S := S512x1024) z2, View.ld_unit_zero (S := S1x1024) z2]
  exact ⟨read_whole VO0_3 _ _ _, read_whole VO0_4 _ _ _⟩

end

/-! ### The arguments, and what the points take of them -/

section
variable (m : (ℓ : Loc nD τ sig) → Buf (Elt Ideal) ℓ)

abbrev a0 (c : Dev nD) : Vec Ideal S4096x1024 .f32 := m ((c : Thread nD τ).loc main_arg0)
abbrev a1 (c : Dev nD) : Vec Ideal S4096x1024 .f32 := m ((c : Thread nD τ).loc main_arg1)
abbrev a2 (c : Dev nD) : Vec Ideal S1x1024 .f32 := m ((c : Thread nD τ).loc main_arg2)

abbrev t0 (c : Dev nD) (t : Fin cfg0.N) : Vec Ideal S512x1024 .f32 := iblk m c 0 t
abbrev t1 (c : Dev nD) (t : Fin cfg0.N) : Vec Ideal S512x1024 .f32 := iblk m c 1 t
abbrev t2 (c : Dev nD) (t : Fin cfg0.N) : Vec Ideal S1x1024 .f32 := iblk m c 2 t

theorem hN : cfg0.N = 8 := N_0

/-- Every array but the gain and its gradient is taken by rows. -/
theorem idx : ∀ t : Fin cfg0.N, ((win0_0.index t (0 : Fin 2) = t.val ∧ win0_0.index t (1 : Fin 2) = 0)
      ∧ (win0_1.index t (0 : Fin 2) = t.val ∧ win0_1.index t (1 : Fin 2) = 0)
      ∧ (win0_3.index t (0 : Fin 2) = t.val ∧ win0_3.index t (1 : Fin 2) = 0))
    ∧ (win0_2.index t (0 : Fin 2) = 0 ∧ win0_2.index t (1 : Fin 2) = 0)
      ∧ (win0_4.index t (0 : Fin 2) = 0 ∧ win0_4.index t (1 : Fin 2) = 0) :=
  (by decide +kernel : ∀ t : Fin grid0.N, _)

theorem t0_at (c : Dev nD) (t : Fin cfg0.N) (r : Fin 512) (k : Fin 1024) : t0 m c t (ix2 r k) = a0 m c (ix2 (row hN t r) k) :=
  congrArg (a0 m c) (idx_row hN t r k (idx t).1.1 _ rfl rfl)
theorem t1_at (c : Dev nD) (t : Fin cfg0.N) (r : Fin 512) (k : Fin 1024) : t1 m c t (ix2 r k) = a1 m c (ix2 (row hN t r) k) :=
  congrArg (a1 m c) (idx_row hN t r k (idx t).1.2.1 _ rfl rfl)
theorem t2_at (c : Dev nD) (t : Fin cfg0.N) (k : Fin 1024) : t2 m c t (ix2 0 k) = a2 m c (ix2 0 k) :=
  congrArg (a2 m c) (idx_gain k (idx t).2.1 _ rfl)

theorem t1_row (c : Dev nD) (t : Fin cfg0.N) (r : Fin 512) : (fun k => t1 m c t (ix2 r k)) = fun k => a1 m c (ix2 (row hN t r) k) :=
  funext fun k => t1_at m c t r k

theorem outs_zero (c : Dev nD) (t : Fin cfg0.N) (h : ¬1 ≤ t.val) :
    outsAt0 m c t.val t.isLt = (k0_pay4 (F := Ideal) (t1 m c t) (t0 m c t) (t2 m c t), k0_pay5 (F := Ideal) (t1 m c t) (t0 m c t)) := by
  rw [outsAt0_A m c t (by omega) h, (out_A ..).1, (out_A ..).2]

theorem outs_succ (c : Dev nD) (t : Fin cfg0.N) (h : 1 ≤ t.val) :
    outsAt0 m c t.val t.isLt = (k0_pay4 (F := Ideal) (t1 m c t) (t0 m c t) (t2 m c t),
      k0_pay1 (F := Ideal) (k0_pay5 (F := Ideal) (t1 m c t) (t0 m c t)) (outsAt0 m c (t.val - 1) (by omega)).2) := by
  have h8 := lt_of_lt_of_eq t.isLt hN
  rw [outsAt0_B m c t (by omega) h, (out_B ..).1, (out_B ..).2]

theorem outs_df (c : Dev nD) (t : Fin cfg0.N) : (outsAt0 m c t.val t.isLt).1 = k0_pay4 (F := Ideal) (t1 m c t) (t0 m c t) (t2 m c t) := by
  by_cases h : 1 ≤ t.val
  · rw [outs_succ m c t h]
  · rw [outs_zero m c t h]

/-! ### The whole arrays -/

theorem df_at (c : Dev nD) (i : Fin 4096) (j : Fin 1024) :
    ((dats m 0 c).arrAt 3 cfg0.N : Vec Ideal S4096x1024 .bf16) (ix2 i j)
      = postGrad (fun k => a1 m c (ix2 i k)) (fun k => a0 m c (ix2 i k) * a2 m c (ix2 0 k)) j := by
  obtain ⟨t, r, rfl⟩ := row_cases hN i
  have hb := congrFun ((blocks3 m c t (flush0_3 t)).trans (flushed3 m c t)) (ix2 r j : S512x1024.Idx)
  refine Eq.trans (congrArg ((dats m 0 c).arrAt 3 cfg0.N) (idx_row hN t r j (idx t).1.2.2 _ rfl rfl).symm) (hb.trans ?_)
  refine (congrFun (outs_df m c t) (ix2 r j : S512x1024.Idx)).trans ((pay4_at (t1 m c t) (t0 m c t) (t2 m c t) r j).trans ?_)
  rw [t1_row]
  exact congrArg (fun y => postGrad _ y j) (funext fun k => congrArg₂ (fun u v : EReal => u * v) (t0_at m c t r k) (t2_at m c t k))

/-- A row's term of the gain's gradient. -/
abbrev term (c : Dev nD) (j : Fin 1024) (i : Fin 4096) : EReal := a0 m c (ix2 i j) * a1 m c (ix2 i j) * rr (fun k => a1 m c (ix2 i k))

theorem share_at (c : Dev nD) (j : Fin 1024) (t : Fin cfg0.N) :
    k0_pay5 (F := Ideal) (t1 m c t) (t0 m c t) (ix2 0 j) = ∑ r : Fin 512, term m c j (row hN t r) := by
  refine (pay5_at (t1 m c t) (t0 m c t) j).trans (Finset.sum_congr rfl fun r _ => ?_)
  rw [t1_row, t0_at, t1_at]

/-- The gain's buffer after a point. -/
def og (c : Dev nD) (j : Fin 1024) (t : Fin cfg0.N) : EReal := (outsAt0 m c t.val t.isLt).2 (ix2 0 j)

theorem og_zero (c : Dev nD) (j : Fin 1024) (t : Fin cfg0.N) (h : ¬1 ≤ t.val) : og m c j t = ∑ r : Fin 512, term m c j (row hN t r) := by
  unfold og
  rw [outs_zero m c t h]
  exact share_at m c j t

theorem og_succ (c : Dev nD) (j : Fin 1024) (t : Fin cfg0.N) (h : 1 ≤ t.val) :
    og m c j t = og m c j ⟨t.val - 1, by omega⟩ + ∑ r : Fin 512, term m c j (row hN t r) := by
  unfold og
  rw [outs_succ m c t h, ← share_at]
  exact pay1_at _ _ j

/-- The gain's gradient is written back once, so no two write-backs meet. -/
theorem disjoint4 : ∀ t t' : Fin cfg0.N, (cfg0.win 4).flush t = true → (cfg0.win 4).flush t' = true → t ≠ t' →
    Disjoint ((cfg0.win 4).blk t).view.set ((cfg0.win 4).blk t').view.set := fun t t' h h' hne =>
  absurd (Fin.ext (by
    have h1 := (flush0_4 t).mp h
    have h2 := (flush0_4 t').mp h'
    have := lt_of_lt_of_eq t.isLt hN
    have := lt_of_lt_of_eq t'.isLt hN
    omega)) hne

theorem last4 (c : Dev nD) (j : Fin 1024) (t : Fin cfg0.N) (hf : (cfg0.win 4).flush t = true) :
    ((dats m 0 c).arrAt 4 cfg0.N : Vec Ideal S1x1024 .f32) (ix2 0 j) = og m c j t := by
  have hb := congrFun (((dats m 0 c).read_blk_arrAt_eq_flushed 4 disjoint4 cfg0.N t t.isLt hf).trans (flushed4 m c t)) (ix2 0 j : S1x1024.Idx)
  exact Eq.trans (congrArg ((dats m 0 c).arrAt 4 cfg0.N) (idx_gain j (idx t).2.2 _ rfl).symm) hb

theorem dg_at (c : Dev nD) (j : Fin 1024) :
    ((dats m 0 c).arrAt 4 cfg0.N : Vec Ideal S1x1024 .f32) (ix2 0 j) = ∑ i : Fin 4096, term m c j i := by
  have h7 : 7 < cfg0.N := by rw [hN]; omega
  exact (last4 m c j ⟨7, h7⟩ ((flush0_4 _).mpr rfl)).trans (sum_rows hN (og m c j) (term m c j) (og_zero m c j) (og_succ m c j) h7)

end

end Cert.KernelMixpostIdeal.Val

end
-- ==== Proof.MixoutKernel.lean ====
/- The product by a mixer's transposed output weights, in the kernel: each grid point takes 1024 rows and one chip's rows of
   the weights. -/
module

public import proofs.«01_k».proof.Proof.Gen.KernelMixoutIdeal.Value
public import Idealize.ShloMosaic.Lib.Pointwise
public import Idealize.ShloMosaic.Lib.Pipeline.ValueKit

@[expose] public section

set_option maxRecDepth 16384

noncomputable section

namespace Cert.KernelMixoutIdeal.Val

open Cert.KernelMixoutIdeal Cert.KernelMixoutIdeal.Gen Cert.KernelMixoutIdeal.Value
open Idealize.ShloMosaic Idealize.ShloMosaic.TcCoe Idealize.SL.Sem

theorem z2 : (![0, 0] : Fin 2 → ℕ) = fun _ => 0 := funext fun a => by fin_cases a <;> rfl
theorem z3 : (![0, 0, 0] : Fin 3 → ℕ) = fun _ => 0 := funext fun a => by fin_cases a <;> rfl

theorem pay1_at (y : Vec Ideal S1024x1024 .bf16) (w : Vec Ideal S1x768x1024 .bf16) (r : Fin 1024) (j : Fin 768) :
    k0_pay1 (F := Ideal) y w (ix2 r j) = ∑ k : Fin 1024, y (ix2 r k) * w (ix3 0 j k) := by
  pointwise [k0_pay1]

theorem out_2 (c : Dev nD) (i : grid0.Coords) (arg2 : Memref sig .tc .vmem S1024x1024 .bf16) (harg2 : arg2.IsWhole)
    (arg3 : Memref sig .tc .vmem S1x768x1024 .bf16) (harg3 : arg3.IsWhole) (arg4 : Memref sig .tc .vmem S1024x768 .bf16) (harg4 : arg4.IsWhole)
    (x0 : Vec Ideal S1024x1024 .bf16) (x1 : Vec Ideal S1x768x1024 .bf16) :
    out0_A_2 c i arg2 harg2 arg3 harg3 arg4 harg4 x0 x1 = k0_pay1 (F := Ideal) x0 x1 := by
  unfold out0_A_2
  rw [View.read_writes_eq_canon _ _ _ (cover0_A_2 c i arg2 harg2 arg3 harg3 arg4 harg4 x0 x1)]
  unfold kernelRun0_A
  dsimp only
  sl_unfold_words
  rw [View.canon_unit_zero z2]
  simp only [View.readAt_eq_ld, Memref.IsWhole.read_unread, View.ld_unit_zero (S := S1024x1024) z2, View.ld_unit_zero (S := S1x768x1024) z3]

variable (m : (ℓ : Loc nD τ sig) → Buf (Elt Ideal) ℓ)

/-! ### The arguments and the tiles the points take of them -/

abbrev a0 (c : Dev nD) : Vec Ideal S4096x1024 .bf16 := m ((c : Thread nD τ).loc main_arg0)
abbrev a1 (c : Dev nD) : Vec Ideal S4x1792x1024 .bf16 := m ((c : Thread nD τ).loc main_arg1)

abbrev t0 (c : Dev nD) (t : Fin cfg0.N) : Vec Ideal S1024x1024 .bf16 := iblk m c 0 t
abbrev t1 (c : Dev nD) (t : Fin cfg0.N) : Vec Ideal S1x768x1024 .bf16 := X0_1 m c t

theorem hN : cfg0.N = 16 := N_0

/-- Row `r` of point `t`'s tile, and the chip whose rows of the weights it takes. -/
abbrev row (t : Fin cfg0.N) (r : Fin 1024) : Fin 4096 := ⟨t.val / 4 * 1024 + r.val, by have := lt_of_lt_of_eq t.isLt hN; omega⟩
abbrev chip (t : Fin cfg0.N) : Fin 4 := ⟨t.val % 4, by omega⟩

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 3) = t.val % 4 ∧ win0_1.index t (1 : Fin 3) = 1 ∧ win0_1.index t (2 : Fin 3) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)

theorem t0_at (c : Dev nD) (t : Fin cfg0.N) (r k : Fin 1024) : t0 m c t (ix2 r k) = a0 m c (ix2 (row t r) k) := by
  unfold t0 iblk
  refine congrArg (a0 m c) (funext fun d => Fin.ext ?_)
  obtain ⟨e0, e1⟩ := idx0 t
  match d with
  | ⟨0, _⟩ => show win0_0.index t (0 : Fin 2) * 1024 + 1 * r.val = t.val / 4 * 1024 + r.val; omega
  | ⟨1, _⟩ => show win0_0.index t (1 : Fin 2) * 1024 + 1 * k.val = k.val; omega

theorem t1_at (c : Dev nD) (t : Fin cfg0.N) (j : Fin 768) (k : Fin 1024) :
    t1 m c t (ix3 0 j k) = a1 m c (ix3 (chip t) ⟨768 + j.val, by omega⟩ k) := by
  unfold t1 X0_1 Pipeline.Window.fill
  rw [dif_pos (moved0_1 t _)]
  unfold iblk
  refine congrArg (a1 m c) (funext fun d => Fin.ext ?_)
  obtain ⟨e0, e1, e2⟩ := idx1 t
  match d with
  | ⟨0, _⟩ => show win0_1.index t (0 : Fin 3) * 1 + 1 * 0 = t.val % 4; omega
  | ⟨1, _⟩ => show win0_1.index t (1 : Fin 3) * 768 + 1 * j.val = 768 + j.val; omega
  | ⟨2, _⟩ => show win0_1.index t (2 : Fin 3) * 1024 + 1 * k.val = k.val; omega

/-! ### The whole array -/

/-- Row `i` of the cotangent against row `j` of chip `s`'s weights. -/
def dy (c : Dev nD) (i : Fin 4096) (s : Fin 4) (j : Fin 768) : EReal :=
  ∑ k : Fin 1024, a0 m c (ix2 i k) * a1 m c (ix3 s ⟨768 + j.val, by omega⟩ k)

/-- The point writing row `i` of chip `s`'s columns. -/
def pt (i : Fin 4096) (s : Fin 4) : Fin cfg0.N := ⟨i.val / 1024 * 4 + s.val, by rw [hN]; omega⟩

theorem row_pt (i : Fin 4096) (s : Fin 4) : row (pt i s) ⟨i.val % 1024, by omega⟩ = i :=
  Fin.ext (show (i.val / 1024 * 4 + s.val) / 4 * 1024 + i.val % 1024 = i.val by omega)
theorem chip_pt (i : Fin 4096) (s : Fin 4) : chip (pt i s) = s :=
  Fin.ext (show (i.val / 1024 * 4 + s.val) % 4 = s.val by omega)

theorem dy_at (c : Dev nD) (i : Fin 4096) (s : Fin 4) (j : Fin 768) :
    ((dats m 0 c).arrAt 2 cfg0.N : Vec Ideal S4096x3072 .bf16) (ix2 i ⟨s.val * 768 + j.val, by omega⟩) = dy m c i s j := by
  have hb := congrFun ((blocks2 m c (pt i s) (flush0_2 _)).trans (flushed2 m c _)) (ix2 ⟨i.val % 1024, by omega⟩ j : S1024x768.Idx)
  refine Eq.trans (congrArg ((dats m 0 c).arrAt 2 cfg0.N) (funext fun d => Fin.ext ?_)) (hb.trans ?_)
  · obtain ⟨e0, e1⟩ := idx2 (pt i s)
    have hv : (pt i s).val = i.val / 1024 * 4 + s.val := rfl
    match d with
    | ⟨0, _⟩ => show i.val = win0_2.index (pt i s) (0 : Fin 2) * 1024 + 1 * (i.val % 1024); omega
    | ⟨1, _⟩ => show s.val * 768 + j.val = win0_2.index (pt i s) (1 : Fin 2) * 768 + 1 * j.val; omega
  · refine (congrFun (out_2 _ _ _ _ _ _ _ _ _ _) (ix2 ⟨i.val % 1024, by omega⟩ j : S1024x768.Idx)).trans ?_
    refine (pay1_at (t0 m c (pt i s)) (t1 m c (pt i s)) ⟨i.val % 1024, by omega⟩ j).trans ?_
    unfold dy
    refine Finset.sum_congr rfl fun k _ => ?_
    rw [t0_at, t1_at, row_pt, chip_pt]

end Cert.KernelMixoutIdeal.Val

end
-- ==== Proof.MixClaims.lean ====
/- The gradient of the norm after a mixer, and the product by a mixer's transposed output weights: the references at an
   index, their frames, and the two value claims. -/
module

public import proofs.«01_k».proof.Defs
public import proofs.«01_k».proof.Proof.MixpostKernel
public import proofs.«01_k».proof.Proof.MixoutKernel
public import proofs.«01_k».proof.Proof.Gen.ReferenceMixpostIdeal.Run
public import proofs.«01_k».proof.Proof.Gen.ReferenceMixpostIdeal.Read
public import proofs.«01_k».proof.Proof.Gen.ReferenceMixoutIdeal.Run
public import proofs.«01_k».proof.Proof.Gen.ReferenceMixoutIdeal.Read
public import Idealize.ShloMosaic.Lib.Pointwise
public import Idealize.ShloMosaic.Adequacy
public import Idealize.ShloMosaic.Init

@[expose] public section

set_option maxRecDepth 16384

noncomputable section

namespace Cert.ReferenceMixpostIdeal.Val

open Cert.ReferenceMixpostIdeal Cert.ReferenceMixpostIdeal.Gen Cert.ReferenceMixpostIdeal.Read Cert.Rms Idealize.ShloMosaic

variable (x0 x1 : Vec Ideal S4096x1024 .f32) (x2 : Vec Ideal S1x1024 .f32)

/-- A row of an argument. -/
abbrev row (x : Vec Ideal S4096x1024 .f32) (i : Fin 4096) : Fin 1024 → EReal := fun k => x (ix2 i k)

theorem v6_at (i : Fin 4096) (u : Fin 1) : val_main_v6 (F := Ideal) x1 (ix2 i u) = ms (row x1 i) := by
  unfold ms kN kEps
  pointwise [val_main_v6, val_main_v5, val_main_v4, val_main_v3, val_main_v2, val_main_v1, val_main_v0, val_main_cst, val_main_cst_0, val_main_cst_1]

theorem v7_at (i : Fin 4096) (u : Fin 1) : val_main_v7 (F := Ideal) x1 (ix2 i u) = rr (row x1 i) := by
  have h := v6_at x1
  unfold rr
  pointwise [val_main_v7, h]

theorem v27_at (i : Fin 4096) (u : Fin 1) :
    val_main_v27 (F := Ideal) x0 x1 x2 (ix2 i u) = corr (row x1 i) (fun k => x0 (ix2 i k) * x2 (ix2 0 k)) := by
  have h := v6_at x1
  have h' := v7_at x1
  unfold corr kN kNegHalf
  pointwise [val_main_v27, val_main_v26, val_main_cst_5, val_main_v25, val_main_v22, val_main_v21, val_main_cst_4, val_main_v20, val_main_v19, val_main_v18,
    val_main_v10, val_main_v9, val_main_cst_2, val_main_v8, h, h']

theorem v29_at (i : Fin 4096) (j : Fin 1024) :
    val_main_v29 (F := Ideal) x0 x1 x2 (ix2 i j) = corr (row x1 i) (fun k => x0 (ix2 i k) * x2 (ix2 0 k)) := by
  have h := v27_at x0 x1 x2
  pointwise [val_main_v29, val_main_v28, val_main_cst_6, h]
  exact Fin.sum_univ_one _

theorem v33_at (i : Fin 4096) (j : Fin 1024) :
    val_main_v33 (F := Ideal) x0 x1 x2 (ix2 i j) = x0 (ix2 i j) * x2 (ix2 0 j) * rr (row x1 i)
      + x1 (ix2 i j) * corr (row x1 i) (fun k => x0 (ix2 i k) * x2 (ix2 0 k))
      + corr (row x1 i) (fun k => x0 (ix2 i k) * x2 (ix2 0 k)) * x1 (ix2 i j) := by
  have h := v29_at x0 x1 x2
  have h' := v7_at x1
  pointwise [val_main_v33, val_main_v32, val_main_v31, val_main_v30, val_main_v24, val_main_v23, val_main_v19, val_main_v18, h, h']

/-- The two results, at an index. -/
theorem df_at (i : Fin 4096) (j : Fin 1024) :
    val_main_v34 (F := Ideal) x0 x1 x2 (ix2 i j) = postGrad (row x1 i) (fun k => x0 (ix2 i k) * x2 (ix2 0 k)) j := by
  rw [← postGrad_eq]
  have h := v33_at x0 x1 x2
  pointwise [val_main_v34, h]

theorem dg_at (j : Fin 1024) :
    val_main_v17 (F := Ideal) x0 x1 (ix2 0 j) = ∑ i : Fin 4096, x1 (ix2 i j) * rr (row x1 i) * x0 (ix2 i j) := by
  have h' := v7_at x1
  pointwise [val_main_v17, val_main_v16, val_main_cst_3, val_main_v15, val_main_v12, val_main_v11, h']

end Cert.ReferenceMixpostIdeal.Val

namespace Cert.ReferenceMixoutIdeal.Val

open Cert.ReferenceMixoutIdeal Cert.ReferenceMixoutIdeal.Gen Cert.ReferenceMixoutIdeal.Read Idealize.ShloMosaic

variable (x0 : Vec Ideal S4096x1024 .bf16) (x1 : Vec Ideal S4x1792x1024 .bf16)

theorem v1_at (s : Fin 4) (j : Fin 768) (k : Fin 1024) :
    val_main_v1 (F := Ideal) x1 (ix3 s j k) = x1 (ix3 s ⟨768 + j.val, by omega⟩ k) := by
  pointwise [val_main_v1, val_main_v0]

theorem v2_at (s : Fin 4) (j : Fin 768) (k : Fin 1024) :
    val_main_v2 (F := Ideal) x1 (ix2 ⟨s.val * 768 + j.val, by omega⟩ k) = x1 (ix3 s ⟨768 + j.val, by omega⟩ k) := by
  refine (val_main_v2_apply (F := Ideal) x1 _).trans ((congrArg (val_main_v1 (F := Ideal) x1) (funext fun e => Fin.ext ?_)).trans (v1_at x1 s j k))
  match e with
  | ⟨0, _⟩ => show ((s.val * 768 + j.val) * 1024 + k.val) / 786432 = s.val; omega
  | ⟨1, _⟩ => show ((s.val * 768 + j.val) * 1024 + k.val) / 1024 % 768 = j.val; omega
  | ⟨2, _⟩ => show ((s.val * 768 + j.val) * 1024 + k.val) % 1024 = k.val; omega

/-- The result, at an index. -/
theorem dy_at (i : Fin 4096) (s : Fin 4) (j : Fin 768) :
    val_main_v7 (F := Ideal) x0 x1 (ix2 i ⟨s.val * 768 + j.val, by omega⟩)
      = ∑ k : Fin 1024, x0 (ix2 i k) * x1 (ix3 s ⟨768 + j.val, by omega⟩ k) := by
  have e : val_main_v7 (F := Ideal) x0 x1 (ix2 i ⟨s.val * 768 + j.val, by omega⟩)
      = ∑ k : Fin 1024, x0 (ix2 i k) * val_main_v2 (F := Ideal) x1 (ix2 ⟨s.val * 768 + j.val, by omega⟩ k) := by
    pointwise [val_main_v7, val_main_v6, val_main_v5]
  exact e.trans (Finset.sum_congr rfl fun k _ => congrArg (fun u : EReal => x0 (ix2 i k) * u) (v2_at x1 s j k))

end Cert.ReferenceMixoutIdeal.Val

namespace Cert.MixClaims

open Idealize.ShloMosaic Idealize.ShloMosaic.TcCoe Idealize.SL.Sem

theorem frame_mixpost : Cert.quiescent_ReferenceMixpostIdeal := fun m ρ _ =>
  (θ_run Cert.ReferenceMixpostIdeal.defs _ _).mono (fun r h => ⟨fun c => (h c).2.2, sem_eq_zero_of_no_sems (by decide) r.2⟩)
    (Cert.ReferenceMixpostIdeal.Value.run (F := Ideal) m ρ)

theorem frame_mixout : Cert.quiescent_ReferenceMixoutIdeal := fun m ρ _ =>
  (θ_run Cert.ReferenceMixoutIdeal.defs _ _).mono (fun r h => ⟨fun c => (h c).2, sem_eq_zero_of_no_sems (by decide) r.2⟩)
    (Cert.ReferenceMixoutIdeal.Value.run (F := Ideal) m ρ)

section
open Cert.KernelMixpostIdeal

theorem df (m : (ℓ : Loc nD τ sig) → Buf (Elt Ideal) ℓ) (c : Dev nD) :
    Cert.ReferenceMixpostIdeal.Read.val_main_v34 (F := Ideal) (Val.a0 m c) (Val.a1 m c) (Val.a2 m c)
      = ((Gen.dats m 0 c).arrAt 3 cfg0.N : Vec Ideal S4096x1024 .bf16) := by
  funext i
  obtain ⟨r, j, rfl⟩ : ∃ (r : Fin 4096) (j : Fin 1024), i = ix2 r j := ⟨i 0, i 1, eq_ix2 i⟩
  exact (Cert.ReferenceMixpostIdeal.Val.df_at _ _ _ r j).trans (Val.df_at m c r j).symm

theorem dg (m : (ℓ : Loc nD τ sig) → Buf (Elt Ideal) ℓ) (c : Dev nD) :
    Cert.ReferenceMixpostIdeal.Read.val_main_v17 (F := Ideal) (Val.a0 m c) (Val.a1 m c)
      = ((Gen.dats m 0 c).arrAt 4 cfg0.N : Vec Ideal S1x1024 .f32) := by
  funext i
  obtain ⟨j, rfl⟩ : ∃ j : Fin 1024, i = ix2 0 j :=
    ⟨i 1, (eq_ix2 i).trans (congrArg (fun u : Fin 1 => ix2 u (i 1)) (Subsingleton.elim (α := Fin 1) (i 0) 0))⟩
  refine (Cert.ReferenceMixpostIdeal.Val.dg_at _ _ j).trans (Eq.trans ?_ (Val.dg_at m c j).symm)
  refine Finset.sum_congr rfl fun r _ => ?_
  exact (mul_comm (G := EReal) _ _).trans (mul_assoc (G := EReal) _ _ _).symm

theorem value_mixpost : Cert.algebraic_KernelMixpostIdeal_ReferenceMixpostIdeal := by
  intro m g m' g' _ agree
  refine ⟨fun c => (Gen.dats m 0 c).arrAt 3 cfg0.N, fun c => (Gen.dats m 0 c).arrAt 4 cfg0.N,
    Value.run_blocks (F := Ideal) m g,
    (θ_run Cert.ReferenceMixpostIdeal.defs _ _).mono (fun r h c => ⟨?_, ?_, (h c).2.2⟩) (Cert.ReferenceMixpostIdeal.Value.run (F := Ideal) m' g')⟩
  · obtain ⟨e0, e1, e2⟩ := agree c
    refine ((h c).1.trans (Cert.ReferenceMixpostIdeal.Read.val_main_v34_eq (F := Ideal) _ _ _)).trans ?_
    rw [e0, e1, e2]
    exact df m c
  · obtain ⟨e0, e1, -⟩ := agree c
    refine ((h c).2.1.trans (Cert.ReferenceMixpostIdeal.Read.val_main_v17_eq (F := Ideal) _ _)).trans ?_
    rw [e0, e1]
    exact dg m c
end

section
open Cert.KernelMixoutIdeal

theorem dy (m : (ℓ : Loc nD τ sig) → Buf (Elt Ideal) ℓ) (c : Dev nD) :
    Cert.ReferenceMixoutIdeal.Read.val_main_v7 (F := Ideal) (Val.a0 m c) (Val.a1 m c)
      = ((Gen.dats m 0 c).arrAt 2 cfg0.N : Vec Ideal S4096x3072 .bf16) := by
  funext i
  obtain ⟨r, j, rfl⟩ : ∃ (r : Fin 4096) (j : Fin 3072), i = ix2 r j := ⟨i 0, i 1, eq_ix2 i⟩
  obtain ⟨s, k, rfl⟩ : ∃ (s : Fin 4) (k : Fin 768), j = ⟨s.val * 768 + k.val, by omega⟩ :=
    ⟨⟨j.val / 768, by omega⟩, ⟨j.val % 768, by omega⟩, Fin.ext (show j.val = j.val / 768 * 768 + j.val % 768 by omega)⟩
  exact (Cert.ReferenceMixoutIdeal.Val.dy_at _ _ r s k).trans (Val.dy_at m c r s k).symm

theorem value_mixout : Cert.algebraic_KernelMixoutIdeal_ReferenceMixoutIdeal := by
  intro m g m' g' _ agree
  refine ⟨fun c => (Gen.dats m 0 c).arrAt 2 cfg0.N, Value.run_blocks (F := Ideal) m g,
    (θ_run Cert.ReferenceMixoutIdeal.defs _ _).mono (fun r h c => ⟨?_, (h c).2⟩) (Cert.ReferenceMixoutIdeal.Value.run (F := Ideal) m' g')⟩
  obtain ⟨e0, e1⟩ := agree c
  refine ((h c).1.trans (Cert.ReferenceMixoutIdeal.Read.val_main_v7_eq (F := Ideal) _ _)).trans ?_
  rw [e0, e1]
  exact dy m c
end

end Cert.MixClaims

end
-- ==== Proof.NormKernels.lean ====
/- The norms that stand alone, in the kernels: the norm itself, and the residual after the pool. Each grid point takes 512
   rows. -/
module

public import proofs.«01_k».proof.Proof.Gen.KernelPreIdeal.Value
public import proofs.«01_k».proof.Proof.Gen.KernelPoolpostIdeal.Value
public import proofs.«01_k».proof.Proof.Rms
public import proofs.«01_k».proof.Proof.RowTiles
public import Idealize.ShloMosaic.Lib.Pointwise

@[expose] public section

set_option maxRecDepth 16384

noncomputable section

namespace Cert.KernelPreIdeal.Val

open Cert.KernelPreIdeal Cert.KernelPreIdeal.Gen Cert.KernelPreIdeal.Value Cert.Rms Cert.RowTiles
open Idealize.ShloMosaic Idealize.ShloMosaic.TcCoe Idealize.SL.Sem

theorem pay1_at (h : Vec Ideal S512x1024 .f32) (g : Vec Ideal S1x1024 .f32) (r : Fin 512) (j : Fin 1024) :
    k0_pay1 (F := Ideal) h g (ix2 r j) = h (ix2 r j) * rr (fun k => h (ix2 r k)) * g (ix2 0 j) := by
  unfold rr ms kN kEps
  pointwise [k0_pay1]

theorem out_2 (x0 : Vec Ideal S512x1024 .f32) (x1 : Vec Ideal S1x1024 .f32) : out0_2 (F := Ideal) x0 x1 = k0_pay1 (F := Ideal) x0 x1 := by
  unfold out0_2 r0_0 r0_1
  rw [View.canon_unit_zero z2, View.ld_unit_zero (S := S512x1024) z2, View.ld_unit_zero (S := S1x1024) z2]

variable (m : (ℓ : Loc nD τ sig) → Buf (Elt Ideal) ℓ)

abbrev a0 (c : Dev nD) : Vec Ideal S4096x1024 .f32 := m ((c : Thread nD τ).loc main_arg0)
abbrev a1 (c : Dev nD) : Vec Ideal S1x1024 .f32 := m ((c : Thread nD τ).loc main_arg1)

abbrev t0 (c : Dev nD) (t : Fin cfg0.N) : Vec Ideal S512x1024 .f32 := iblk m c 0 t
abbrev t1 (c : Dev nD) (t : Fin cfg0.N) : Vec Ideal S1x1024 .f32 := iblk m c 1 t

theorem hN : cfg0.N = 8 := N_0

/-- Every array but the gain is taken by rows. -/
theorem idx : ∀ t : Fin cfg0.N, ((win0_0.index t (0 : Fin 2) = t.val ∧ win0_0.index t (1 : Fin 2) = 0)
      ∧ (win0_2.index t (0 : Fin 2) = t.val ∧ win0_2.index t (1 : Fin 2) = 0))
    ∧ (win0_1.index t (0 : Fin 2) = 0 ∧ win0_1.index t (1 : Fin 2) = 0) :=
  (by decide +kernel : ∀ t : Fin grid0.N, _)

theorem t0_at (c : Dev nD) (t : Fin cfg0.N) (r : Fin 512) (k : Fin 1024) : t0 m c t (ix2 r k) = a0 m c (ix2 (row hN t r) k) :=
  congrArg (a0 m c) (idx_row hN t r k (idx t).1.1 _ rfl rfl)
theorem t1_at (c : Dev nD) (t : Fin cfg0.N) (k : Fin 1024) : t1 m c t (ix2 0 k) = a1 m c (ix2 0 k) :=
  congrArg (a1 m c) (idx_gain k (idx t).2 _ rfl)

theorem xn_at (c : Dev nD) (i : Fin 4096) (j : Fin 1024) :
    ((dats m 0 c).arrAt 2 cfg0.N : Vec Ideal S4096x1024 .bf16) (ix2 i j)
      = a0 m c (ix2 i j) * rr (fun k => a0 m c (ix2 i k)) * a1 m c (ix2 0 j) := by
  obtain ⟨t, r, rfl⟩ := row_cases hN i
  have hb := congrFun ((blocks2 m c t (flush0_2 t)).trans (flushed2 m c t)) (ix2 r j : S512x1024.Idx)
  refine Eq.trans (congrArg ((dats m 0 c).arrAt 2 cfg0.N) (idx_row hN t r j (idx t).1.2 _ rfl rfl).symm) (hb.trans ?_)
  refine (congrFun (out_2 _ _) (ix2 r j : S512x1024.Idx)).trans ((pay1_at (t0 m c t) (t1 m c t) r j).trans ?_)
  rw [t1_at, t0_at, funext fun k => t0_at m c t r k]

end Cert.KernelPreIdeal.Val

namespace Cert.KernelPoolpostIdeal.Val

open Cert.KernelPoolpostIdeal Cert.KernelPoolpostIdeal.Gen Cert.KernelPoolpostIdeal.Value Cert.Rms Cert.RowTiles
open Idealize.ShloMosaic Idealize.ShloMosaic.TcCoe Idealize.SL.Sem

theorem pay1_at (f h : Vec Ideal S512x1024 .f32) (g : Vec Ideal S1x1024 .f32) (r : Fin 512) (j : Fin 1024) :
    k0_pay1 (F := Ideal) f h g (ix2 r j) = h (ix2 r j) + f (ix2 r j) * rr (fun k => f (ix2 r k)) * g (ix2 0 j) := by
  have e : k0_pay1 (F := Ideal) f h g (ix2 r j)
      = h (ix2 r j) + 1 * (f (ix2 r j) * rr (fun k => f (ix2 r k)) * g (ix2 0 j)) := by
    unfold rr ms kN kEps
    rw [← Ideal.ofBits_one_f32]
    pointwise [k0_pay1]
  rw [e, one_mul]

theorem out_3 (x0 x1 : Vec Ideal S512x1024 .f32) (x2 : Vec Ideal S1x1024 .f32) :
    out0_3 (F := Ideal) x0 x1 x2 = k0_pay1 (F := Ideal) x1 x0 x2 := by
  unfold out0_3 r0_0 r0_1
  rw [View.canon_unit_zero z2, View.ld_unit_zero (S := S512x1024) z2, View.ld_unit_zero (S := S512x1024) z2, View.ld_unit_zero (S := S1x1024) z2]

variable (m : (ℓ : Loc nD τ sig) → Buf (Elt Ideal) ℓ)

abbrev a0 (c : Dev nD) : Vec Ideal S4096x1024 .f32 := m ((c : Thread nD τ).loc main_arg0)
abbrev a1 (c : Dev nD) : Vec Ideal S4096x1024 .f32 := m ((c : Thread nD τ).loc main_arg1)
abbrev a2 (c : Dev nD) : Vec Ideal S1x1024 .f32 := m ((c : Thread nD τ).loc main_arg2)

abbrev t0 (c : Dev nD) (t : Fin cfg0.N) : Vec Ideal S512x1024 .f32 := iblk m c 0 t
abbrev t1 (c : Dev nD) (t : Fin cfg0.N) : Vec Ideal S512x1024 .f32 := iblk m c 1 t
abbrev t2 (c : Dev nD) (t : Fin cfg0.N) : Vec Ideal S1x1024 .f32 := iblk m c 2 t

theorem hN : cfg0.N = 8 := N_0

/-- Every array but the gain is taken by rows. -/
theorem idx : ∀ t : Fin cfg0.N, ((win0_0.index t (0 : Fin 2) = t.val ∧ win0_0.index t (1 : Fin 2) = 0)
      ∧ (win0_1.index t (0 : Fin 2) = t.val ∧ win0_1.index t (1 : Fin 2) = 0)
      ∧ (win0_3.index t (0 : Fin 2) = t.val ∧ win0_3.index t (1 : Fin 2) = 0))
    ∧ (win0_2.index t (0 : Fin 2) = 0 ∧ win0_2.index t (1 : Fin 2) = 0) :=
  (by decide +kernel : ∀ t : Fin grid0.N, _)

theorem t0_at (c : Dev nD) (t : Fin cfg0.N) (r : Fin 512) (k : Fin 1024) : t0 m c t (ix2 r k) = a0 m c (ix2 (row hN t r) k) :=
  congrArg (a0 m c) (idx_row hN t r k (idx t).1.1 _ rfl rfl)
theorem t1_at (c : Dev nD) (t : Fin cfg0.N) (r : Fin 512) (k : Fin 1024) : t1 m c t (ix2 r k) = a1 m c (ix2 (row hN t r) k) :=
  congrArg (a1 m c) (idx_row hN t r k (idx t).1.2.1 _ rfl rfl)
theorem t2_at (c : Dev nD) (t : Fin cfg0.N) (k : Fin 1024) : t2 m c t (ix2 0 k) = a2 m c (ix2 0 k) :=
  congrArg (a2 m c) (idx_gain k (idx t).2 _ rfl)

theorem h_at (c : Dev nD) (i : Fin 4096) (j : Fin 1024) :
    ((dats m 0 c).arrAt 3 cfg0.N : Vec Ideal S4096x1024 .f32) (ix2 i j)
      = a0 m c (ix2 i j) + a1 m c (ix2 i j) * rr (fun k => a1 m c (ix2 i k)) * a2 m c (ix2 0 j) := by
  obtain ⟨t, r, rfl⟩ := row_cases hN i
  have hb := congrFun ((blocks3 m c t (flush0_3 t)).trans (flushed3 m c t)) (ix2 r j : S512x1024.Idx)
  refine Eq.trans (congrArg ((dats m 0 c).arrAt 3 cfg0.N) (idx_row hN t r j (idx t).1.2.2 _ rfl rfl).symm) (hb.trans ?_)
  refine (congrFun (out_3 _ _ _) (ix2 r j : S512x1024.Idx)).trans ((pay1_at (t1 m c t) (t0 m c t) (t2 m c t) r j).trans ?_)
  rw [t2_at, t1_at, t0_at, funext fun k => t1_at m c t r k]

end Cert.KernelPoolpostIdeal.Val

end
-- ==== Proof.PoolpreKernel.lean ====
/- The gradient of the norm before a mixer, in the kernel: each grid point takes 512 rows and adds the norm's gradient to
   that of the residual path; the gain's gradient is summed over the points. -/
module

public import proofs.«01_k».proof.Proof.Gen.KernelPoolpreIdeal.Value
public import proofs.«01_k».proof.Proof.Rms
public import proofs.«01_k».proof.Proof.RowTiles
public import Idealize.ShloMosaic.Lib.Pointwise

@[expose] public section

set_option maxRecDepth 16384

noncomputable section

namespace Cert.KernelPoolpreIdeal.Val

open Cert.KernelPoolpreIdeal Cert.KernelPoolpreIdeal.Gen Cert.KernelPoolpreIdeal.Value Cert.Rms Cert.RowTiles
open Idealize.ShloMosaic Idealize.ShloMosaic.TcCoe Idealize.SL.Sem

/-! ### The body's values at an index -/

section
variable (h d s : Vec Ideal S512x1024 .f32) (g : Vec Ideal S1x1024 .f32)

theorem pay2_at (r : Fin 512) (u : Fin 1) : k0_pay2 (F := Ideal) h (ix2 r u) = rr (fun k => h (ix2 r k)) := by
  unfold rr ms kN kEps
  pointwise [k0_pay2]

theorem pay3_at (r : Fin 512) (j : Fin 1024) : k0_pay3 (F := Ideal) h (ix2 r j) = h (ix2 r j) * rr (fun k => h (ix2 r k)) := by
  have h2 := pay2_at h
  pointwise [k0_pay3, h2]

theorem pay4_at (r : Fin 512) (j : Fin 1024) :
    k0_pay4 (F := Ideal) h d g s (ix2 r j)
      = s (ix2 r j) + rmsGrad (fun k => h (ix2 r k)) (fun k => d (ix2 r k) * g (ix2 0 k)) j := by
  have h2 := pay2_at h
  have h3 := pay3_at h
  unfold rmsGrad kN
  pointwise [k0_pay4, h2, h3]

theorem pay5_at (j : Fin 1024) :
    k0_pay5 (F := Ideal) h d (ix2 0 j) = ∑ r : Fin 512, d (ix2 r j) * (h (ix2 r j) * rr (fun k => h (ix2 r k))) := by
  have h3 := pay3_at h
  pointwise [k0_pay5, h3]

theorem pay1_at (v w : Vec Ideal S1x1024 .f32) (j : Fin 1024) : k0_pay1 (F := Ideal) v w (ix2 0 j) = w (ix2 0 j) + v (ix2 0 j) := by
  pointwise [k0_pay1]
end

/-! ### What a point leaves -/

section
variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S1x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S1x1024 .f32) (harg6 : arg6.IsWhole)
  (x0 x1 : Vec Ideal S512x1024 .f32) (x2 : Vec Ideal S1x1024 .f32) (x3 : Vec Ideal S512x1024 .f32)

/-- The first point stores its gradient of the gain. -/
theorem out_A (hc0 : cond0_0 i) (hc1 : ¬cond0_1 i) :
    out0_A_4 c i arg1 harg1 arg2 harg2 arg3 harg3 arg4 harg4 arg5 harg5 arg6 harg6 hc0 hc1 x0 x1 x2 x3 = k0_pay4 (F := Ideal) x1 x0 x2 x3
      ∧ out0_A_5 c i arg1 harg1 arg2 harg2 arg3 harg3 arg4 harg4 arg5 harg5 arg6 harg6 hc0 hc1 x0 x1 x2 x3 = k0_pay5 (F := Ideal) x1 x0 := by
  unfold out0_A_4 out0_A_5 kernelRun0_A
  dsimp only
  sl_unfold_words
  simp only [View.readAt_eq_ld, Memref.IsWhole.read_unread, View.ld_unit_zero (S := S512x1024) z2, View.ld_unit_zero (S := S1x1024) z2]
  exact ⟨read_whole VO0_4 _ _ _, read_whole VO0_5 _ _ _⟩

/-- The others add theirs to what is there. -/
theorem out_B (hc0 : ¬cond0_0 i) (hc1 : cond0_1 i) (xo : Vec Ideal S1x1024 .f32) :
    out0_B_4 c i arg1 harg1 arg2 harg2 arg3 harg3 arg4 harg4 arg5 harg5 arg6 harg6 hc0 hc1 x0 x1 x2 x3 xo = k0_pay4 (F := Ideal) x1 x0 x2 x3
      ∧ out0_B_5 c i arg1 harg1 arg2 harg2 arg3 harg3 arg4 harg4 arg5 harg5 arg6 harg6 hc0 hc1 x0 x1 x2 x3 xo
        = k0_pay1 (F := Ideal) (k0_pay5 (F := Ideal) x1 x0) xo := by
  unfold out0_B_4 out0_B_5 kernelRun0_B
  dsimp only
  sl_unfold_words
  simp only [View.readAt_eq_ld, Memref.IsWhole.read_unread, View.ld_unit_zero (S := S512x1024) z2, View.ld_unit_zero (S := S1x1024) z2]
  exact ⟨read_whole VO0_4 _ _ _, read_whole VO0_5 _ _ _⟩

end

/-! ### The arguments, and what the points take of them -/

section
variable (m : (ℓ : Loc nD τ sig) → Buf (Elt Ideal) ℓ)

abbrev a0 (c : Dev nD) : Vec Ideal S4096x1024 .f32 := m ((c : Thread nD τ).loc main_arg0)
abbrev a1 (c : Dev nD) : Vec Ideal S4096x1024 .f32 := m ((c : Thread nD τ).loc main_arg1)
abbrev a2 (c : Dev nD) : Vec Ideal S1x1024 .f32 := m ((c : Thread nD τ).loc main_arg2)
abbrev a3 (c : Dev nD) : Vec Ideal S4096x1024 .f32 := m ((c : Thread nD τ).loc main_arg3)

abbrev t0 (c : Dev nD) (t : Fin cfg0.N) : Vec Ideal S512x1024 .f32 := iblk m c 0 t
abbrev t1 (c : Dev nD) (t : Fin cfg0.N) : Vec Ideal S512x1024 .f32 := iblk m c 1 t
abbrev t2 (c : Dev nD) (t : Fin cfg0.N) : Vec Ideal S1x1024 .f32 := iblk m c 2 t
abbrev t3 (c : Dev nD) (t : Fin cfg0.N) : Vec Ideal S512x1024 .f32 := iblk m c 3 t

theorem hN : cfg0.N = 8 := N_0

/-- Every array but the gain and its gradient is taken by rows. -/
theorem idx : ∀ t : Fin cfg0.N, ((win0_0.index t (0 : Fin 2) = t.val ∧ win0_0.index t (1 : Fin 2) = 0)
      ∧ (win0_1.index t (0 : Fin 2) = t.val ∧ win0_1.index t (1 : Fin 2) = 0)
      ∧ (win0_3.index t (0 : Fin 2) = t.val ∧ win0_3.index t (1 : Fin 2) = 0)
      ∧ (win0_4.index t (0 : Fin 2) = t.val ∧ win0_4.index t (1 : Fin 2) = 0))
    ∧ (win0_2.index t (0 : Fin 2) = 0 ∧ win0_2.index t (1 : Fin 2) = 0)
      ∧ (win0_5.index t (0 : Fin 2) = 0 ∧ win0_5.index t (1 : Fin 2) = 0) :=
  (by decide +kernel : ∀ t : Fin grid0.N, _)

theorem t0_at (c : Dev nD) (t : Fin cfg0.N) (r : Fin 512) (k : Fin 1024) : t0 m c t (ix2 r k) = a0 m c (ix2 (row hN t r) k) :=
  congrArg (a0 m c) (idx_row hN t r k (idx t).1.1 _ rfl rfl)
theorem t1_at (c : Dev nD) (t : Fin cfg0.N) (r : Fin 512) (k : Fin 1024) : t1 m c t (ix2 r k) = a1 m c (ix2 (row hN t r) k) :=
  congrArg (a1 m c) (idx_row hN t r k (idx t).1.2.1 _ rfl rfl)
theorem t2_at (c : Dev nD) (t : Fin cfg0.N) (k : Fin 1024) : t2 m c t (ix2 0 k) = a2 m c (ix2 0 k) :=
  congrArg (a2 m c) (idx_gain k (idx t).2.1 _ rfl)
theorem t3_at (c : Dev nD) (t : Fin cfg0.N) (r : Fin 512) (k : Fin 1024) : t3 m c t (ix2 r k) = a3 m c (ix2 (row hN t r) k) :=
  congrArg (a3 m c) (idx_row hN t r k (idx t).1.2.2.1 _ rfl rfl)

theorem t1_row (c : Dev nD) (t : Fin cfg0.N) (r : Fin 512) : (fun k => t1 m c t (ix2 r k)) = fun k => a1 m c (ix2 (row hN t r) k) :=
  funext fun k => t1_at m c t r k

theorem outs_zero (c : Dev nD) (t : Fin cfg0.N) (h : ¬1 ≤ t.val) :
    outsAt0 m c t.val t.isLt
      = (k0_pay4 (F := Ideal) (t1 m c t) (t0 m c t) (t2 m c t) (t3 m c t), k0_pay5 (F := Ideal) (t1 m c t) (t0 m c t)) := by
  rw [outsAt0_A m c t (by omega) h, (out_A ..).1, (out_A ..).2]

theorem outs_succ (c : Dev nD) (t : Fin cfg0.N) (h : 1 ≤ t.val) :
    outsAt0 m c t.val t.isLt = (k0_pay4 (F := Ideal) (t1 m c t) (t0 m c t) (t2 m c t) (t3 m c t),
      k0_pay1 (F := Ideal) (k0_pay5 (F := Ideal) (t1 m c t) (t0 m c t)) (outsAt0 m c (t.val - 1) (by omega)).2) := by
  have h8 := lt_of_lt_of_eq t.isLt hN
  rw [outsAt0_B m c t (by omega) h, (out_B ..).1, (out_B ..).2]

theorem outs_dh (c : Dev nD) (t : Fin cfg0.N) :
    (outsAt0 m c t.val t.isLt).1 = k0_pay4 (F := Ideal) (t1 m c t) (t0 m c t) (t2 m c t) (t3 m c t) := by
  by_cases h : 1 ≤ t.val
  · rw [outs_succ m c t h]
  · rw [outs_zero m c t h]

/-! ### The whole arrays -/

theorem dh_at (c : Dev nD) (i : Fin 4096) (j : Fin 1024) :
    ((dats m 0 c).arrAt 4 cfg0.N : Vec Ideal S4096x1024 .f32) (ix2 i j)
      = a3 m c (ix2 i j) + rmsGrad (fun k => a1 m c (ix2 i k)) (fun k => a0 m c (ix2 i k) * a2 m c (ix2 0 k)) j := by
  obtain ⟨t, r, rfl⟩ := row_cases hN i
  have hb := congrFun ((blocks4 m c t (flush0_4 t)).trans (flushed4 m c t)) (ix2 r j : S512x1024.Idx)
  refine Eq.trans (congrArg ((dats m 0 c).arrAt 4 cfg0.N) (idx_row hN t r j (idx t).1.2.2.2 _ rfl rfl).symm) (hb.trans ?_)
  refine (congrFun (outs_dh m c t) (ix2 r j : S512x1024.Idx)).trans
    ((pay4_at (t1 m c t) (t0 m c t) (t3 m c t) (t2 m c t) r j).trans ?_)
  rw [t1_row, t3_at]
  exact congrArg (fun y => a3 m c (ix2 (row hN t r) j) + rmsGrad _ y j)
    (funext fun k => congrArg₂ (fun u v : EReal => u * v) (t0_at m c t r k) (t2_at m c t k))

/-- A row's term of the gain's gradient. -/
abbrev term (c : Dev nD) (j : Fin 1024) (i : Fin 4096) : EReal := a0 m c (ix2 i j) * (a1 m c (ix2 i j) * rr (fun k => a1 m c (ix2 i k)))

theorem share_at (c : Dev nD) (j : Fin 1024) (t : Fin cfg0.N) :
    k0_pay5 (F := Ideal) (t1 m c t) (t0 m c t) (ix2 0 j) = ∑ r : Fin 512, term m c j (row hN t r) := by
  refine (pay5_at (t1 m c t) (t0 m c t) j).trans (Finset.sum_congr rfl fun r _ => ?_)
  rw [t1_row, t0_at, t1_at]

/-- The gain's buffer after a point. -/
def og (c : Dev nD) (j : Fin 1024) (t : Fin cfg0.N) : EReal := (outsAt0 m c t.val t.isLt).2 (ix2 0 j)

theorem og_zero (c : Dev nD) (j : Fin 1024) (t : Fin cfg0.N) (h : ¬1 ≤ t.val) : og m c j t = ∑ r : Fin 512, term m c j (row hN t r) := by
  unfold og
  rw [outs_zero m c t h]
  exact share_at m c j t

theorem og_succ (c : Dev nD) (j : Fin 1024) (t : Fin cfg0.N) (h : 1 ≤ t.val) :
    og m c j t = og m c j ⟨t.val - 1, by omega⟩ + ∑ r : Fin 512, term m c j (row hN t r) := by
  unfold og
  rw [outs_succ m c t h, ← share_at]
  exact pay1_at _ _ j

/-- The gain's gradient is written back once, so no two write-backs meet. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne =>
  absurd (Fin.ext (by
    have h1 := (flush0_5 t).mp h
    have h2 := (flush0_5 t').mp h'
    have := lt_of_lt_of_eq t.isLt hN
    have := lt_of_lt_of_eq t'.isLt hN
    omega)) hne

theorem last5 (c : Dev nD) (j : Fin 1024) (t : Fin cfg0.N) (hf : (cfg0.win 5).flush t = true) :
    ((dats m 0 c).arrAt 5 cfg0.N : Vec Ideal S1x1024 .f32) (ix2 0 j) = og m c j t := by
  have hb := congrFun (((dats m 0 c).read_blk_arrAt_eq_flushed 5 disjoint5 cfg0.N t t.isLt hf).trans (flushed5 m c t)) (ix2 0 j : S1x1024.Idx)
  exact Eq.trans (congrArg ((dats m 0 c).arrAt 5 cfg0.N) (idx_gain j (idx t).2.2 _ rfl).symm) hb

theorem dg_at (c : Dev nD) (j : Fin 1024) :
    ((dats m 0 c).arrAt 5 cfg0.N : Vec Ideal S1x1024 .f32) (ix2 0 j) = ∑ i : Fin 4096, term m c j i := by
  have h7 : 7 < cfg0.N := by rw [hN]; omega
  exact (last5 m c j ⟨7, h7⟩ ((flush0_5 _).mpr rfl)).trans (sum_rows hN (og m c j) (term m c j) (og_zero m c j) (og_succ m c j) h7)

end

end Cert.KernelPoolpreIdeal.Val

end
-- ==== Proof.NormClaims.lean ====
/- The norms that stand alone, and the gradient of the norm before a mixer: the references at an index, their frames, and
   the three value claims. -/
module

public import proofs.«01_k».proof.Defs
public import proofs.«01_k».proof.Proof.NormKernels
public import proofs.«01_k».proof.Proof.PoolpreKernel
public import proofs.«01_k».proof.Proof.MixClaims
public import proofs.«01_k».proof.Proof.Gen.ReferencePreIdeal.Run
public import proofs.«01_k».proof.Proof.Gen.ReferencePreIdeal.Read
public import proofs.«01_k».proof.Proof.Gen.ReferencePoolpostIdeal.Run
public import proofs.«01_k».proof.Proof.Gen.ReferencePoolpostIdeal.Read
public import proofs.«01_k».proof.Proof.Gen.ReferencePoolpreIdeal.Run
public import proofs.«01_k».proof.Proof.Gen.ReferencePoolpreIdeal.Read
public import Idealize.ShloMosaic.Lib.Pointwise
public import Idealize.ShloMosaic.Adequacy
public import Idealize.ShloMosaic.Init

@[expose] public section

set_option maxRecDepth 16384

noncomputable section

/-! ### The references at an index -/

namespace Cert.ReferencePreIdeal.Val

open Cert.ReferencePreIdeal Cert.ReferencePreIdeal.Gen Cert.ReferencePreIdeal.Read Cert.Rms Idealize.ShloMosaic

variable (x0 : Vec Ideal S4096x1024 .f32) (x1 : Vec Ideal S1x1024 .f32)

/-- The rows' factors are those of the other references' norms. -/
theorem v7_at (i : Fin 4096) (u : Fin 1) : val_main_v7 (F := Ideal) x0 (ix2 i u) = rr (fun k => x0 (ix2 i k)) :=
  (congrFun (show val_main_v7 (F := Ideal) x0 = Cert.ReferenceMixpostIdeal.Read.val_main_v7 (F := Ideal) x0 from rfl) _).trans
    (Cert.ReferenceMixpostIdeal.Val.v7_at x0 i u)

theorem xn_at (i : Fin 4096) (j : Fin 1024) :
    val_main_v12 (F := Ideal) x0 x1 (ix2 i j) = x0 (ix2 i j) * rr (fun k => x0 (ix2 i k)) * x1 (ix2 0 j) := by
  have h := v7_at x0
  pointwise [val_main_v12, val_main_v11, val_main_v10, val_main_v9, val_main_v8, h]

end Cert.ReferencePreIdeal.Val

namespace Cert.ReferencePoolpostIdeal.Val

open Cert.ReferencePoolpostIdeal Cert.ReferencePoolpostIdeal.Gen Cert.ReferencePoolpostIdeal.Read Cert.Rms Idealize.ShloMosaic

variable (x0 x1 : Vec Ideal S4096x1024 .f32) (x2 : Vec Ideal S1x1024 .f32)

theorem v7_at (i : Fin 4096) (u : Fin 1) : val_main_v7 (F := Ideal) x1 (ix2 i u) = rr (fun k => x1 (ix2 i k)) :=
  (congrFun (show val_main_v7 (F := Ideal) x1 = Cert.ReferenceMixpostIdeal.Read.val_main_v7 (F := Ideal) x1 from rfl) _).trans
    (Cert.ReferenceMixpostIdeal.Val.v7_at x1 i u)

theorem h_at (i : Fin 4096) (j : Fin 1024) :
    val_main_v12 (F := Ideal) x0 x1 x2 (ix2 i j) = x0 (ix2 i j) + x1 (ix2 i j) * rr (fun k => x1 (ix2 i k)) * x2 (ix2 0 j) := by
  have h := v7_at x1
  pointwise [val_main_v12, val_main_v11, val_main_v10, val_main_v9, val_main_v8, h]

end Cert.ReferencePoolpostIdeal.Val

namespace Cert.ReferencePoolpreIdeal.Val

open Cert.ReferencePoolpreIdeal Cert.ReferencePoolpreIdeal.Gen Cert.ReferencePoolpreIdeal.Read Cert.Rms Idealize.ShloMosaic

variable (x0 x1 : Vec Ideal S4096x1024 .f32) (x2 : Vec Ideal S1x1024 .f32) (x3 : Vec Ideal S4096x1024 .f32)

/-- The gradient of the norm is that of the norm after a mixer, up to the sum with the residual path's. -/
theorem v33_eq : val_main_v33 (F := Ideal) x0 x1 x2 = Cert.ReferenceMixpostIdeal.Read.val_main_v33 (F := Ideal) x0 x1 x2 := rfl

theorem v17_eq : val_main_v17 (F := Ideal) x0 x1 = Cert.ReferenceMixpostIdeal.Read.val_main_v17 (F := Ideal) x0 x1 := rfl

theorem dh_at (i : Fin 4096) (j : Fin 1024) :
    val_main_v34 (F := Ideal) x0 x1 x2 x3 (ix2 i j)
      = x3 (ix2 i j) + rmsGrad (fun k => x1 (ix2 i k)) (fun k => x0 (ix2 i k) * x2 (ix2 0 k)) j := by
  rw [← rmsGrad_eq]
  have h : ∀ (i : Fin 4096) (j : Fin 1024), Cert.ReferenceMixpostIdeal.Read.val_main_v33 (F := Ideal) x0 x1 x2 (ix2 i j)
      = x0 (ix2 i j) * x2 (ix2 0 j) * rr (fun k => x1 (ix2 i k))
        + x1 (ix2 i j) * corr (fun k => x1 (ix2 i k)) (fun k => x0 (ix2 i k) * x2 (ix2 0 k))
        + corr (fun k => x1 (ix2 i k)) (fun k => x0 (ix2 i k) * x2 (ix2 0 k)) * x1 (ix2 i j) :=
    Cert.ReferenceMixpostIdeal.Val.v33_at x0 x1 x2
  have e := v33_eq x0 x1 x2
  pointwise [val_main_v34, e, h]

theorem dg_at (j : Fin 1024) :
    val_main_v17 (F := Ideal) x0 x1 (ix2 0 j) = ∑ i : Fin 4096, x1 (ix2 i j) * rr (fun k => x1 (ix2 i k)) * x0 (ix2 i j) :=
  (congrFun (v17_eq x0 x1) _).trans (Cert.ReferenceMixpostIdeal.Val.dg_at x0 x1 j)

end Cert.ReferencePoolpreIdeal.Val

/-! ### The claims -/

namespace Cert.NormClaims

open Idealize.ShloMosaic Idealize.ShloMosaic.TcCoe Idealize.SL.Sem

theorem frame_pre : Cert.quiescent_ReferencePreIdeal := fun m ρ _ =>
  (θ_run Cert.ReferencePreIdeal.defs _ _).mono (fun r h => ⟨fun c => (h c).2, sem_eq_zero_of_no_sems (by decide) r.2⟩)
    (Cert.ReferencePreIdeal.Value.run (F := Ideal) m ρ)

theorem frame_poolpost : Cert.quiescent_ReferencePoolpostIdeal := fun m ρ _ =>
  (θ_run Cert.ReferencePoolpostIdeal.defs _ _).mono (fun r h => ⟨fun c => (h c).2, sem_eq_zero_of_no_sems (by decide) r.2⟩)
    (Cert.ReferencePoolpostIdeal.Value.run (F := Ideal) m ρ)

theorem frame_poolpre : Cert.quiescent_ReferencePoolpreIdeal := fun m ρ _ =>
  (θ_run Cert.ReferencePoolpreIdeal.defs _ _).mono (fun r h => ⟨fun c => (h c).2.2, sem_eq_zero_of_no_sems (by decide) r.2⟩)
    (Cert.ReferencePoolpreIdeal.Value.run (F := Ideal) m ρ)

section
open Cert.KernelPreIdeal

theorem xn (m : (ℓ : Loc nD τ sig) → Buf (Elt Ideal) ℓ) (c : Dev nD) :
    Cert.ReferencePreIdeal.Read.val_main_v12 (F := Ideal) (Val.a0 m c) (Val.a1 m c)
      = ((Gen.dats m 0 c).arrAt 2 cfg0.N : Vec Ideal S4096x1024 .bf16) := by
  funext i
  obtain ⟨r, j, rfl⟩ : ∃ (r : Fin 4096) (j : Fin 1024), i = ix2 r j := ⟨i 0, i 1, eq_ix2 i⟩
  exact (Cert.ReferencePreIdeal.Val.xn_at _ _ r j).trans (Val.xn_at m c r j).symm

theorem value_pre : Cert.algebraic_KernelPreIdeal_ReferencePreIdeal := by
  intro m g m' g' _ agree
  refine ⟨fun c => (Gen.dats m 0 c).arrAt 2 cfg0.N, Value.run_blocks (F := Ideal) m g,
    (θ_run Cert.ReferencePreIdeal.defs _ _).mono (fun r h c => ⟨?_, (h c).2⟩) (Cert.ReferencePreIdeal.Value.run (F := Ideal) m' g')⟩
  obtain ⟨e0, e1⟩ := agree c
  refine ((h c).1.trans (Cert.ReferencePreIdeal.Read.val_main_v12_eq (F := Ideal) _ _)).trans ?_
  rw [e0, e1]
  exact xn m c
end

section
open Cert.KernelPoolpostIdeal

theorem h (m : (ℓ : Loc nD τ sig) → Buf (Elt Ideal) ℓ) (c : Dev nD) :
    Cert.ReferencePoolpostIdeal.Read.val_main_v12 (F := Ideal) (Val.a0 m c) (Val.a1 m c) (Val.a2 m c)
      = ((Gen.dats m 0 c).arrAt 3 cfg0.N : Vec Ideal S4096x1024 .f32) := by
  funext i
  obtain ⟨r, j, rfl⟩ : ∃ (r : Fin 4096) (j : Fin 1024), i = ix2 r j := ⟨i 0, i 1, eq_ix2 i⟩
  exact (Cert.ReferencePoolpostIdeal.Val.h_at _ _ _ r j).trans (Val.h_at m c r j).symm

theorem value_poolpost : Cert.algebraic_KernelPoolpostIdeal_ReferencePoolpostIdeal := by
  intro m g m' g' _ agree
  refine ⟨fun c => (Gen.dats m 0 c).arrAt 3 cfg0.N, Value.run_blocks (F := Ideal) m g,
    (θ_run Cert.ReferencePoolpostIdeal.defs _ _).mono (fun r h c => ⟨?_, (h c).2⟩) (Cert.ReferencePoolpostIdeal.Value.run (F := Ideal) m' g')⟩
  obtain ⟨e0, e1, e2⟩ := agree c
  refine ((h c).1.trans (Cert.ReferencePoolpostIdeal.Read.val_main_v12_eq (F := Ideal) _ _ _)).trans ?_
  rw [e0, e1, e2]
  exact NormClaims.h m c
end

section
open Cert.KernelPoolpreIdeal

theorem dh (m : (ℓ : Loc nD τ sig) → Buf (Elt Ideal) ℓ) (c : Dev nD) :
    Cert.ReferencePoolpreIdeal.Read.val_main_v34 (F := Ideal) (Val.a0 m c) (Val.a1 m c) (Val.a2 m c) (Val.a3 m c)
      = ((Gen.dats m 0 c).arrAt 4 cfg0.N : Vec Ideal S4096x1024 .f32) := by
  funext i
  obtain ⟨r, j, rfl⟩ : ∃ (r : Fin 4096) (j : Fin 1024), i = ix2 r j := ⟨i 0, i 1, eq_ix2 i⟩
  exact (Cert.ReferencePoolpreIdeal.Val.dh_at _ _ _ _ r j).trans (Val.dh_at m c r j).symm

theorem dg (m : (ℓ : Loc nD τ sig) → Buf (Elt Ideal) ℓ) (c : Dev nD) :
    Cert.ReferencePoolpreIdeal.Read.val_main_v17 (F := Ideal) (Val.a0 m c) (Val.a1 m c)
      = ((Gen.dats m 0 c).arrAt 5 cfg0.N : Vec Ideal S1x1024 .f32) := by
  funext i
  obtain ⟨j, rfl⟩ : ∃ j : Fin 1024, i = ix2 0 j :=
    ⟨i 1, (eq_ix2 i).trans (congrArg (fun u : Fin 1 => ix2 u (i 1)) (Subsingleton.elim (α := Fin 1) (i 0) 0))⟩
  refine (Cert.ReferencePoolpreIdeal.Val.dg_at _ _ j).trans (Eq.trans ?_ (Val.dg_at m c j).symm)
  exact Finset.sum_congr rfl fun r _ => mul_comm (G := EReal) _ _

theorem value_poolpre : Cert.algebraic_KernelPoolpreIdeal_ReferencePoolpreIdeal := by
  intro m g m' g' _ agree
  refine ⟨fun c => (Gen.dats m 0 c).arrAt 4 cfg0.N, fun c => (Gen.dats m 0 c).arrAt 5 cfg0.N,
    Value.run_blocks (F := Ideal) m g,
    (θ_run Cert.ReferencePoolpreIdeal.defs _ _).mono (fun r h c => ⟨?_, ?_, (h c).2.2⟩) (Cert.ReferencePoolpreIdeal.Value.run (F := Ideal) m' g')⟩
  · obtain ⟨e0, e1, e2, e3⟩ := agree c
    refine ((h c).1.trans (Cert.ReferencePoolpreIdeal.Read.val_main_v34_eq (F := Ideal) _ _ _ _)).trans ?_
    rw [e0, e1, e2, e3]
    exact dh m c
  · obtain ⟨e0, e1, -⟩ := agree c
    refine ((h c).2.1.trans (Cert.ReferencePoolpreIdeal.Read.val_main_v17_eq (F := Ideal) _ _)).trans ?_
    rw [e0, e1]
    exact dg m c
end

end Cert.NormClaims

end
-- ==== Proof.lean ====
module

public import proofs.«01_k».proof.Defs
public import proofs.«01_k».proof.Proof.Gen.ReferenceSconvIdeal
public import proofs.«01_k».proof.Proof.Gen.ReferenceSconvIdeal.Run
public import proofs.«01_k».proof.Proof.Gen.ReferenceSconvIdeal.Read
public import proofs.«01_k».proof.Proof.Gen.KernelSconv
public import proofs.«01_k».proof.Proof.Gen.KernelSconv.Skeleton
public import proofs.«01_k».proof.Proof.Gen.KernelSconv.Launch
public import proofs.«01_k».proof.Proof.Gen.KernelSconv.Points
public import proofs.«01_k».proof.Proof.Gen.KernelSconv.Frame
public import proofs.«01_k».proof.Proof.Gen.KernelSconvIdeal
public import proofs.«01_k».proof.Proof.Gen.KernelSconvIdeal.Skeleton
public import proofs.«01_k».proof.Proof.Gen.KernelSconvIdeal.Loops
public import proofs.«01_k».proof.Proof.Gen.KernelSconvIdeal.Launch
public import proofs.«01_k».proof.Proof.Gen.KernelSconvIdeal.Points
public import proofs.«01_k».proof.Proof.Gen.KernelSconvIdeal.Frame
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelWup
public import proofs.«01_k».proof.Proof.Gen.KernelWup.Skeleton
public import proofs.«01_k».proof.Proof.Gen.KernelWup.Launch
public import proofs.«01_k».proof.Proof.Gen.KernelWup.Points
public import proofs.«01_k».proof.Proof.Gen.KernelWup.Frame
public import proofs.«01_k».proof.Proof.Gen.KernelWupIdeal
public import proofs.«01_k».proof.Proof.Gen.KernelWupIdeal.Skeleton
public import proofs.«01_k».proof.Proof.Gen.KernelWupIdeal.Launch
public import proofs.«01_k».proof.Proof.Gen.KernelWupIdeal.Points
public import proofs.«01_k».proof.Proof.Gen.KernelWupIdeal.Frame
public import proofs.«01_k».proof.Proof.Gen.ReferenceWupIdeal
public import proofs.«01_k».proof.Proof.Gen.KernelWdown
public import proofs.«01_k».proof.Proof.Gen.KernelWdown.Skeleton
public import proofs.«01_k».proof.Proof.Gen.KernelWdown.Launch
public import proofs.«01_k».proof.Proof.Gen.KernelWdown.Points
public import proofs.«01_k».proof.Proof.Gen.KernelWdown.Frame
public import proofs.«01_k».proof.Proof.Gen.KernelWdownIdeal
public import proofs.«01_k».proof.Proof.Gen.KernelWdownIdeal.Skeleton
public import proofs.«01_k».proof.Proof.Gen.KernelWdownIdeal.Launch
public import proofs.«01_k».proof.Proof.Gen.KernelWdownIdeal.Points
public import proofs.«01_k».proof.Proof.Gen.KernelWdownIdeal.Frame
public import proofs.«01_k».proof.Proof.Gen.ReferenceWdownIdeal
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelWupIdeal.Value
public import proofs.«01_k».proof.Proof.Gen.ReferenceWupIdeal.Run
public import proofs.«01_k».proof.Proof.Gen.ReferenceWupIdeal.Read
public import proofs.«01_k».proof.Proof.Gen.KernelWdownIdeal.Value
public import proofs.«01_k».proof.Proof.Gen.ReferenceWdownIdeal.Run
public import proofs.«01_k».proof.Proof.Gen.ReferenceWdownIdeal.Read
public import proofs.«01_k».proof.Proof.Gen.KernelGateup
public import proofs.«01_k».proof.Proof.Gen.KernelGateup.Skeleton
public import proofs.«01_k».proof.Proof.Gen.KernelGateup.Launch
public import proofs.«01_k».proof.Proof.Gen.KernelGateup.Points
public import proofs.«01_k».proof.Proof.Gen.KernelGateup.Frame
public import proofs.«01_k».proof.Proof.Gen.KernelGateupIdeal
public import proofs.«01_k».proof.Proof.Gen.KernelGateupIdeal.Skeleton
public import proofs.«01_k».proof.Proof.Gen.KernelGateupIdeal.Launch
public import proofs.«01_k».proof.Proof.Gen.KernelGateupIdeal.Points
public import proofs.«01_k».proof.Proof.Gen.KernelGateupIdeal.Frame
public import proofs.«01_k».proof.Proof.Gen.KernelGateupIdeal.Value
public import proofs.«01_k».proof.Proof.Gen.ReferenceGateupIdeal
public import proofs.«01_k».proof.Proof.Gen.ReferenceGateupIdeal.Run
public import proofs.«01_k».proof.Proof.Gen.ReferenceGateupIdeal.Read
public import proofs.«01_k».proof.Proof.Gen.KernelPost
public import proofs.«01_k».proof.Proof.Gen.KernelPost.Skeleton
public import proofs.«01_k».proof.Proof.Gen.KernelPost.Launch
public import proofs.«01_k».proof.Proof.Gen.KernelPost.Points
public import proofs.«01_k».proof.Proof.Gen.KernelPost.Frame
public import proofs.«01_k».proof.Proof.Gen.KernelPostIdeal
public import proofs.«01_k».proof.Proof.Gen.KernelPostIdeal.Skeleton
public import proofs.«01_k».proof.Proof.Gen.KernelPostIdeal.Launch
public import proofs.«01_k».proof.Proof.Gen.KernelPostIdeal.Points
public import proofs.«01_k».proof.Proof.Gen.KernelPostIdeal.Frame
public import proofs.«01_k».proof.Proof.Gen.KernelPostIdeal.Value
public import proofs.«01_k».proof.Proof.Gen.ReferencePostIdeal
public import proofs.«01_k».proof.Proof.Gen.ReferencePostIdeal.Run
public import proofs.«01_k».proof.Proof.Gen.ReferencePostIdeal.Read
public import proofs.«01_k».proof.Proof.Gen.Pre_finite
public import proofs.«01_k».proof.Proof.Gen.KernelPle
public import proofs.«01_k».proof.Proof.Gen.KernelPle.Skeleton
public import proofs.«01_k».proof.Proof.Gen.KernelPle.Launch
public import proofs.«01_k».proof.Proof.Gen.KernelPle.Points
public import proofs.«01_k».proof.Proof.Gen.KernelPle.Frame
public import proofs.«01_k».proof.Proof.Gen.KernelPleIdeal
public import proofs.«01_k».proof.Proof.Gen.KernelPleIdeal.Skeleton
public import proofs.«01_k».proof.Proof.Gen.KernelPleIdeal.Launch
public import proofs.«01_k».proof.Proof.Gen.KernelPleIdeal.Points
public import proofs.«01_k».proof.Proof.Gen.KernelPleIdeal.Frame
public import proofs.«01_k».proof.Proof.Gen.KernelPleIdeal.Value
public import proofs.«01_k».proof.Proof.Gen.ReferencePleIdeal
public import proofs.«01_k».proof.Proof.Gen.ReferencePleIdeal.Run
public import proofs.«01_k».proof.Proof.Gen.ReferencePleIdeal.Read
public import proofs.«01_k».proof.Proof.Gen.KernelMixpost
public import proofs.«01_k».proof.Proof.Gen.KernelMixpost.Skeleton
public import proofs.«01_k».proof.Proof.Gen.KernelMixpost.Launch
public import proofs.«01_k».proof.Proof.Gen.KernelMixpost.Points
public import proofs.«01_k».proof.Proof.Gen.KernelMixpost.Frame
public import proofs.«01_k».proof.Proof.Gen.KernelMixpostIdeal
public import proofs.«01_k».proof.Proof.Gen.KernelMixpostIdeal.Skeleton
public import proofs.«01_k».proof.Proof.Gen.KernelMixpostIdeal.Launch
public import proofs.«01_k».proof.Proof.Gen.KernelMixpostIdeal.Points
public import proofs.«01_k».proof.Proof.Gen.KernelMixpostIdeal.Frame
public import proofs.«01_k».proof.Proof.Gen.KernelMixpostIdeal.Value
public import proofs.«01_k».proof.Proof.Gen.ReferenceMixpostIdeal
public import proofs.«01_k».proof.Proof.Gen.ReferenceMixpostIdeal.Run
public import proofs.«01_k».proof.Proof.Gen.ReferenceMixpostIdeal.Read
public import proofs.«01_k».proof.Proof.Gen.KernelMixout
public import proofs.«01_k».proof.Proof.Gen.KernelMixout.Skeleton
public import proofs.«01_k».proof.Proof.Gen.KernelMixout.Launch
public import proofs.«01_k».proof.Proof.Gen.KernelMixout.Points
public import proofs.«01_k».proof.Proof.Gen.KernelMixout.Frame
public import proofs.«01_k».proof.Proof.Gen.KernelMixoutIdeal
public import proofs.«01_k».proof.Proof.Gen.KernelMixoutIdeal.Skeleton
public import proofs.«01_k».proof.Proof.Gen.KernelMixoutIdeal.Launch
public import proofs.«01_k».proof.Proof.Gen.KernelMixoutIdeal.Points
public import proofs.«01_k».proof.Proof.Gen.KernelMixoutIdeal.Frame
public import proofs.«01_k».proof.Proof.Gen.KernelMixoutIdeal.Value
public import proofs.«01_k».proof.Proof.Gen.ReferenceMixoutIdeal
public import proofs.«01_k».proof.Proof.Gen.ReferenceMixoutIdeal.Run
public import proofs.«01_k».proof.Proof.Gen.ReferenceMixoutIdeal.Read
public import proofs.«01_k».proof.Proof.Gen.KernelPre
public import proofs.«01_k».proof.Proof.Gen.KernelPre.Skeleton
public import proofs.«01_k».proof.Proof.Gen.KernelPre.Launch
public import proofs.«01_k».proof.Proof.Gen.KernelPre.Points
public import proofs.«01_k».proof.Proof.Gen.KernelPre.Frame
public import proofs.«01_k».proof.Proof.Gen.KernelPreIdeal
public import proofs.«01_k».proof.Proof.Gen.KernelPreIdeal.Skeleton
public import proofs.«01_k».proof.Proof.Gen.KernelPreIdeal.Launch
public import proofs.«01_k».proof.Proof.Gen.KernelPreIdeal.Points
public import proofs.«01_k».proof.Proof.Gen.KernelPreIdeal.Frame
public import proofs.«01_k».proof.Proof.Gen.KernelPreIdeal.Value
public import proofs.«01_k».proof.Proof.Gen.ReferencePreIdeal
public import proofs.«01_k».proof.Proof.Gen.ReferencePreIdeal.Run
public import proofs.«01_k».proof.Proof.Gen.ReferencePreIdeal.Read
public import proofs.«01_k».proof.Proof.Gen.KernelPoolpost
public import proofs.«01_k».proof.Proof.Gen.KernelPoolpost.Skeleton
public import proofs.«01_k».proof.Proof.Gen.KernelPoolpost.Launch
public import proofs.«01_k».proof.Proof.Gen.KernelPoolpost.Points
public import proofs.«01_k».proof.Proof.Gen.KernelPoolpost.Frame
public import proofs.«01_k».proof.Proof.Gen.KernelPoolpostIdeal
public import proofs.«01_k».proof.Proof.Gen.KernelPoolpostIdeal.Skeleton
public import proofs.«01_k».proof.Proof.Gen.KernelPoolpostIdeal.Launch
public import proofs.«01_k».proof.Proof.Gen.KernelPoolpostIdeal.Points
public import proofs.«01_k».proof.Proof.Gen.KernelPoolpostIdeal.Frame
public import proofs.«01_k».proof.Proof.Gen.KernelPoolpostIdeal.Value
public import proofs.«01_k».proof.Proof.Gen.ReferencePoolpostIdeal
public import proofs.«01_k».proof.Proof.Gen.ReferencePoolpostIdeal.Run
public import proofs.«01_k».proof.Proof.Gen.ReferencePoolpostIdeal.Read
public import proofs.«01_k».proof.Proof.Gen.KernelPoolpre
public import proofs.«01_k».proof.Proof.Gen.KernelPoolpre.Skeleton
public import proofs.«01_k».proof.Proof.Gen.KernelPoolpre.Launch
public import proofs.«01_k».proof.Proof.Gen.KernelPoolpre.Points
public import proofs.«01_k».proof.Proof.Gen.KernelPoolpre.Frame
public import proofs.«01_k».proof.Proof.Gen.KernelPoolpreIdeal
public import proofs.«01_k».proof.Proof.Gen.KernelPoolpreIdeal.Skeleton
public import proofs.«01_k».proof.Proof.Gen.KernelPoolpreIdeal.Launch
public import proofs.«01_k».proof.Proof.Gen.KernelPoolpreIdeal.Points
public import proofs.«01_k».proof.Proof.Gen.KernelPoolpreIdeal.Frame
public import proofs.«01_k».proof.Proof.Gen.KernelPoolpreIdeal.Value
public import proofs.«01_k».proof.Proof.Gen.ReferencePoolpreIdeal
public import proofs.«01_k».proof.Proof.Gen.ReferencePoolpreIdeal.Run
public import proofs.«01_k».proof.Proof.Gen.ReferencePoolpreIdeal.Read
public import proofs.«01_k».proof.Proof.FfnClaims
public import proofs.«01_k».proof.Proof.DownClaim
public import proofs.«01_k».proof.Proof.SconvClaim
public import proofs.«01_k».proof.Proof.GateupClaim
public import proofs.«01_k».proof.Proof.PostClaim
public import proofs.«01_k».proof.Proof.PleClaim
public import proofs.«01_k».proof.Proof.MixClaims
public import proofs.«01_k».proof.Proof.NormClaims
public import Idealize.ShloMosaic.Adequacy
public import Idealize.ShloMosaic.Init

@[expose] public section

noncomputable section

namespace Cert.Proof

open Idealize.ShloMosaic Idealize.SL.Sem Cert.KernelDown

theorem claim : Cert.Claim := ⟨Cert.KernelDown.Gen.facts, Cert.KernelDownIdeal.Gen.facts, Cert.ReferenceDownIdeal.Gen.facts, Cert.KernelUp.Gen.facts, Cert.KernelUpIdeal.Gen.facts, Cert.ReferenceUpIdeal.Gen.facts, Cert.KernelWup.Gen.facts, Cert.KernelWupIdeal.Gen.facts, Cert.ReferenceWupIdeal.Gen.facts, Cert.KernelWdown.Gen.facts, Cert.KernelWdownIdeal.Gen.facts, Cert.ReferenceWdownIdeal.Gen.facts, Cert.KernelSconv.Gen.facts, Cert.KernelSconvIdeal.Gen.facts, Cert.ReferenceSconvIdeal.Gen.facts, Cert.KernelGateup.Gen.facts, Cert.KernelGateupIdeal.Gen.facts, Cert.ReferenceGateupIdeal.Gen.facts, Cert.KernelPost.Gen.facts, Cert.KernelPostIdeal.Gen.facts, Cert.ReferencePostIdeal.Gen.facts, Cert.KernelPle.Gen.facts, Cert.KernelPleIdeal.Gen.facts, Cert.ReferencePleIdeal.Gen.facts, Cert.KernelMixpost.Gen.facts, Cert.KernelMixpostIdeal.Gen.facts, Cert.ReferenceMixpostIdeal.Gen.facts, Cert.KernelMixout.Gen.facts, Cert.KernelMixoutIdeal.Gen.facts, Cert.ReferenceMixoutIdeal.Gen.facts, Cert.KernelPre.Gen.facts, Cert.KernelPreIdeal.Gen.facts, Cert.ReferencePreIdeal.Gen.facts, Cert.KernelPoolpost.Gen.facts, Cert.KernelPoolpostIdeal.Gen.facts, Cert.ReferencePoolpostIdeal.Gen.facts, Cert.KernelPoolpre.Gen.facts, Cert.KernelPoolpreIdeal.Gen.facts, Cert.ReferencePoolpreIdeal.Gen.facts,
  Cert.Pre_finite.Gen.facts,
  fun m ρ _ => Cert.KernelDown.Gen.frame m ρ, fun m ρ _ => Cert.KernelDownIdeal.Gen.frame m ρ, fun m ρ _ => Cert.KernelDownIdeal.Gen.frame m ρ,
  DownClaim.frame_referenceDown, DownClaim.frame_referenceDown_finite,
  fun m ρ _ => Cert.KernelUp.Gen.frame m ρ, fun m ρ _ => Cert.KernelUpIdeal.Gen.frame m ρ, FfnClaims.frame_referenceUp,
  fun m ρ _ => Cert.KernelWup.Gen.frame m ρ, fun m ρ _ => Cert.KernelWupIdeal.Gen.frame m ρ, FfnClaims.frame_referenceWup,
  fun m ρ _ => Cert.KernelWdown.Gen.frame m ρ, fun m ρ _ => Cert.KernelWdownIdeal.Gen.frame m ρ, FfnClaims.frame_referenceWdown,
  SconvClaim.frame_kernel, SconvClaim.frame_ideal, SconvClaim.frame_reference,
  fun m ρ _ => Cert.KernelGateup.Gen.frame m ρ, fun m ρ _ => Cert.KernelGateupIdeal.Gen.frame m ρ, GateupClaim.frame_reference,
  fun m ρ _ => Cert.KernelPost.Gen.frame m ρ, fun m ρ _ => Cert.KernelPostIdeal.Gen.frame m ρ, PostClaim.frame_reference,
  fun m ρ _ => Cert.KernelPle.Gen.frame m ρ, fun m ρ _ => Cert.KernelPleIdeal.Gen.frame m ρ, PleClaim.frame_reference,
  fun m ρ _ => Cert.KernelMixpost.Gen.frame m ρ, fun m ρ _ => Cert.KernelMixpostIdeal.Gen.frame m ρ, MixClaims.frame_mixpost,
  fun m ρ _ => Cert.KernelMixout.Gen.frame m ρ, fun m ρ _ => Cert.KernelMixoutIdeal.Gen.frame m ρ, MixClaims.frame_mixout,
  fun m ρ _ => Cert.KernelPre.Gen.frame m ρ, fun m ρ _ => Cert.KernelPreIdeal.Gen.frame m ρ, NormClaims.frame_pre,
  fun m ρ _ => Cert.KernelPoolpost.Gen.frame m ρ, fun m ρ _ => Cert.KernelPoolpostIdeal.Gen.frame m ρ, NormClaims.frame_poolpost,
  fun m ρ _ => Cert.KernelPoolpre.Gen.frame m ρ, fun m ρ _ => Cert.KernelPoolpreIdeal.Gen.frame m ρ, NormClaims.frame_poolpre,
  trivial, DownClaim.value_down, trivial, FfnClaims.value_up, trivial, FfnClaims.value_wup, trivial, FfnClaims.value_wdown,
  trivial, SconvClaim.value, trivial, GateupClaim.value, trivial, PostClaim.value, trivial, PleClaim.value,
  trivial, MixClaims.value_mixpost, trivial, MixClaims.value_mixout,
  trivial, NormClaims.value_pre, trivial, NormClaims.value_poolpost, trivial, NormClaims.value_poolpre⟩

end Cert.Proof

end
